-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojReferenceIdeal (m : (ℓ : Loc Cert.InprojReferenceIdeal.nD Cert.InprojReferenceIdeal.τ Cert.InprojReferenceIdeal.sig) → Buf (Elt Ideal) ℓ) : Prop :=
  True

def Pre_Seq (m : (ℓ : Loc Cert.Seq.nD Cert.Seq.τ Cert.Seq.sig) → Buf (Elt Bits) ℓ) : Prop :=
  True

def Pre_SeqIdeal (m : (ℓ : Loc Cert.SeqIdeal.nD Cert.SeqIdeal.τ Cert.SeqIdeal.sig) → Buf (Elt Ideal) ℓ) : Prop :=
  True

def Pre_SeqReferenceIdeal (m : (ℓ : Loc Cert.SeqReferenceIdeal.nD Cert.SeqReferenceIdeal.τ Cert.SeqReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8))
      ∧ r.2.sem = fun _ => 0)

def quiescent_InprojReferenceIdeal [hInprojReferenceIdeal : Cert.InprojReferenceIdeal.Facts] : Prop :=
  ∀ (m : (ℓ : Loc Cert.InprojReferenceIdeal.nD Cert.InprojReferenceIdeal.τ Cert.InprojReferenceIdeal.sig) → Buf (Elt Ideal) ℓ) (g : Dev Cert.InprojReferenceIdeal.nD → PrngReg), Pre_InprojReferenceIdeal m →
    θ_run (Cert.InprojReferenceIdeal.defs (F := Ideal)) (onTc (τ := Cert.InprojReferenceIdeal.τ) (Cert.InprojReferenceIdeal.main (F := Ideal))) ⟨m, fun _ => 0, g⟩ (fun r => (∀ c : Dev Cert.InprojReferenceIdeal.nD,
      r.2.mem ((c.tc : Thread Cert.InprojReferenceIdeal.nD Cert.InprojReferenceIdeal.τ).loc Cert.InprojReferenceIdeal.main_arg0) = m ((c.tc : Thread Cert.InprojReferenceIdeal.nD Cert.InprojReferenceIdeal.τ).loc Cert.InprojReferenceIdeal.main_arg0)
      ∧ r.2.mem ((c.tc : Thread Cert.InprojReferenceIdeal.nD Cert.InprojReferenceIdeal.τ).loc Cert.InprojReferenceIdeal.main_arg1) = m ((c.tc : Thread Cert.InprojReferenceIdeal.nD Cert.InprojReferenceIdeal.τ).loc Cert.InprojReferenceIdeal.main_arg1)
      ∧ r.2.mem ((c.tc : Thread Cert.InprojReferenceIdeal.nD Cert.InprojReferenceIdeal.τ).loc Cert.InprojReferenceIdeal.main_arg2) = m ((c.tc : Thread Cert.InprojReferenceIdeal.nD Cert.InprojReferenceIdeal.τ).loc Cert.InprojReferenceIdeal.main_arg2)
      ∧ r.2.mem ((c.tc : Thread Cert.InprojReferenceIdeal.nD Cert.InprojReferenceIdeal.τ).loc Cert.InprojReferenceIdeal.main_arg3) = m ((c.tc : Thread Cert.InprojReferenceIdeal.nD Cert.InprojReferenceIdeal.τ).loc Cert.InprojReferenceIdeal.main_arg3)
      ∧ r.2.mem ((c.tc : Thread Cert.InprojReferenceIdeal.nD Cert.InprojReferenceIdeal.τ).loc Cert.InprojReferenceIdeal.main_arg4) = m ((c.tc : Thread Cert.InprojReferenceIdeal.nD Cert.InprojReferenceIdeal.τ).loc Cert.InprojReferenceIdeal.main_arg4)
      ∧ r.2.mem ((c.tc : Thread Cert.InprojReferenceIdeal.nD Cert.InprojReferenceIdeal.τ).loc Cert.InprojReferenceIdeal.main_arg5) = m ((c.tc : Thread Cert.InprojReferenceIdeal.nD Cert.InprojReferenceIdeal.τ).loc Cert.InprojReferenceIdeal.main_arg5)
      ∧ r.2.mem ((c.tc : Thread Cert.InprojReferenceIdeal.nD Cert.InprojReferenceIdeal.τ).loc Cert.InprojReferenceIdeal.main_arg6) = m ((c.tc : Thread Cert.InprojReferenceIdeal.nD Cert.InprojReferenceIdeal.τ).loc Cert.InprojReferenceIdeal.main_arg6)
      ∧ r.2.mem ((c.tc : Thread Cert.InprojReferenceIdeal.nD Cert.InprojReferenceIdeal.τ).loc Cert.InprojReferenceIdeal.main_arg7) = m ((c.tc : Thread Cert.InprojReferenceIdeal.nD Cert.InprojReferenceIdeal.τ).loc Cert.InprojReferenceIdeal.main_arg7)
      ∧ r.2.mem ((c.tc : Thread Cert.InprojReferenceIdeal.nD Cert.InprojReferenceIdeal.τ).loc Cert.InprojReferenceIdeal.main_arg8) = m ((c.tc : Thread Cert.InprojReferenceIdeal.nD Cert.InprojReferenceIdeal.τ).loc Cert.InprojReferenceIdeal.main_arg8))
      ∧ r.2.sem = fun _ => 0)

def quiescent_Seq [hSeq : Cert.Seq.Facts] : Prop :=
  ∀ (m : (ℓ : Loc Cert.Seq.nD Cert.Seq.τ Cert.Seq.sig) → Buf (Elt Bits) ℓ) (g : Dev Cert.Seq.nD → PrngReg), Pre_Seq m →
    θ_run (Cert.Seq.defs (F := Bits)) (onTc (τ := Cert.Seq.τ) (Cert.Seq.main (F := Bits))) ⟨m, fun _ => 0, g⟩ (fun r => (∀ c : Dev Cert.Seq.nD,
      r.2.mem ((c.tc : Thread Cert.Seq.nD Cert.Seq.τ).loc Cert.Seq.main_arg0) = m ((c.tc : Thread Cert.Seq.nD Cert.Seq.τ).loc Cert.Seq.main_arg0)
      ∧ r.2.mem ((c.tc : Thread Cert.Seq.nD Cert.Seq.τ).loc Cert.Seq.main_arg1) = m ((c.tc : Thread Cert.Seq.nD Cert.Seq.τ).loc Cert.Seq.main_arg1)
      ∧ r.2.mem ((c.tc : Thread Cert.Seq.nD Cert.Seq.τ).loc Cert.Seq.main_arg2) = m ((c.tc : Thread Cert.Seq.nD Cert.Seq.τ).loc Cert.Seq.main_arg2)
      ∧ r.2.mem ((c.tc : Thread Cert.Seq.nD Cert.Seq.τ).loc Cert.Seq.main_arg3) = m ((c.tc : Thread Cert.Seq.nD Cert.Seq.τ).loc Cert.Seq.main_arg3)
      ∧ r.2.mem ((c.tc : Thread Cert.Seq.nD Cert.Seq.τ).loc Cert.Seq.main_arg4) = m ((c.tc : Thread Cert.Seq.nD Cert.Seq.τ).loc Cert.Seq.main_arg4)
      ∧ r.2.mem ((c.tc : Thread Cert.Seq.nD Cert.Seq.τ).loc Cert.Seq.main_arg5) = m ((c.tc : Thread Cert.Seq.nD Cert.Seq.τ).loc Cert.Seq.main_arg5)
      ∧ r.2.mem ((c.tc : Thread Cert.Seq.nD Cert.Seq.τ).loc Cert.Seq.main_arg6) = m ((c.tc : Thread Cert.Seq.nD Cert.Seq.τ).loc Cert.Seq.main_arg6)
      ∧ r.2.mem ((c.tc : Thread Cert.Seq.nD Cert.Seq.τ).loc Cert.Seq.main_arg7) = m ((c.tc : Thread Cert.Seq.nD Cert.Seq.τ).loc Cert.Seq.main_arg7)
      ∧ r.2.mem ((c.tc : Thread Cert.Seq.nD Cert.Seq.τ).loc Cert.Seq.main_arg8) = m ((c.tc : Thread Cert.Seq.nD Cert.Seq.τ).loc Cert.Seq.main_arg8)
      ∧ r.2.mem ((c.tc : Thread Cert.Seq.nD Cert.Seq.τ).loc Cert.Seq.main_arg9) = m ((c.tc : Thread Cert.Seq.nD Cert.Seq.τ).loc Cert.Seq.main_arg9)
      ∧ r.2.mem ((c.tc : Thread Cert.Seq.nD Cert.Seq.τ).loc Cert.Seq.main_arg10) = m ((c.tc : Thread Cert.Seq.nD Cert.Seq.τ).loc Cert.Seq.main_arg10)
      ∧ r.2.mem ((c.tc : Thread Cert.Seq.nD Cert.Seq.τ).loc Cert.Seq.main_arg11) = m ((c.tc : Thread Cert.Seq.nD Cert.Seq.τ).loc Cert.Seq.main_arg11)
      ∧ r.2.mem ((c.tc : Thread Cert.Seq.nD Cert.Seq.τ).loc Cert.Seq.main_arg12) = m ((c.tc : Thread Cert.Seq.nD Cert.Seq.τ).loc Cert.Seq.main_arg12)
      ∧ r.2.mem ((c.tc : Thread Cert.Seq.nD Cert.Seq.τ).loc Cert.Seq.main_arg13) = m ((c.tc : Thread Cert.Seq.nD Cert.Seq.τ).loc Cert.Seq.main_arg13)
      ∧ r.2.mem ((c.tc : Thread Cert.Seq.nD Cert.Seq.τ).loc Cert.Seq.main_arg14) = m ((c.tc : Thread Cert.Seq.nD Cert.Seq.τ).loc Cert.Seq.main_arg14)
      ∧ r.2.mem ((c.tc : Thread Cert.Seq.nD Cert.Seq.τ).loc Cert.Seq.main_arg15) = m ((c.tc : Thread Cert.Seq.nD Cert.Seq.τ).loc Cert.Seq.main_arg15))
      ∧ r.2.sem = fun _ => 0)

def quiescent_SeqIdeal [hSeqIdeal : Cert.SeqIdeal.Facts] : Prop :=
  ∀ (m : (ℓ : Loc Cert.SeqIdeal.nD Cert.SeqIdeal.τ Cert.SeqIdeal.sig) → Buf (Elt Ideal) ℓ) (g : Dev Cert.SeqIdeal.nD → PrngReg), Pre_SeqIdeal m →
    θ_run (Cert.SeqIdeal.defs (F := Ideal)) (onTc (τ := Cert.SeqIdeal.τ) (Cert.SeqIdeal.main (F := Ideal))) ⟨m, fun _ => 0, g⟩ (fun r => (∀ c : Dev Cert.SeqIdeal.nD,
      r.2.mem ((c.tc : Thread Cert.SeqIdeal.nD Cert.SeqIdeal.τ).loc Cert.SeqIdeal.main_arg0) = m ((c.tc : Thread Cert.SeqIdeal.nD Cert.SeqIdeal.τ).loc Cert.SeqIdeal.main_arg0)
      ∧ r.2.mem ((c.tc : Thread Cert.SeqIdeal.nD Cert.SeqIdeal.τ).loc Cert.SeqIdeal.main_arg1) = m ((c.tc : Thread Cert.SeqIdeal.nD Cert.SeqIdeal.τ).loc Cert.SeqIdeal.main_arg1)
      ∧ r.2.mem ((c.tc : Thread Cert.SeqIdeal.nD Cert.SeqIdeal.τ).loc Cert.SeqIdeal.main_arg2) = m ((c.tc : Thread Cert.SeqIdeal.nD Cert.SeqIdeal.τ).loc Cert.SeqIdeal.main_arg2)
      ∧ r.2.mem ((c.tc : Thread Cert.SeqIdeal.nD Cert.SeqIdeal.τ).loc Cert.SeqIdeal.main_arg3) = m ((c.tc : Thread Cert.SeqIdeal.nD Cert.SeqIdeal.τ).loc Cert.SeqIdeal.main_arg3)
      ∧ r.2.mem ((c.tc : Thread Cert.SeqIdeal.nD Cert.SeqIdeal.τ).loc Cert.SeqIdeal.main_arg4) = m ((c.tc : Thread Cert.SeqIdeal.nD Cert.SeqIdeal.τ).loc Cert.SeqIdeal.main_arg4)
      ∧ r.2.mem ((c.tc : Thread Cert.SeqIdeal.nD Cert.SeqIdeal.τ).loc Cert.SeqIdeal.main_arg5) = m ((c.tc : Thread Cert.SeqIdeal.nD Cert.SeqIdeal.τ).loc Cert.SeqIdeal.main_arg5)
      ∧ r.2.mem ((c.tc : Thread Cert.SeqIdeal.nD Cert.SeqIdeal.τ).loc Cert.SeqIdeal.main_arg6) = m ((c.tc : Thread Cert.SeqIdeal.nD Cert.SeqIdeal.τ).loc Cert.SeqIdeal.main_arg6)
      ∧ r.2.mem ((c.tc : Thread Cert.SeqIdeal.nD Cert.SeqIdeal.τ).loc Cert.SeqIdeal.main_arg7) = m ((c.tc : Thread Cert.SeqIdeal.nD Cert.SeqIdeal.τ).loc Cert.SeqIdeal.main_arg7)
      ∧ r.2.mem ((c.tc : Thread Cert.SeqIdeal.nD Cert.SeqIdeal.τ).loc Cert.SeqIdeal.main_arg8) = m ((c.tc : Thread Cert.SeqIdeal.nD Cert.SeqIdeal.τ).loc Cert.SeqIdeal.main_arg8)
      ∧ r.2.mem ((c.tc : Thread Cert.SeqIdeal.nD Cert.SeqIdeal.τ).loc Cert.SeqIdeal.main_arg9) = m ((c.tc : Thread Cert.SeqIdeal.nD Cert.SeqIdeal.τ).loc Cert.SeqIdeal.main_arg9)
      ∧ r.2.mem ((c.tc : Thread Cert.SeqIdeal.nD Cert.SeqIdeal.τ).loc Cert.SeqIdeal.main_arg10) = m ((c.tc : Thread Cert.SeqIdeal.nD Cert.SeqIdeal.τ).loc Cert.SeqIdeal.main_arg10)
      ∧ r.2.mem ((c.tc : Thread Cert.SeqIdeal.nD Cert.SeqIdeal.τ).loc Cert.SeqIdeal.main_arg11) = m ((c.tc : Thread Cert.SeqIdeal.nD Cert.SeqIdeal.τ).loc Cert.SeqIdeal.main_arg11)
      ∧ r.2.mem ((c.tc : Thread Cert.SeqIdeal.nD Cert.SeqIdeal.τ).loc Cert.SeqIdeal.main_arg12) = m ((c.tc : Thread Cert.SeqIdeal.nD Cert.SeqIdeal.τ).loc Cert.SeqIdeal.main_arg12)
      ∧ r.2.mem ((c.tc : Thread Cert.SeqIdeal.nD Cert.SeqIdeal.τ).loc Cert.SeqIdeal.main_arg13) = m ((c.tc : Thread Cert.SeqIdeal.nD Cert.SeqIdeal.τ).loc Cert.SeqIdeal.main_arg13)
      ∧ r.2.mem ((c.tc : Thread Cert.SeqIdeal.nD Cert.SeqIdeal.τ).loc Cert.SeqIdeal.main_arg14) = m ((c.tc : Thread Cert.SeqIdeal.nD Cert.SeqIdeal.τ).loc Cert.SeqIdeal.main_arg14)
      ∧ r.2.mem ((c.tc : Thread Cert.SeqIdeal.nD Cert.SeqIdeal.τ).loc Cert.SeqIdeal.main_arg15) = m ((c.tc : Thread Cert.SeqIdeal.nD Cert.SeqIdeal.τ).loc Cert.SeqIdeal.main_arg15))
      ∧ r.2.sem = fun _ => 0)

def quiescent_SeqReferenceIdeal [hSeqReferenceIdeal : Cert.SeqReferenceIdeal.Facts] : Prop :=
  ∀ (m : (ℓ : Loc Cert.SeqReferenceIdeal.nD Cert.SeqReferenceIdeal.τ Cert.SeqReferenceIdeal.sig) → Buf (Elt Ideal) ℓ) (g : Dev Cert.SeqReferenceIdeal.nD → PrngReg), Pre_SeqReferenceIdeal m →
    θ_run (Cert.SeqReferenceIdeal.defs (F := Ideal)) (onTc (τ := Cert.SeqReferenceIdeal.τ) (Cert.SeqReferenceIdeal.main (F := Ideal))) ⟨m, fun _ => 0, g⟩ (fun r => (∀ c : Dev Cert.SeqReferenceIdeal.nD,
      r.2.mem ((c.tc : Thread Cert.SeqReferenceIdeal.nD Cert.SeqReferenceIdeal.τ).loc Cert.SeqReferenceIdeal.main_arg0) = m ((c.tc : Thread Cert.SeqReferenceIdeal.nD Cert.SeqReferenceIdeal.τ).loc Cert.SeqReferenceIdeal.main_arg0)
      ∧ r.2.mem ((c.tc : Thread Cert.SeqReferenceIdeal.nD Cert.SeqReferenceIdeal.τ).loc Cert.SeqReferenceIdeal.main_arg1) = m ((c.tc : Thread Cert.SeqReferenceIdeal.nD Cert.SeqReferenceIdeal.τ).loc Cert.SeqReferenceIdeal.main_arg1)
      ∧ r.2.mem ((c.tc : Thread Cert.SeqReferenceIdeal.nD Cert.SeqReferenceIdeal.τ).loc Cert.SeqReferenceIdeal.main_arg2) = m ((c.tc : Thread Cert.SeqReferenceIdeal.nD Cert.SeqReferenceIdeal.τ).loc Cert.SeqReferenceIdeal.main_arg2)
      ∧ r.2.mem ((c.tc : Thread Cert.SeqReferenceIdeal.nD Cert.SeqReferenceIdeal.τ).loc Cert.SeqReferenceIdeal.main_arg3) = m ((c.tc : Thread Cert.SeqReferenceIdeal.nD Cert.SeqReferenceIdeal.τ).loc Cert.SeqReferenceIdeal.main_arg3)
      ∧ r.2.mem ((c.tc : Thread Cert.SeqReferenceIdeal.nD Cert.SeqReferenceIdeal.τ).loc Cert.SeqReferenceIdeal.main_arg4) = m ((c.tc : Thread Cert.SeqReferenceIdeal.nD Cert.SeqReferenceIdeal.τ).loc Cert.SeqReferenceIdeal.main_arg4)
      ∧ r.2.mem ((c.tc : Thread Cert.SeqReferenceIdeal.nD Cert.SeqReferenceIdeal.τ).loc Cert.SeqReferenceIdeal.main_arg5) = m ((c.tc : Thread Cert.SeqReferenceIdeal.nD Cert.SeqReferenceIdeal.τ).loc Cert.SeqReferenceIdeal.main_arg5)
      ∧ r.2.mem ((c.tc : Thread Cert.SeqReferenceIdeal.nD Cert.SeqReferenceIdeal.τ).loc Cert.SeqReferenceIdeal.main_arg6) = m ((c.tc : Thread Cert.SeqReferenceIdeal.nD Cert.SeqReferenceIdeal.τ).loc Cert.SeqReferenceIdeal.main_arg6)
      ∧ r.2.mem ((c.tc : Thread Cert.SeqReferenceIdeal.nD Cert.SeqReferenceIdeal.τ).loc Cert.SeqReferenceIdeal.main_arg7) = m ((c.tc : Thread Cert.SeqReferenceIdeal.nD Cert.SeqReferenceIdeal.τ).loc Cert.SeqReferenceIdeal.main_arg7)
      ∧ r.2.mem ((c.tc : Thread Cert.SeqReferenceIdeal.nD Cert.SeqReferenceIdeal.τ).loc Cert.SeqReferenceIdeal.main_arg8) = m ((c.tc : Thread Cert.SeqReferenceIdeal.nD Cert.SeqReferenceIdeal.τ).loc Cert.SeqReferenceIdeal.main_arg8)
      ∧ r.2.mem ((c.tc : Thread Cert.SeqReferenceIdeal.nD Cert.SeqReferenceIdeal.τ).loc Cert.SeqReferenceIdeal.main_arg9) = m ((c.tc : Thread Cert.SeqReferenceIdeal.nD Cert.SeqReferenceIdeal.τ).loc Cert.SeqReferenceIdeal.main_arg9)
      ∧ r.2.mem ((c.tc : Thread Cert.SeqReferenceIdeal.nD Cert.SeqReferenceIdeal.τ).loc Cert.SeqReferenceIdeal.main_arg10) = m ((c.tc : Thread Cert.SeqReferenceIdeal.nD Cert.SeqReferenceIdeal.τ).loc Cert.SeqReferenceIdeal.main_arg10)
      ∧ r.2.mem ((c.tc : Thread Cert.SeqReferenceIdeal.nD Cert.SeqReferenceIdeal.τ).loc Cert.SeqReferenceIdeal.main_arg11) = m ((c.tc : Thread Cert.SeqReferenceIdeal.nD Cert.SeqReferenceIdeal.τ).loc Cert.SeqReferenceIdeal.main_arg11)
      ∧ r.2.mem ((c.tc : Thread Cert.SeqReferenceIdeal.nD Cert.SeqReferenceIdeal.τ).loc Cert.SeqReferenceIdeal.main_arg12) = m ((c.tc : Thread Cert.SeqReferenceIdeal.nD Cert.SeqReferenceIdeal.τ).loc Cert.SeqReferenceIdeal.main_arg12)
      ∧ r.2.mem ((c.tc : Thread Cert.SeqReferenceIdeal.nD Cert.SeqReferenceIdeal.τ).loc Cert.SeqReferenceIdeal.main_arg13) = m ((c.tc : Thread Cert.SeqReferenceIdeal.nD Cert.SeqReferenceIdeal.τ).loc Cert.SeqReferenceIdeal.main_arg13)
      ∧ r.2.mem ((c.tc : Thread Cert.SeqReferenceIdeal.nD Cert.SeqReferenceIdeal.τ).loc Cert.SeqReferenceIdeal.main_arg14) = m ((c.tc : Thread Cert.SeqReferenceIdeal.nD Cert.SeqReferenceIdeal.τ).loc Cert.SeqReferenceIdeal.main_arg14)
      ∧ r.2.mem ((c.tc : Thread Cert.SeqReferenceIdeal.nD Cert.SeqReferenceIdeal.τ).loc Cert.SeqReferenceIdeal.main_arg15) = m ((c.tc : Thread Cert.SeqReferenceIdeal.nD Cert.SeqReferenceIdeal.τ).loc Cert.SeqReferenceIdeal.main_arg15))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v232) = v0 c
          ∧ r.2.mem ((c.tc : Thread Cert.ReferenceIdeal.nD Cert.ReferenceIdeal.τ).loc Cert.ReferenceIdeal.main_v237) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v42) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)
      ∧ m' ((c.tc : Thread Cert.MixReferenceIdeal.nD Cert.MixReferenceIdeal.τ).loc Cert.MixReferenceIdeal.main_arg11) = m ((c.tc : Thread Cert.MixIdeal.nD Cert.MixIdeal.τ).loc Cert.MixIdeal.main_arg11)) →
    ∃ (v0 : (c : Dev Cert.MixIdeal.nD) → Buf (Elt Ideal) ((c.tc : Thread Cert.MixIdeal.nD Cert.MixIdeal.τ).loc Cert.MixIdeal.main_v10)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v10) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v93) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11))

def preserves_Inproj_InprojIdeal : Prop :=
  True

def algebraic_InprojIdeal_InprojReferenceIdeal [hInprojIdeal : Cert.InprojIdeal.Facts] [hInprojReferenceIdeal : Cert.InprojReferenceIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojReferenceIdeal.nD Cert.InprojReferenceIdeal.τ Cert.InprojReferenceIdeal.sig) → Buf (Elt Ideal) ℓ) (g' : Dev Cert.InprojReferenceIdeal.nD → PrngReg), Pre_InprojIdeal m →
    (∀ c : Dev Cert.InprojIdeal.nD,
      m' ((c.tc : Thread Cert.InprojReferenceIdeal.nD Cert.InprojReferenceIdeal.τ).loc Cert.InprojReferenceIdeal.main_arg0) = m ((c.tc : Thread Cert.InprojIdeal.nD Cert.InprojIdeal.τ).loc Cert.InprojIdeal.main_arg0)
      ∧ m' ((c.tc : Thread Cert.InprojReferenceIdeal.nD Cert.InprojReferenceIdeal.τ).loc Cert.InprojReferenceIdeal.main_arg1) = m ((c.tc : Thread Cert.InprojIdeal.nD Cert.InprojIdeal.τ).loc Cert.InprojIdeal.main_arg1)
      ∧ m' ((c.tc : Thread Cert.InprojReferenceIdeal.nD Cert.InprojReferenceIdeal.τ).loc Cert.InprojReferenceIdeal.main_arg2) = m ((c.tc : Thread Cert.InprojIdeal.nD Cert.InprojIdeal.τ).loc Cert.InprojIdeal.main_arg2)
      ∧ m' ((c.tc : Thread Cert.InprojReferenceIdeal.nD Cert.InprojReferenceIdeal.τ).loc Cert.InprojReferenceIdeal.main_arg3) = m ((c.tc : Thread Cert.InprojIdeal.nD Cert.InprojIdeal.τ).loc Cert.InprojIdeal.main_arg3)
      ∧ m' ((c.tc : Thread Cert.InprojReferenceIdeal.nD Cert.InprojReferenceIdeal.τ).loc Cert.InprojReferenceIdeal.main_arg4) = m ((c.tc : Thread Cert.InprojIdeal.nD Cert.InprojIdeal.τ).loc Cert.InprojIdeal.main_arg4)
      ∧ m' ((c.tc : Thread Cert.InprojReferenceIdeal.nD Cert.InprojReferenceIdeal.τ).loc Cert.InprojReferenceIdeal.main_arg5) = m ((c.tc : Thread Cert.InprojIdeal.nD Cert.InprojIdeal.τ).loc Cert.InprojIdeal.main_arg5)
      ∧ m' ((c.tc : Thread Cert.InprojReferenceIdeal.nD Cert.InprojReferenceIdeal.τ).loc Cert.InprojReferenceIdeal.main_arg6) = m ((c.tc : Thread Cert.InprojIdeal.nD Cert.InprojIdeal.τ).loc Cert.InprojIdeal.main_arg6)
      ∧ m' ((c.tc : Thread Cert.InprojReferenceIdeal.nD Cert.InprojReferenceIdeal.τ).loc Cert.InprojReferenceIdeal.main_arg7) = m ((c.tc : Thread Cert.InprojIdeal.nD Cert.InprojIdeal.τ).loc Cert.InprojIdeal.main_arg7)
      ∧ m' ((c.tc : Thread Cert.InprojReferenceIdeal.nD Cert.InprojReferenceIdeal.τ).loc Cert.InprojReferenceIdeal.main_arg8) = m ((c.tc : Thread Cert.InprojIdeal.nD Cert.InprojIdeal.τ).loc Cert.InprojIdeal.main_arg8)) →
    ∃ (v0 : (c : Dev Cert.InprojIdeal.nD) → Buf (Elt Ideal) ((c.tc : Thread Cert.InprojIdeal.nD Cert.InprojIdeal.τ).loc Cert.InprojIdeal.main_v4_0)) (v1 : (c : Dev Cert.InprojIdeal.nD) → Buf (Elt Ideal) ((c.tc : Thread Cert.InprojIdeal.nD Cert.InprojIdeal.τ).loc Cert.InprojIdeal.main_v4_1)) (v2 : (c : Dev Cert.InprojIdeal.nD) → Buf (Elt Ideal) ((c.tc : Thread Cert.InprojIdeal.nD Cert.InprojIdeal.τ).loc Cert.InprojIdeal.main_v4_2)) (v3 : (c : Dev Cert.InprojIdeal.nD) → Buf (Elt Ideal) ((c.tc : Thread Cert.InprojIdeal.nD Cert.InprojIdeal.τ).loc Cert.InprojIdeal.main_v4_3)) (v4 : (c : Dev Cert.InprojIdeal.nD) → Buf (Elt Ideal) ((c.tc : Thread Cert.InprojIdeal.nD Cert.InprojIdeal.τ).loc Cert.InprojIdeal.main_v4_4)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v4_0) = v0 c
          ∧ r.2.mem ((c.tc : Thread Cert.InprojIdeal.nD Cert.InprojIdeal.τ).loc Cert.InprojIdeal.main_v4_1) = v1 c
          ∧ r.2.mem ((c.tc : Thread Cert.InprojIdeal.nD Cert.InprojIdeal.τ).loc Cert.InprojIdeal.main_v4_2) = v2 c
          ∧ r.2.mem ((c.tc : Thread Cert.InprojIdeal.nD Cert.InprojIdeal.τ).loc Cert.InprojIdeal.main_v4_3) = v3 c
          ∧ r.2.mem ((c.tc : Thread Cert.InprojIdeal.nD Cert.InprojIdeal.τ).loc Cert.InprojIdeal.main_v4_4) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8))
      ∧ θ_run (Cert.InprojReferenceIdeal.defs (F := Ideal)) (onTc (τ := Cert.InprojReferenceIdeal.τ) (Cert.InprojReferenceIdeal.main (F := Ideal))) ⟨m', fun _ => 0, g'⟩ (fun r => ∀ c : Dev Cert.InprojReferenceIdeal.nD,
          r.2.mem ((c.tc : Thread Cert.InprojReferenceIdeal.nD Cert.InprojReferenceIdeal.τ).loc Cert.InprojReferenceIdeal.main_v164) = v0 c
          ∧ r.2.mem ((c.tc : Thread Cert.InprojReferenceIdeal.nD Cert.InprojReferenceIdeal.τ).loc Cert.InprojReferenceIdeal.main_v166) = v1 c
          ∧ r.2.mem ((c.tc : Thread Cert.InprojReferenceIdeal.nD Cert.InprojReferenceIdeal.τ).loc Cert.InprojReferenceIdeal.main_v170) = v2 c
          ∧ r.2.mem ((c.tc : Thread Cert.InprojReferenceIdeal.nD Cert.InprojReferenceIdeal.τ).loc Cert.InprojReferenceIdeal.main_v171) = v3 c
          ∧ r.2.mem ((c.tc : Thread Cert.InprojReferenceIdeal.nD Cert.InprojReferenceIdeal.τ).loc Cert.InprojReferenceIdeal.main_v172) = v4 c
          ∧ r.2.mem ((c.tc : Thread Cert.InprojReferenceIdeal.nD Cert.InprojReferenceIdeal.τ).loc Cert.InprojReferenceIdeal.main_arg0) = m' ((c.tc : Thread Cert.InprojReferenceIdeal.nD Cert.InprojReferenceIdeal.τ).loc Cert.InprojReferenceIdeal.main_arg0)
          ∧ r.2.mem ((c.tc : Thread Cert.InprojReferenceIdeal.nD Cert.InprojReferenceIdeal.τ).loc Cert.InprojReferenceIdeal.main_arg1) = m' ((c.tc : Thread Cert.InprojReferenceIdeal.nD Cert.InprojReferenceIdeal.τ).loc Cert.InprojReferenceIdeal.main_arg1)
          ∧ r.2.mem ((c.tc : Thread Cert.InprojReferenceIdeal.nD Cert.InprojReferenceIdeal.τ).loc Cert.InprojReferenceIdeal.main_arg2) = m' ((c.tc : Thread Cert.InprojReferenceIdeal.nD Cert.InprojReferenceIdeal.τ).loc Cert.InprojReferenceIdeal.main_arg2)
          ∧ r.2.mem ((c.tc : Thread Cert.InprojReferenceIdeal.nD Cert.InprojReferenceIdeal.τ).loc Cert.InprojReferenceIdeal.main_arg3) = m' ((c.tc : Thread Cert.InprojReferenceIdeal.nD Cert.InprojReferenceIdeal.τ).loc Cert.InprojReferenceIdeal.main_arg3)
          ∧ r.2.mem ((c.tc : Thread Cert.InprojReferenceIdeal.nD Cert.InprojReferenceIdeal.τ).loc Cert.InprojReferenceIdeal.main_arg4) = m' ((c.tc : Thread Cert.InprojReferenceIdeal.nD Cert.InprojReferenceIdeal.τ).loc Cert.InprojReferenceIdeal.main_arg4)
          ∧ r.2.mem ((c.tc : Thread Cert.InprojReferenceIdeal.nD Cert.InprojReferenceIdeal.τ).loc Cert.InprojReferenceIdeal.main_arg5) = m' ((c.tc : Thread Cert.InprojReferenceIdeal.nD Cert.InprojReferenceIdeal.τ).loc Cert.InprojReferenceIdeal.main_arg5)
          ∧ r.2.mem ((c.tc : Thread Cert.InprojReferenceIdeal.nD Cert.InprojReferenceIdeal.τ).loc Cert.InprojReferenceIdeal.main_arg6) = m' ((c.tc : Thread Cert.InprojReferenceIdeal.nD Cert.InprojReferenceIdeal.τ).loc Cert.InprojReferenceIdeal.main_arg6)
          ∧ r.2.mem ((c.tc : Thread Cert.InprojReferenceIdeal.nD Cert.InprojReferenceIdeal.τ).loc Cert.InprojReferenceIdeal.main_arg7) = m' ((c.tc : Thread Cert.InprojReferenceIdeal.nD Cert.InprojReferenceIdeal.τ).loc Cert.InprojReferenceIdeal.main_arg7)
          ∧ r.2.mem ((c.tc : Thread Cert.InprojReferenceIdeal.nD Cert.InprojReferenceIdeal.τ).loc Cert.InprojReferenceIdeal.main_arg8) = m' ((c.tc : Thread Cert.InprojReferenceIdeal.nD Cert.InprojReferenceIdeal.τ).loc Cert.InprojReferenceIdeal.main_arg8))

def preserves_Seq_SeqIdeal : Prop :=
  True

def algebraic_SeqIdeal_SeqReferenceIdeal [hSeqIdeal : Cert.SeqIdeal.Facts] [hSeqReferenceIdeal : Cert.SeqReferenceIdeal.Facts] : Prop :=
  ∀ (m : (ℓ : Loc Cert.SeqIdeal.nD Cert.SeqIdeal.τ Cert.SeqIdeal.sig) → Buf (Elt Ideal) ℓ) (g : Dev Cert.SeqIdeal.nD → PrngReg)
    (m' : (ℓ : Loc Cert.SeqReferenceIdeal.nD Cert.SeqReferenceIdeal.τ Cert.SeqReferenceIdeal.sig) → Buf (Elt Ideal) ℓ) (g' : Dev Cert.SeqReferenceIdeal.nD → PrngReg), Pre_SeqIdeal m →
    (∀ c : Dev Cert.SeqIdeal.nD,
      m' ((c.tc : Thread Cert.SeqReferenceIdeal.nD Cert.SeqReferenceIdeal.τ).loc Cert.SeqReferenceIdeal.main_arg0) = m ((c.tc : Thread Cert.SeqIdeal.nD Cert.SeqIdeal.τ).loc Cert.SeqIdeal.main_arg0)
      ∧ m' ((c.tc : Thread Cert.SeqReferenceIdeal.nD Cert.SeqReferenceIdeal.τ).loc Cert.SeqReferenceIdeal.main_arg1) = m ((c.tc : Thread Cert.SeqIdeal.nD Cert.SeqIdeal.τ).loc Cert.SeqIdeal.main_arg1)
      ∧ m' ((c.tc : Thread Cert.SeqReferenceIdeal.nD Cert.SeqReferenceIdeal.τ).loc Cert.SeqReferenceIdeal.main_arg2) = m ((c.tc : Thread Cert.SeqIdeal.nD Cert.SeqIdeal.τ).loc Cert.SeqIdeal.main_arg2)
      ∧ m' ((c.tc : Thread Cert.SeqReferenceIdeal.nD Cert.SeqReferenceIdeal.τ).loc Cert.SeqReferenceIdeal.main_arg3) = m ((c.tc : Thread Cert.SeqIdeal.nD Cert.SeqIdeal.τ).loc Cert.SeqIdeal.main_arg3)
      ∧ m' ((c.tc : Thread Cert.SeqReferenceIdeal.nD Cert.SeqReferenceIdeal.τ).loc Cert.SeqReferenceIdeal.main_arg4) = m ((c.tc : Thread Cert.SeqIdeal.nD Cert.SeqIdeal.τ).loc Cert.SeqIdeal.main_arg4)
      ∧ m' ((c.tc : Thread Cert.SeqReferenceIdeal.nD Cert.SeqReferenceIdeal.τ).loc Cert.SeqReferenceIdeal.main_arg5) = m ((c.tc : Thread Cert.SeqIdeal.nD Cert.SeqIdeal.τ).loc Cert.SeqIdeal.main_arg5)
      ∧ m' ((c.tc : Thread Cert.SeqReferenceIdeal.nD Cert.SeqReferenceIdeal.τ).loc Cert.SeqReferenceIdeal.main_arg6) = m ((c.tc : Thread Cert.SeqIdeal.nD Cert.SeqIdeal.τ).loc Cert.SeqIdeal.main_arg6)
      ∧ m' ((c.tc : Thread Cert.SeqReferenceIdeal.nD Cert.SeqReferenceIdeal.τ).loc Cert.SeqReferenceIdeal.main_arg7) = m ((c.tc : Thread Cert.SeqIdeal.nD Cert.SeqIdeal.τ).loc Cert.SeqIdeal.main_arg7)
      ∧ m' ((c.tc : Thread Cert.SeqReferenceIdeal.nD Cert.SeqReferenceIdeal.τ).loc Cert.SeqReferenceIdeal.main_arg8) = m ((c.tc : Thread Cert.SeqIdeal.nD Cert.SeqIdeal.τ).loc Cert.SeqIdeal.main_arg8)
      ∧ m' ((c.tc : Thread Cert.SeqReferenceIdeal.nD Cert.SeqReferenceIdeal.τ).loc Cert.SeqReferenceIdeal.main_arg9) = m ((c.tc : Thread Cert.SeqIdeal.nD Cert.SeqIdeal.τ).loc Cert.SeqIdeal.main_arg9)
      ∧ m' ((c.tc : Thread Cert.SeqReferenceIdeal.nD Cert.SeqReferenceIdeal.τ).loc Cert.SeqReferenceIdeal.main_arg10) = m ((c.tc : Thread Cert.SeqIdeal.nD Cert.SeqIdeal.τ).loc Cert.SeqIdeal.main_arg10)
      ∧ m' ((c.tc : Thread Cert.SeqReferenceIdeal.nD Cert.SeqReferenceIdeal.τ).loc Cert.SeqReferenceIdeal.main_arg11) = m ((c.tc : Thread Cert.SeqIdeal.nD Cert.SeqIdeal.τ).loc Cert.SeqIdeal.main_arg11)
      ∧ m' ((c.tc : Thread Cert.SeqReferenceIdeal.nD Cert.SeqReferenceIdeal.τ).loc Cert.SeqReferenceIdeal.main_arg12) = m ((c.tc : Thread Cert.SeqIdeal.nD Cert.SeqIdeal.τ).loc Cert.SeqIdeal.main_arg12)
      ∧ m' ((c.tc : Thread Cert.SeqReferenceIdeal.nD Cert.SeqReferenceIdeal.τ).loc Cert.SeqReferenceIdeal.main_arg13) = m ((c.tc : Thread Cert.SeqIdeal.nD Cert.SeqIdeal.τ).loc Cert.SeqIdeal.main_arg13)
      ∧ m' ((c.tc : Thread Cert.SeqReferenceIdeal.nD Cert.SeqReferenceIdeal.τ).loc Cert.SeqReferenceIdeal.main_arg14) = m ((c.tc : Thread Cert.SeqIdeal.nD Cert.SeqIdeal.τ).loc Cert.SeqIdeal.main_arg14)
      ∧ m' ((c.tc : Thread Cert.SeqReferenceIdeal.nD Cert.SeqReferenceIdeal.τ).loc Cert.SeqReferenceIdeal.main_arg15) = m ((c.tc : Thread Cert.SeqIdeal.nD Cert.SeqIdeal.τ).loc Cert.SeqIdeal.main_arg15)) →
    ∃ (v0 : (c : Dev Cert.SeqIdeal.nD) → Buf (Elt Ideal) ((c.tc : Thread Cert.SeqIdeal.nD Cert.SeqIdeal.τ).loc Cert.SeqIdeal.main_v25_3)) (v1 : (c : Dev Cert.SeqIdeal.nD) → Buf (Elt Ideal) ((c.tc : Thread Cert.SeqIdeal.nD Cert.SeqIdeal.τ).loc Cert.SeqIdeal.main_v25_4)),
      θ_run (Cert.SeqIdeal.defs (F := Ideal)) (onTc (τ := Cert.SeqIdeal.τ) (Cert.SeqIdeal.main (F := Ideal))) ⟨m, fun _ => 0, g⟩ (fun r => ∀ c : Dev Cert.SeqIdeal.nD,
          r.2.mem ((c.tc : Thread Cert.SeqIdeal.nD Cert.SeqIdeal.τ).loc Cert.SeqIdeal.main_v25_3) = v0 c
          ∧ r.2.mem ((c.tc : Thread Cert.SeqIdeal.nD Cert.SeqIdeal.τ).loc Cert.SeqIdeal.main_v25_4) = v1 c
          ∧ r.2.mem ((c.tc : Thread Cert.SeqIdeal.nD Cert.SeqIdeal.τ).loc Cert.SeqIdeal.main_arg0) = m ((c.tc : Thread Cert.SeqIdeal.nD Cert.SeqIdeal.τ).loc Cert.SeqIdeal.main_arg0)
          ∧ r.2.mem ((c.tc : Thread Cert.SeqIdeal.nD Cert.SeqIdeal.τ).loc Cert.SeqIdeal.main_arg1) = m ((c.tc : Thread Cert.SeqIdeal.nD Cert.SeqIdeal.τ).loc Cert.SeqIdeal.main_arg1)
          ∧ r.2.mem ((c.tc : Thread Cert.SeqIdeal.nD Cert.SeqIdeal.τ).loc Cert.SeqIdeal.main_arg2) = m ((c.tc : Thread Cert.SeqIdeal.nD Cert.SeqIdeal.τ).loc Cert.SeqIdeal.main_arg2)
          ∧ r.2.mem ((c.tc : Thread Cert.SeqIdeal.nD Cert.SeqIdeal.τ).loc Cert.SeqIdeal.main_arg3) = m ((c.tc : Thread Cert.SeqIdeal.nD Cert.SeqIdeal.τ).loc Cert.SeqIdeal.main_arg3)
          ∧ r.2.mem ((c.tc : Thread Cert.SeqIdeal.nD Cert.SeqIdeal.τ).loc Cert.SeqIdeal.main_arg4) = m ((c.tc : Thread Cert.SeqIdeal.nD Cert.SeqIdeal.τ).loc Cert.SeqIdeal.main_arg4)
          ∧ r.2.mem ((c.tc : Thread Cert.SeqIdeal.nD Cert.SeqIdeal.τ).loc Cert.SeqIdeal.main_arg5) = m ((c.tc : Thread Cert.SeqIdeal.nD Cert.SeqIdeal.τ).loc Cert.SeqIdeal.main_arg5)
          ∧ r.2.mem ((c.tc : Thread Cert.SeqIdeal.nD Cert.SeqIdeal.τ).loc Cert.SeqIdeal.main_arg6) = m ((c.tc : Thread Cert.SeqIdeal.nD Cert.SeqIdeal.τ).loc Cert.SeqIdeal.main_arg6)
          ∧ r.2.mem ((c.tc : Thread Cert.SeqIdeal.nD Cert.SeqIdeal.τ).loc Cert.SeqIdeal.main_arg7) = m ((c.tc : Thread Cert.SeqIdeal.nD Cert.SeqIdeal.τ).loc Cert.SeqIdeal.main_arg7)
          ∧ r.2.mem ((c.tc : Thread Cert.SeqIdeal.nD Cert.SeqIdeal.τ).loc Cert.SeqIdeal.main_arg8) = m ((c.tc : Thread Cert.SeqIdeal.nD Cert.SeqIdeal.τ).loc Cert.SeqIdeal.main_arg8)
          ∧ r.2.mem ((c.tc : Thread Cert.SeqIdeal.nD Cert.SeqIdeal.τ).loc Cert.SeqIdeal.main_arg9) = m ((c.tc : Thread Cert.SeqIdeal.nD Cert.SeqIdeal.τ).loc Cert.SeqIdeal.main_arg9)
          ∧ r.2.mem ((c.tc : Thread Cert.SeqIdeal.nD Cert.SeqIdeal.τ).loc Cert.SeqIdeal.main_arg10) = m ((c.tc : Thread Cert.SeqIdeal.nD Cert.SeqIdeal.τ).loc Cert.SeqIdeal.main_arg10)
          ∧ r.2.mem ((c.tc : Thread Cert.SeqIdeal.nD Cert.SeqIdeal.τ).loc Cert.SeqIdeal.main_arg11) = m ((c.tc : Thread Cert.SeqIdeal.nD Cert.SeqIdeal.τ).loc Cert.SeqIdeal.main_arg11)
          ∧ r.2.mem ((c.tc : Thread Cert.SeqIdeal.nD Cert.SeqIdeal.τ).loc Cert.SeqIdeal.main_arg12) = m ((c.tc : Thread Cert.SeqIdeal.nD Cert.SeqIdeal.τ).loc Cert.SeqIdeal.main_arg12)
          ∧ r.2.mem ((c.tc : Thread Cert.SeqIdeal.nD Cert.SeqIdeal.τ).loc Cert.SeqIdeal.main_arg13) = m ((c.tc : Thread Cert.SeqIdeal.nD Cert.SeqIdeal.τ).loc Cert.SeqIdeal.main_arg13)
          ∧ r.2.mem ((c.tc : Thread Cert.SeqIdeal.nD Cert.SeqIdeal.τ).loc Cert.SeqIdeal.main_arg14) = m ((c.tc : Thread Cert.SeqIdeal.nD Cert.SeqIdeal.τ).loc Cert.SeqIdeal.main_arg14)
          ∧ r.2.mem ((c.tc : Thread Cert.SeqIdeal.nD Cert.SeqIdeal.τ).loc Cert.SeqIdeal.main_arg15) = m ((c.tc : Thread Cert.SeqIdeal.nD Cert.SeqIdeal.τ).loc Cert.SeqIdeal.main_arg15))
      ∧ θ_run (Cert.SeqReferenceIdeal.defs (F := Ideal)) (onTc (τ := Cert.SeqReferenceIdeal.τ) (Cert.SeqReferenceIdeal.main (F := Ideal))) ⟨m', fun _ => 0, g'⟩ (fun r => ∀ c : Dev Cert.SeqReferenceIdeal.nD,
          r.2.mem ((c.tc : Thread Cert.SeqReferenceIdeal.nD Cert.SeqReferenceIdeal.τ).loc Cert.SeqReferenceIdeal.main_v17) = v0 c
          ∧ r.2.mem ((c.tc : Thread Cert.SeqReferenceIdeal.nD Cert.SeqReferenceIdeal.τ).loc Cert.SeqReferenceIdeal.main_v23) = v1 c
          ∧ r.2.mem ((c.tc : Thread Cert.SeqReferenceIdeal.nD Cert.SeqReferenceIdeal.τ).loc Cert.SeqReferenceIdeal.main_arg0) = m' ((c.tc : Thread Cert.SeqReferenceIdeal.nD Cert.SeqReferenceIdeal.τ).loc Cert.SeqReferenceIdeal.main_arg0)
          ∧ r.2.mem ((c.tc : Thread Cert.SeqReferenceIdeal.nD Cert.SeqReferenceIdeal.τ).loc Cert.SeqReferenceIdeal.main_arg1) = m' ((c.tc : Thread Cert.SeqReferenceIdeal.nD Cert.SeqReferenceIdeal.τ).loc Cert.SeqReferenceIdeal.main_arg1)
          ∧ r.2.mem ((c.tc : Thread Cert.SeqReferenceIdeal.nD Cert.SeqReferenceIdeal.τ).loc Cert.SeqReferenceIdeal.main_arg2) = m' ((c.tc : Thread Cert.SeqReferenceIdeal.nD Cert.SeqReferenceIdeal.τ).loc Cert.SeqReferenceIdeal.main_arg2)
          ∧ r.2.mem ((c.tc : Thread Cert.SeqReferenceIdeal.nD Cert.SeqReferenceIdeal.τ).loc Cert.SeqReferenceIdeal.main_arg3) = m' ((c.tc : Thread Cert.SeqReferenceIdeal.nD Cert.SeqReferenceIdeal.τ).loc Cert.SeqReferenceIdeal.main_arg3)
          ∧ r.2.mem ((c.tc : Thread Cert.SeqReferenceIdeal.nD Cert.SeqReferenceIdeal.τ).loc Cert.SeqReferenceIdeal.main_arg4) = m' ((c.tc : Thread Cert.SeqReferenceIdeal.nD Cert.SeqReferenceIdeal.τ).loc Cert.SeqReferenceIdeal.main_arg4)
          ∧ r.2.mem ((c.tc : Thread Cert.SeqReferenceIdeal.nD Cert.SeqReferenceIdeal.τ).loc Cert.SeqReferenceIdeal.main_arg5) = m' ((c.tc : Thread Cert.SeqReferenceIdeal.nD Cert.SeqReferenceIdeal.τ).loc Cert.SeqReferenceIdeal.main_arg5)
          ∧ r.2.mem ((c.tc : Thread Cert.SeqReferenceIdeal.nD Cert.SeqReferenceIdeal.τ).loc Cert.SeqReferenceIdeal.main_arg6) = m' ((c.tc : Thread Cert.SeqReferenceIdeal.nD Cert.SeqReferenceIdeal.τ).loc Cert.SeqReferenceIdeal.main_arg6)
          ∧ r.2.mem ((c.tc : Thread Cert.SeqReferenceIdeal.nD Cert.SeqReferenceIdeal.τ).loc Cert.SeqReferenceIdeal.main_arg7) = m' ((c.tc : Thread Cert.SeqReferenceIdeal.nD Cert.SeqReferenceIdeal.τ).loc Cert.SeqReferenceIdeal.main_arg7)
          ∧ r.2.mem ((c.tc : Thread Cert.SeqReferenceIdeal.nD Cert.SeqReferenceIdeal.τ).loc Cert.SeqReferenceIdeal.main_arg8) = m' ((c.tc : Thread Cert.SeqReferenceIdeal.nD Cert.SeqReferenceIdeal.τ).loc Cert.SeqReferenceIdeal.main_arg8)
          ∧ r.2.mem ((c.tc : Thread Cert.SeqReferenceIdeal.nD Cert.SeqReferenceIdeal.τ).loc Cert.SeqReferenceIdeal.main_arg9) = m' ((c.tc : Thread Cert.SeqReferenceIdeal.nD Cert.SeqReferenceIdeal.τ).loc Cert.SeqReferenceIdeal.main_arg9)
          ∧ r.2.mem ((c.tc : Thread Cert.SeqReferenceIdeal.nD Cert.SeqReferenceIdeal.τ).loc Cert.SeqReferenceIdeal.main_arg10) = m' ((c.tc : Thread Cert.SeqReferenceIdeal.nD Cert.SeqReferenceIdeal.τ).loc Cert.SeqReferenceIdeal.main_arg10)
          ∧ r.2.mem ((c.tc : Thread Cert.SeqReferenceIdeal.nD Cert.SeqReferenceIdeal.τ).loc Cert.SeqReferenceIdeal.main_arg11) = m' ((c.tc : Thread Cert.SeqReferenceIdeal.nD Cert.SeqReferenceIdeal.τ).loc Cert.SeqReferenceIdeal.main_arg11)
          ∧ r.2.mem ((c.tc : Thread Cert.SeqReferenceIdeal.nD Cert.SeqReferenceIdeal.τ).loc Cert.SeqReferenceIdeal.main_arg12) = m' ((c.tc : Thread Cert.SeqReferenceIdeal.nD Cert.SeqReferenceIdeal.τ).loc Cert.SeqReferenceIdeal.main_arg12)
          ∧ r.2.mem ((c.tc : Thread Cert.SeqReferenceIdeal.nD Cert.SeqReferenceIdeal.τ).loc Cert.SeqReferenceIdeal.main_arg13) = m' ((c.tc : Thread Cert.SeqReferenceIdeal.nD Cert.SeqReferenceIdeal.τ).loc Cert.SeqReferenceIdeal.main_arg13)
          ∧ r.2.mem ((c.tc : Thread Cert.SeqReferenceIdeal.nD Cert.SeqReferenceIdeal.τ).loc Cert.SeqReferenceIdeal.main_arg14) = m' ((c.tc : Thread Cert.SeqReferenceIdeal.nD Cert.SeqReferenceIdeal.τ).loc Cert.SeqReferenceIdeal.main_arg14)
          ∧ r.2.mem ((c.tc : Thread Cert.SeqReferenceIdeal.nD Cert.SeqReferenceIdeal.τ).loc Cert.SeqReferenceIdeal.main_arg15) = m' ((c.tc : Thread Cert.SeqReferenceIdeal.nD Cert.SeqReferenceIdeal.τ).loc Cert.SeqReferenceIdeal.main_arg15))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMix : Cert.Mix.Facts) (hMixIdeal : Cert.MixIdeal.Facts) (hMixReferenceIdeal : Cert.MixReferenceIdeal.Facts) (hInproj : Cert.Inproj.Facts) (hInprojIdeal : Cert.InprojIdeal.Facts) (hInprojReferenceIdeal : Cert.InprojReferenceIdeal.Facts) (hSeq : Cert.Seq.Facts) (hSeqIdeal : Cert.SeqIdeal.Facts) (hSeqReferenceIdeal : Cert.SeqReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Mix (hMix := hMix)
    ∧ quiescent_MixIdeal (hMixIdeal := hMixIdeal)
    ∧ quiescent_MixReferenceIdeal (hMixReferenceIdeal := hMixReferenceIdeal)
    ∧ quiescent_Inproj (hInproj := hInproj)
    ∧ quiescent_InprojIdeal (hInprojIdeal := hInprojIdeal)
    ∧ quiescent_InprojReferenceIdeal (hInprojReferenceIdeal := hInprojReferenceIdeal)
    ∧ quiescent_Seq (hSeq := hSeq)
    ∧ quiescent_SeqIdeal (hSeqIdeal := hSeqIdeal)
    ∧ quiescent_SeqReferenceIdeal (hSeqReferenceIdeal := hSeqReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Mix_MixIdeal
    ∧ algebraic_MixIdeal_MixReferenceIdeal (hMixIdeal := hMixIdeal) (hMixReferenceIdeal := hMixReferenceIdeal)
    ∧ preserves_Inproj_InprojIdeal
    ∧ algebraic_InprojIdeal_InprojReferenceIdeal (hInprojIdeal := hInprojIdeal) (hInprojReferenceIdeal := hInprojReferenceIdeal)
    ∧ preserves_Seq_SeqIdeal
    ∧ algebraic_SeqIdeal_SeqReferenceIdeal (hSeqIdeal := hSeqIdeal) (hSeqReferenceIdeal := hSeqReferenceIdeal)
-- ==== Pre_finite.lean ====
abbrev S8x2048x3072 : Shape := ⟨3, ![8, 2048, 3072]⟩
abbrev S8x2048x32 : Shape := ⟨3, ![8, 2048, 32]⟩
abbrev S2x32 : Shape := ⟨2, ![2, 32]⟩
abbrev S1x32x64x128 : Shape := ⟨4, ![1, 32, 64, 128]⟩
abbrev S17920x2048 : Shape := ⟨2, ![17920, 2048]⟩
abbrev S2x8x2048x128 : Shape := ⟨4, ![2, 8, 2048, 128]⟩
abbrev S_ : Shape := ⟨0, ![]⟩

class Facts : Prop where
  bcast_S_S8x2048x32 : S_.BroadcastsInDim S8x2048x32 (![] : Fin 0 → Fin S8x2048x32.rank)
  reducesTo_S8x2048x32_S_d0_1_2 : S8x2048x32.ReducesTo [0, 1, 2] S_
  h_S_ : 0 < S_.numel
  bcast_S_S2x32 : S_.BroadcastsInDim S2x32 (![] : Fin 0 → Fin S2x32.rank)
  reducesTo_S2x32_S_d0_1 : S2x32.ReducesTo [0, 1] S_

variable [Facts]

def fn {F : FTy → Type} [FloatOps F] (main_arg0 : FVec F S8x2048x3072 .f32) (main_arg1 : FVec F S8x2048x32 .f32) (main_arg2 : FVec F S2x32 .f32) (main_arg3 : FVec F S2x32 .f32) (main_arg4 : FVec F S2x32 .f32) (main_arg5 : FVec F S1x32x64x128 .f32) (main_arg6 : FVec F S17920x2048 .bf16) (main_arg7 : FVec F S2x8x2048x128 .f32) : IVec S_ 1 :=
  let main_v0 : FVec F S8x2048x32 .f32 := Host.absf main_arg1
  let main_cst : FVec F S_ .f32 := constant S_ .f32 0x7F800000#32
  let main_v1 : FVec F S8x2048x32 .f32 := broadcastInDim S8x2048x32 ![] bcast_S_S8x2048x32 main_cst
  let main_v2 : IVec S8x2048x32 1 := cmpf .olt main_v0 main_v1
  let main_c : IVec S_ 1 := constantI S_ 1 1#1
  let main_v3 : IVec S_ 1 := (fun x v => Host.reduce IntOp.andi x v reducesTo_S8x2048x32_S_d0_1_2 h_S_) main_v2 main_c
  let main_v4 : FVec F S2x32 .f32 := Host.absf main_arg2
  let main_cst_0 : FVec F S_ .f32 := constant S_ .f32 0x7F800000#32
  let main_v5 : FVec F S2x32 .f32 := broadcastInDim S2x32 ![] bcast_S_S2x32 main_cst_0
  let main_v6 : IVec S2x32 1 := cmpf .olt main_v4 main_v5
  let main_c_1 : IVec S_ 1 := constantI S_ 1 1#1
  let main_v7 : IVec S_ 1 := (fun x v => Host.reduce IntOp.andi x v reducesTo_S2x32_S_d0_1 h_S_) main_v6 main_c_1
  let main_v8 : IVec S_ 1 := andi main_v3 main_v7
  let main_v9 : FVec F S2x32 .f32 := Host.absf main_arg3
  let main_cst_2 : FVec F S_ .f32 := constant S_ .f32 0x7F800000#32
  let main_v10 : FVec F S2x32 .f32 := broadcastInDim S2x32 ![] bcast_S_S2x32 main_cst_2
  let main_v11 : IVec S2x32 1 := cmpf .olt main_v9 main_v10
  let main_c_3 : IVec S_ 1 := constantI S_ 1 1#1
  let main_v12 : IVec S_ 1 := (fun x v => Host.reduce IntOp.andi x v reducesTo_S2x32_S_d0_1 h_S_) main_v11 main_c_3
  let main_v13 : IVec S_ 1 := andi main_v8 main_v12
  main_v13
-- ==== Kernel.lean ====
abbrev S8x2048x3072 : Shape := ⟨3, ![8, 2048, 3072]⟩
abbrev S8x2048x32 : Shape := ⟨3, ![8, 2048, 32]⟩
abbrev S2x32 : Shape := ⟨2, ![2, 32]⟩
abbrev S1x32x64x128 : Shape := ⟨4, ![1, 32, 64, 128]⟩
abbrev S17920x2048 : Shape := ⟨2, ![17920, 2048]⟩
abbrev S2x8x2048x128 : Shape := ⟨4, ![2, 8, 2048, 128]⟩
abbrev S128 : Shape := ⟨1, ![128]⟩
abbrev S_ : Shape := ⟨0, ![]⟩
abbrev S128x1 : Shape := ⟨2, ![128, 1]⟩
abbrev S2048 : Shape := ⟨1, ![2048]⟩
abbrev S1x2048 : Shape := ⟨2, ![1, 2048]⟩
abbrev S128x2048 : Shape := ⟨2, ![128, 2048]⟩
abbrev S2x128 : Shape := ⟨2, ![2, 128]⟩
abbrev S2x1x128 : Shape := ⟨3, ![2, 1, 128]⟩
abbrev S2x32x64 : Shape := ⟨3, ![2, 32, 64]⟩
abbrev S2x2048 : Shape := ⟨2, ![2, 2048]⟩
abbrev S2x1x2048 : Shape := ⟨3, ![2, 1, 2048]⟩
abbrev S16384x3072 : Shape := ⟨2, ![16384, 3072]⟩
abbrev S16384x32 : Shape := ⟨2, ![16384, 32]⟩
abbrev S17920x128 : Shape := ⟨2, ![17920, 128]⟩
abbrev S1x2048x128 : Shape := ⟨3, ![1, 2048, 128]⟩
abbrev S512x3072 : Shape := ⟨2, ![512, 3072]⟩
abbrev S512x128 : Shape := ⟨2, ![512, 128]⟩
abbrev S1x1x128 : Shape := ⟨3, ![1, 1, 128]⟩
abbrev S1x1x2048 : Shape := ⟨3, ![1, 1, 2048]⟩
abbrev S512x2048 : Shape := ⟨2, ![512, 2048]⟩
abbrev S1x1x2048x128 : Shape := ⟨4, ![1, 1, 2048, 128]⟩
abbrev S2048x128 : Shape := ⟨2, ![2048, 128]⟩
abbrev S128x128 : Shape := ⟨2, ![128, 128]⟩
abbrev S1x128 : Shape := ⟨2, ![1, 128]⟩
abbrev S128x384 : Shape := ⟨2, ![128, 384]⟩
abbrev S384x128 : Shape := ⟨2, ![384, 128]⟩
abbrev S8x128 : Shape := ⟨2, ![8, 128]⟩
abbrev S264x128 : Shape := ⟨2, ![264, 128]⟩
abbrev S264x2048 : Shape := ⟨2, ![264, 2048]⟩
abbrev S128x3072 : Shape := ⟨2, ![128, 3072]⟩
abbrev S128x512 : Shape := ⟨2, ![128, 512]⟩
abbrev S256x128 : Shape := ⟨2, ![256, 128]⟩
abbrev S128x256 : Shape := ⟨2, ![128, 256]⟩

abbrev nBuf : Space → Nat
  | .hbm => 83
  | .vmem => 14
  | .smem => 0
  | _ => 0

abbrev bufTy : (tb : Table) → Fin (tcTables nBuf tb) → BufTy
  | .hbm, ⟨0, _⟩ => ⟨S8x2048x3072, .f32⟩
  | .hbm, ⟨1, _⟩ => ⟨S8x2048x32, .f32⟩
  | .hbm, ⟨2, _⟩ => ⟨S2x32, .f32⟩
  | .hbm, ⟨3, _⟩ => ⟨S2x32, .f32⟩
  | .hbm, ⟨4, _⟩ => ⟨S2x32, .f32⟩
  | .hbm, ⟨5, _⟩ => ⟨S1x32x64x128, .f32⟩
  | .hbm, ⟨6, _⟩ => ⟨S17920x2048, .bf16⟩
  | .hbm, ⟨7, _⟩ => ⟨S2x8x2048x128, .f32⟩
  | .hbm, ⟨8, _⟩ => ⟨S128, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S128, .i32⟩
  | .hbm, ⟨16, _⟩ => ⟨S128, .i32⟩
  | .hbm, ⟨17, _⟩ => ⟨S_, .i32⟩
  | .hbm, ⟨18, _⟩ => ⟨S128, .i32⟩
  | .hbm, ⟨19, _⟩ => ⟨S128, .i1⟩
  | .hbm, ⟨20, _⟩ => ⟨S_, .i32⟩
  | .hbm, ⟨21, _⟩ => ⟨S128, .i32⟩
  | .hbm, ⟨22, _⟩ => ⟨S128, .i1⟩
  | .hbm, ⟨23, _⟩ => ⟨S_, .i32⟩
  | .hbm, ⟨24, _⟩ => ⟨S_, .i1⟩
  | .hbm, ⟨25, _⟩ => ⟨S128, .i1⟩
  | .hbm, ⟨26, _⟩ => ⟨S128, .i1⟩
  | .hbm, ⟨27, _⟩ => ⟨S128, .i1⟩
  | .hbm, ⟨28, _⟩ => ⟨S128, .i32⟩
  | .hbm, ⟨29, _⟩ => ⟨S128, .i32⟩
  | .hbm, ⟨30, _⟩ => ⟨S128, .i32⟩
  | .hbm, ⟨31, _⟩ => ⟨S128x1, .i32⟩
  | .hbm, ⟨32, _⟩ => ⟨S2048, .i32⟩
  | .hbm, ⟨33, _⟩ => ⟨S_, .i32⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S2048, .i32⟩
  | .hbm, ⟨42, _⟩ => ⟨S2048, .i32⟩
  | .hbm, ⟨43, _⟩ => ⟨S_, .i32⟩
  | .hbm, ⟨44, _⟩ => ⟨S2048, .i32⟩
  | .hbm, ⟨45, _⟩ => ⟨S2048, .i1⟩
  | .hbm, ⟨46, _⟩ => ⟨S2048, .i1⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .i32⟩
  | .hbm, ⟨51, _⟩ => ⟨S1x2048, .i32⟩
  | .hbm, ⟨52, _⟩ => ⟨S128x2048, .i32⟩
  | .hbm, ⟨53, _⟩ => ⟨S128x2048, .i32⟩
  | .hbm, ⟨54, _⟩ => ⟨S128x2048, .i1⟩
  | .hbm, ⟨55, _⟩ => ⟨S128, .i32⟩
  | .hbm, ⟨56, _⟩ => ⟨S_, .i32⟩
  | .hbm, ⟨57, _⟩ => ⟨S128, .i32⟩
  | .hbm, ⟨58, _⟩ => ⟨S128, .i1⟩
  | .hbm, ⟨59, _⟩ => ⟨S128x1, .i1⟩
  | .hbm, ⟨60, _⟩ => ⟨S128x2048, .i1⟩
  | .hbm, ⟨61, _⟩ => ⟨S128x2048, .i1⟩
  | .hbm, ⟨62, _⟩ => ⟨S128x2048, .bf16⟩
  | .hbm, ⟨63, _⟩ => ⟨S_, .i32⟩
  | .hbm, ⟨64, _⟩ => ⟨S_, .f32⟩
  | .hbm, ⟨65, _⟩ => ⟨S2x128, .f32⟩
  | .hbm, ⟨66, _⟩ => ⟨S2x1x128, .f32⟩
  | .hbm, ⟨67, _⟩ => ⟨S_, .i32⟩
  | .hbm, ⟨68, _⟩ => ⟨S_, .f32⟩
  | .hbm, ⟨69, _⟩ => ⟨S2x128, .f32⟩
  | .hbm, ⟨70, _⟩ => ⟨S2x1x128, .f32⟩
  | .hbm, ⟨71, _⟩ => ⟨S2x32x64, .f32⟩
  | .hbm, ⟨72, _⟩ => ⟨S2x2048, .f32⟩
  | .hbm, ⟨73, _⟩ => ⟨S2x1x2048, .f32⟩
  | .hbm, ⟨74, _⟩ => ⟨S16384x3072, .f32⟩
  | .hbm, ⟨75, _⟩ => ⟨S16384x3072, .bf16⟩
  | .hbm, ⟨76, _⟩ => ⟨S16384x32, .f32⟩
  | .hbm, ⟨77, _⟩ => ⟨S_, .i32⟩
  | .hbm, ⟨78, _⟩ => ⟨S_, .f32⟩
  | .hbm, ⟨79, _⟩ => ⟨S17920x128, .f32⟩
  | .hbm, ⟨80, _⟩ => ⟨S1x2048x128, .f32⟩
  | .hbm, ⟨81, _⟩ => ⟨S17920x2048, .bf16⟩
  | .hbm, ⟨82, _⟩ => ⟨S2x8x2048x128, .f32⟩
  | .local _ .vmem, ⟨0, _⟩ => ⟨S512x3072, .bf16⟩
  | .local _ .vmem, ⟨1, _⟩ => ⟨S512x3072, .bf16⟩
  | .local _ .vmem, ⟨2, _⟩ => ⟨S512x128, .f32⟩
  | .local _ .vmem, ⟨3, _⟩ => ⟨S512x128, .f32⟩
  | .local _ .vmem, ⟨4, _⟩ => ⟨S1x1x128, .f32⟩
  | .local _ .vmem, ⟨5, _⟩ => ⟨S1x1x128, .f32⟩
  | .local _ .vmem, ⟨6, _⟩ => ⟨S1x1x2048, .f32⟩
  | .local _ .vmem, ⟨7, _⟩ => ⟨S128x2048, .bf16⟩
  | .local _ .vmem, ⟨8, _⟩ => ⟨S1x2048x128, .f32⟩
  | .local _ .vmem, ⟨9, _⟩ => ⟨S512x2048, .bf16⟩
  | .local _ .vmem, ⟨10, _⟩ => ⟨S512x2048, .bf16⟩
  | .local _ .vmem, ⟨11, _⟩ => ⟨S1x1x2048x128, .f32⟩
  | .local _ .vmem, ⟨12, _⟩ => ⟨S1x1x2048x128, .f32⟩
  | .local _ .vmem, ⟨13, _⟩ => ⟨S128x2048, .f32⟩
  | _, _ => ⟨S8x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v4 : Ref sig .tc := ⟨.hbm, 50, rfl⟩
abbrev main_v5 : Ref sig .tc := ⟨.hbm, 51, rfl⟩
abbrev main_v6 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_c_1 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_c_2 : Ref sig .tc := ⟨.hbm, 63, rfl⟩
abbrev main_call2_v0 : Ref sig .tc := ⟨.hbm, 64, rfl⟩
abbrev main_v16 : Ref sig .tc := ⟨.hbm, 65, rfl⟩
abbrev main_v17 : Ref sig .tc := ⟨.hbm, 66, rfl⟩
abbrev main_c_3 : Ref sig .tc := ⟨.hbm, 67, rfl⟩
abbrev main_call3_v0 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_c_4 : Ref sig .tc := ⟨.hbm, 77, rfl⟩
abbrev main_call4_v0 : Ref sig .tc := ⟨.hbm, 78, rfl⟩
abbrev main_v26 : Ref sig .tc := ⟨.hbm, 79, rfl⟩
abbrev main_v27 : Ref sig .tc := ⟨.hbm, 80, rfl⟩
abbrev main_v28_0 : Ref sig .tc := ⟨.hbm, 81, rfl⟩
abbrev main_v28_1 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v2659 : BitVec 1 := Scalar.cmpi .eq arg1 c3_i32
  let v2660 : BitVec 32 := Scalar.extui v2659
  let c0_i32_441 : BitVec 32 := 0#32
  let v2661 : BitVec 1 := Scalar.cmpi .ne v2660 c0_i32_441
  v2661

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8x2048x3072 : Shape := ⟨3, ![8, 2048, 3072]⟩
abbrev S8x2048x32 : Shape := ⟨3, ![8, 2048, 32]⟩
abbrev S2x32 : Shape := ⟨2, ![2, 32]⟩
abbrev S1x32x64x128 : Shape := ⟨4, ![1, 32, 64, 128]⟩
abbrev S17920x2048 : Shape := ⟨2, ![17920, 2048]⟩
abbrev S2x8x2048x128 : Shape := ⟨4, ![2, 8, 2048, 128]⟩
abbrev S_ : Shape := ⟨0, ![]⟩
abbrev S8x2048x2048 : Shape := ⟨3, ![8, 2048, 2048]⟩
abbrev S8x2048x32x64 : Shape := ⟨4, ![8, 2048, 32, 64]⟩
abbrev S8x2048x512 : Shape := ⟨3, ![8, 2048, 512]⟩
abbrev S8x2048x4x128 : Shape := ⟨4, ![8, 2048, 4, 128]⟩
abbrev S1x32 : Shape := ⟨2, ![1, 32]⟩
abbrev S32 : Shape := ⟨1, ![32]⟩
abbrev S1x1x32 : Shape := ⟨3, ![1, 1, 32]⟩
abbrev S8x32x64x128 : Shape := ⟨4, ![8, 32, 64, 128]⟩
abbrev S8x16x128x4x8x64 : Shape := ⟨6, ![8, 16, 128, 4, 8, 64]⟩
abbrev S8x16x128x4x8 : Shape := ⟨5, ![8, 16, 128, 4, 8]⟩
abbrev S8x16x128x4x128 : Shape := ⟨5, ![8, 16, 128, 4, 128]⟩
abbrev S4x8 : Shape := ⟨2, ![4, 8]⟩
abbrev S1x1x1x4x8 : Shape := ⟨5, ![1, 1, 1, 4, 8]⟩
abbrev S8x16x128x4x8x1 : Shape := ⟨6, ![8, 16, 128, 4, 8, 1]⟩
abbrev S128x128 : Shape := ⟨2, ![128, 128]⟩
abbrev S128x128x1x1 : Shape := ⟨4, ![128, 128, 1, 1]⟩
abbrev S8x16x128x1x4x8 : Shape := ⟨6, ![8, 16, 128, 1, 4, 8]⟩
abbrev S8x16x1x128x4x8 : Shape := ⟨6, ![8, 16, 1, 128, 4, 8]⟩
abbrev S8x16x128x128x4x8 : Shape := ⟨6, ![8, 16, 128, 128, 4, 8]⟩
abbrev S8x16x4x128x128 : Shape := ⟨5, ![8, 16, 4, 128, 128]⟩
abbrev S8x16x128x128x4 : Shape := ⟨5, ![8, 16, 128, 128, 4]⟩
abbrev S8x16x128x128x4x1 : Shape := ⟨6, ![8, 16, 128, 128, 4, 1]⟩
abbrev S8x16x4x8x64x128 : Shape := ⟨6, ![8, 16, 4, 8, 64, 128]⟩
abbrev S8x16x1x4x8 : Shape := ⟨5, ![8, 16, 1, 4, 8]⟩
abbrev S8x16x4x8 : Shape := ⟨4, ![8, 16, 4, 8]⟩
abbrev S8x4x8x64x128 : Shape := ⟨5, ![8, 4, 8, 64, 128]⟩
abbrev S16x8x4x8x64x128 : Shape := ⟨6, ![16, 8, 4, 8, 64, 128]⟩
abbrev S16x8x4x8 : Shape := ⟨4, ![16, 8, 4, 8]⟩
abbrev S0x8x4x8x64x128 : Shape := ⟨6, ![0, 8, 4, 8, 64, 128]⟩
abbrev S0x8x4x8 : Shape := ⟨4, ![0, 8, 4, 8]⟩
abbrev S1x8x4x8x64x128 : Shape := ⟨6, ![1, 8, 4, 8, 64, 128]⟩
abbrev S1x8x4x8 : Shape := ⟨4, ![1, 8, 4, 8]⟩
abbrev S8x4x8 : Shape := ⟨3, ![8, 4, 8]⟩
abbrev S8x4x8x1x1 : Shape := ⟨5, ![8, 4, 8, 1, 1]⟩
abbrev S32x1 : Shape := ⟨2, ![32, 1]⟩
abbrev S1x1x32x1 : Shape := ⟨4, ![1, 1, 32, 1]⟩
abbrev S16384x2048 : Shape := ⟨2, ![16384, 2048]⟩
abbrev S8x2048x128 : Shape := ⟨3, ![8, 2048, 128]⟩
abbrev S1536x2048 : Shape := ⟨2, ![1536, 2048]⟩
abbrev S1x8x2048x128 : Shape := ⟨4, ![1, 8, 2048, 128]⟩

abbrev nBuf : Space → Nat
  | .hbm => 283
  | .vmem => 0
  | .smem => 0
  | _ => 0

abbrev hbmTy0_0 (i : Nat) : BufTy := match i % 128 with
  | 0 => ⟨S8x2048x3072, .f32⟩
  | 1 => ⟨S8x2048x32, .f32⟩
  | 2 => ⟨S2x32, .f32⟩
  | 3 => ⟨S2x32, .f32⟩
  | 4 => ⟨S2x32, .f32⟩
  | 5 => ⟨S1x32x64x128, .f32⟩
  | 6 => ⟨S17920x2048, .bf16⟩
  | 7 => ⟨S2x8x2048x128, .f32⟩
  | 8 => ⟨S8x2048x3072, .f32⟩
  | 9 => ⟨S8x2048x3072, .f32⟩
  | 10 => ⟨S_, .f32⟩
  | 11 => ⟨S8x2048x3072, .f32⟩
  | 12 => ⟨S8x2048x3072, .f32⟩
  | 13 => ⟨S_, .f32⟩
  | 14 => ⟨S8x2048x3072, .f32⟩
  | 15 => ⟨S8x2048x3072, .f32⟩
  | 16 => ⟨S8x2048x3072, .f32⟩
  | 17 => ⟨S8x2048x2048, .f32⟩
  | 18 => ⟨S8x2048x32x64, .f32⟩
  | 19 => ⟨S8x2048x512, .f32⟩
  | 20 => ⟨S8x2048x4x128, .f32⟩
  | 21 => ⟨S8x2048x512, .f32⟩
  | 22 => ⟨S8x2048x4x128, .f32⟩
  | 23 => ⟨S1x32, .f32⟩
  | 24 => ⟨S32, .f32⟩
  | 25 => ⟨S1x1x32, .f32⟩
  | 26 => ⟨S8x2048x32, .f32⟩
  | 27 => ⟨S8x2048x32, .f32⟩
  | 28 => ⟨S_, .f32⟩
  | 29 => ⟨S8x2048x32, .f32⟩
  | 30 => ⟨S8x2048x32, .f32⟩
  | 31 => ⟨S8x2048x32, .f32⟩
  | 32 => ⟨S8x2048x32, .f32⟩
  | 33 => ⟨S8x2048x32, .i1⟩
  | 34 => ⟨S8x2048x32, .f32⟩
  | 35 => ⟨S8x2048x32, .f32⟩
  | 36 => ⟨S8x2048x32, .f32⟩
  | 37 => ⟨S8x2048x32, .f32⟩
  | 38 => ⟨S8x2048x32, .f32⟩
  | 39 => ⟨S8x2048x32, .f32⟩
  | 40 => ⟨S8x2048x32, .f32⟩
  | 41 => ⟨S8x2048x32, .f32⟩
  | 42 => ⟨S1x32, .f32⟩
  | 43 => ⟨S32, .f32⟩
  | 44 => ⟨S32, .f32⟩
  | 45 => ⟨S32, .f32⟩
  | 46 => ⟨S8x32x64x128, .f32⟩
  | 47 => ⟨S8x16x128x4x8x64, .f32⟩
  | 48 => ⟨S8x16x128x4x8, .f32⟩
  | 49 => ⟨S8x16x128x4x128, .f32⟩
  | 50 => ⟨S8x16x128x4x128, .f32⟩
  | 51 => ⟨S4x8, .f32⟩
  | 52 => ⟨S1x1x1x4x8, .f32⟩
  | 53 => ⟨S8x16x128x4x8, .f32⟩
  | 54 => ⟨S8x16x128x4x8, .f32⟩
  | 55 => ⟨S_, .f32⟩
  | 56 => ⟨S_, .f32⟩
  | 57 => ⟨S8x16x128x4x8, .f32⟩
  | 58 => ⟨S8x16x128x4x8x1, .f32⟩
  | 59 => ⟨S8x16x128x4x8x64, .f32⟩
  | 60 => ⟨S8x16x128x4x8x64, .f32⟩
  | 61 => ⟨S_, .i1⟩
  | 62 => ⟨S128x128, .i1⟩
  | 63 => ⟨S128x128, .i32⟩
  | 64 => ⟨S_, .i32⟩
  | 65 => ⟨S128x128, .i32⟩
  | 66 => ⟨S128x128, .i32⟩
  | 67 => ⟨S128x128, .i32⟩
  | 68 => ⟨S128x128, .i1⟩
  | 69 => ⟨S_, .i1⟩
  | 70 => ⟨S128x128, .i1⟩
  | 71 => ⟨S128x128, .i1⟩
  | 72 => ⟨S128x128x1x1, .i1⟩
  | 73 => ⟨S8x16x128x1x4x8, .f32⟩
  | 74 => ⟨S8x16x1x128x4x8, .f32⟩
  | 75 => ⟨S8x16x128x128x4x8, .f32⟩
  | 76 => ⟨S8x16x128x128x4x8, .f32⟩
  | 77 => ⟨S8x16x128x128x4x8, .f32⟩
  | 78 => ⟨S_, .f32⟩
  | 79 => ⟨S_, .f32⟩
  | 80 => ⟨S8x16x128x128x4x8, .i1⟩
  | 81 => ⟨S8x16x128x128x4x8, .f32⟩
  | 82 => ⟨S8x16x128x128x4x8, .f32⟩
  | 83 => ⟨S8x16x128x128x4x8, .f32⟩
  | 84 => ⟨S8x16x4x128x128, .f32⟩
  | 85 => ⟨S8x16x128x128x4, .f32⟩
  | 86 => ⟨S8x16x128x128x4x1, .f32⟩
  | 87 => ⟨S8x16x128x128x4x8, .f32⟩
  | 88 => ⟨S8x16x128x128x4x8, .f32⟩
  | 89 => ⟨S8x16x4x8x64x128, .f32⟩
  | 90 => ⟨S8x16x128x4x8x64, .f32⟩
  | 91 => ⟨S8x16x1x4x8, .f32⟩
  | 92 => ⟨S8x16x128x4x8, .f32⟩
  | 93 => ⟨S8x16x128x4x8, .f32⟩
  | 94 => ⟨S8x16x128x4x8, .f32⟩
  | 95 => ⟨S8x16x128x4x8x1, .f32⟩
  | 96 => ⟨S8x16x128x4x8x64, .f32⟩
  | 97 => ⟨S8x16x128x4x8x64, .f32⟩
  | 98 => ⟨S8x16x4x8x64x128, .f32⟩
  | 99 => ⟨S8x16x1x4x8, .f32⟩
  | 100 => ⟨S8x16x4x8, .f32⟩
  | 101 => ⟨S8x16x4x8, .f32⟩
  | 102 => ⟨S8x4x8x64x128, .f32⟩
  | 103 => ⟨S16x8x4x8x64x128, .f32⟩
  | 104 => ⟨S16x8x4x8, .f32⟩
  | 105 => ⟨S0x8x4x8x64x128, .f32⟩
  | 106 => ⟨S16x8x4x8x64x128, .f32⟩
  | 107 => ⟨S0x8x4x8, .f32⟩
  | 108 => ⟨S16x8x4x8, .f32⟩
  | 109 => ⟨S_, .f32⟩
  | 110 => ⟨S0x8x4x8x64x128, .f32⟩
  | 111 => ⟨S1x8x4x8x64x128, .f32⟩
  | 112 => ⟨S8x4x8x64x128, .f32⟩
  | 113 => ⟨S1x8x4x8, .f32⟩
  | 114 => ⟨S8x4x8, .f32⟩
  | 115 => ⟨S8x4x8x1x1, .f32⟩
  | 116 => ⟨S8x4x8x64x128, .f32⟩
  | 117 => ⟨S8x4x8x64x128, .f32⟩
  | 118 => ⟨S8x4x8x64x128, .f32⟩
  | 119 => ⟨S1x8x4x8x64x128, .f32⟩
  | 120 => ⟨S8x4x8x64x128, .f32⟩
  | 121 => ⟨S1x8x4x8, .f32⟩
  | 122 => ⟨S8x4x8, .f32⟩
  | 123 => ⟨S8x4x8x1x1, .f32⟩
  | 124 => ⟨S8x4x8x64x128, .f32⟩
  | 125 => ⟨S8x4x8x64x128, .f32⟩
  | 126 => ⟨S8x4x8x64x128, .f32⟩
  | 127 => ⟨S1x8x4x8x64x128, .f32⟩
  | _ => ⟨S8x2048x3072, .f32⟩

abbrev hbmTy0_1 (i : Nat) : BufTy := match i % 128 with
  | 0 => ⟨S8x4x8x64x128, .f32⟩
  | 1 => ⟨S1x8x4x8, .f32⟩
  | 2 => ⟨S8x4x8, .f32⟩
  | 3 => ⟨S8x4x8x1x1, .f32⟩
  | 4 => ⟨S8x4x8x64x128, .f32⟩
  | 5 => ⟨S8x4x8x64x128, .f32⟩
  | 6 => ⟨S8x4x8x64x128, .f32⟩
  | 7 => ⟨S1x8x4x8x64x128, .f32⟩
  | 8 => ⟨S8x4x8x64x128, .f32⟩
  | 9 => ⟨S1x8x4x8, .f32⟩
  | 10 => ⟨S8x4x8, .f32⟩
  | 11 => ⟨S8x4x8x1x1, .f32⟩
  | 12 => ⟨S8x4x8x64x128, .f32⟩
  | 13 => ⟨S8x4x8x64x128, .f32⟩
  | 14 => ⟨S8x4x8x64x128, .f32⟩
  | 15 => ⟨S1x8x4x8x64x128, .f32⟩
  | 16 => ⟨S8x4x8x64x128, .f32⟩
  | 17 => ⟨S1x8x4x8, .f32⟩
  | 18 => ⟨S8x4x8, .f32⟩
  | 19 => ⟨S8x4x8x1x1, .f32⟩
  | 20 => ⟨S8x4x8x64x128, .f32⟩
  | 21 => ⟨S8x4x8x64x128, .f32⟩
  | 22 => ⟨S8x4x8x64x128, .f32⟩
  | 23 => ⟨S1x8x4x8x64x128, .f32⟩
  | 24 => ⟨S8x4x8x64x128, .f32⟩
  | 25 => ⟨S1x8x4x8, .f32⟩
  | 26 => ⟨S8x4x8, .f32⟩
  | 27 => ⟨S8x4x8x1x1, .f32⟩
  | 28 => ⟨S8x4x8x64x128, .f32⟩
  | 29 => ⟨S8x4x8x64x128, .f32⟩
  | 30 => ⟨S8x4x8x64x128, .f32⟩
  | 31 => ⟨S1x8x4x8x64x128, .f32⟩
  | 32 => ⟨S8x4x8x64x128, .f32⟩
  | 33 => ⟨S1x8x4x8, .f32⟩
  | 34 => ⟨S8x4x8, .f32⟩
  | 35 => ⟨S8x4x8x1x1, .f32⟩
  | 36 => ⟨S8x4x8x64x128, .f32⟩
  | 37 => ⟨S8x4x8x64x128, .f32⟩
  | 38 => ⟨S8x4x8x64x128, .f32⟩
  | 39 => ⟨S1x8x4x8x64x128, .f32⟩
  | 40 => ⟨S8x4x8x64x128, .f32⟩
  | 41 => ⟨S1x8x4x8, .f32⟩
  | 42 => ⟨S8x4x8, .f32⟩
  | 43 => ⟨S8x4x8x1x1, .f32⟩
  | 44 => ⟨S8x4x8x64x128, .f32⟩
  | 45 => ⟨S8x4x8x64x128, .f32⟩
  | 46 => ⟨S8x4x8x64x128, .f32⟩
  | 47 => ⟨S1x8x4x8x64x128, .f32⟩
  | 48 => ⟨S8x4x8x64x128, .f32⟩
  | 49 => ⟨S1x8x4x8, .f32⟩
  | 50 => ⟨S8x4x8, .f32⟩
  | 51 => ⟨S8x4x8x1x1, .f32⟩
  | 52 => ⟨S8x4x8x64x128, .f32⟩
  | 53 => ⟨S8x4x8x64x128, .f32⟩
  | 54 => ⟨S8x4x8x64x128, .f32⟩
  | 55 => ⟨S1x8x4x8x64x128, .f32⟩
  | 56 => ⟨S8x4x8x64x128, .f32⟩
  | 57 => ⟨S1x8x4x8, .f32⟩
  | 58 => ⟨S8x4x8, .f32⟩
  | 59 => ⟨S8x4x8x1x1, .f32⟩
  | 60 => ⟨S8x4x8x64x128, .f32⟩
  | 61 => ⟨S8x4x8x64x128, .f32⟩
  | 62 => ⟨S8x4x8x64x128, .f32⟩
  | 63 => ⟨S1x8x4x8x64x128, .f32⟩
  | 64 => ⟨S8x4x8x64x128, .f32⟩
  | 65 => ⟨S1x8x4x8, .f32⟩
  | 66 => ⟨S8x4x8, .f32⟩
  | 67 => ⟨S8x4x8x1x1, .f32⟩
  | 68 => ⟨S8x4x8x64x128, .f32⟩
  | 69 => ⟨S8x4x8x64x128, .f32⟩
  | 70 => ⟨S8x4x8x64x128, .f32⟩
  | 71 => ⟨S1x8x4x8x64x128, .f32⟩
  | 72 => ⟨S8x4x8x64x128, .f32⟩
  | 73 => ⟨S1x8x4x8, .f32⟩
  | 74 => ⟨S8x4x8, .f32⟩
  | 75 => ⟨S8x4x8x1x1, .f32⟩
  | 76 => ⟨S8x4x8x64x128, .f32⟩
  | 77 => ⟨S8x4x8x64x128, .f32⟩
  | 78 => ⟨S8x4x8x64x128, .f32⟩
  | 79 => ⟨S1x8x4x8x64x128, .f32⟩
  | 80 => ⟨S8x4x8x64x128, .f32⟩
  | 81 => ⟨S1x8x4x8, .f32⟩
  | 82 => ⟨S8x4x8, .f32⟩
  | 83 => ⟨S8x4x8x1x1, .f32⟩
  | 84 => ⟨S8x4x8x64x128, .f32⟩
  | 85 => ⟨S8x4x8x64x128, .f32⟩
  | 86 => ⟨S8x4x8x64x128, .f32⟩
  | 87 => ⟨S1x8x4x8x64x128, .f32⟩
  | 88 => ⟨S8x4x8x64x128, .f32⟩
  | 89 => ⟨S1x8x4x8, .f32⟩
  | 90 => ⟨S8x4x8, .f32⟩
  | 91 => ⟨S8x4x8x1x1, .f32⟩
  | 92 => ⟨S8x4x8x64x128, .f32⟩
  | 93 => ⟨S8x4x8x64x128, .f32⟩
  | 94 => ⟨S8x4x8x64x128, .f32⟩
  | 95 => ⟨S1x8x4x8x64x128, .f32⟩
  | 96 => ⟨S8x4x8x64x128, .f32⟩
  | 97 => ⟨S1x8x4x8, .f32⟩
  | 98 => ⟨S8x4x8, .f32⟩
  | 99 => ⟨S8x4x8x1x1, .f32⟩
  | 100 => ⟨S8x4x8x64x128, .f32⟩
  | 101 => ⟨S8x4x8x64x128, .f32⟩
  | 102 => ⟨S8x4x8x64x128, .f32⟩
  | 103 => ⟨S1x8x4x8x64x128, .f32⟩
  | 104 => ⟨S8x4x8x64x128, .f32⟩
  | 105 => ⟨S1x8x4x8, .f32⟩
  | 106 => ⟨S8x4x8, .f32⟩
  | 107 => ⟨S8x4x8x1x1, .f32⟩
  | 108 => ⟨S8x4x8x64x128, .f32⟩
  | 109 => ⟨S8x4x8x64x128, .f32⟩
  | 110 => ⟨S8x4x8x64x128, .f32⟩
  | 111 => ⟨S1x8x4x8x64x128, .f32⟩
  | 112 => ⟨S1x8x4x8x64x128, .f32⟩
  | 113 => ⟨S1x8x4x8x64x128, .f32⟩
  | 114 => ⟨S1x8x4x8x64x128, .f32⟩
  | 115 => ⟨S1x8x4x8x64x128, .f32⟩
  | 116 => ⟨S1x8x4x8x64x128, .f32⟩
  | 117 => ⟨S1x8x4x8x64x128, .f32⟩
  | 118 => ⟨S1x8x4x8x64x128, .f32⟩
  | 119 => ⟨S1x8x4x8x64x128, .f32⟩
  | 120 => ⟨S1x8x4x8x64x128, .f32⟩
  | 121 => ⟨S1x8x4x8x64x128, .f32⟩
  | 122 => ⟨S1x8x4x8x64x128, .f32⟩
  | 123 => ⟨S1x8x4x8x64x128, .f32⟩
  | 124 => ⟨S1x8x4x8x64x128, .f32⟩
  | 125 => ⟨S1x8x4x8x64x128, .f32⟩
  | 126 => ⟨S1x8x4x8x64x128, .f32⟩
  | 127 => ⟨S16x8x4x8x64x128, .f32⟩
  | _ => ⟨S8x2048x3072, .f32⟩

abbrev hbmTy0_2 (i : Nat) : BufTy := match i % 128 with
  | 0 => ⟨S16x8x4x8x64x128, .f32⟩
  | 1 => ⟨S8x16x4x8x64x128, .f32⟩
  | 2 => ⟨S8x16x4x8x64x128, .f32⟩
  | 3 => ⟨S8x16x128x4x8x64, .f32⟩
  | 4 => ⟨S8x16x128x4x8, .f32⟩
  | 5 => ⟨S8x16x128x4x8x1, .f32⟩
  | 6 => ⟨S8x16x128x4x8x64, .f32⟩
  | 7 => ⟨S8x16x128x4x8x64, .f32⟩
  | 8 => ⟨S8x16x128x4x8x64, .f32⟩
  | 9 => ⟨S8x2048x32x64, .f32⟩
  | 10 => ⟨S1x32, .f32⟩
  | 11 => ⟨S32, .f32⟩
  | 12 => ⟨S32x1, .f32⟩
  | 13 => ⟨S1x1x32x1, .f32⟩
  | 14 => ⟨S8x2048x32x64, .f32⟩
  | 15 => ⟨S8x2048x32x64, .f32⟩
  | 16 => ⟨S8x2048x32x64, .f32⟩
  | 17 => ⟨S16384x2048, .f32⟩
  | 18 => ⟨S16384x2048, .bf16⟩
  | 19 => ⟨S8x2048x128, .f32⟩
  | 20 => ⟨S1536x2048, .bf16⟩
  | 21 => ⟨S17920x2048, .bf16⟩
  | 22 => ⟨S1x8x2048x128, .f32⟩
  | 23 => ⟨S8x2048x128, .f32⟩
  | 24 => ⟨S1x8x2048x128, .f32⟩
  | 25 => ⟨S1x8x2048x128, .f32⟩
  | 26 => ⟨S2x8x2048x128, .f32⟩
  | _ => ⟨S8x2048x3072, .f32⟩

abbrev hbmTy (i : Nat) : BufTy := match i / 128 with
  | 0 => hbmTy0_0 i
  | 1 => hbmTy0_1 i
  | 2 => hbmTy0_2 i
  | _ => ⟨S8x2048x3072, .f32⟩

abbrev bufTy : (tb : Table) → Fin (tcTables nBuf tb) → BufTy
  | .hbm, ⟨i, _⟩ => hbmTy i
  | _, _ => ⟨S8x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call1_cst : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_call2_call0_cst : Ref sig .tc := ⟨.hbm, 55, rfl⟩
abbrev main_call2_call0_v0 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_c : Ref sig .tc := ⟨.hbm, 61, rfl⟩
abbrev main_v30 : Ref sig .tc := ⟨.hbm, 62, rfl⟩
abbrev main_call3_v0 : Ref sig .tc := ⟨.hbm, 63, rfl⟩
abbrev main_call3_c : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_c_0 : Ref sig .tc := ⟨.hbm, 69, rfl⟩
abbrev main_call3_v5 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_cst : Ref sig .tc := ⟨.hbm, 78, rfl⟩
abbrev main_call4_v0 : Ref sig .tc := ⟨.hbm, 79, rfl⟩
abbrev main_call4_v1 : Ref sig .tc := ⟨.hbm, 80, rfl⟩
abbrev main_call4_v2 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_cst_0 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_v212 : Ref sig .tc := ⟨.hbm, 257, rfl⟩
abbrev main_v213 : Ref sig .tc := ⟨.hbm, 258, rfl⟩
abbrev main_v214 : Ref sig .tc := ⟨.hbm, 259, rfl⟩
abbrev main_v215 : Ref sig .tc := ⟨.hbm, 260, rfl⟩
abbrev main_v216 : Ref sig .tc := ⟨.hbm, 261, rfl⟩
abbrev main_v217 : Ref sig .tc := ⟨.hbm, 262, rfl⟩
abbrev main_v218 : Ref sig .tc := ⟨.hbm, 263, rfl⟩
abbrev main_v219 : Ref sig .tc := ⟨.hbm, 264, rfl⟩
abbrev main_v220 : Ref sig .tc := ⟨.hbm, 265, rfl⟩
abbrev main_v221 : Ref sig .tc := ⟨.hbm, 266, rfl⟩
abbrev main_v222 : Ref sig .tc := ⟨.hbm, 267, rfl⟩
abbrev main_v223 : Ref sig .tc := ⟨.hbm, 268, rfl⟩
abbrev main_v224 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_v228 : Ref sig .tc := ⟨.hbm, 273, rfl⟩
abbrev main_v229 : Ref sig .tc := ⟨.hbm, 274, rfl⟩
abbrev main_v230 : Ref sig .tc := ⟨.hbm, 275, rfl⟩
abbrev main_v231 : Ref sig .tc := ⟨.hbm, 276, rfl⟩
abbrev main_v232 : Ref sig .tc := ⟨.hbm, 277, rfl⟩
abbrev main_v233 : Ref sig .tc := ⟨.hbm, 278, rfl⟩
abbrev main_v234 : Ref sig .tc := ⟨.hbm, 279, rfl⟩
abbrev main_v235 : Ref sig .tc := ⟨.hbm, 280, rfl⟩
abbrev main_v236 : Ref sig .tc := ⟨.hbm, 281, rfl⟩
abbrev main_v237 : Ref sig .tc := ⟨.hbm, 282, rfl⟩

abbrev nD : Nat := 1
abbrev τ : Topo := Topo.v7x

variable {F : FTy → Type} [FloatOps F]
-- ==== Ffn.lean ====
abbrev S17920x1024 : Shape := ⟨2, ![17920, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S2x1x1024 : Shape := ⟨3, ![2, 1, 1024]⟩
abbrev S512x1024 : Shape := ⟨2, ![512, 1024]⟩
abbrev S1x1x1024 : Shape := ⟨3, ![1, 1, 1024]⟩
abbrev S1x1024x5632 : Shape := ⟨3, ![1, 1024, 5632]⟩
abbrev S1x2816x1024 : Shape := ⟨3, ![1, 2816, 1024]⟩
abbrev S1x1024 : Shape := ⟨2, ![1, 1024]⟩
abbrev S512 : Shape := ⟨1, ![512]⟩
abbrev S512x1 : Shape := ⟨2, ![512, 1]⟩
abbrev S1x1024x2816 : Shape := ⟨3, ![1, 1024, 2816]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 10
  | .vmem => 8
  | .smem => 0
  | _ => 0

abbrev bufTy : (tb : Table) → Fin (tcTables nBuf tb) → BufTy
  | .hbm, ⟨0, _⟩ => ⟨S17920x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S2x1024, .f32⟩
  | .hbm, ⟨5, _⟩ => ⟨S2x1x1024, .f32⟩
  | .hbm, ⟨6, _⟩ => ⟨S2x1024x5632, .bf16⟩
  | .hbm, ⟨7, _⟩ => ⟨S2x2816x1024, .bf16⟩
  | .hbm, ⟨8, _⟩ => ⟨S2x1x1024, .f32⟩
  | .hbm, ⟨9, _⟩ => ⟨S17920x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | _, _ => ⟨S17920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![35], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c34_i32 : BitVec 32 := 34#32
  let v1 : BitVec 32 := Scalar.maxsi c0_i32_0 v0
  let v2 : BitVec 32 := Scalar.minsi c34_i32 v1
  let c0_i32_1 : BitVec 32 := 0#32
  let c0_i32_2 : BitVec 32 := 0#32
  ![v2.toNat, c0_i32_1.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c34_i32 : BitVec 32 := 34#32
  let v1 : BitVec 32 := Scalar.maxsi c0_i32_0 v0
  let v2 : BitVec 32 := Scalar.minsi c34_i32 v1
  let c0_i32_1 : BitVec 32 := 0#32
  let c0_i32_2 : BitVec 32 := 0#32
  ![v2.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnReferenceIdeal.lean ====
abbrev S17920x1024 : Shape := ⟨2, ![17920, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S17920 : Shape := ⟨1, ![17920]⟩
abbrev S17920x1 : Shape := ⟨2, ![17920, 1]⟩
abbrev S1x1024x5632 : Shape := ⟨3, ![1, 1024, 5632]⟩
abbrev S1024x5632 : Shape := ⟨2, ![1024, 5632]⟩
abbrev S17920x5632 : Shape := ⟨2, ![17920, 5632]⟩
abbrev S17920x2816 : Shape := ⟨2, ![17920, 2816]⟩
abbrev S1x2816x1024 : Shape := ⟨3, ![1, 2816, 1024]⟩
abbrev S2816x1024 : Shape := ⟨2, ![2816, 1024]⟩

abbrev nBuf : Space → Nat
  | .hbm => 63
  | .vmem => 0
  | .smem => 0
  | _ => 0

abbrev bufTy : (tb : Table) → Fin (tcTables nBuf tb) → BufTy
  | .hbm, ⟨0, _⟩ => ⟨S17920x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S2x1024, .f32⟩
  | .hbm, ⟨5, _⟩ => ⟨S1x1024, .f32⟩
  | .hbm, ⟨6, _⟩ => ⟨S1024, .f32⟩
  | .hbm, ⟨7, _⟩ => ⟨S17920x1024, .f32⟩
  | .hbm, ⟨8, _⟩ => ⟨S_, .f32⟩
  | .hbm, ⟨9, _⟩ => ⟨S17920, .f32⟩
  | .hbm, ⟨10, _⟩ => ⟨S17920x1, .f32⟩
  | .hbm, ⟨11, _⟩ => ⟨S_, .f32⟩
  | .hbm, ⟨12, _⟩ => ⟨S17920x1, .f32⟩
  | .hbm, ⟨13, _⟩ => ⟨S17920x1, .f32⟩
  | .hbm, ⟨14, _⟩ => ⟨S_, .f32⟩
  | .hbm, ⟨15, _⟩ => ⟨S17920x1, .f32⟩
  | .hbm, ⟨16, _⟩ => ⟨S17920x1, .f32⟩
  | .hbm, ⟨17, _⟩ => ⟨S17920x1, .f32⟩
  | .hbm, ⟨18, _⟩ => ⟨S17920x1024, .f32⟩
  | .hbm, ⟨19, _⟩ => ⟨S17920x1024, .f32⟩
  | .hbm, ⟨20, _⟩ => ⟨S1x1024, .f32⟩
  | .hbm, ⟨21, _⟩ => ⟨S17920x1024, .f32⟩
  | .hbm, ⟨22, _⟩ => ⟨S17920x1024, .f32⟩
  | .hbm, ⟨23, _⟩ => ⟨S1x1024x5632, .f32⟩
  | .hbm, ⟨24, _⟩ => ⟨S1024x5632, .f32⟩
  | .hbm, ⟨25, _⟩ => ⟨S17920x5632, .f32⟩
  | .hbm, ⟨26, _⟩ => ⟨S17920x2816, .f32⟩
  | .hbm, ⟨27, _⟩ => ⟨S17920x2816, .f32⟩
  | .hbm, ⟨28, _⟩ => ⟨S17920x2816, .f32⟩
  | .hbm, ⟨29, _⟩ => ⟨S17920x2816, .f32⟩
  | .hbm, ⟨30, _⟩ => ⟨S_, .f32⟩
  | .hbm, ⟨31, _⟩ => ⟨S17920x2816, .f32⟩
  | .hbm, ⟨32, _⟩ => ⟨S17920x2816, .f32⟩
  | .hbm, ⟨33, _⟩ => ⟨S_, .f32⟩
  | .hbm, ⟨34, _⟩ => ⟨S17920x2816, .f32⟩
  | .hbm, ⟨35, _⟩ => ⟨S17920x2816, .f32⟩
  | .hbm, ⟨36, _⟩ => ⟨S17920x2816, .f32⟩
  | .hbm, ⟨37, _⟩ => ⟨S17920x2816, .f32⟩
  | .hbm, ⟨38, _⟩ => ⟨S1x2816x1024, .f32⟩
  | .hbm, ⟨39, _⟩ => ⟨S2816x1024, .f32⟩
  | .hbm, ⟨40, _⟩ => ⟨S17920x1024, .f32⟩
  | .hbm, ⟨41, _⟩ => ⟨S1x1024, .f32⟩
  | .hbm, ⟨42, _⟩ => ⟨S1024, .f32⟩
  | .hbm, ⟨43, _⟩ => ⟨S17920x1024, .f32⟩
  | .hbm, ⟨44, _⟩ => ⟨S_, .f32⟩
  | .hbm, ⟨45, _⟩ => ⟨S17920, .f32⟩
  | .hbm, ⟨46, _⟩ => ⟨S17920x1, .f32⟩
  | .hbm, ⟨47, _⟩ => ⟨S_, .f32⟩
  | .hbm, ⟨48, _⟩ => ⟨S17920x1, .f32⟩
  | .hbm, ⟨49, _⟩ => ⟨S17920x1, .f32⟩
  | .hbm, ⟨50, _⟩ => ⟨S_, .f32⟩
  | .hbm, ⟨51, _⟩ => ⟨S17920x1, .f32⟩
  | .hbm, ⟨52, _⟩ => ⟨S17920x1, .f32⟩
  | .hbm, ⟨53, _⟩ => ⟨S17920x1, .f32⟩
  | .hbm, ⟨54, _⟩ => ⟨S17920x1024, .f32⟩
  | .hbm, ⟨55, _⟩ => ⟨S17920x1024, .f32⟩
  | .hbm, ⟨56, _⟩ => ⟨S1x1024, .f32⟩
  | .hbm, ⟨57, _⟩ => ⟨S17920x1024, .f32⟩
  | .hbm, ⟨58, _⟩ => ⟨S17920x1024, .f32⟩
  | .hbm, ⟨59, _⟩ => ⟨S_, .f32⟩
  | .hbm, ⟨60, _⟩ => ⟨S17920x1024, .f32⟩
  | .hbm, ⟨61, _⟩ => ⟨S17920x1024, .f32⟩
  | .hbm, ⟨62, _⟩ => ⟨S17920x1024, .f32⟩
  | _, _ => ⟨S17920x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== Mix.lean ====
abbrev S17920x1024 : Shape := ⟨2, ![17920, 1024]⟩
abbrev S17920x2048 : Shape := ⟨2, ![17920, 2048]⟩
abbrev S2x1024 : Shape := ⟨2, ![2, 1024]⟩
abbrev S2x1024x8224 : Shape := ⟨3, ![2, 1024, 8224]⟩
abbrev S2x2048 : Shape := ⟨2, ![2, 2048]⟩
abbrev S2x2048x1024 : Shape := ⟨3, ![2, 2048, 1024]⟩
abbrev S2x4x256x256 : Shape := ⟨4, ![2, 4, 256, 256]⟩
abbrev S2x1024x1024 : Shape := ⟨3, ![2, 1024, 1024]⟩
abbrev S2x8224x1024 : Shape := ⟨3, ![2, 8224, 1024]⟩
abbrev S2x1x1024 : Shape := ⟨3, ![2, 1, 1024]⟩
abbrev S2x1x2048 : Shape := ⟨3, ![2, 1, 2048]⟩
abbrev S17408x1024 : Shape := ⟨2, ![17408, 1024]⟩
abbrev S512x1024 : Shape := ⟨2, ![512, 1024]⟩
abbrev S512x2048 : Shape := ⟨2, ![512, 2048]⟩
abbrev S1x1x1024 : Shape := ⟨3, ![1, 1, 1024]⟩
abbrev S1x8224x1024 : Shape := ⟨3, ![1, 8224, 1024]⟩
abbrev S1x1x2048 : Shape := ⟨3, ![1, 1, 2048]⟩
abbrev S1x2048x1024 : Shape := ⟨3, ![1, 2048, 1024]⟩
abbrev S1x4x256x256 : Shape := ⟨4, ![1, 4, 256, 256]⟩
abbrev S1x1024x1024 : Shape := ⟨3, ![1, 1024, 1024]⟩
abbrev S1x1024 : Shape := ⟨2, ![1, 1024]⟩
abbrev S512 : Shape := ⟨1, ![512]⟩
abbrev S512x1 : Shape := ⟨2, ![512, 1]⟩
abbrev S2048x1024 : Shape := ⟨2, ![2048, 1024]⟩
abbrev S1x2048 : Shape := ⟨2, ![1, 2048]⟩
abbrev S512x256 : Shape := ⟨2, ![512, 256]⟩
abbrev S1x1x256x256 : Shape := ⟨4, ![1, 1, 256, 256]⟩
abbrev S256x256 : Shape := ⟨2, ![256, 256]⟩
abbrev S1024x1024 : Shape := ⟨2, ![1024, 1024]⟩

abbrev nBuf : Space → Nat
  | .hbm => 23
  | .vmem => 17
  | .smem => 0
  | _ => 0

abbrev bufTy : (tb : Table) → Fin (tcTables nBuf tb) → BufTy
  | .hbm, ⟨0, _⟩ => ⟨S17920x1024, .f32⟩
  | .hbm, ⟨1, _⟩ => ⟨S17920x2048, .bf16⟩
  | .hbm, ⟨2, _⟩ => ⟨S17920x1024, .bf16⟩
  | .hbm, ⟨3, _⟩ => ⟨S2x1024, .f32⟩
  | .hbm, ⟨4, _⟩ => ⟨S2x1024x8224, .f32⟩
  | .hbm, ⟨5, _⟩ => ⟨S2x2048, .f32⟩
  | .hbm, ⟨6, _⟩ => ⟨S2x2048x1024, .f32⟩
  | .hbm, ⟨7, _⟩ => ⟨S2x4x256x256, .f32⟩
  | .hbm, ⟨8, _⟩ => ⟨S2x1024, .f32⟩
  | .hbm, ⟨9, _⟩ => ⟨S2x1024x1024, .f32⟩
  | .hbm, ⟨10, _⟩ => ⟨S2x1024x1024, .f32⟩
  | .hbm, ⟨11, _⟩ => ⟨S2x1024, .f32⟩
  | .hbm, ⟨12, _⟩ => ⟨S2x8224x1024, .f32⟩
  | .hbm, ⟨13, _⟩ => ⟨S2x8224x1024, .bf16⟩
  | .hbm, ⟨14, _⟩ => ⟨S2x1x1024, .f32⟩
  | .hbm, ⟨15, _⟩ => ⟨S2x1x2048, .f32⟩
  | .hbm, ⟨16, _⟩ => ⟨S2x2048x1024, .bf16⟩
  | .hbm, ⟨17, _⟩ => ⟨S2x4x256x256, .bf16⟩
  | .hbm, ⟨18, _⟩ => ⟨S2x1x1024, .f32⟩
  | .hbm, ⟨19, _⟩ => ⟨S2x1024x1024, .bf16⟩
  | .hbm, ⟨20, _⟩ => ⟨S2x1024x1024, .bf16⟩
  | .hbm, ⟨21, _⟩ => ⟨S2x1x1024, .f32⟩
  | .hbm, ⟨22, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S1x1x1024, .f32⟩
  | .local _ .vmem, ⟨7, _⟩ => ⟨S1x8224x1024, .bf16⟩
  | .local _ .vmem, ⟨8, _⟩ => ⟨S1x1x2048, .f32⟩
  | .local _ .vmem, ⟨9, _⟩ => ⟨S1x2048x1024, .bf16⟩
  | .local _ .vmem, ⟨10, _⟩ => ⟨S1x4x256x256, .bf16⟩
  | .local _ .vmem, ⟨11, _⟩ => ⟨S1x1x1024, .f32⟩
  | .local _ .vmem, ⟨12, _⟩ => ⟨S1x1024x1024, .bf16⟩
  | .local _ .vmem, ⟨13, _⟩ => ⟨S1x1024x1024, .bf16⟩
  | .local _ .vmem, ⟨14, _⟩ => ⟨S1x1x1024, .f32⟩
  | .local _ .vmem, ⟨15, _⟩ => ⟨S512x1024, .f32⟩
  | .local _ .vmem, ⟨16, _⟩ => ⟨S512x1024, .f32⟩
  | _, _ => ⟨S17920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8224x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixReferenceIdeal.lean ====
abbrev S17920x1024 : Shape := ⟨2, ![17920, 1024]⟩
abbrev S17920x2048 : Shape := ⟨2, ![17920, 2048]⟩
abbrev S2x1024 : Shape := ⟨2, ![2, 1024]⟩
abbrev S2x1024x8224 : Shape := ⟨3, ![2, 1024, 8224]⟩
abbrev S2x2048 : Shape := ⟨2, ![2, 2048]⟩
abbrev S2x2048x1024 : Shape := ⟨3, ![2, 2048, 1024]⟩
abbrev S2x4x256x256 : Shape := ⟨4, ![2, 4, 256, 256]⟩
abbrev S2x1024x1024 : Shape := ⟨3, ![2, 1024, 1024]⟩
abbrev S17408x1024 : Shape := ⟨2, ![17408, 1024]⟩
abbrev S17408x2048 : Shape := ⟨2, ![17408, 2048]⟩
abbrev S1x1024 : Shape := ⟨2, ![1, 1024]⟩
abbrev S1024 : Shape := ⟨1, ![1024]⟩
abbrev S_ : Shape := ⟨0, ![]⟩
abbrev S17408 : Shape := ⟨1, ![17408]⟩
abbrev S17408x1 : Shape := ⟨2, ![17408, 1]⟩
abbrev S1x1024x8224 : Shape := ⟨3, ![1, 1024, 8224]⟩
abbrev S1024x8224 : Shape := ⟨2, ![1024, 8224]⟩
abbrev S17408x8224 : Shape := ⟨2, ![17408, 8224]⟩
abbrev S1x2048 : Shape := ⟨2, ![1, 2048]⟩
abbrev S2048 : Shape := ⟨1, ![2048]⟩
abbrev S1x2048x1024 : Shape := ⟨3, ![1, 2048, 1024]⟩
abbrev S2048x1024 : Shape := ⟨2, ![2048, 1024]⟩
abbrev S17408x4x256 : Shape := ⟨3, ![17408, 4, 256]⟩
abbrev S1x4x256x256 : Shape := ⟨4, ![1, 4, 256, 256]⟩
abbrev S4x256x256 : Shape := ⟨3, ![4, 256, 256]⟩
abbrev S4x256x17408 : Shape := ⟨3, ![4, 256, 17408]⟩
abbrev S1x1024x1024 : Shape := ⟨3, ![1, 1024, 1024]⟩
abbrev S1024x1024 : Shape := ⟨2, ![1024, 1024]⟩

abbrev nBuf : Space → Nat
  | .hbm => 127
  | .vmem => 0
  | .smem => 0
  | _ => 0

abbrev bufTy : (tb : Table) → Fin (tcTables nBuf tb) → BufTy
  | .hbm, ⟨0, _⟩ => ⟨S17920x1024, .f32⟩
  | .hbm, ⟨1, _⟩ => ⟨S17920x2048, .bf16⟩
  | .hbm, ⟨2, _⟩ => ⟨S17920x1024, .bf16⟩
  | .hbm, ⟨3, _⟩ => ⟨S2x1024, .f32⟩
  | .hbm, ⟨4, _⟩ => ⟨S2x1024x8224, .f32⟩
  | .hbm, ⟨5, _⟩ => ⟨S2x2048, .f32⟩
  | .hbm, ⟨6, _⟩ => ⟨S2x2048x1024, .f32⟩
  | .hbm, ⟨7, _⟩ => ⟨S2x4x256x256, .f32⟩
  | .hbm, ⟨8, _⟩ => ⟨S2x1024, .f32⟩
  | .hbm, ⟨9, _⟩ => ⟨S2x1024x1024, .f32⟩
  | .hbm, ⟨10, _⟩ => ⟨S2x1024x1024, .f32⟩
  | .hbm, ⟨11, _⟩ => ⟨S2x1024, .f32⟩
  | .hbm, ⟨12, _⟩ => ⟨S17408x1024, .f32⟩
  | .hbm, ⟨13, _⟩ => ⟨S17408x2048, .bf16⟩
  | .hbm, ⟨14, _⟩ => ⟨S17408x2048, .f32⟩
  | .hbm, ⟨15, _⟩ => ⟨S17408x1024, .bf16⟩
  | .hbm, ⟨16, _⟩ => ⟨S17408x1024, .f32⟩
  | .hbm, ⟨17, _⟩ => ⟨S1x1024, .f32⟩
  | .hbm, ⟨18, _⟩ => ⟨S1024, .f32⟩
  | .hbm, ⟨19, _⟩ => ⟨S17408x1024, .f32⟩
  | .hbm, ⟨20, _⟩ => ⟨S_, .f32⟩
  | .hbm, ⟨21, _⟩ => ⟨S17408, .f32⟩
  | .hbm, ⟨22, _⟩ => ⟨S17408x1, .f32⟩
  | .hbm, ⟨23, _⟩ => ⟨S_, .f32⟩
  | .hbm, ⟨24, _⟩ => ⟨S17408x1, .f32⟩
  | .hbm, ⟨25, _⟩ => ⟨S17408x1, .f32⟩
  | .hbm, ⟨26, _⟩ => ⟨S_, .f32⟩
  | .hbm, ⟨27, _⟩ => ⟨S17408x1, .f32⟩
  | .hbm, ⟨28, _⟩ => ⟨S17408x1, .f32⟩
  | .hbm, ⟨29, _⟩ => ⟨S17408x1, .f32⟩
  | .hbm, ⟨30, _⟩ => ⟨S17408x1024, .f32⟩
  | .hbm, ⟨31, _⟩ => ⟨S17408x1024, .f32⟩
  | .hbm, ⟨32, _⟩ => ⟨S1x1024, .f32⟩
  | .hbm, ⟨33, _⟩ => ⟨S17408x1024, .f32⟩
  | .hbm, ⟨34, _⟩ => ⟨S17408x1024, .f32⟩
  | .hbm, ⟨35, _⟩ => ⟨S1x1024x8224, .f32⟩
  | .hbm, ⟨36, _⟩ => ⟨S1024x8224, .f32⟩
  | .hbm, ⟨37, _⟩ => ⟨S17408x8224, .f32⟩
  | .hbm, ⟨38, _⟩ => ⟨S17408x2048, .f32⟩
  | .hbm, ⟨39, _⟩ => ⟨S17408x1024, .f32⟩
  | .hbm, ⟨40, _⟩ => ⟨S17408x1024, .f32⟩
  | .hbm, ⟨41, _⟩ => ⟨S17408x2048, .f32⟩
  | .hbm, ⟨42, _⟩ => ⟨S17408x2048, .f32⟩
  | .hbm, ⟨43, _⟩ => ⟨S_, .f32⟩
  | .hbm, ⟨44, _⟩ => ⟨S17408x2048, .f32⟩
  | .hbm, ⟨45, _⟩ => ⟨S17408x2048, .f32⟩
  | .hbm, ⟨46, _⟩ => ⟨S_, .f32⟩
  | .hbm, ⟨47, _⟩ => ⟨S17408x2048, .f32⟩
  | .hbm, ⟨48, _⟩ => ⟨S17408x2048, .f32⟩
  | .hbm, ⟨49, _⟩ => ⟨S17408x2048, .f32⟩
  | .hbm, ⟨50, _⟩ => ⟨S17408x2048, .f32⟩
  | .hbm, ⟨51, _⟩ => ⟨S1x2048, .f32⟩
  | .hbm, ⟨52, _⟩ => ⟨S2048, .f32⟩
  | .hbm, ⟨53, _⟩ => ⟨S17408x2048, .f32⟩
  | .hbm, ⟨54, _⟩ => ⟨S_, .f32⟩
  | .hbm, ⟨55, _⟩ => ⟨S17408, .f32⟩
  | .hbm, ⟨56, _⟩ => ⟨S17408x1, .f32⟩
  | .hbm, ⟨57, _⟩ => ⟨S_, .f32⟩
  | .hbm, ⟨58, _⟩ => ⟨S17408x1, .f32⟩
  | .hbm, ⟨59, _⟩ => ⟨S17408x1, .f32⟩
  | .hbm, ⟨60, _⟩ => ⟨S_, .f32⟩
  | .hbm, ⟨61, _⟩ => ⟨S17408x1, .f32⟩
  | .hbm, ⟨62, _⟩ => ⟨S17408x1, .f32⟩
  | .hbm, ⟨63, _⟩ => ⟨S17408x1, .f32⟩
  | .hbm, ⟨64, _⟩ => ⟨S17408x2048, .f32⟩
  | .hbm, ⟨65, _⟩ => ⟨S17408x2048, .f32⟩
  | .hbm, ⟨66, _⟩ => ⟨S1x2048, .f32⟩
  | .hbm, ⟨67, _⟩ => ⟨S17408x2048, .f32⟩
  | .hbm, ⟨68, _⟩ => ⟨S17408x2048, .f32⟩
  | .hbm, ⟨69, _⟩ => ⟨S1x2048x1024, .f32⟩
  | .hbm, ⟨70, _⟩ => ⟨S2048x1024, .f32⟩
  | .hbm, ⟨71, _⟩ => ⟨S17408x1024, .f32⟩
  | .hbm, ⟨72, _⟩ => ⟨S17408x4x256, .f32⟩
  | .hbm, ⟨73, _⟩ => ⟨S1x4x256x256, .f32⟩
  | .hbm, ⟨74, _⟩ => ⟨S4x256x256, .f32⟩
  | .hbm, ⟨75, _⟩ => ⟨S4x256x17408, .f32⟩
  | .hbm, ⟨76, _⟩ => ⟨S17408x4x256, .f32⟩
  | .hbm, ⟨77, _⟩ => ⟨S17408x1024, .f32⟩
  | .hbm, ⟨78, _⟩ => ⟨S1x1024, .f32⟩
  | .hbm, ⟨79, _⟩ => ⟨S1024, .f32⟩
  | .hbm, ⟨80, _⟩ => ⟨S1x1024, .f32⟩
  | .hbm, ⟨81, _⟩ => ⟨S17408x1024, .f32⟩
  | .hbm, ⟨82, _⟩ => ⟨S17408x1024, .f32⟩
  | .hbm, ⟨83, _⟩ => ⟨S1x1024x1024, .f32⟩
  | .hbm, ⟨84, _⟩ => ⟨S1024x1024, .f32⟩
  | .hbm, ⟨85, _⟩ => ⟨S17408x1024, .f32⟩
  | .hbm, ⟨86, _⟩ => ⟨S17408x1024, .f32⟩
  | .hbm, ⟨87, _⟩ => ⟨S17408x1024, .f32⟩
  | .hbm, ⟨88, _⟩ => ⟨S_, .f32⟩
  | .hbm, ⟨89, _⟩ => ⟨S17408x1024, .f32⟩
  | .hbm, ⟨90, _⟩ => ⟨S17408x1024, .f32⟩
  | .hbm, ⟨91, _⟩ => ⟨S_, .f32⟩
  | .hbm, ⟨92, _⟩ => ⟨S17408x1024, .f32⟩
  | .hbm, ⟨93, _⟩ => ⟨S17408x1024, .f32⟩
  | .hbm, ⟨94, _⟩ => ⟨S17408x1024, .f32⟩
  | .hbm, ⟨95, _⟩ => ⟨S17408x1024, .f32⟩
  | .hbm, ⟨96, _⟩ => ⟨S17408x1024, .f32⟩
  | .hbm, ⟨97, _⟩ => ⟨S_, .f32⟩
  | .hbm, ⟨98, _⟩ => ⟨S17408x1024, .f32⟩
  | .hbm, ⟨99, _⟩ => ⟨S17408x1024, .f32⟩
  | .hbm, ⟨100, _⟩ => ⟨S_, .f32⟩
  | .hbm, ⟨101, _⟩ => ⟨S17408x1024, .f32⟩
  | .hbm, ⟨102, _⟩ => ⟨S17408x1024, .f32⟩
  | .hbm, ⟨103, _⟩ => ⟨S17408x1024, .f32⟩
  | .hbm, ⟨104, _⟩ => ⟨S17408x1024, .f32⟩
  | .hbm, ⟨105, _⟩ => ⟨S1x1024x1024, .f32⟩
  | .hbm, ⟨106, _⟩ => ⟨S1024x1024, .f32⟩
  | .hbm, ⟨107, _⟩ => ⟨S17408x1024, .f32⟩
  | .hbm, ⟨108, _⟩ => ⟨S1x1024, .f32⟩
  | .hbm, ⟨109, _⟩ => ⟨S1024, .f32⟩
  | .hbm, ⟨110, _⟩ => ⟨S17408x1024, .f32⟩
  | .hbm, ⟨111, _⟩ => ⟨S_, .f32⟩
  | .hbm, ⟨112, _⟩ => ⟨S17408, .f32⟩
  | .hbm, ⟨113, _⟩ => ⟨S17408x1, .f32⟩
  | .hbm, ⟨114, _⟩ => ⟨S_, .f32⟩
  | .hbm, ⟨115, _⟩ => ⟨S17408x1, .f32⟩
  | .hbm, ⟨116, _⟩ => ⟨S17408x1, .f32⟩
  | .hbm, ⟨117, _⟩ => ⟨S_, .f32⟩
  | .hbm, ⟨118, _⟩ => ⟨S17408x1, .f32⟩
  | .hbm, ⟨119, _⟩ => ⟨S17408x1, .f32⟩
  | .hbm, ⟨120, _⟩ => ⟨S17408x1, .f32⟩
  | .hbm, ⟨121, _⟩ => ⟨S17408x1024, .f32⟩
  | .hbm, ⟨122, _⟩ => ⟨S17408x1024, .f32⟩
  | .hbm, ⟨123, _⟩ => ⟨S1x1024, .f32⟩
  | .hbm, ⟨124, _⟩ => ⟨S17408x1024, .f32⟩
  | .hbm, ⟨125, _⟩ => ⟨S17408x1024, .f32⟩
  | .hbm, ⟨126, _⟩ => ⟨S17408x1024, .f32⟩
  | _, _ => ⟨S17920x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_2 : Ref sig .tc := ⟨.hbm, 54, rfl⟩
abbrev main_v31 : Ref sig .tc := ⟨.hbm, 55, rfl⟩
abbrev main_v32 : Ref sig .tc := ⟨.hbm, 56, rfl⟩
abbrev main_cst_3 : Ref sig .tc := ⟨.hbm, 57, rfl⟩
abbrev main_v33 : Ref sig .tc := ⟨.hbm, 58, rfl⟩
abbrev main_v34 : Ref sig .tc := ⟨.hbm, 59, rfl⟩
abbrev main_cst_4 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_5 : Ref sig .tc := ⟨.hbm, 88, rfl⟩
abbrev main_v62 : Ref sig .tc := ⟨.hbm, 89, rfl⟩
abbrev main_v63 : Ref sig .tc := ⟨.hbm, 90, rfl⟩
abbrev main_cst_6 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_7 : Ref sig .tc := ⟨.hbm, 97, rfl⟩
abbrev main_v69 : Ref sig .tc := ⟨.hbm, 98, rfl⟩
abbrev main_v70 : Ref sig .tc := ⟨.hbm, 99, rfl⟩
abbrev main_cst_8 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_9 : Ref sig .tc := ⟨.hbm, 111, rfl⟩
abbrev main_v81 : Ref sig .tc := ⟨.hbm, 112, rfl⟩
abbrev main_v82 : Ref sig .tc := ⟨.hbm, 113, rfl⟩
abbrev main_cst_10 : Ref sig .tc := ⟨.hbm, 114, rfl⟩
abbrev main_v83 : Ref sig .tc := ⟨.hbm, 115, rfl⟩
abbrev main_v84 : Ref sig .tc := ⟨.hbm, 116, rfl⟩
abbrev main_cst_11 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩

abbrev nD : Nat := 1
abbrev τ : Topo := Topo.v7x

variable {F : FTy → Type} [FloatOps F]
-- ==== Inproj.lean ====
abbrev S17920x1024 : Shape := ⟨2, ![17920, 1024]⟩
abbrev S2x1024 : Shape := ⟨2, ![2, 1024]⟩
abbrev S2x1024x8224 : Shape := ⟨3, ![2, 1024, 8224]⟩
abbrev S2x4x3072 : Shape := ⟨3, ![2, 4, 3072]⟩
abbrev S2x3072 : Shape := ⟨2, ![2, 3072]⟩
abbrev S1x3x3072 : Shape := ⟨3, ![1, 3, 3072]⟩
abbrev S1x15x1024 : Shape := ⟨3, ![1, 15, 1024]⟩
abbrev S17920x128 : Shape := ⟨2, ![17920, 128]⟩
abbrev S2x8224x1024 : Shape := ⟨3, ![2, 8224, 1024]⟩
abbrev S2x1x1024 : Shape := ⟨3, ![2, 1, 1024]⟩
abbrev S2x1x3072 : Shape := ⟨3, ![2, 1, 3072]⟩
abbrev S16384x3072 : Shape := ⟨2, ![16384, 3072]⟩
abbrev S8x3x3072 : Shape := ⟨3, ![8, 3, 3072]⟩
abbrev S8x15x1024 : Shape := ⟨3, ![8, 15, 1024]⟩
abbrev S512x1024 : Shape := ⟨2, ![512, 1024]⟩
abbrev S1x1x1024 : Shape := ⟨3, ![1, 1, 1024]⟩
abbrev S1x8224x1024 : Shape := ⟨3, ![1, 8224, 1024]⟩
abbrev S1x4x3072 : Shape := ⟨3, ![1, 4, 3072]⟩
abbrev S1x1x3072 : Shape := ⟨3, ![1, 1, 3072]⟩
abbrev S512x3072 : Shape := ⟨2, ![512, 3072]⟩
abbrev S512x128 : Shape := ⟨2, ![512, 128]⟩
abbrev S8x3072 : Shape := ⟨2, ![8, 3072]⟩
abbrev S16x1024 : Shape := ⟨2, ![16, 1024]⟩
abbrev S5x3072 : Shape := ⟨2, ![5, 3072]⟩
abbrev S3x3072 : Shape := ⟨2, ![3, 3072]⟩
abbrev S1x1024 : Shape := ⟨2, ![1, 1024]⟩
abbrev S15x1024 : Shape := ⟨2, ![15, 1024]⟩
abbrev S512 : Shape := ⟨1, ![512]⟩
abbrev S512x1 : Shape := ⟨2, ![512, 1]⟩
abbrev S1x512x1024 : Shape := ⟨3, ![1, 512, 1024]⟩
abbrev S512x512 : Shape := ⟨2, ![512, 512]⟩
abbrev S8x512 : Shape := ⟨2, ![8, 512]⟩
abbrev S520x512 : Shape := ⟨2, ![520, 512]⟩
abbrev S1x4x512 : Shape := ⟨3, ![1, 4, 512]⟩
abbrev S4x512 : Shape := ⟨2, ![4, 512]⟩
abbrev S1x1x512 : Shape := ⟨3, ![1, 1, 512]⟩
abbrev S1x512 : Shape := ⟨2, ![1, 512]⟩
abbrev S1x1024x1024 : Shape := ⟨3, ![1, 1024, 1024]⟩
abbrev S1024x1024 : Shape := ⟨2, ![1024, 1024]⟩
abbrev S528x1024 : Shape := ⟨2, ![528, 1024]⟩
abbrev S528x256 : Shape := ⟨2, ![528, 256]⟩
abbrev S512x256 : Shape := ⟨2, ![512, 256]⟩
abbrev S1x128 : Shape := ⟨2, ![1, 128]⟩
abbrev S1x128x1024 : Shape := ⟨3, ![1, 128, 1024]⟩
abbrev S128x1024 : Shape := ⟨2, ![128, 1024]⟩

abbrev nBuf : Space → Nat
  | .hbm => 18
  | .vmem => 20
  | .smem => 0
  | _ => 0

abbrev bufTy : (tb : Table) → Fin (tcTables nBuf tb) → BufTy
  | .hbm, ⟨0, _⟩ => ⟨S17920x1024, .f32⟩
  | .hbm, ⟨1, _⟩ => ⟨S2x1024, .f32⟩
  | .hbm, ⟨2, _⟩ => ⟨S2x1024x8224, .f32⟩
  | .hbm, ⟨3, _⟩ => ⟨S2x4x3072, .f32⟩
  | .hbm, ⟨4, _⟩ => ⟨S2x3072, .f32⟩
  | .hbm, ⟨5, _⟩ => ⟨S1x3x3072, .f32⟩
  | .hbm, ⟨6, _⟩ => ⟨S1x15x1024, .f32⟩
  | .hbm, ⟨7, _⟩ => ⟨S17920x128, .f32⟩
  | .hbm, ⟨8, _⟩ => ⟨S17920x1024, .bf16⟩
  | .hbm, ⟨9, _⟩ => ⟨S2x8224x1024, .f32⟩
  | .hbm, ⟨10, _⟩ => ⟨S2x8224x1024, .bf16⟩
  | .hbm, ⟨11, _⟩ => ⟨S2x1x1024, .f32⟩
  | .hbm, ⟨12, _⟩ => ⟨S2x1x3072, .f32⟩
  | .hbm, ⟨13, _⟩ => ⟨S16384x3072, .bf16⟩
  | .hbm, ⟨14, _⟩ => ⟨S17920x128, .f32⟩
  | .hbm, ⟨15, _⟩ => ⟨S17920x1024, .bf16⟩
  | .hbm, ⟨16, _⟩ => ⟨S8x3x3072, .f32⟩
  | .hbm, ⟨17, _⟩ => ⟨S8x15x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x8224x1024, .bf16⟩
  | .local _ .vmem, ⟨4, _⟩ => ⟨S1x4x3072, .f32⟩
  | .local _ .vmem, ⟨5, _⟩ => ⟨S1x1x3072, .f32⟩
  | .local _ .vmem, ⟨6, _⟩ => ⟨S1x3x3072, .f32⟩
  | .local _ .vmem, ⟨7, _⟩ => ⟨S1x15x1024, .f32⟩
  | .local _ .vmem, ⟨8, _⟩ => ⟨S512x3072, .bf16⟩
  | .local _ .vmem, ⟨9, _⟩ => ⟨S512x3072, .bf16⟩
  | .local _ .vmem, ⟨10, _⟩ => ⟨S512x128, .f32⟩
  | .local _ .vmem, ⟨11, _⟩ => ⟨S512x128, .f32⟩
  | .local _ .vmem, ⟨12, _⟩ => ⟨S512x1024, .bf16⟩
  | .local _ .vmem, ⟨13, _⟩ => ⟨S512x1024, .bf16⟩
  | .local _ .vmem, ⟨14, _⟩ => ⟨S1x3x3072, .f32⟩
  | .local _ .vmem, ⟨15, _⟩ => ⟨S1x3x3072, .f32⟩
  | .local _ .vmem, ⟨16, _⟩ => ⟨S1x15x1024, .f32⟩
  | .local _ .vmem, ⟨17, _⟩ => ⟨S1x15x1024, .f32⟩
  | .local _ .vmem, ⟨18, _⟩ => ⟨S8x3072, .f32⟩
  | .local _ .vmem, ⟨19, _⟩ => ⟨S16x1024, .f32⟩
  | _, _ => ⟨S17920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x8224x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x3x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x15x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x3x3072 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x15x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== InprojReferenceIdeal.lean ====
abbrev S17920x1024 : Shape := ⟨2, ![17920, 1024]⟩
abbrev S2x1024 : Shape := ⟨2, ![2, 1024]⟩
abbrev S2x1024x8224 : Shape := ⟨3, ![2, 1024, 8224]⟩
abbrev S2x4x3072 : Shape := ⟨3, ![2, 4, 3072]⟩
abbrev S2x3072 : Shape := ⟨2, ![2, 3072]⟩
abbrev S1x3x3072 : Shape := ⟨3, ![1, 3, 3072]⟩
abbrev S1x15x1024 : Shape := ⟨3, ![1, 15, 1024]⟩
abbrev S17920x128 : Shape := ⟨2, ![17920, 128]⟩
abbrev S16384x1024 : Shape := ⟨2, ![16384, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x8224 : Shape := ⟨3, ![1, 1024, 8224]⟩
abbrev S1024x8224 : Shape := ⟨2, ![1024, 8224]⟩
abbrev S16384x8224 : Shape := ⟨2, ![16384, 8224]⟩
abbrev S8x2048x8224 : Shape := ⟨3, ![8, 2048, 8224]⟩
abbrev S8x2048x3072 : Shape := ⟨3, ![8, 2048, 3072]⟩
abbrev S8x2048x32 : Shape := ⟨3, ![8, 2048, 32]⟩
abbrev S8x2048x1024 : Shape := ⟨3, ![8, 2048, 1024]⟩
abbrev S8x3x3072 : Shape := ⟨3, ![8, 3, 3072]⟩
abbrev S8x2051x3072 : Shape := ⟨3, ![8, 2051, 3072]⟩
abbrev S1x3072 : Shape := ⟨2, ![1, 3072]⟩
abbrev S3072 : Shape := ⟨1, ![3072]⟩
abbrev S1x1x3072 : Shape := ⟨3, ![1, 1, 3072]⟩
abbrev S8x15x1024 : Shape := ⟨3, ![8, 15, 1024]⟩
abbrev S8x2063x1024 : Shape := ⟨3, ![8, 2063, 1024]⟩
abbrev S2048 : Shape := ⟨1, ![2048]⟩
abbrev S8x2048x256 : Shape := ⟨3, ![8, 2048, 256]⟩
abbrev S1x2048x1 : Shape := ⟨3, ![1, 2048, 1]⟩
abbrev S16384x32 : Shape := ⟨2, ![16384, 32]⟩
abbrev S16384x96 : Shape := ⟨2, ![16384, 96]⟩
abbrev S16384x128 : Shape := ⟨2, ![16384, 128]⟩
abbrev S16384x3072 : Shape := ⟨2, ![16384, 3072]⟩
abbrev S1536x128 : Shape := ⟨2, ![1536, 128]⟩
abbrev S1536x1024 : Shape := ⟨2, ![1536, 1024]⟩

abbrev nBuf : Space → Nat
  | .hbm => 199
  | .vmem => 0
  | .smem => 0
  | _ => 0

abbrev hbmTy0_0 (i : Nat) : BufTy := match i % 128 with
  | 0 => ⟨S17920x1024, .f32⟩
  | 1 => ⟨S2x1024, .f32⟩
  | 2 => ⟨S2x1024x8224, .f32⟩
  | 3 => ⟨S2x4x3072, .f32⟩
  | 4 => ⟨S2x3072, .f32⟩
  | 5 => ⟨S1x3x3072, .f32⟩
  | 6 => ⟨S1x15x1024, .f32⟩
  | 7 => ⟨S17920x128, .f32⟩
  | 8 => ⟨S17920x1024, .bf16⟩
  | 9 => ⟨S16384x1024, .f32⟩
  | 10 => ⟨S1x1024, .f32⟩
  | 11 => ⟨S1024, .f32⟩
  | 12 => ⟨S16384x1024, .f32⟩
  | 13 => ⟨S_, .f32⟩
  | 14 => ⟨S16384, .f32⟩
  | 15 => ⟨S16384x1, .f32⟩
  | 16 => ⟨S_, .f32⟩
  | 17 => ⟨S16384x1, .f32⟩
  | 18 => ⟨S16384x1, .f32⟩
  | 19 => ⟨S_, .f32⟩
  | 20 => ⟨S16384x1, .f32⟩
  | 21 => ⟨S16384x1, .f32⟩
  | 22 => ⟨S16384x1, .f32⟩
  | 23 => ⟨S16384x1024, .f32⟩
  | 24 => ⟨S16384x1024, .f32⟩
  | 25 => ⟨S1x1024, .f32⟩
  | 26 => ⟨S16384x1024, .f32⟩
  | 27 => ⟨S16384x1024, .f32⟩
  | 28 => ⟨S1x1024x8224, .f32⟩
  | 29 => ⟨S1024x8224, .f32⟩
  | 30 => ⟨S16384x8224, .f32⟩
  | 31 => ⟨S8x2048x8224, .f32⟩
  | 32 => ⟨S8x2048x3072, .f32⟩
  | 33 => ⟨S8x2048x32, .f32⟩
  | 34 => ⟨S8x2048x1024, .f32⟩
  | 35 => ⟨S8x3x3072, .f32⟩
  | 36 => ⟨S8x2051x3072, .f32⟩
  | 37 => ⟨S1x3072, .f32⟩
  | 38 => ⟨S3072, .f32⟩
  | 39 => ⟨S8x2048x3072, .f32⟩
  | 40 => ⟨S1x1x3072, .f32⟩
  | 41 => ⟨S3072, .f32⟩
  | 42 => ⟨S1x1x3072, .f32⟩
  | 43 => ⟨S8x2048x3072, .f32⟩
  | 44 => ⟨S8x2048x3072, .f32⟩
  | 45 => ⟨S1x1x3072, .f32⟩
  | 46 => ⟨S8x2048x3072, .f32⟩
  | 47 => ⟨S8x2048x3072, .f32⟩
  | 48 => ⟨S8x2048x3072, .f32⟩
  | 49 => ⟨S1x1x3072, .f32⟩
  | 50 => ⟨S3072, .f32⟩
  | 51 => ⟨S1x1x3072, .f32⟩
  | 52 => ⟨S8x2048x3072, .f32⟩
  | 53 => ⟨S8x2048x3072, .f32⟩
  | 54 => ⟨S8x2048x3072, .f32⟩
  | 55 => ⟨S8x2048x3072, .f32⟩
  | 56 => ⟨S1x1x3072, .f32⟩
  | 57 => ⟨S3072, .f32⟩
  | 58 => ⟨S1x1x3072, .f32⟩
  | 59 => ⟨S8x2048x3072, .f32⟩
  | 60 => ⟨S8x2048x3072, .f32⟩
  | 61 => ⟨S8x2048x3072, .f32⟩
  | 62 => ⟨S8x2048x3072, .f32⟩
  | 63 => ⟨S1x1x3072, .f32⟩
  | 64 => ⟨S3072, .f32⟩
  | 65 => ⟨S1x1x3072, .f32⟩
  | 66 => ⟨S8x2048x3072, .f32⟩
  | 67 => ⟨S8x2048x3072, .f32⟩
  | 68 => ⟨S8x2048x3072, .f32⟩
  | 69 => ⟨S8x15x1024, .f32⟩
  | 70 => ⟨S8x2063x1024, .f32⟩
  | 71 => ⟨S2048, .i32⟩
  | 72 => ⟨S_, .i32⟩
  | 73 => ⟨S2048, .i32⟩
  | 74 => ⟨S2048, .i32⟩
  | 75 => ⟨S8x2048x256, .f32⟩
  | 76 => ⟨S_, .f32⟩
  | 77 => ⟨S8x2048x256, .f32⟩
  | 78 => ⟨S8x2048x256, .f32⟩
  | 79 => ⟨S8x2048x256, .f32⟩
  | 80 => ⟨S8x2048x256, .f32⟩
  | 81 => ⟨S_, .i32⟩
  | 82 => ⟨S2048, .i32⟩
  | 83 => ⟨S2048, .i32⟩
  | 84 => ⟨S_, .i32⟩
  | 85 => ⟨S2048, .i32⟩
  | 86 => ⟨S2048, .i32⟩
  | 87 => ⟨S2048, .f32⟩
  | 88 => ⟨S1x2048x1, .f32⟩
  | 89 => ⟨S8x2048x256, .f32⟩
  | 90 => ⟨S8x2048x256, .f32⟩
  | 91 => ⟨S8x2048x256, .f32⟩
  | 92 => ⟨S_, .f32⟩
  | 93 => ⟨S8x2048x256, .f32⟩
  | 94 => ⟨S8x2048x256, .f32⟩
  | 95 => ⟨S8x2048x256, .f32⟩
  | 96 => ⟨S8x2048x256, .f32⟩
  | 97 => ⟨S8x2048x256, .f32⟩
  | 98 => ⟨S8x2048x256, .f32⟩
  | 99 => ⟨S8x2048x256, .f32⟩
  | 100 => ⟨S8x2048x256, .f32⟩
  | 101 => ⟨S_, .i32⟩
  | 102 => ⟨S2048, .i32⟩
  | 103 => ⟨S2048, .i32⟩
  | 104 => ⟨S_, .i32⟩
  | 105 => ⟨S2048, .i32⟩
  | 106 => ⟨S2048, .i32⟩
  | 107 => ⟨S2048, .f32⟩
  | 108 => ⟨S1x2048x1, .f32⟩
  | 109 => ⟨S8x2048x256, .f32⟩
  | 110 => ⟨S8x2048x256, .f32⟩
  | 111 => ⟨S8x2048x256, .f32⟩
  | 112 => ⟨S_, .f32⟩
  | 113 => ⟨S8x2048x256, .f32⟩
  | 114 => ⟨S8x2048x256, .f32⟩
  | 115 => ⟨S8x2048x256, .f32⟩
  | 116 => ⟨S8x2048x256, .f32⟩
  | 117 => ⟨S8x2048x256, .f32⟩
  | 118 => ⟨S8x2048x256, .f32⟩
  | 119 => ⟨S8x2048x256, .f32⟩
  | 120 => ⟨S8x2048x256, .f32⟩
  | 121 => ⟨S8x2048x256, .f32⟩
  | 122 => ⟨S8x2048x256, .f32⟩
  | 123 => ⟨S8x2048x256, .f32⟩
  | 124 => ⟨S8x2048x256, .f32⟩
  | 125 => ⟨S8x2048x256, .f32⟩
  | 126 => ⟨S8x2048x256, .f32⟩
  | 127 => ⟨S8x2048x256, .f32⟩
  | _ => ⟨S17920x1024, .f32⟩

abbrev hbmTy0_1 (i : Nat) : BufTy := match i % 128 with
  | 0 => ⟨S8x2048x256, .f32⟩
  | 1 => ⟨S_, .i32⟩
  | 2 => ⟨S2048, .i32⟩
  | 3 => ⟨S2048, .i32⟩
  | 4 => ⟨S_, .i32⟩
  | 5 => ⟨S2048, .i32⟩
  | 6 => ⟨S2048, .i32⟩
  | 7 => ⟨S2048, .f32⟩
  | 8 => ⟨S1x2048x1, .f32⟩
  | 9 => ⟨S8x2048x256, .f32⟩
  | 10 => ⟨S8x2048x256, .f32⟩
  | 11 => ⟨S8x2048x256, .f32⟩
  | 12 => ⟨S_, .f32⟩
  | 13 => ⟨S8x2048x256, .f32⟩
  | 14 => ⟨S8x2048x256, .f32⟩
  | 15 => ⟨S8x2048x256, .f32⟩
  | 16 => ⟨S8x2048x256, .f32⟩
  | 17 => ⟨S8x2048x256, .f32⟩
  | 18 => ⟨S8x2048x256, .f32⟩
  | 19 => ⟨S8x2048x256, .f32⟩
  | 20 => ⟨S8x2048x256, .f32⟩
  | 21 => ⟨S8x2048x256, .f32⟩
  | 22 => ⟨S8x2048x256, .f32⟩
  | 23 => ⟨S8x2048x256, .f32⟩
  | 24 => ⟨S8x2048x256, .f32⟩
  | 25 => ⟨S8x2048x256, .f32⟩
  | 26 => ⟨S8x2048x256, .f32⟩
  | 27 => ⟨S8x2048x256, .f32⟩
  | 28 => ⟨S8x2048x256, .f32⟩
  | 29 => ⟨S8x2048x256, .f32⟩
  | 30 => ⟨S8x2048x256, .f32⟩
  | 31 => ⟨S8x2048x256, .f32⟩
  | 32 => ⟨S8x2048x256, .f32⟩
  | 33 => ⟨S8x2048x256, .f32⟩
  | 34 => ⟨S8x2048x256, .f32⟩
  | 35 => ⟨S8x2048x256, .f32⟩
  | 36 => ⟨S8x2048x256, .f32⟩
  | 37 => ⟨S8x2048x256, .f32⟩
  | 38 => ⟨S8x2048x256, .f32⟩
  | 39 => ⟨S8x2048x256, .f32⟩
  | 40 => ⟨S8x2048x256, .f32⟩
  | 41 => ⟨S8x2048x256, .f32⟩
  | 42 => ⟨S8x2048x256, .f32⟩
  | 43 => ⟨S8x2048x256, .f32⟩
  | 44 => ⟨S8x2048x256, .f32⟩
  | 45 => ⟨S_, .i32⟩
  | 46 => ⟨S2048, .i32⟩
  | 47 => ⟨S2048, .i32⟩
  | 48 => ⟨S_, .i32⟩
  | 49 => ⟨S2048, .i32⟩
  | 50 => ⟨S2048, .i32⟩
  | 51 => ⟨S2048, .f32⟩
  | 52 => ⟨S1x2048x1, .f32⟩
  | 53 => ⟨S8x2048x256, .f32⟩
  | 54 => ⟨S8x2048x256, .f32⟩
  | 55 => ⟨S8x2048x1024, .f32⟩
  | 56 => ⟨S8x2048x1024, .f32⟩
  | 57 => ⟨S16384x32, .f32⟩
  | 58 => ⟨S_, .f32⟩
  | 59 => ⟨S16384x96, .f32⟩
  | 60 => ⟨S16384x128, .f32⟩
  | 61 => ⟨S16384x3072, .f32⟩
  | 62 => ⟨S16384x3072, .bf16⟩
  | 63 => ⟨S1536x128, .f32⟩
  | 64 => ⟨S17920x128, .f32⟩
  | 65 => ⟨S16384x1024, .f32⟩
  | 66 => ⟨S16384x1024, .bf16⟩
  | 67 => ⟨S1536x1024, .bf16⟩
  | 68 => ⟨S17920x1024, .bf16⟩
  | 69 => ⟨S8x3x3072, .f32⟩
  | 70 => ⟨S8x15x1024, .f32⟩
  | _ => ⟨S17920x1024, .f32⟩

abbrev hbmTy (i : Nat) : BufTy := match i / 128 with
  | 0 => hbmTy0_0 i
  | 1 => hbmTy0_1 i
  | _ => ⟨S17920x1024, .f32⟩

abbrev bufTy : (tb : Table) → Fin (tcTables nBuf tb) → BufTy
  | .hbm, ⟨i, _⟩ => hbmTy i
  | _, _ => ⟨S17920x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_c : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_2 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_c_3 : Ref sig .tc := ⟨.hbm, 81, rfl⟩
abbrev main_v67 : Ref sig .tc := ⟨.hbm, 82, rfl⟩
abbrev main_v68 : Ref sig .tc := ⟨.hbm, 83, rfl⟩
abbrev main_c_4 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_cst_5 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_c_6 : Ref sig .tc := ⟨.hbm, 101, rfl⟩
abbrev main_v84 : Ref sig .tc := ⟨.hbm, 102, rfl⟩
abbrev main_v85 : Ref sig .tc := ⟨.hbm, 103, rfl⟩
abbrev main_c_7 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_cst_8 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_c_9 : Ref sig .tc := ⟨.hbm, 129, rfl⟩
abbrev main_v109 : Ref sig .tc := ⟨.hbm, 130, rfl⟩
abbrev main_v110 : Ref sig .tc := ⟨.hbm, 131, rfl⟩
abbrev main_c_10 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_cst_11 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_c_12 : Ref sig .tc := ⟨.hbm, 173, rfl⟩
abbrev main_v150 : Ref sig .tc := ⟨.hbm, 174, rfl⟩
abbrev main_v151 : Ref sig .tc := ⟨.hbm, 175, rfl⟩
abbrev main_c_13 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_cst_14 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩

abbrev nD : Nat := 1
abbrev τ : Topo := Topo.v7x

variable {F : FTy → Type} [FloatOps F]
-- ==== Seq.lean ====
abbrev S1536x3072 : Shape := ⟨2, ![1536, 3072]⟩
abbrev S1536x1024 : Shape := ⟨2, ![1536, 1024]⟩
abbrev S17920x128 : Shape := ⟨2, ![17920, 128]⟩
abbrev S2x4x3072 : Shape := ⟨3, ![2, 4, 3072]⟩
abbrev S2x3072 : Shape := ⟨2, ![2, 3072]⟩
abbrev S2x32 : Shape := ⟨2, ![2, 32]⟩
abbrev S2x128x32x64x128 : Shape := ⟨5, ![2, 128, 32, 64, 128]⟩
abbrev S2x128x3x3072 : Shape := ⟨4, ![2, 128, 3, 3072]⟩
abbrev S2x128x15x1024 : Shape := ⟨4, ![2, 128, 15, 1024]⟩
abbrev S17920x2048 : Shape := ⟨2, ![17920, 2048]⟩
abbrev S17920x1024 : Shape := ⟨2, ![17920, 1024]⟩
abbrev S2x128x2048x128 : Shape := ⟨4, ![2, 128, 2048, 128]⟩
abbrev S128 : Shape := ⟨1, ![128]⟩
abbrev S_ : Shape := ⟨0, ![]⟩
abbrev S128x1 : Shape := ⟨2, ![128, 1]⟩
abbrev S2048 : Shape := ⟨1, ![2048]⟩
abbrev S1x2048 : Shape := ⟨2, ![1, 2048]⟩
abbrev S128x2048 : Shape := ⟨2, ![128, 2048]⟩
abbrev S2x1x3072 : Shape := ⟨3, ![2, 1, 3072]⟩
abbrev S2x128 : Shape := ⟨2, ![2, 128]⟩
abbrev S2x1x128 : Shape := ⟨3, ![2, 1, 128]⟩
abbrev S2x32x64 : Shape := ⟨3, ![2, 32, 64]⟩
abbrev S2x2048 : Shape := ⟨2, ![2, 2048]⟩
abbrev S2x1x2048 : Shape := ⟨3, ![2, 1, 2048]⟩
abbrev S32x3072 : Shape := ⟨2, ![32, 3072]⟩
abbrev S32x1024 : Shape := ⟨2, ![32, 1024]⟩
abbrev S32x128 : Shape := ⟨2, ![32, 128]⟩
abbrev S1x4x3072 : Shape := ⟨3, ![1, 4, 3072]⟩
abbrev S1x1x3072 : Shape := ⟨3, ![1, 1, 3072]⟩
abbrev S1x1x128 : Shape := ⟨3, ![1, 1, 128]⟩
abbrev S1x1x2048 : Shape := ⟨3, ![1, 1, 2048]⟩
abbrev S1x4x2048x128 : Shape := ⟨4, ![1, 4, 2048, 128]⟩
abbrev S1x4x3x3072 : Shape := ⟨4, ![1, 4, 3, 3072]⟩
abbrev S1x4x15x1024 : Shape := ⟨4, ![1, 4, 15, 1024]⟩
abbrev S32x2048 : Shape := ⟨2, ![32, 2048]⟩
abbrev S4x8x3072 : Shape := ⟨3, ![4, 8, 3072]⟩
abbrev S4x24x1024 : Shape := ⟨3, ![4, 24, 1024]⟩
abbrev S4x5x3072 : Shape := ⟨3, ![4, 5, 3072]⟩
abbrev S4x3x3072 : Shape := ⟨3, ![4, 3, 3072]⟩
abbrev S4x1x1024 : Shape := ⟨3, ![4, 1, 1024]⟩
abbrev S4x15x1024 : Shape := ⟨3, ![4, 15, 1024]⟩
abbrev S1x8x3072 : Shape := ⟨3, ![1, 8, 3072]⟩
abbrev S8x3072 : Shape := ⟨2, ![8, 3072]⟩
abbrev S16x3072 : Shape := ⟨2, ![16, 3072]⟩
abbrev S4x3072 : Shape := ⟨2, ![4, 3072]⟩
abbrev S1x3072 : Shape := ⟨2, ![1, 3072]⟩
abbrev S3x3072 : Shape := ⟨2, ![3, 3072]⟩
abbrev S1x1x3x3072 : Shape := ⟨4, ![1, 1, 3, 3072]⟩
abbrev S32x512 : Shape := ⟨2, ![32, 512]⟩
abbrev S1x128 : Shape := ⟨2, ![1, 128]⟩
abbrev S32x32 : Shape := ⟨2, ![32, 32]⟩
abbrev S128x32 : Shape := ⟨2, ![128, 32]⟩
abbrev S96x128 : Shape := ⟨2, ![96, 128]⟩
abbrev S96x2048 : Shape := ⟨2, ![96, 2048]⟩
abbrev S64x128 : Shape := ⟨2, ![64, 128]⟩
abbrev S32x1 : Shape := ⟨2, ![32, 1]⟩
abbrev S1x32 : Shape := ⟨2, ![1, 32]⟩
abbrev S32x64 : Shape := ⟨2, ![32, 64]⟩
abbrev S1x1x2048x128 : Shape := ⟨4, ![1, 1, 2048, 128]⟩
abbrev S2048x128 : Shape := ⟨2, ![2048, 128]⟩
abbrev S8x512 : Shape := ⟨2, ![8, 512]⟩
abbrev S8x2048 : Shape := ⟨2, ![8, 2048]⟩
abbrev S8x128 : Shape := ⟨2, ![8, 128]⟩
abbrev S512x128 : Shape := ⟨2, ![512, 128]⟩
abbrev S1x1 : Shape := ⟨2, ![1, 1]⟩
abbrev S8x1024 : Shape := ⟨2, ![8, 1024]⟩
abbrev S1x8x1024 : Shape := ⟨3, ![1, 8, 1024]⟩
abbrev S1x24x1024 : Shape := ⟨3, ![1, 24, 1024]⟩
abbrev S24x1024 : Shape := ⟨2, ![24, 1024]⟩
abbrev S24x256 : Shape := ⟨2, ![24, 256]⟩
abbrev S8x256 : Shape := ⟨2, ![8, 256]⟩
abbrev S15x1024 : Shape := ⟨2, ![15, 1024]⟩
abbrev S1x1x15x1024 : Shape := ⟨4, ![1, 1, 15, 1024]⟩

abbrev nBuf : Space → Nat
  | .hbm => 89
  | .vmem => 30
  | .smem => 0
  | _ => 0

abbrev bufTy : (tb : Table) → Fin (tcTables nBuf tb) → BufTy
  | .hbm, ⟨0, _⟩ => ⟨S1536x3072, .bf16⟩
  | .hbm, ⟨1, _⟩ => ⟨S1536x1024, .bf16⟩
  | .hbm, ⟨2, _⟩ => ⟨S17920x128, .f32⟩
  | .hbm, ⟨3, _⟩ => ⟨S2x4x3072, .f32⟩
  | .hbm, ⟨4, _⟩ => ⟨S2x3072, .f32⟩
  | .hbm, ⟨5, _⟩ => ⟨S2x32, .f32⟩
  | .hbm, ⟨6, _⟩ => ⟨S2x32, .f32⟩
  | .hbm, ⟨7, _⟩ => ⟨S2x32, .f32⟩
  | .hbm, ⟨8, _⟩ => ⟨S2x128x32x64x128, .f32⟩
  | .hbm, ⟨9, _⟩ => ⟨S2x128x3x3072, .f32⟩
  | .hbm, ⟨10, _⟩ => ⟨S2x128x15x1024, .f32⟩
  | .hbm, ⟨11, _⟩ => ⟨S17920x2048, .bf16⟩
  | .hbm, ⟨12, _⟩ => ⟨S17920x1024, .bf16⟩
  | .hbm, ⟨13, _⟩ => ⟨S2x128x2048x128, .f32⟩
  | .hbm, ⟨14, _⟩ => ⟨S2x128x3x3072, .f32⟩
  | .hbm, ⟨15, _⟩ => ⟨S2x128x15x1024, .f32⟩
  | .hbm, ⟨16, _⟩ => ⟨S128, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S_, .i32⟩
  | .hbm, ⟨26, _⟩ => ⟨S128, .i32⟩
  | .hbm, ⟨27, _⟩ => ⟨S128, .i1⟩
  | .hbm, ⟨28, _⟩ => ⟨S_, .i32⟩
  | .hbm, ⟨29, _⟩ => ⟨S128, .i32⟩
  | .hbm, ⟨30, _⟩ => ⟨S128, .i1⟩
  | .hbm, ⟨31, _⟩ => ⟨S_, .i32⟩
  | .hbm, ⟨32, _⟩ => ⟨S_, .i1⟩
  | .hbm, ⟨33, _⟩ => ⟨S128, .i1⟩
  | .hbm, ⟨34, _⟩ => ⟨S128, .i1⟩
  | .hbm, ⟨35, _⟩ => ⟨S128, .i1⟩
  | .hbm, ⟨36, _⟩ => ⟨S128, .i32⟩
  | .hbm, ⟨37, _⟩ => ⟨S128, .i32⟩
  | .hbm, ⟨38, _⟩ => ⟨S128, .i32⟩
  | .hbm, ⟨39, _⟩ => ⟨S128x1, .i32⟩
  | .hbm, ⟨40, _⟩ => ⟨S2048, .i32⟩
  | .hbm, ⟨41, _⟩ => ⟨S_, .i32⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S_, .i32⟩
  | .hbm, ⟨47, _⟩ => ⟨S2048, .i32⟩
  | .hbm, ⟨48, _⟩ => ⟨S2048, .i1⟩
  | .hbm, ⟨49, _⟩ => ⟨S2048, .i32⟩
  | .hbm, ⟨50, _⟩ => ⟨S2048, .i32⟩
  | .hbm, ⟨51, _⟩ => ⟨S_, .i32⟩
  | .hbm, ⟨52, _⟩ => ⟨S2048, .i32⟩
  | .hbm, ⟨53, _⟩ => ⟨S2048, .i1⟩
  | .hbm, ⟨54, _⟩ => ⟨S2048, .i1⟩
  | .hbm, ⟨55, _⟩ => ⟨S_, .i32⟩
  | .hbm, ⟨56, _⟩ => ⟨S2048, .i32⟩
  | .hbm, ⟨57, _⟩ => ⟨S2048, .i32⟩
  | .hbm, ⟨58, _⟩ => ⟨S2048, .i32⟩
  | .hbm, ⟨59, _⟩ => ⟨S1x2048, .i32⟩
  | .hbm, ⟨60, _⟩ => ⟨S128x2048, .i32⟩
  | .hbm, ⟨61, _⟩ => ⟨S128x2048, .i32⟩
  | .hbm, ⟨62, _⟩ => ⟨S128x2048, .i1⟩
  | .hbm, ⟨63, _⟩ => ⟨S128, .i32⟩
  | .hbm, ⟨64, _⟩ => ⟨S_, .i32⟩
  | .hbm, ⟨65, _⟩ => ⟨S128, .i32⟩
  | .hbm, ⟨66, _⟩ => ⟨S128, .i1⟩
  | .hbm, ⟨67, _⟩ => ⟨S128x1, .i1⟩
  | .hbm, ⟨68, _⟩ => ⟨S128x2048, .i1⟩
  | .hbm, ⟨69, _⟩ => ⟨S128x2048, .i1⟩
  | .hbm, ⟨70, _⟩ => ⟨S128x2048, .bf16⟩
  | .hbm, ⟨71, _⟩ => ⟨S2x1x3072, .f32⟩
  | .hbm, ⟨72, _⟩ => ⟨S_, .i32⟩
  | .hbm, ⟨73, _⟩ => ⟨S_, .f32⟩
  | .hbm, ⟨74, _⟩ => ⟨S2x128, .f32⟩
  | .hbm, ⟨75, _⟩ => ⟨S2x1x128, .f32⟩
  | .hbm, ⟨76, _⟩ => ⟨S_, .i32⟩
  | .hbm, ⟨77, _⟩ => ⟨S_, .f32⟩
  | .hbm, ⟨78, _⟩ => ⟨S2x128, .f32⟩
  | .hbm, ⟨79, _⟩ => ⟨S2x1x128, .f32⟩
  | .hbm, ⟨80, _⟩ => ⟨S2x32x64, .f32⟩
  | .hbm, ⟨81, _⟩ => ⟨S2x2048, .f32⟩
  | .hbm, ⟨82, _⟩ => ⟨S2x1x2048, .f32⟩
  | .hbm, ⟨83, _⟩ => ⟨S2x128x2048x128, .f32⟩
  | .hbm, ⟨84, _⟩ => ⟨S17920x2048, .bf16⟩
  | .hbm, ⟨85, _⟩ => ⟨S17920x1024, .bf16⟩
  | .hbm, ⟨86, _⟩ => ⟨S2x128x2048x128, .f32⟩
  | .hbm, ⟨87, _⟩ => ⟨S2x128x3x3072, .f32⟩
  | .hbm, ⟨88, _⟩ => ⟨S2x128x15x1024, .f32⟩
  | .local _ .vmem, ⟨0, _⟩ => ⟨S32x3072, .bf16⟩
  | .local _ .vmem, ⟨1, _⟩ => ⟨S32x3072, .bf16⟩
  | .local _ .vmem, ⟨2, _⟩ => ⟨S32x1024, .bf16⟩
  | .local _ .vmem, ⟨3, _⟩ => ⟨S32x1024, .bf16⟩
  | .local _ .vmem, ⟨4, _⟩ => ⟨S32x128, .f32⟩
  | .local _ .vmem, ⟨5, _⟩ => ⟨S32x128, .f32⟩
  | .local _ .vmem, ⟨6, _⟩ => ⟨S1x4x3072, .f32⟩
  | .local _ .vmem, ⟨7, _⟩ => ⟨S1x1x3072, .f32⟩
  | .local _ .vmem, ⟨8, _⟩ => ⟨S1x1x128, .f32⟩
  | .local _ .vmem, ⟨9, _⟩ => ⟨S1x1x128, .f32⟩
  | .local _ .vmem, ⟨10, _⟩ => ⟨S1x1x2048, .f32⟩
  | .local _ .vmem, ⟨11, _⟩ => ⟨S128x2048, .bf16⟩
  | .local _ .vmem, ⟨12, _⟩ => ⟨S1x4x2048x128, .f32⟩
  | .local _ .vmem, ⟨13, _⟩ => ⟨S1x4x2048x128, .f32⟩
  | .local _ .vmem, ⟨14, _⟩ => ⟨S1x4x3x3072, .f32⟩
  | .local _ .vmem, ⟨15, _⟩ => ⟨S1x4x3x3072, .f32⟩
  | .local _ .vmem, ⟨16, _⟩ => ⟨S1x4x15x1024, .f32⟩
  | .local _ .vmem, ⟨17, _⟩ => ⟨S1x4x15x1024, .f32⟩
  | .local _ .vmem, ⟨18, _⟩ => ⟨S32x2048, .bf16⟩
  | .local _ .vmem, ⟨19, _⟩ => ⟨S32x2048, .bf16⟩
  | .local _ .vmem, ⟨20, _⟩ => ⟨S32x1024, .bf16⟩
  | .local _ .vmem, ⟨21, _⟩ => ⟨S32x1024, .bf16⟩
  | .local _ .vmem, ⟨22, _⟩ => ⟨S1x4x2048x128, .f32⟩
  | .local _ .vmem, ⟨23, _⟩ => ⟨S1x4x2048x128, .f32⟩
  | .local _ .vmem, ⟨24, _⟩ => ⟨S1x4x3x3072, .f32⟩
  | .local _ .vmem, ⟨25, _⟩ => ⟨S1x4x3x3072, .f32⟩
  | .local _ .vmem, ⟨26, _⟩ => ⟨S1x4x15x1024, .f32⟩
  | .local _ .vmem, ⟨27, _⟩ => ⟨S1x4x15x1024, .f32⟩
  | .local _ .vmem, ⟨28, _⟩ => ⟨S4x8x3072, .f32⟩
  | .local _ .vmem, ⟨29, _⟩ => ⟨S4x24x1024, .f32⟩
  | _, _ => ⟨S1536x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_1 : Ref sig .tc := ⟨.hbm, 25, rfl⟩
abbrev main_call0_v5 : Ref sig .tc := ⟨.hbm, 26, rfl⟩
abbrev main_call0_v6 : Ref sig .tc := ⟨.hbm, 27, rfl⟩
abbrev main_call0_c_2 : Ref sig .tc := ⟨.hbm, 28, rfl⟩
abbrev main_call0_v7 : Ref sig .tc := ⟨.hbm, 29, rfl⟩
abbrev main_call0_v8 : Ref sig .tc := ⟨.hbm, 30, rfl⟩
abbrev main_call0_c_3 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_c_0 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_c : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_0 : Ref sig .tc := ⟨.hbm, 55, rfl⟩
abbrev main_call1_v12 : Ref sig .tc := ⟨.hbm, 56, rfl⟩
abbrev main_call1_v13 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_c_1 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_c_2 : Ref sig .tc := ⟨.hbm, 72, rfl⟩
abbrev main_call2_v0 : Ref sig .tc := ⟨.hbm, 73, rfl⟩
abbrev main_v17 : Ref sig .tc := ⟨.hbm, 74, rfl⟩
abbrev main_v18 : Ref sig .tc := ⟨.hbm, 75, rfl⟩
abbrev main_c_3 : Ref sig .tc := ⟨.hbm, 76, rfl⟩
abbrev main_call3_v0 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_v25_0 : Ref sig .tc := ⟨.hbm, 84, rfl⟩
abbrev main_v25_1 : Ref sig .tc := ⟨.hbm, 85, rfl⟩
abbrev main_v25_2 : Ref sig .tc := ⟨.hbm, 86, rfl⟩
abbrev main_v25_3 : Ref sig .tc := ⟨.hbm, 87, rfl⟩
abbrev main_v25_4 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c0_i32 : BitVec 32 := 0#32
  let c0_i32_0 : BitVec 32 := 0#32
  ![v2.toNat, c0_i32.toNat]

def cc0_transform_18 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c0_i32 : BitVec 32 := 0#32
  let c0_i32_0 : BitVec 32 := 0#32
  ![v2.toNat, c0_i32.toNat]

def cc0_transform_19 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_20 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_21 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

abbrev stage0_0 : Fin 2 → Memref sig .tc .vmem S32x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x4x2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x4x3x3072 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x4x15x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S32x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x2048x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x4x3x3072 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x4x15x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== SeqReferenceIdeal.lean ====
abbrev S1536x3072 : Shape := ⟨2, ![1536, 3072]⟩
abbrev S1536x1024 : Shape := ⟨2, ![1536, 1024]⟩
abbrev S17920x128 : Shape := ⟨2, ![17920, 128]⟩
abbrev S2x4x3072 : Shape := ⟨3, ![2, 4, 3072]⟩
abbrev S2x3072 : Shape := ⟨2, ![2, 3072]⟩
abbrev S2x32 : Shape := ⟨2, ![2, 32]⟩
abbrev S2x128x32x64x128 : Shape := ⟨5, ![2, 128, 32, 64, 128]⟩
abbrev S2x128x3x3072 : Shape := ⟨4, ![2, 128, 3, 3072]⟩
abbrev S2x128x15x1024 : Shape := ⟨4, ![2, 128, 15, 1024]⟩
abbrev S17920x2048 : Shape := ⟨2, ![17920, 2048]⟩
abbrev S17920x1024 : Shape := ⟨2, ![17920, 1024]⟩
abbrev S2x128x2048x128 : Shape := ⟨4, ![2, 128, 2048, 128]⟩
abbrev S1x128x3x3072 : Shape := ⟨4, ![1, 128, 3, 3072]⟩
abbrev S128x3x3072 : Shape := ⟨3, ![128, 3, 3072]⟩
abbrev S1024x3072 : Shape := ⟨2, ![1024, 3072]⟩
abbrev S128x8x3072 : Shape := ⟨3, ![128, 8, 3072]⟩
abbrev S128x11x3072 : Shape := ⟨3, ![128, 11, 3072]⟩
abbrev S1024x1024 : Shape := ⟨2, ![1024, 1024]⟩
abbrev S128x8x1024 : Shape := ⟨3, ![128, 8, 1024]⟩
abbrev S1x128x15x1024 : Shape := ⟨4, ![1, 128, 15, 1024]⟩
abbrev S128x15x1024 : Shape := ⟨3, ![128, 15, 1024]⟩
abbrev S128x23x1024 : Shape := ⟨3, ![128, 23, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1536x3072, .bf16⟩
  | .hbm, ⟨1, _⟩ => ⟨S1536x1024, .bf16⟩
  | .hbm, ⟨2, _⟩ => ⟨S17920x128, .f32⟩
  | .hbm, ⟨3, _⟩ => ⟨S2x4x3072, .f32⟩
  | .hbm, ⟨4, _⟩ => ⟨S2x3072, .f32⟩
  | .hbm, ⟨5, _⟩ => ⟨S2x32, .f32⟩
  | .hbm, ⟨6, _⟩ => ⟨S2x32, .f32⟩
  | .hbm, ⟨7, _⟩ => ⟨S2x32, .f32⟩
  | .hbm, ⟨8, _⟩ => ⟨S2x128x32x64x128, .f32⟩
  | .hbm, ⟨9, _⟩ => ⟨S2x128x3x3072, .f32⟩
  | .hbm, ⟨10, _⟩ => ⟨S2x128x15x1024, .f32⟩
  | .hbm, ⟨11, _⟩ => ⟨S17920x2048, .bf16⟩
  | .hbm, ⟨12, _⟩ => ⟨S17920x1024, .bf16⟩
  | .hbm, ⟨13, _⟩ => ⟨S2x128x2048x128, .f32⟩
  | .hbm, ⟨14, _⟩ => ⟨S2x128x3x3072, .f32⟩
  | .hbm, ⟨15, _⟩ => ⟨S2x128x15x1024, .f32⟩
  | .hbm, ⟨16, _⟩ => ⟨S1x128x3x3072, .f32⟩
  | .hbm, ⟨17, _⟩ => ⟨S128x3x3072, .f32⟩
  | .hbm, ⟨18, _⟩ => ⟨S1024x3072, .bf16⟩
  | .hbm, ⟨19, _⟩ => ⟨S128x8x3072, .bf16⟩
  | .hbm, ⟨20, _⟩ => ⟨S128x8x3072, .f32⟩
  | .hbm, ⟨21, _⟩ => ⟨S128x11x3072, .f32⟩
  | .hbm, ⟨22, _⟩ => ⟨S1024x1024, .bf16⟩
  | .hbm, ⟨23, _⟩ => ⟨S128x8x1024, .bf16⟩
  | .hbm, ⟨24, _⟩ => ⟨S1x128x15x1024, .f32⟩
  | .hbm, ⟨25, _⟩ => ⟨S128x15x1024, .f32⟩
  | .hbm, ⟨26, _⟩ => ⟨S128x8x1024, .f32⟩
  | .hbm, ⟨27, _⟩ => ⟨S128x23x1024, .f32⟩
  | .hbm, ⟨28, _⟩ => ⟨S1x128x3x3072, .f32⟩
  | .hbm, ⟨29, _⟩ => ⟨S128x3x3072, .f32⟩
  | .hbm, ⟨30, _⟩ => ⟨S128x3x3072, .f32⟩
  | .hbm, ⟨31, _⟩ => ⟨S1x128x3x3072, .f32⟩
  | .hbm, ⟨32, _⟩ => ⟨S1x128x3x3072, .f32⟩
  | .hbm, ⟨33, _⟩ => ⟨S2x128x3x3072, .f32⟩
  | .hbm, ⟨34, _⟩ => ⟨S1x128x15x1024, .f32⟩
  | .hbm, ⟨35, _⟩ => ⟨S128x15x1024, .f32⟩
  | .hbm, ⟨36, _⟩ => ⟨S128x15x1024, .f32⟩
  | .hbm, ⟨37, _⟩ => ⟨S1x128x15x1024, .f32⟩
  | .hbm, ⟨38, _⟩ => ⟨S1x128x15x1024, .f32⟩
  | .hbm, ⟨39, _⟩ => ⟨S2x128x15x1024, .f32⟩
  | _, _ => ⟨S1536x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Proof.Ssd.Vocab.lean ====
/- One chunk of 128 tokens of the scan, as the kernel computes it: the same words for each of the four
   chunks of a block, whichever of them the printed program cuts its values at. -/
module

public import proofs.«01_k».proof.Proof.Gen.KernelIdeal.Skeleton

@[expose] public section

set_option maxRecDepth 16384

noncomputable section

namespace Cert.KernelIdeal.Ssd

open Idealize.ShloMosaic Idealize.SL.Sem Cert.KernelIdeal.Gen

variable {F : FTy → Type} [FloatOps F] [Named F]

theorem sl_col (h : ℕ) (hh : h < 32) : S128x128.Slices ![0, h] S128x1 :=
  ⟨rfl, fun a => by fin_cases a; exacts [(by change 0 + 128 ≤ 128; omega), (by change h + 1 ≤ 128; omega)]⟩

theorem sl_row (h : ℕ) (hh : h < 32) : S128x128.Slices ![h, 0] S1x128 :=
  ⟨rfl, fun a => by fin_cases a; exacts [(by change h + 1 ≤ 128; omega), (by change 0 + 128 ≤ 128; omega)]⟩

theorem sl_x (p : ℕ) (hp : p < 16) : S128x2048.Slices ![0, 128 * p] S128x128 :=
  ⟨rfl, fun a => by fin_cases a; exacts [(by change 0 + 128 ≤ 128; omega), (by change 128 * p + 128 ≤ 2048; omega)]⟩

theorem sl_c (g : ℕ) (hg : g < 4) : S128x512.Slices ![0, 128 * g] S128x128 :=
  ⟨rfl, fun a => by fin_cases a; exacts [(by change 0 + 128 ≤ 128; omega), (by change 128 * g + 128 ≤ 512; omega)]⟩

theorem sl_b (g : ℕ) (hg : g < 4) : S512x128.Slices ![128 * g, 0] S128x128 :=
  ⟨rfl, fun a => by fin_cases a; exacts [(by change 128 * g + 128 ≤ 512; omega), (by change 0 + 128 ≤ 128; omega)]⟩

/-- The products of the rows of `c` and the columns of `b`ᵀ of group `g`. -/
def cbOf (c16 : FVec F S128x512 .bf16) (bT : FVec F S512x128 .bf16) (g : ℕ) (hg : g < 4) : FVec F S128x128 .f32 :=
  matmul dot_S128x128_S128x128_S128x128_1_0_0_1_n_n none (extractStridedSlice S128x128 ![0, 128 * g] c16 (sl_c g hg))
    (extractStridedSlice S128x128 ![128 * g, 0] bT (sl_b g hg)) (constant S128x128 .f32 0x00000000#32)

/-- The exponents of head `h`, in base 2: row `i`, column `j`. -/
def segOf (L a2 : FVec F S128x128 .f32) (h : ℕ) (hh : h < 32) : FVec F S128x128 .f32 :=
  subf (broadcastTo S128x128 (extractStridedSlice S128x1 ![0, h] L (sl_col h hh)) broadcasts_S128x1_S128x128)
    (broadcastTo S128x128 (extractStridedSlice S1x128 ![h, 0] a2 (sl_row h hh)) broadcasts_S1x128_S128x128)

/-- The weights of head `h`: zero above the diagonal. -/
def maskOf (cb L a2 : FVec F S128x128 .f32) (h : ℕ) (hh : h < 32) : FVec F S128x128 .bf16 :=
  truncf .bf16 (mulf cb (exp2 (select k0_pay85 (segOf L a2 h hh) (broadcast S128x128 (Scalar.ofBits .f32 0xFF800000#32)))))
    bitsLt_bf16_f32

/-- The two heads of pair `p`, one below the other, each with the other's columns at zero. -/
def pairOf (x16 : FVec F S128x2048 .bf16) (p : ℕ) (hp : p < 16) : FVec F S256x128 .bf16 :=
  concatenate S256x128 0
    [⟨S128x128, select (broadcastTo S128x128 (shapeCast S1x128 k0_pay86 shapeCasts_S1x128_S1x128) broadcasts_S1x128_S128x128)
        (extractStridedSlice S128x128 ![0, 128 * p] x16 (sl_x p hp)) (broadcast S128x128 (Scalar.ofBits .bf16 0x0000#16))⟩,
     ⟨S128x128, select (broadcastTo S128x128 (shapeCast S1x128 k0_pay86 shapeCasts_S1x128_S1x128) broadcasts_S1x128_S128x128)
        (broadcast S128x128 (Scalar.ofBits .bf16 0x0000#16)) (extractStridedSlice S128x128 ![0, 128 * p] x16 (sl_x p hp))⟩]
    concatenates_S128x128_S128x128_S256x128_d0

/-- What the chunk's own tokens give the columns of the pair of heads `p`. -/
def tileOf (cb L a2 : FVec F S128x128 .f32) (x16 : FVec F S128x2048 .bf16) (p : ℕ) (hp : p < 16) : FVec F S128x128 .f32 :=
  matmul dot_S128x256_S256x128_S128x128_1_0_0_1_n_n none
    (concatenate S128x256 1 [⟨S128x128, maskOf cb L a2 (2 * p) (by omega)⟩, ⟨S128x128, maskOf cb L a2 (2 * p + 1) (by omega)⟩]
      concatenates_S128x128_S128x128_S128x256_d1)
    (pairOf x16 p hp) (constant S128x128 .f32 0x00000000#32)

/-- What the chunk's own tokens give every column. -/
def intraOf (L a2 : FVec F S128x128 .f32) (x16 : FVec F S128x2048 .bf16) (c16 : FVec F S128x512 .bf16)
    (bT : FVec F S512x128 .bf16) : FVec F S128x2048 .f32 :=
  concatenate S128x2048 1
    [⟨S128x128, tileOf (cbOf c16 bT 0 (by decide)) L a2 x16 0 (by decide)⟩,
     ⟨S128x128, tileOf (cbOf c16 bT 0 (by decide)) L a2 x16 1 (by decide)⟩,
     ⟨S128x128, tileOf (cbOf c16 bT 0 (by decide)) L a2 x16 2 (by decide)⟩,
     ⟨S128x128, tileOf (cbOf c16 bT 0 (by decide)) L a2 x16 3 (by decide)⟩,
     ⟨S128x128, tileOf (cbOf c16 bT 1 (by decide)) L a2 x16 4 (by decide)⟩,
     ⟨S128x128, tileOf (cbOf c16 bT 1 (by decide)) L a2 x16 5 (by decide)⟩,
     ⟨S128x128, tileOf (cbOf c16 bT 1 (by decide)) L a2 x16 6 (by decide)⟩,
     ⟨S128x128, tileOf (cbOf c16 bT 1 (by decide)) L a2 x16 7 (by decide)⟩,
     ⟨S128x128, tileOf (cbOf c16 bT 2 (by decide)) L a2 x16 8 (by decide)⟩,
     ⟨S128x128, tileOf (cbOf c16 bT 2 (by decide)) L a2 x16 9 (by decide)⟩,
     ⟨S128x128, tileOf (cbOf c16 bT 2 (by decide)) L a2 x16 10 (by decide)⟩,
     ⟨S128x128, tileOf (cbOf c16 bT 2 (by decide)) L a2 x16 11 (by decide)⟩,
     ⟨S128x128, tileOf (cbOf c16 bT 3 (by decide)) L a2 x16 12 (by decide)⟩,
     ⟨S128x128, tileOf (cbOf c16 bT 3 (by decide)) L a2 x16 13 (by decide)⟩,
     ⟨S128x128, tileOf (cbOf c16 bT 3 (by decide)) L a2 x16 14 (by decide)⟩,
     ⟨S128x128, tileOf (cbOf c16 bT 3 (by decide)) L a2 x16 15 (by decide)⟩]
    concatenates_S128x128_S128x128_S128x128_S128x128_S128x128_S128x128_S128x128_S128x128_S128x128_S128x128_S128x128_S128x128_S128x128_S128x128_S128x128_S128x128_S128x2048_d1

/-- The decays summed up to each token, per head, three thirds of the sum in one product. -/
def acumOf (d : Vec F S128x128 .f32) (b al : Vec F S1x1x128 .f32) : FVec F S128x128 .f32 :=
  k0_pay6 k0_pay4 (k0_pay5 d b al)

/-- The same less the logarithm of the step, in base 2, one head to a row. -/
def a2Of (d : Vec F S128x128 .f32) (b al : Vec F S1x1x128 .f32) : FVec F S128x128 .f32 :=
  k0_pay7 (k0_pay3 d b) k0_pay4 (k0_pay5 d b al)

/-- The decays spread over each head's columns: to each token, from each token with its step, over the chunk. -/
def qeOf (d : Vec F S128x128 .f32) (b al : Vec F S1x1x128 .f32) (e : Vec F S128x2048 .bf16) : FVec F S264x2048 .f32 :=
  k0_pay8 (k0_pay3 d b) k0_pay4 (k0_pay5 d b al) e

/-- A chunk's rows of `y` from the state before it. -/
def yOf (d : Vec F S128x128 .f32) (b al : Vec F S1x1x128 .f32) (e : Vec F S128x2048 .bf16) (x : Vec F S128x3072 .bf16)
    (D : Vec F S1x1x2048 .f32) (st : Vec F S128x2048 .f32) : FVec F S128x2048 .bf16 :=
  k0_pay278 (k0_pay11 (qeOf d b al e)) (k0_pay15 x) (k0_pay16 x)
    (intraOf (k0_pay10 (acumOf d b al) k0_pay9) (a2Of d b al) (k0_pay84 (k0_pay15 x)) (k0_pay16 x) (k0_pay17 x))
    (k0_pay272 st) (k0_pay273 (k0_pay16 x) st) (k0_pay274 (k0_pay16 x) st) (k0_pay275 (k0_pay16 x)) (k0_pay276 st) D

/-- The state after a chunk from the state before it. -/
def stOf (d : Vec F S128x128 .f32) (b al : Vec F S1x1x128 .f32) (e : Vec F S128x2048 .bf16) (x : Vec F S128x3072 .bf16)
    (st : Vec F S128x2048 .f32) : FVec F S128x2048 .f32 :=
  k0_pay277 (k0_pay13 (qeOf d b al e)) (k0_pay17 x) (k0_pay271 (k0_pay12 (qeOf d b al e)) (k0_pay15 x)) st

end Cert.KernelIdeal.Ssd

end
-- ==== Proof.Ssd.Chunks.lean ====
/- The stored values of the four chunks of a block are the chunk's words at that chunk's loads. -/
module

public import proofs.«01_k».proof.Proof.Ssd.Vocab

@[expose] public section

set_option maxRecDepth 16384

noncomputable section

namespace Cert.KernelIdeal.Ssd

open Idealize.ShloMosaic Idealize.SL.Sem Cert.KernelIdeal.Gen

variable {F : FTy → Type} [FloatOps F] [Named F]

set_option maxHeartbeats 1600000 in
theorem y_chunk0 (d : Vec F S128x128 .f32) (b al : Vec F S1x1x128 .f32) (e : Vec F S128x2048 .bf16) (x : Vec F S128x3072 .bf16) (D : Vec F S1x1x2048 .f32) (st : Vec F S128x2048 .f32) :
    k0_pay278 (k0_pay11 (k0_pay8 (k0_pay3 d b) (k0_pay4 (F := F)) (k0_pay5 d b al) e)) (k0_pay15 x) (k0_pay16 x) (k0_pay135 (k0_pay7 (k0_pay3 d b) (k0_pay4 (F := F)) (k0_pay5 d b al)) (k0_pay10 (k0_pay6 (k0_pay4 (F := F)) (k0_pay5 d b al)) (k0_pay9 (F := F))) k0_pay85 (k0_pay91 (k0_pay7 (k0_pay3 d b) (k0_pay4 (F := F)) (k0_pay5 d b al)) (k0_pay10 (k0_pay6 (k0_pay4 (F := F)) (k0_pay5 d b al)) (k0_pay9 (F := F))) k0_pay85 k0_pay86 (k0_pay87 (k0_pay16 x) (k0_pay17 x)) (k0_pay88 (k0_pay15 x)) (k0_pay89 (F := F)) k0_pay90) (k0_pay95 (k0_pay87 (k0_pay16 x) (k0_pay17 x)) (k0_pay92 (k0_pay84 (k0_pay15 x)) k0_pay86) (k0_pay93 (k0_pay7 (k0_pay3 d b) (k0_pay4 (F := F)) (k0_pay5 d b al)) (k0_pay10 (k0_pay6 (k0_pay4 (F := F)) (k0_pay5 d b al)) (k0_pay9 (F := F))) k0_pay85 (k0_pay87 (k0_pay16 x) (k0_pay17 x))) (k0_pay94 (k0_pay7 (k0_pay3 d b) (k0_pay4 (F := F)) (k0_pay5 d b al)) (k0_pay10 (k0_pay6 (k0_pay4 (F := F)) (k0_pay5 d b al)) (k0_pay9 (F := F))) k0_pay85)) (k0_pay96 (k0_pay7 (k0_pay3 d b) (k0_pay4 (F := F)) (k0_pay5 d b al)) (k0_pay10 (k0_pay6 (k0_pay4 (F := F)) (k0_pay5 d b al)) (k0_pay9 (F := F))) (k0_pay84 (k0_pay15 x)) k0_pay85 k0_pay86 (k0_pay87 (k0_pay16 x) (k0_pay17 x))) (k0_pay99 (k0_pay7 (k0_pay3 d b) (k0_pay4 (F := F)) (k0_pay5 d b al)) (k0_pay10 (k0_pay6 (k0_pay4 (F := F)) (k0_pay5 d b al)) (k0_pay9 (F := F))) k0_pay85 (k0_pay87 (k0_pay16 x) (k0_pay17 x)) (k0_pay97 (k0_pay84 (k0_pay15 x)) k0_pay86) (k0_pay98 (k0_pay7 (k0_pay3 d b) (k0_pay4 (F := F)) (k0_pay5 d b al)) (k0_pay10 (k0_pay6 (k0_pay4 (F := F)) (k0_pay5 d b al)) (k0_pay9 (F := F))) k0_pay85)) (k0_pay101 (k0_pay7 (k0_pay3 d b) (k0_pay4 (F := F)) (k0_pay5 d b al)) (k0_pay10 (k0_pay6 (k0_pay4 (F := F)) (k0_pay5 d b al)) (k0_pay9 (F := F))) (k0_pay16 x) (k0_pay17 x) (k0_pay84 (k0_pay15 x)) k0_pay85 k0_pay86) (k0_pay105 (k0_pay7 (k0_pay3 d b) (k0_pay4 (F := F)) (k0_pay5 d b al)) (k0_pay10 (k0_pay6 (k0_pay4 (F := F)) (k0_pay5 d b al)) (k0_pay9 (F := F))) k0_pay85 k0_pay86 (k0_pay100 (k0_pay16 x) (k0_pay17 x)) (k0_pay102 (k0_pay84 (k0_pay15 x))) (k0_pay103 (F := F)) (k0_pay104 k0_pay86)) (k0_pay109 (k0_pay100 (k0_pay16 x) (k0_pay17 x)) (k0_pay106 (k0_pay84 (k0_pay15 x)) k0_pay86) (k0_pay107 (k0_pay7 (k0_pay3 d b) (k0_pay4 (F := F)) (k0_pay5 d b al)) (k0_pay10 (k0_pay6 (k0_pay4 (F := F)) (k0_pay5 d b al)) (k0_pay9 (F := F))) k0_pay85 (k0_pay100 (k0_pay16 x) (k0_pay17 x))) (k0_pay108 (k0_pay7 (k0_pay3 d b) (k0_pay4 (F := F)) (k0_pay5 d b al)) (k0_pay10 (k0_pay6 (k0_pay4 (F := F)) (k0_pay5 d b al)) (k0_pay9 (F := F))) k0_pay85)) (k0_pay110 (k0_pay7 (k0_pay3 d b) (k0_pay4 (F := F)) (k0_pay5 d b al)) (k0_pay10 (k0_pay6 (k0_pay4 (F := F)) (k0_pay5 d b al)) (k0_pay9 (F := F))) (k0_pay84 (k0_pay15 x)) k0_pay85 k0_pay86 (k0_pay100 (k0_pay16 x) (k0_pay17 x))) (k0_pay114 (k0_pay7 (k0_pay3 d b) (k0_pay4 (F := F)) (k0_pay5 d b al)) (k0_pay10 (k0_pay6 (k0_pay4 (F := F)) (k0_pay5 d b al)) (k0_pay9 (F := F))) k0_pay85 (k0_pay111 (k0_pay16 x) (k0_pay17 x)) (k0_pay112 (k0_pay84 (k0_pay15 x)) k0_pay86) (k0_pay113 (k0_pay7 (k0_pay3 d b) (k0_pay4 (F := F)) (k0_pay5 d b al)) (k0_pay10 (k0_pay6 (k0_pay4 (F := F)) (k0_pay5 d b al)) (k0_pay9 (F := F)))) (Scalar.ofBits .f32 0xFF800000#32)) (k0_pay115 (k0_pay7 (k0_pay3 d b) (k0_pay4 (F := F)) (k0_pay5 d b al)) (k0_pay10 (k0_pay6 (k0_pay4 (F := F)) (k0_pay5 d b al)) (k0_pay9 (F := F))) (k0_pay84 (k0_pay15 x)) k0_pay85 k0_pay86 (k0_pay111 (k0_pay16 x) (k0_pay17 x))) (k0_pay119 (k0_pay7 (k0_pay3 d b) (k0_pay4 (F := F)) (k0_pay5 d b al)) (k0_pay10 (k0_pay6 (k0_pay4 (F := F)) (k0_pay5 d b al)) (k0_pay9 (F := F))) k0_pay85 k0_pay86 (k0_pay111 (k0_pay16 x) (k0_pay17 x)) (k0_pay116 (k0_pay84 (k0_pay15 x))) (k0_pay117 (F := F)) (k0_pay118 (k0_pay84 (k0_pay15 x)) k0_pay86)) (k0_pay123 (k0_pay120 (k0_pay84 (k0_pay15 x)) k0_pay86) (k0_pay121 (k0_pay7 (k0_pay3 d b) (k0_pay4 (F := F)) (k0_pay5 d b al)) (k0_pay10 (k0_pay6 (k0_pay4 (F := F)) (k0_pay5 d b al)) (k0_pay9 (F := F))) k0_pay85 (k0_pay111 (k0_pay16 x) (k0_pay17 x))) (k0_pay122 (k0_pay7 (k0_pay3 d b) (k0_pay4 (F := F)) (k0_pay5 d b al)) (k0_pay10 (k0_pay6 (k0_pay4 (F := F)) (k0_pay5 d b al)) (k0_pay9 (F := F))) k0_pay85 (k0_pay111 (k0_pay16 x) (k0_pay17 x)))) (k0_pay124 (k0_pay16 x) (k0_pay17 x)) (k0_pay125 (k0_pay7 (k0_pay3 d b) (k0_pay4 (F := F)) (k0_pay5 d b al)) (k0_pay10 (k0_pay6 (k0_pay4 (F := F)) (k0_pay5 d b al)) (k0_pay9 (F := F))) (k0_pay16 x) (k0_pay17 x) (k0_pay84 (k0_pay15 x)) k0_pay85 k0_pay86) (k0_pay129 (k0_pay7 (k0_pay3 d b) (k0_pay4 (F := F)) (k0_pay5 d b al)) (k0_pay10 (k0_pay6 (k0_pay4 (F := F)) (k0_pay5 d b al)) (k0_pay9 (F := F))) k0_pay85 (k0_pay124 (k0_pay16 x) (k0_pay17 x)) (k0_pay126 (k0_pay84 (k0_pay15 x)) k0_pay86) (k0_pay127 (k0_pay7 (k0_pay3 d b) (k0_pay4 (F := F)) (k0_pay5 d b al)) (k0_pay10 (k0_pay6 (k0_pay4 (F := F)) (k0_pay5 d b al)) (k0_pay9 (F := F)))) (k0_pay128 (F := F))) (k0_pay130 (k0_pay7 (k0_pay3 d b) (k0_pay4 (F := F)) (k0_pay5 d b al)) (k0_pay10 (k0_pay6 (k0_pay4 (F := F)) (k0_pay5 d b al)) (k0_pay9 (F := F))) (k0_pay84 (k0_pay15 x)) k0_pay85 k0_pay86 (k0_pay124 (k0_pay16 x) (k0_pay17 x))) (k0_pay131 (k0_pay84 (k0_pay15 x))) (k0_pay132 (F := F)) (k0_pay133 (k0_pay84 (k0_pay15 x)) k0_pay86) (k0_pay134 k0_pay86)) (k0_pay272 st) (k0_pay273 (k0_pay16 x) st) (k0_pay274 (k0_pay16 x) st) (k0_pay275 (k0_pay16 x)) (k0_pay276 st) D = yOf d b al e x D st := rfl

set_option maxHeartbeats 1600000 in
theorem st_chunk0 (d : Vec F S128x128 .f32) (b al : Vec F S1x1x128 .f32) (e : Vec F S128x2048 .bf16) (x : Vec F S128x3072 .bf16) (st : Vec F S128x2048 .f32) :
    k0_pay277 (k0_pay13 (k0_pay8 (k0_pay3 d b) (k0_pay4 (F := F)) (k0_pay5 d b al) e)) (k0_pay17 x) (k0_pay271 (k0_pay12 (k0_pay8 (k0_pay3 d b) (k0_pay4 (F := F)) (k0_pay5 d b al) e)) (k0_pay15 x)) st = stOf d b al e x st := rfl

set_option maxHeartbeats 1600000 in
theorem y_chunk1 (d : Vec F S128x128 .f32) (b al : Vec F S1x1x128 .f32) (e : Vec F S128x2048 .bf16) (x : Vec F S128x3072 .bf16) (D : Vec F S1x1x2048 .f32) (st : Vec F S128x2048 .f32) :
    k0_pay285 (k0_pay35 (k0_pay25 e) (k0_pay26 (k0_pay18 d b) (k0_pay19 d b al) (k0_pay20 (F := F)) (k0_pay21 d b al)) k0_pay29 (k0_pay30 (k0_pay18 d b) (k0_pay19 d b al) (k0_pay20 (F := F)) (k0_pay21 d b al)) (k0_pay31 (k0_pay18 d b) (k0_pay19 d b al) (k0_pay20 (F := F)) (k0_pay21 d b al)) k0_pay32) (k0_pay39 x) (k0_pay40 x) (k0_pay184 (k0_pay23 (k0_pay18 d b) (k0_pay19 d b al) (k0_pay20 (F := F)) (k0_pay21 d b al)) k0_pay137 (k0_pay142 (k0_pay23 (k0_pay18 d b) (k0_pay19 d b al) (k0_pay20 (F := F)) (k0_pay21 d b al)) (k0_pay34 (k0_pay22 (k0_pay19 d b al) (k0_pay20 (F := F)) (k0_pay21 d b al))) k0_pay137 (k0_pay139 (k0_pay40 x) (k0_pay41 x)) (k0_pay140 (k0_pay39 x)) (k0_pay141 (k0_pay23 (k0_pay18 d b) (k0_pay19 d b al) (k0_pay20 (F := F)) (k0_pay21 d b al)) (k0_pay34 (k0_pay22 (k0_pay19 d b al) (k0_pay20 (F := F)) (k0_pay21 d b al))))) (k0_pay143 (k0_pay23 (k0_pay18 d b) (k0_pay19 d b al) (k0_pay20 (F := F)) (k0_pay21 d b al)) (k0_pay34 (k0_pay22 (k0_pay19 d b al) (k0_pay20 (F := F)) (k0_pay21 d b al))) (k0_pay136 (k0_pay39 x)) k0_pay137 k0_pay138 (k0_pay139 (k0_pay40 x) (k0_pay41 x))) (k0_pay148 (k0_pay23 (k0_pay18 d b) (k0_pay19 d b al) (k0_pay20 (F := F)) (k0_pay21 d b al)) (k0_pay34 (k0_pay22 (k0_pay19 d b al) (k0_pay20 (F := F)) (k0_pay21 d b al))) k0_pay137 (k0_pay139 (k0_pay40 x) (k0_pay41 x)) (k0_pay146 (k0_pay136 (k0_pay39 x)) k0_pay138) (k0_pay147 (k0_pay136 (k0_pay39 x)) k0_pay138)) (k0_pay151 (k0_pay149 (k0_pay136 (k0_pay39 x)) k0_pay138) (k0_pay150 (k0_pay23 (k0_pay18 d b) (k0_pay19 d b al) (k0_pay20 (F := F)) (k0_pay21 d b al)) (k0_pay34 (k0_pay22 (k0_pay19 d b al) (k0_pay20 (F := F)) (k0_pay21 d b al))) k0_pay137 (k0_pay139 (k0_pay40 x) (k0_pay41 x))) (constant S128x128 .f32 0x00000000#32)) (k0_pay153 (k0_pay23 (k0_pay18 d b) (k0_pay19 d b al) (k0_pay20 (F := F)) (k0_pay21 d b al)) (k0_pay34 (k0_pay22 (k0_pay19 d b al) (k0_pay20 (F := F)) (k0_pay21 d b al))) (k0_pay40 x) (k0_pay41 x) (k0_pay136 (k0_pay39 x)) k0_pay137 k0_pay138) (k0_pay156 (k0_pay23 (k0_pay18 d b) (k0_pay19 d b al) (k0_pay20 (F := F)) (k0_pay21 d b al)) (k0_pay34 (k0_pay22 (k0_pay19 d b al) (k0_pay20 (F := F)) (k0_pay21 d b al))) k0_pay137 (k0_pay152 (k0_pay40 x) (k0_pay41 x)) (k0_pay154 (k0_pay136 (k0_pay39 x)) k0_pay138) (k0_pay155 (k0_pay23 (k0_pay18 d b) (k0_pay19 d b al) (k0_pay20 (F := F)) (k0_pay21 d b al)) (k0_pay34 (k0_pay22 (k0_pay19 d b al) (k0_pay20 (F := F)) (k0_pay21 d b al))) (k0_pay40 x) (k0_pay41 x) k0_pay137)) (k0_pay157 (k0_pay23 (k0_pay18 d b) (k0_pay19 d b al) (k0_pay20 (F := F)) (k0_pay21 d b al)) (k0_pay34 (k0_pay22 (k0_pay19 d b al) (k0_pay20 (F := F)) (k0_pay21 d b al))) (k0_pay136 (k0_pay39 x)) k0_pay137 k0_pay138 (k0_pay152 (k0_pay40 x) (k0_pay41 x))) (k0_pay159 (k0_pay23 (k0_pay18 d b) (k0_pay19 d b al) (k0_pay20 (F := F)) (k0_pay21 d b al)) (k0_pay34 (k0_pay22 (k0_pay19 d b al) (k0_pay20 (F := F)) (k0_pay21 d b al))) k0_pay137 (k0_pay152 (k0_pay40 x) (k0_pay41 x)) (k0_pay158 (k0_pay136 (k0_pay39 x)) k0_pay138)) (k0_pay164 (k0_pay161 (k0_pay136 (k0_pay39 x)) k0_pay138) (k0_pay162 (k0_pay23 (k0_pay18 d b) (k0_pay19 d b al) (k0_pay20 (F := F)) (k0_pay21 d b al)) (k0_pay34 (k0_pay22 (k0_pay19 d b al) (k0_pay20 (F := F)) (k0_pay21 d b al))) (k0_pay40 x) (k0_pay41 x) k0_pay137) (k0_pay163 (k0_pay23 (k0_pay18 d b) (k0_pay19 d b al) (k0_pay20 (F := F)) (k0_pay21 d b al)) (k0_pay34 (k0_pay22 (k0_pay19 d b al) (k0_pay20 (F := F)) (k0_pay21 d b al))) (k0_pay40 x) (k0_pay41 x) k0_pay137)) (k0_pay165 (k0_pay23 (k0_pay18 d b) (k0_pay19 d b al) (k0_pay20 (F := F)) (k0_pay21 d b al)) (k0_pay34 (k0_pay22 (k0_pay19 d b al) (k0_pay20 (F := F)) (k0_pay21 d b al))) (k0_pay136 (k0_pay39 x)) k0_pay137 k0_pay138 (k0_pay160 (k0_pay40 x) (k0_pay41 x))) (k0_pay168 (k0_pay23 (k0_pay18 d b) (k0_pay19 d b al) (k0_pay20 (F := F)) (k0_pay21 d b al)) (k0_pay34 (k0_pay22 (k0_pay19 d b al) (k0_pay20 (F := F)) (k0_pay21 d b al))) k0_pay137 (k0_pay160 (k0_pay40 x) (k0_pay41 x)) (k0_pay166 (k0_pay136 (k0_pay39 x)) k0_pay138) (k0_pay167 (k0_pay23 (k0_pay18 d b) (k0_pay19 d b al) (k0_pay20 (F := F)) (k0_pay21 d b al)) (k0_pay34 (k0_pay22 (k0_pay19 d b al) (k0_pay20 (F := F)) (k0_pay21 d b al))) k0_pay137 (k0_pay160 (k0_pay40 x) (k0_pay41 x)))) (k0_pay169 (k0_pay23 (k0_pay18 d b) (k0_pay19 d b al) (k0_pay20 (F := F)) (k0_pay21 d b al)) (k0_pay34 (k0_pay22 (k0_pay19 d b al) (k0_pay20 (F := F)) (k0_pay21 d b al))) (k0_pay136 (k0_pay39 x)) k0_pay137 k0_pay138 (k0_pay160 (k0_pay40 x) (k0_pay41 x))) (k0_pay170 (k0_pay40 x) (k0_pay41 x)) (k0_pay175 (k0_pay23 (k0_pay18 d b) (k0_pay19 d b al) (k0_pay20 (F := F)) (k0_pay21 d b al)) (k0_pay34 (k0_pay22 (k0_pay19 d b al) (k0_pay20 (F := F)) (k0_pay21 d b al))) k0_pay137 (k0_pay170 (k0_pay40 x) (k0_pay41 x)) (k0_pay171 (k0_pay136 (k0_pay39 x))) (k0_pay172 (F := F)) (k0_pay173 (k0_pay136 (k0_pay39 x)) k0_pay138) (k0_pay174 k0_pay138)) (k0_pay179 (k0_pay176 (k0_pay136 (k0_pay39 x)) k0_pay138) (k0_pay177 (k0_pay23 (k0_pay18 d b) (k0_pay19 d b al) (k0_pay20 (F := F)) (k0_pay21 d b al)) (k0_pay34 (k0_pay22 (k0_pay19 d b al) (k0_pay20 (F := F)) (k0_pay21 d b al))) k0_pay137 (k0_pay170 (k0_pay40 x) (k0_pay41 x))) (k0_pay178 (k0_pay23 (k0_pay18 d b) (k0_pay19 d b al) (k0_pay20 (F := F)) (k0_pay21 d b al)) (k0_pay34 (k0_pay22 (k0_pay19 d b al) (k0_pay20 (F := F)) (k0_pay21 d b al))) k0_pay137 (k0_pay170 (k0_pay40 x) (k0_pay41 x)))) (k0_pay180 (k0_pay23 (k0_pay18 d b) (k0_pay19 d b al) (k0_pay20 (F := F)) (k0_pay21 d b al)) (k0_pay34 (k0_pay22 (k0_pay19 d b al) (k0_pay20 (F := F)) (k0_pay21 d b al))) (k0_pay136 (k0_pay39 x)) k0_pay137 k0_pay138 (k0_pay170 (k0_pay40 x) (k0_pay41 x))) (k0_pay181 (k0_pay136 (k0_pay39 x)) k0_pay138) (k0_pay182 (k0_pay23 (k0_pay18 d b) (k0_pay19 d b al) (k0_pay20 (F := F)) (k0_pay21 d b al)) (k0_pay34 (k0_pay22 (k0_pay19 d b al) (k0_pay20 (F := F)) (k0_pay21 d b al))) k0_pay137 (k0_pay170 (k0_pay40 x) (k0_pay41 x))) (k0_pay183 (k0_pay34 (k0_pay22 (k0_pay19 d b al) (k0_pay20 (F := F)) (k0_pay21 d b al))))) (k0_pay280 st) (k0_pay281 (k0_pay40 x) st) (k0_pay282 (k0_pay40 x)) (k0_pay283 st) D = yOf d b al e x D st := rfl

set_option maxHeartbeats 1600000 in
theorem st_chunk1 (d : Vec F S128x128 .f32) (b al : Vec F S1x1x128 .f32) (e : Vec F S128x2048 .bf16) (x : Vec F S128x3072 .bf16) (st : Vec F S128x2048 .f32) :
    k0_pay284 (k0_pay37 (k0_pay25 e) (k0_pay26 (k0_pay18 d b) (k0_pay19 d b al) (k0_pay20 (F := F)) (k0_pay21 d b al)) k0_pay29 (k0_pay30 (k0_pay18 d b) (k0_pay19 d b al) (k0_pay20 (F := F)) (k0_pay21 d b al)) (k0_pay31 (k0_pay18 d b) (k0_pay19 d b al) (k0_pay20 (F := F)) (k0_pay21 d b al)) k0_pay32) (k0_pay41 x) (k0_pay279 (k0_pay36 (k0_pay25 e) (k0_pay26 (k0_pay18 d b) (k0_pay19 d b al) (k0_pay20 (F := F)) (k0_pay21 d b al)) k0_pay29 (k0_pay30 (k0_pay18 d b) (k0_pay19 d b al) (k0_pay20 (F := F)) (k0_pay21 d b al)) (k0_pay31 (k0_pay18 d b) (k0_pay19 d b al) (k0_pay20 (F := F)) (k0_pay21 d b al)) k0_pay32) (k0_pay39 x)) st = stOf d b al e x st := rfl

set_option maxHeartbeats 1600000 in
theorem y_chunk2 (d : Vec F S128x128 .f32) (b al : Vec F S1x1x128 .f32) (e : Vec F S128x2048 .bf16) (x : Vec F S128x3072 .bf16) (D : Vec F S1x1x2048 .f32) (st : Vec F S128x2048 .f32) :
    k0_pay291 (k0_pay58 (k0_pay47 e) (k0_pay48 (k0_pay42 d b) (k0_pay43 al)) (k0_pay51 (k0_pay42 d b) (k0_pay43 al)) k0_pay52 k0_pay53 (k0_pay54 (k0_pay42 d b) (k0_pay43 al)) k0_pay55) (k0_pay62 x) (k0_pay63 x) (k0_pay226 (k0_pay45 (k0_pay42 d b) (k0_pay43 al)) (k0_pay57 (k0_pay44 (k0_pay42 d b) (k0_pay43 al))) (k0_pay185 (k0_pay62 x)) k0_pay186 k0_pay187 (k0_pay191 (k0_pay189 (k0_pay62 x)) (k0_pay190 (k0_pay45 (k0_pay42 d b) (k0_pay43 al)) (k0_pay57 (k0_pay44 (k0_pay42 d b) (k0_pay43 al))) (k0_pay63 x) (k0_pay64 x)) (constant S128x128 .f32 0x00000000#32)) (k0_pay192 (k0_pay45 (k0_pay42 d b) (k0_pay43 al)) (k0_pay57 (k0_pay44 (k0_pay42 d b) (k0_pay43 al))) (k0_pay185 (k0_pay62 x)) k0_pay186 k0_pay187 (k0_pay188 (k0_pay63 x) (k0_pay64 x))) (k0_pay197 k0_pay186 (k0_pay188 (k0_pay63 x) (k0_pay64 x)) (k0_pay193 (k0_pay185 (k0_pay62 x)) k0_pay187) (k0_pay194 (k0_pay45 (k0_pay42 d b) (k0_pay43 al)) (k0_pay57 (k0_pay44 (k0_pay42 d b) (k0_pay43 al))) k0_pay186 (k0_pay188 (k0_pay63 x) (k0_pay64 x))) (k0_pay195 (k0_pay45 (k0_pay42 d b) (k0_pay43 al))) (k0_pay196 (k0_pay57 (k0_pay44 (k0_pay42 d b) (k0_pay43 al))))) (k0_pay198 (k0_pay45 (k0_pay42 d b) (k0_pay43 al)) (k0_pay57 (k0_pay44 (k0_pay42 d b) (k0_pay43 al))) (k0_pay185 (k0_pay62 x)) k0_pay186 k0_pay187 (k0_pay188 (k0_pay63 x) (k0_pay64 x))) (k0_pay201 (k0_pay45 (k0_pay42 d b) (k0_pay43 al)) (k0_pay57 (k0_pay44 (k0_pay42 d b) (k0_pay43 al))) k0_pay186 (k0_pay199 (k0_pay63 x) (k0_pay64 x)) (k0_pay200 (k0_pay185 (k0_pay62 x)) k0_pay187)) (k0_pay202 (k0_pay45 (k0_pay42 d b) (k0_pay43 al)) (k0_pay57 (k0_pay44 (k0_pay42 d b) (k0_pay43 al))) (k0_pay185 (k0_pay62 x)) k0_pay186 k0_pay187 (k0_pay199 (k0_pay63 x) (k0_pay64 x))) (k0_pay203 (k0_pay45 (k0_pay42 d b) (k0_pay43 al)) (k0_pay57 (k0_pay44 (k0_pay42 d b) (k0_pay43 al))) (k0_pay185 (k0_pay62 x)) k0_pay186 k0_pay187 (k0_pay199 (k0_pay63 x) (k0_pay64 x))) (k0_pay208 k0_pay186 (k0_pay199 (k0_pay63 x) (k0_pay64 x)) (k0_pay204 (k0_pay185 (k0_pay62 x)) k0_pay187) (k0_pay205 (k0_pay45 (k0_pay42 d b) (k0_pay43 al)) (k0_pay57 (k0_pay44 (k0_pay42 d b) (k0_pay43 al))) k0_pay186 (k0_pay199 (k0_pay63 x) (k0_pay64 x))) (k0_pay206 (k0_pay57 (k0_pay44 (k0_pay42 d b) (k0_pay43 al)))) (k0_pay207 (k0_pay45 (k0_pay42 d b) (k0_pay43 al)))) (k0_pay210 (k0_pay45 (k0_pay42 d b) (k0_pay43 al)) (k0_pay57 (k0_pay44 (k0_pay42 d b) (k0_pay43 al))) (k0_pay63 x) (k0_pay64 x) (k0_pay185 (k0_pay62 x)) k0_pay186 k0_pay187) (k0_pay213 (k0_pay45 (k0_pay42 d b) (k0_pay43 al)) (k0_pay57 (k0_pay44 (k0_pay42 d b) (k0_pay43 al))) k0_pay186 (k0_pay209 (k0_pay63 x) (k0_pay64 x)) (k0_pay211 (k0_pay185 (k0_pay62 x)) k0_pay187) (k0_pay212 (k0_pay57 (k0_pay44 (k0_pay42 d b) (k0_pay43 al))))) (k0_pay214 (k0_pay45 (k0_pay42 d b) (k0_pay43 al)) (k0_pay57 (k0_pay44 (k0_pay42 d b) (k0_pay43 al))) (k0_pay185 (k0_pay62 x)) k0_pay186 k0_pay187 (k0_pay209 (k0_pay63 x) (k0_pay64 x))) (k0_pay216 (k0_pay45 (k0_pay42 d b) (k0_pay43 al)) (k0_pay57 (k0_pay44 (k0_pay42 d b) (k0_pay43 al))) k0_pay186 k0_pay187 (k0_pay209 (k0_pay63 x) (k0_pay64 x)) (k0_pay215 (k0_pay185 (k0_pay62 x)))) (k0_pay217 (k0_pay63 x) (k0_pay64 x)) (k0_pay221 (k0_pay45 (k0_pay42 d b) (k0_pay43 al)) k0_pay186 (k0_pay217 (k0_pay63 x) (k0_pay64 x)) (k0_pay218 (k0_pay185 (k0_pay62 x)) k0_pay187) (k0_pay219 (k0_pay45 (k0_pay42 d b) (k0_pay43 al)) (k0_pay57 (k0_pay44 (k0_pay42 d b) (k0_pay43 al))) (k0_pay63 x) (k0_pay64 x) k0_pay186) (k0_pay220 (k0_pay57 (k0_pay44 (k0_pay42 d b) (k0_pay43 al))))) (k0_pay222 (k0_pay45 (k0_pay42 d b) (k0_pay43 al)) (k0_pay57 (k0_pay44 (k0_pay42 d b) (k0_pay43 al))) (k0_pay185 (k0_pay62 x)) k0_pay186 k0_pay187 (k0_pay217 (k0_pay63 x) (k0_pay64 x))) (k0_pay223 (k0_pay185 (k0_pay62 x)) k0_pay187) (k0_pay224 (k0_pay57 (k0_pay44 (k0_pay42 d b) (k0_pay43 al)))) (k0_pay225 (k0_pay45 (k0_pay42 d b) (k0_pay43 al)))) (k0_pay287 st) (k0_pay288 (k0_pay63 x)) (k0_pay289 st) D = yOf d b al e x D st := rfl

set_option maxHeartbeats 1600000 in
theorem st_chunk2 (d : Vec F S128x128 .f32) (b al : Vec F S1x1x128 .f32) (e : Vec F S128x2048 .bf16) (x : Vec F S128x3072 .bf16) (st : Vec F S128x2048 .f32) :
    k0_pay290 (k0_pay60 (k0_pay47 e) (k0_pay48 (k0_pay42 d b) (k0_pay43 al)) (k0_pay51 (k0_pay42 d b) (k0_pay43 al)) k0_pay52 k0_pay53 (k0_pay54 (k0_pay42 d b) (k0_pay43 al)) k0_pay55) (k0_pay64 x) (k0_pay286 (k0_pay59 (k0_pay47 e) (k0_pay48 (k0_pay42 d b) (k0_pay43 al)) (k0_pay51 (k0_pay42 d b) (k0_pay43 al)) k0_pay52 k0_pay53 (k0_pay54 (k0_pay42 d b) (k0_pay43 al)) k0_pay55) (k0_pay62 x)) st = stOf d b al e x st := rfl

set_option maxHeartbeats 1600000 in
theorem y_chunk3 (d : Vec F S128x128 .f32) (b al : Vec F S1x1x128 .f32) (e : Vec F S128x2048 .bf16) (x : Vec F S128x3072 .bf16) (D : Vec F S1x1x2048 .f32) (st : Vec F S128x2048 .f32) :
    k0_pay294 (k0_pay77 (k0_pay69 e) (k0_pay70 (k0_pay65 d b) al) (k0_pay72 (k0_pay65 d b) al) (k0_pay73 (k0_pay65 d b) al) (iota .tc S1x128 32 [1] iota_S1x128_d1_w32) k0_pay74) (k0_pay81 x) (k0_pay82 x) (k0_pay270 (k0_pay67 (k0_pay65 d b) al) (k0_pay76 (k0_pay66 (k0_pay65 d b) al)) (k0_pay227 (k0_pay81 x)) k0_pay228 k0_pay229 (k0_pay231 (k0_pay67 (k0_pay65 d b) al) (k0_pay76 (k0_pay66 (k0_pay65 d b) al)) (k0_pay82 x) (k0_pay83 x) (k0_pay227 (k0_pay81 x))) (k0_pay235 (k0_pay67 (k0_pay65 d b) al) (k0_pay76 (k0_pay66 (k0_pay65 d b) al)) k0_pay228 (k0_pay230 (k0_pay82 x) (k0_pay83 x)) (k0_pay232 (k0_pay227 (k0_pay81 x))) (k0_pay233 (k0_pay76 (k0_pay66 (k0_pay65 d b) al))) (k0_pay234 (k0_pay67 (k0_pay65 d b) al))) (k0_pay236 (k0_pay67 (k0_pay65 d b) al) (k0_pay76 (k0_pay66 (k0_pay65 d b) al)) (k0_pay227 (k0_pay81 x)) k0_pay228 k0_pay229 (k0_pay230 (k0_pay82 x) (k0_pay83 x))) (k0_pay240 (k0_pay67 (k0_pay65 d b) al) (k0_pay76 (k0_pay66 (k0_pay65 d b) al)) k0_pay228 k0_pay229 (k0_pay230 (k0_pay82 x) (k0_pay83 x)) (k0_pay237 (k0_pay227 (k0_pay81 x))) (k0_pay238 (F := F)) (k0_pay239 k0_pay229)) (k0_pay246 k0_pay228 (k0_pay241 (k0_pay82 x) (k0_pay83 x)) (k0_pay242 (k0_pay227 (k0_pay81 x)) k0_pay229) (k0_pay243 (k0_pay67 (k0_pay65 d b) al) (k0_pay76 (k0_pay66 (k0_pay65 d b) al)) (k0_pay82 x) (k0_pay83 x) k0_pay228) (k0_pay244 (k0_pay76 (k0_pay66 (k0_pay65 d b) al))) (k0_pay245 (k0_pay67 (k0_pay65 d b) al))) (k0_pay247 (k0_pay67 (k0_pay65 d b) al) (k0_pay76 (k0_pay66 (k0_pay65 d b) al)) (k0_pay227 (k0_pay81 x)) k0_pay228 k0_pay229 (k0_pay241 (k0_pay82 x) (k0_pay83 x))) (k0_pay250 (k0_pay67 (k0_pay65 d b) al) (k0_pay76 (k0_pay66 (k0_pay65 d b) al)) k0_pay228 (k0_pay241 (k0_pay82 x) (k0_pay83 x)) (k0_pay248 (k0_pay227 (k0_pay81 x)) k0_pay229) (k0_pay249 (k0_pay67 (k0_pay65 d b) al) (k0_pay76 (k0_pay66 (k0_pay65 d b) al)))) (k0_pay251 (k0_pay67 (k0_pay65 d b) al) (k0_pay76 (k0_pay66 (k0_pay65 d b) al)) (k0_pay227 (k0_pay81 x)) k0_pay228 k0_pay229 (k0_pay241 (k0_pay82 x) (k0_pay83 x))) (k0_pay254 (k0_pay67 (k0_pay65 d b) al) (k0_pay76 (k0_pay66 (k0_pay65 d b) al)) k0_pay228 k0_pay229 (k0_pay252 (k0_pay82 x) (k0_pay83 x)) (k0_pay253 (k0_pay227 (k0_pay81 x)))) (k0_pay258 k0_pay228 (k0_pay252 (k0_pay82 x) (k0_pay83 x)) (k0_pay255 (k0_pay227 (k0_pay81 x)) k0_pay229) (k0_pay256 (k0_pay67 (k0_pay65 d b) al) (k0_pay76 (k0_pay66 (k0_pay65 d b) al)) k0_pay228 (k0_pay252 (k0_pay82 x) (k0_pay83 x))) (k0_pay257 (k0_pay67 (k0_pay65 d b) al) (k0_pay76 (k0_pay66 (k0_pay65 d b) al)))) (k0_pay259 (k0_pay67 (k0_pay65 d b) al) (k0_pay76 (k0_pay66 (k0_pay65 d b) al)) (k0_pay227 (k0_pay81 x)) k0_pay228 k0_pay229 (k0_pay252 (k0_pay82 x) (k0_pay83 x))) (k0_pay262 (k0_pay67 (k0_pay65 d b) al) (k0_pay76 (k0_pay66 (k0_pay65 d b) al)) k0_pay228 (k0_pay252 (k0_pay82 x) (k0_pay83 x)) (k0_pay260 (k0_pay227 (k0_pay81 x)) k0_pay229) (k0_pay261 (k0_pay67 (k0_pay65 d b) al) (k0_pay76 (k0_pay66 (k0_pay65 d b) al))) (Scalar.ofBits .f32 0xFF800000#32)) (k0_pay263 (k0_pay82 x) (k0_pay83 x)) (k0_pay264 (k0_pay67 (k0_pay65 d b) al) (k0_pay76 (k0_pay66 (k0_pay65 d b) al)) (k0_pay82 x) (k0_pay83 x) (k0_pay227 (k0_pay81 x)) k0_pay228 k0_pay229) (k0_pay266 (k0_pay67 (k0_pay65 d b) al) (k0_pay76 (k0_pay66 (k0_pay65 d b) al)) k0_pay228 k0_pay229 (k0_pay263 (k0_pay82 x) (k0_pay83 x)) (k0_pay265 (k0_pay227 (k0_pay81 x))) (Scalar.ofBits .bf16 0x0000#16)) (k0_pay267 (k0_pay227 (k0_pay81 x)) k0_pay229) (k0_pay268 (k0_pay67 (k0_pay65 d b) al) (k0_pay76 (k0_pay66 (k0_pay65 d b) al)) k0_pay228 (k0_pay263 (k0_pay82 x) (k0_pay83 x))) (k0_pay269 (k0_pay67 (k0_pay65 d b) al) (k0_pay76 (k0_pay66 (k0_pay65 d b) al))) (Scalar.ofBits .f32 0xFF800000#32)) st D = yOf d b al e x D st := rfl

set_option maxHeartbeats 1600000 in
theorem st_chunk3 (d : Vec F S128x128 .f32) (b al : Vec F S1x1x128 .f32) (e : Vec F S128x2048 .bf16) (x : Vec F S128x3072 .bf16) (st : Vec F S128x2048 .f32) :
    k0_pay293 (k0_pay79 (k0_pay69 e) (k0_pay70 (k0_pay65 d b) al) (k0_pay72 (k0_pay65 d b) al) (k0_pay73 (k0_pay65 d b) al) (iota .tc S1x128 32 [1] iota_S1x128_d1_w32) k0_pay74) (k0_pay83 x) (k0_pay292 (k0_pay78 (k0_pay69 e) (k0_pay70 (k0_pay65 d b) al) (k0_pay72 (k0_pay65 d b) al) (k0_pay73 (k0_pay65 d b) al) (iota .tc S1x128 32 [1] iota_S1x128_d1_w32) k0_pay74) (k0_pay81 x)) st = stOf d b al e x st := rfl

end Cert.KernelIdeal.Ssd

end
-- ==== Proof.Ssd.Points.lean ====
/- What a grid point leaves: the state after the block's four chunks, and the block's rows of `y`, over the point's
   input blocks and the state the point before left. -/
module

public import proofs.«01_k».proof.Proof.Gen.KernelIdeal.Value
public import proofs.«01_k».proof.Proof.Ssd.Chunks
public import Idealize.ShloMosaic.Lib.Pipeline.ValueKit
public import Idealize.ShloMosaic.Lib.Pipeline.ReadBack

@[expose] public section

set_option maxRecDepth 16384

noncomputable section

namespace Cert.KernelIdeal.Ssd

open Idealize.ShloMosaic Idealize.ShloMosaic.TcCoe Idealize.SL.Sem Cert.KernelIdeal.Gen
open Idealize.ShloMosaic.Pipeline (Dat)

variable {F : FTy → Type} [FloatOps F] [Named F]
variable (m : (ℓ : Loc nD τ sig) → Buf (Elt F) ℓ)

theorem inb_d (k : ℕ) (hk : k < 4) : ∀ a, (![128 * k, 0] : Fin 2 → ℕ) a + (![128, 128] : Fin 2 → ℕ) a ≤ S512x128.size a :=
  Fin.forall_fin_two.mpr ⟨by change 128 * k + 128 ≤ 512; omega, by change 0 + 128 ≤ 128; omega⟩

theorem inb_x (k : ℕ) (hk : k < 4) : ∀ a, (![128 * k, 0] : Fin 2 → ℕ) a + (![128, 3072] : Fin 2 → ℕ) a ≤ S512x3072.size a :=
  Fin.forall_fin_two.mpr ⟨by change 128 * k + 128 ≤ 512; omega, by change 0 + 3072 ≤ 3072; omega⟩

/-- Chunk `k`'s rows of a block of raw steps. -/
def dR (X : Vec F S512x128 .f32) (k : ℕ) (hk : k < 4) : Vec F S128x128 .f32 :=
  View.ld X (Rect.unit (s := S512x128) ![128 * k, 0] ![128, 128] (inb_d k hk))

/-- Chunk `k`'s rows of a block of convolved channels. -/
def xR (X : Vec F S512x3072 .bf16) (k : ℕ) (hk : k < 4) : Vec F S128x3072 .bf16 :=
  View.ld X (Rect.unit (s := S512x3072) ![128 * k, 0] ![128, 3072] (inb_x k hk))

/-- The state after the first `k` chunks of point `t`, from the state `S`. -/
def stB (c : Dev nD) (t : Fin cfg0.N) (S : Vec F S128x2048 .f32) : (k : ℕ) → k ≤ 4 → Vec F S128x2048 .f32
  | 0, _ => S
  | k + 1, h => stOf (dR (iblk m c 1 t) k (by omega)) (iblk m c 2 t) (iblk m c 3 t) (iblk m c 5 t) (xR (iblk m c 0 t) k (by omega))
      (stB c t S k (by omega))

/-- Chunk `k`'s rows of `y` at point `t`, from the state `S` before the block. -/
def yB (c : Dev nD) (t : Fin cfg0.N) (S : Vec F S128x2048 .f32) (k : ℕ) (hk : k < 4) : Vec F S128x2048 .bf16 :=
  yOf (dR (iblk m c 1 t) k hk) (iblk m c 2 t) (iblk m c 3 t) (iblk m c 5 t) (xR (iblk m c 0 t) k hk) (iblk m c 4 t)
    (stB m c t S k (by omega))

/-- The state a point starts its block from. -/
def preS (c : Dev nD) (t : Fin cfg0.N) : Vec F S128x2048 .f32 :=
  if t.val % 4 = 0 then k0_pay2 (iblk m c 6 t)
  else (outsAt0 m c (t.val - 1) (Nat.lt_of_le_of_lt (Nat.sub_le _ _) t.isLt)).2.2

set_option maxHeartbeats 1600000 in
theorem scratch_eq (c : Dev nD) (t : Fin cfg0.N) :
    (outsAt0 m c t.val t.isLt).2.2 = stB m c t (preS m c t) 4 (by decide) := by
  by_cases h0 : t.val % 4 = 0
  · have h1 : ¬t.val % 4 = 3 := by omega
    rw [preS, if_pos h0, outsAt0_A m c t h0 h1]
    frame_open
    simp (disch := decide) only [↓ View.readCov_skip, ↓ View.readCov_cons_toLoadRect, ↓ View.readCov_fill]
    frame_out
    rw [st_chunk3, st_chunk2, st_chunk1, st_chunk0]
    rfl
  · by_cases h1 : t.val % 4 = 3
    · rw [preS, if_neg h0, outsAt0_C m c t h0 h1]
      frame_open
      simp (disch := decide) only [↓ View.readCov_skip, ↓ View.readCov_cons_toLoadRect, ↓ View.readCov_fill]
      frame_out
      simp only [read_unread_whole]
      rw [st_chunk3, st_chunk2, st_chunk1, st_chunk0]
      rfl
    · rw [preS, if_neg h0, outsAt0_B m c t h0 h1]
      frame_open
      simp (disch := decide) only [↓ View.readCov_skip, ↓ View.readCov_cons_toLoadRect, ↓ View.readCov_fill]
      frame_out
      simp only [read_unread_whole]
      rw [st_chunk3, st_chunk2, st_chunk1, st_chunk0]
      rfl

set_option maxHeartbeats 1600000 in
theorem ssm_eq (c : Dev nD) (t : Fin cfg0.N) (h1 : t.val % 4 = 3) :
    (outsAt0 m c t.val t.isLt).2.1 = k0_pay1 (stB m c t (preS m c t) 4 (by decide)) := by
  have h0 : ¬t.val % 4 = 0 := by omega
  rw [preS, if_neg h0, outsAt0_C m c t h0 h1]
  frame_open
  simp (disch := decide) only [↓ View.readCov_skip, ↓ View.readCov_cons_toLoadRect, ↓ View.readCov_fill]
  frame_out
  simp only [read_unread_whole]
  rw [st_chunk3, st_chunk2, st_chunk1, st_chunk0]
  rfl

theorem yB_congr (c : Dev nD) (t : Fin cfg0.N) (S : Vec F S128x2048 .f32) (k k' : ℕ) (hk : k < 4) (hk' : k' < 4) (y : S512x2048.Idx)
    (r x : S128x2048.Idx) (e0 : (y 0 : ℕ) = 128 * k + (r 0 : ℕ)) (e1 : (y 1 : ℕ) = (r 1 : ℕ))
    (h0 : (y 0 : ℕ) = 128 * k' + (x 0 : ℕ)) (h1 : (y 1 : ℕ) = (x 1 : ℕ)) :
    yB m c t S k' hk' x = yB m c t S k hk r := by
  have hr : (r 0 : ℕ) < 128 := (r 0).isLt
  have hx : (x 0 : ℕ) < 128 := (x 0).isLt
  obtain rfl : k' = k := by omega
  congr 1
  funext a
  fin_cases a
  · exact Fin.ext (by show (x 0 : ℕ) = (r 0 : ℕ); omega)
  · exact Fin.ext (by show (x 1 : ℕ) = (r 1 : ℕ); omega)

set_option maxHeartbeats 1600000 in
/-- Row `128 k + r` of the block of `y` is row `r` of chunk `k`. -/
theorem y_eq (c : Dev nD) (t : Fin cfg0.N) (k : ℕ) (hk : k < 4) (y : S512x2048.Idx) (r : S128x2048.Idx)
    (e0 : (y 0 : ℕ) = 128 * k + (r 0 : ℕ)) (e1 : (y 1 : ℕ) = (r 1 : ℕ)) :
    (outsAt0 m c t.val t.isLt).1 y = yB m c t (preS m c t) k hk r := by
  by_cases h0 : t.val % 4 = 0
  · have h1 : ¬t.val % 4 = 3 := by omega
    rw [preS, if_pos h0, outsAt0_A m c t h0 h1]
    frame_open
    simp (disch := decide) only [↓ View.readCov_skip, ↓ View.readCov_cons_toLoadRect, ↓ View.readCov_fill]
    frame_out
    rw [st_chunk2, st_chunk1, st_chunk0, y_chunk3, y_chunk2, y_chunk1, y_chunk0]
    canon_tiles x h
    · exact yB_congr m c t _ k 3 hk (by decide) y r x e0 e1 h0 h1
    · exact yB_congr m c t _ k 2 hk (by decide) y r x e0 e1 h0 h1
    · exact yB_congr m c t _ k 1 hk (by decide) y r x e0 e1 h0 h1
    · exact yB_congr m c t _ k 0 hk (by decide) y r x e0 e1 (by omega) h1
  · by_cases h1 : t.val % 4 = 3
    · rw [preS, if_neg h0, outsAt0_C m c t h0 h1]
      frame_open
      simp (disch := decide) only [↓ View.readCov_skip, ↓ View.readCov_cons_toLoadRect, ↓ View.readCov_fill]
      frame_out
      simp only [read_unread_whole]
      rw [st_chunk2, st_chunk1, st_chunk0, y_chunk3, y_chunk2, y_chunk1, y_chunk0]
      canon_tiles x h
      · exact yB_congr m c t _ k 3 hk (by decide) y r x e0 e1 h0 h1
      · exact yB_congr m c t _ k 2 hk (by decide) y r x e0 e1 h0 h1
      · exact yB_congr m c t _ k 1 hk (by decide) y r x e0 e1 h0 h1
      · exact yB_congr m c t _ k 0 hk (by decide) y r x e0 e1 (by omega) h1
    · rw [preS, if_neg h0, outsAt0_B m c t h0 h1]
      frame_open
      simp (disch := decide) only [↓ View.readCov_skip, ↓ View.readCov_cons_toLoadRect, ↓ View.readCov_fill]
      frame_out
      simp only [read_unread_whole]
      rw [st_chunk2, st_chunk1, st_chunk0, y_chunk3, y_chunk2, y_chunk1, y_chunk0]
      canon_tiles x h
      · exact yB_congr m c t _ k 3 hk (by decide) y r x e0 e1 h0 h1
      · exact yB_congr m c t _ k 2 hk (by decide) y r x e0 e1 h0 h1
      · exact yB_congr m c t _ k 1 hk (by decide) y r x e0 e1 h0 h1
      · exact yB_congr m c t _ k 0 hk (by decide) y r x e0 e1 (by omega) h1

end Cert.KernelIdeal.Ssd

end
-- ==== Proof.Ssd.Operands.lean ====
/- What the call finds in its operands: each at an index, in terms of the arguments. -/
module

public import proofs.«01_k».proof.Proof.Ssd.Points
public import Idealize.ShloMosaic.Lib.Claim
public import Idealize.ShloMosaic.Lib.WordCmp

@[expose] public section

set_option maxRecDepth 16384

noncomputable section

namespace Cert.KernelIdeal.Ssd

open Idealize.ShloMosaic Idealize.ShloMosaic.TcCoe Idealize.SL.Sem Cert.KernelIdeal.Gen

/-- Each lane's number modulo 32, as the host computes it. -/
def laneMod : IVec S128 32 :=
  have d : IVec S_ 32 := select (cmpi .eq (constantI S_ 32 32#32) (constantI S_ 32 0#32)) (constantI S_ 32 1#32) (constantI S_ 32 32#32)
  have r : IVec S128 32 := Host.remsi (iotaInDim S128 32 0) (broadcastInDim S128 ![] bcast_S_S128 d)
  select (andi (cmpi .ne (cmpi .slt r (broadcastInDim S128 ![] bcast_S_S128 (constantI S_ 32 0#32)))
        (broadcastInDim S128 ![] bcast_S_S128 (cmpi .slt d (constantI S_ 32 0#32))))
      (cmpi .ne r (broadcastInDim S128 ![] bcast_S_S128 (constantI S_ 32 0#32))))
    (addi r (broadcastInDim S128 ![] bcast_S_S128 d)) r

/-- Each column's head, as the host computes it. -/
def colDiv : IVec S2048 32 :=
  have n : IVec S2048 32 := iotaInDim S2048 32 0
  have d : IVec S2048 32 := broadcastInDim S2048 ![] bcast_S_S2048 (constantI S_ 32 64#32)
  select (andi (cmpi .ne (signi n) (broadcastInDim S2048 ![] bcast_S_S2048 (signi (constantI S_ 32 64#32))))
      (cmpi .ne (Host.remsi n d) (broadcastInDim S2048 ![] bcast_S_S2048 (constantI S_ 32 0#32))))
    (subi (Host.divsi n d) (broadcastInDim S2048 ![] bcast_S_S2048 (constantI S_ 32 1#32))) (Host.divsi n d)

theorem laneMod_read : ∀ l : Fin 128, laneMod (ix1 l) = BitVec.ofNat 32 (l.val % 32) := by decide +kernel

theorem colDiv_read : ∀ l : Fin 2048, colDiv (ix1 l) = BitVec.ofNat 32 (l.val / 64) := by decide +kernel

section
variable (m : (ℓ : Loc nD τ sig) → Buf (Elt Ideal) ℓ)

theorem V24 (c : Dev nD) : (V m c main_v24 : S16384x3072.Idx → EReal) = truncf (F := Ideal) .bf16 (shapeCast S16384x3072 (m ((c : Thread nD τ).loc main_arg0)) shapeCasts_S8x2048x3072_S16384x3072) bitsLt_bf16_f32 := by
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  entry_read
  rfl
theorem V26 (c : Dev nD) : (V m c main_v26 : S17920x128.Idx → EReal) = pad S17920x128 ![0, 0] ![1536, 96] ![0, 0] (shapeCast S16384x32 (m ((c : Thread nD τ).loc main_arg1)) shapeCasts_S8x2048x32_S16384x32) (sitofp (F := Ideal) .f32 (constantI S_ 32 0#32)) pads_S16384x32_S17920x128_015360_0960 h_S_ := by
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  entry_read
  rfl
theorem V17 (c : Dev nD) : (V m c main_v17 : S2x1x128.Idx → EReal) = broadcastInDim S2x1x128 ![0, 2] bcast_S2x128_S2x1x128_0_2 (pad S2x128 ![0, 0] ![0, 96] ![0, 0] (m ((c : Thread nD τ).loc main_arg2)) (sitofp (F := Ideal) .f32 (constantI S_ 32 0#32)) pads_S2x32_S2x128_000_0960 h_S_) := by
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  entry_read
  rfl
theorem V19 (c : Dev nD) : (V m c main_v19 : S2x1x128.Idx → EReal) = broadcastInDim S2x1x128 ![0, 2] bcast_S2x128_S2x1x128_0_2 (pad S2x128 ![0, 0] ![0, 96] ![0, 0] (m ((c : Thread nD τ).loc main_arg3)) (sitofp (F := Ideal) .f32 (constantI S_ 32 0#32)) pads_S2x32_S2x128_000_0960 h_S_) := by
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  entry_read
  rfl
theorem V22 (c : Dev nD) : (V m c main_v22 : S2x1x2048.Idx → EReal) = broadcastInDim S2x1x2048 ![0, 2] bcast_S2x2048_S2x1x2048_0_2 (shapeCast S2x2048 (broadcastInDim S2x32x64 ![0, 1] bcast_S2x32_S2x32x64_0_1 (m ((c : Thread nD τ).loc main_arg4))) shapeCasts_S2x32x64_S2x2048) := by
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  entry_read
  rfl
theorem V27 (c : Dev nD) : (V m c main_v27 : S1x2048x128.Idx → EReal) = shapeCast S1x2048x128 (m ((c : Thread nD τ).loc main_arg5)) shapeCasts_S1x32x64x128_S1x2048x128 := by
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  entry_read
  rfl
theorem V15 (c : Dev nD) : (V m c main_v15 : S128x2048.Idx → EReal) = uitofp (F := Ideal) .bf16 (andi
      (cmpi .eq (broadcastInDim S128x2048 ![0, 1] bcast_S128x1_S128x2048_0_1 (broadcastInDim S128x1 ![0] bcast_S128_S128x1_0 laneMod))
        (broadcastInDim S128x2048 ![0, 1] bcast_S1x2048_S128x2048_0_1 (broadcastInDim S1x2048 ![1] bcast_S2048_S1x2048_1 colDiv)))
      (broadcastInDim S128x2048 ![0, 1] bcast_S128x1_S128x2048_0_1 (broadcastInDim S128x1 ![0] bcast_S128_S128x1_0
        (cmpi .slt (iotaInDim S128 32 0) (broadcastInDim S128 ![] bcast_S_S128 (constantI S_ 32 96#32)))))) := by
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  entry_read
  rfl
theorem V6 (c : Dev nD) : (V m c main_v28_0 : S17920x2048.Idx → EReal) = (m ((c : Thread nD τ).loc main_arg6)) := by
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  entry_read
  rfl
theorem V7 (c : Dev nD) : (V m c main_v28_1 : S2x8x2048x128.Idx → EReal) = (m ((c : Thread nD τ).loc main_arg7)) := by
  simp only [V, hostOps0, hostOps0_1, hostOps0_2, hostOps0_3, hostOps0_4, hostOps0_5, hostOps0_6, hostOps0_7, hostOps0_8, hostOps0_9, hostOps0_10, List.flatten_cons, List.flatten_nil, List.cons_append, List.nil_append, List.append_nil]
  entry_read
  rfl
end

end Cert.KernelIdeal.Ssd

end
-- ==== Proof.Ssd.Blocks.lean ====
/- What the call finds in its operands: each at an index, in terms of the arguments. -/
module

public import Idealize.ShloMosaic.Lib.KernelVsHost
public import proofs.«01_k».proof.Proof.Ssd.Points
public import proofs.«01_k».proof.Proof.Ssd.Operands
public import Idealize.ShloMosaic.Lib.WordCmp

@[expose] public section

set_option maxRecDepth 16384

noncomputable section

namespace Cert.KernelIdeal.Ssd

open Idealize.ShloMosaic Idealize.ShloMosaic.TcCoe Idealize.SL.Sem Cert.KernelIdeal.Gen

variable (m : (ℓ : Loc nD τ sig) → Buf (Elt Ideal) ℓ)

/-! ## The operands -/

theorem e24 (c : Dev nD) (s : Fin 8) (t : Fin 2048) (i : Fin 16384) (hi : i.val = 2048 * s.val + t.val) (l : Fin 3072) :
    (V m c main_v24 : S16384x3072.Idx → EReal) (ix2 i l) = m ((c : Thread nD τ).loc main_arg0) (ix3 s t l) := by
  rw [V24]
  refine shapeCast_apply _ _ _ (ix3 s t l) ?_
  rw [Shape.rowMajor_val_three, Shape.rowMajor_val_two]
  change (s.val * 2048 + t.val) * 3072 + l.val = i.val * 3072 + l.val
  omega

theorem e26 (c : Dev nD) (s : Fin 8) (t : Fin 2048) (i : Fin 17920) (hi : i.val = 2048 * s.val + t.val) (l : Fin 128) :
    (V m c main_v26 : S17920x128.Idx → EReal) (ix2 i l)
      = if h : l.val < 32 then m ((c : Thread nD τ).loc main_arg1) (ix3 s t ⟨l.val, h⟩) else (0 : EReal) := by
  rw [V26]
  by_cases h : l.val < 32
  · rw [dif_pos h]
    refine (pad_apply_of_inside _ _ _ _ _ _ _ _ (ix2 (⟨i.val, by omega⟩ : Fin 16384) (⟨l.val, h⟩ : Fin 32)) ?_).trans
      (shapeCast_apply _ _ _ (ix3 s t ⟨l.val, h⟩) ?_)
    · exact Fin.forall_fin_two.mpr ⟨by change i.val = 0 + i.val * 1; omega, by change l.val = 0 + l.val * 1; omega⟩
    · rw [Shape.rowMajor_val_three, Shape.rowMajor_val_two]
      change (s.val * 2048 + t.val) * 32 + l.val = i.val * 32 + l.val
      omega
  · rw [dif_neg h]
    refine (pad_apply_of_not_inside _ _ _ _ _ _ _ _ 1 ?_).trans ?_
    · change ¬ (0 ≤ l.val ∧ (l.val - 0) % 1 = 0 ∧ (l.val - 0) / 1 < 32)
      omega
    · change (((0#32 : BitVec 32).toInt : ℝ) : EReal) = 0
      simp

theorem vecPad (x : S2x32.Idx → EReal) (l : Fin 128) :
    broadcastInDim S2x1x128 ![0, 2] bcast_S2x128_S2x1x128_0_2 (pad S2x128 ![0, 0] ![0, 96] ![0, 0] x (sitofp (F := Ideal) .f32 (constantI S_ 32 0#32)) pads_S2x32_S2x128_000_0960 h_S_) (ix3 1 0 l)
      = if h : l.val < 32 then x (ix2 1 ⟨l.val, h⟩) else (0 : EReal) := by
  refine (broadcastInDim_apply _ _ _ (ix3 1 0 l) (ix2 1 l) (Fin.forall_fin_two.mpr ⟨rfl, rfl⟩)).trans ?_
  by_cases h : l.val < 32
  · rw [dif_pos h]
    refine (pad_apply_of_inside _ _ _ _ _ _ _ _ (ix2 1 (⟨l.val, h⟩ : Fin 32)) ?_)
    exact Fin.forall_fin_two.mpr ⟨by change 1 = 0 + 1 * 1; omega, by change l.val = 0 + l.val * 1; omega⟩
  · rw [dif_neg h]
    refine (pad_apply_of_not_inside _ _ _ _ _ _ _ _ 1 ?_).trans ?_
    · change ¬ (0 ≤ l.val ∧ (l.val - 0) % 1 = 0 ∧ (l.val - 0) / 1 < 32)
      omega
    · change (((0#32 : BitVec 32).toInt : ℝ) : EReal) = 0
      simp

theorem e17 (c : Dev nD) (l : Fin 128) : (V m c main_v17 : S2x1x128.Idx → EReal) (ix3 1 0 l)
    = if h : l.val < 32 then m ((c : Thread nD τ).loc main_arg2) (ix2 1 ⟨l.val, h⟩) else (0 : EReal) := by
  rw [V17]
  exact vecPad _ l

theorem e19 (c : Dev nD) (l : Fin 128) : (V m c main_v19 : S2x1x128.Idx → EReal) (ix3 1 0 l)
    = if h : l.val < 32 then m ((c : Thread nD τ).loc main_arg3) (ix2 1 ⟨l.val, h⟩) else (0 : EReal) := by
  rw [V19]
  exact vecPad _ l

theorem e22 (c : Dev nD) (l : Fin 2048) :
    (V m c main_v22 : S2x1x2048.Idx → EReal) (ix3 1 0 l) = m ((c : Thread nD τ).loc main_arg4) (ix2 1 ⟨l.val / 64, by omega⟩) := by
  rw [V22]
  pointwise []

theorem e27 (c : Dev nD) (l : Fin 2048) (n : Fin 128) : (V m c main_v27 : S1x2048x128.Idx → EReal) (ix3 0 l n)
      = m ((c : Thread nD τ).loc main_arg5) (ix4 0 ⟨l.val / 64, by omega⟩ ⟨l.val % 64, by omega⟩ n) := by
  rw [V27]
  refine shapeCast_apply _ _ _ (ix4 0 ⟨l.val / 64, by omega⟩ ⟨l.val % 64, by omega⟩ n) ?_
  rw [Shape.rowMajor_val_three, Shape.rowMajor_val_four]
  change ((0 * 32 + l.val / 64) * 64 + l.val % 64) * 128 + n.val = (0 * 2048 + l.val) * 128 + n.val
  omega

theorem e15 (c : Dev nD) (i : Fin 128) (l : Fin 2048) : (V m c main_v15 : S128x2048.Idx → EReal) (ix2 i l)
    = if i.val % 32 = l.val / 64 ∧ i.val < 96 then (1 : EReal) else (0 : EReal) := by
  have hu : ∀ b : BitVec 1, FloatOps.uitofp (F := Ideal) FTy.bf16 b = ((b.toNat : ℝ) : EReal) := fun _ => rfl
  rw [V15]
  pointwise [laneMod_read, colDiv_read]
  rw [hu, show (96#32 : BitVec 32) = BitVec.ofNat 32 96 from rfl, WordCmp.cmpi_slt_ofNat (by omega) (by omega),
    WordCmp.cmpi_eq_ofNat (by omega) (by omega)]
  by_cases h1 : i.val % 32 = l.val / 64 <;> by_cases h2 : i.val < 96 <;> simp [h1, h2, IntOp.andi]

/-! ## The blocks -/

/-- Which block of its array each point takes. -/
theorem widx : ∀ t : Fin cfg0.N, win0_0.index t = ![t.val, 0] ∧ win0_1.index t = ![t.val, 0] ∧ win0_2.index t = ![1, 0, 0]
    ∧ win0_3.index t = ![1, 0, 0] ∧ win0_4.index t = ![1, 0, 0] ∧ win0_5.index t = ![0, 0] ∧ win0_6.index t = ![0, 0, 0]
    ∧ win0_7.index t = ![t.val, 0] ∧ win0_8.index t = ![1, t.val / 4, 0, 0] ∧ t.val < 32 :=
  (by decide +kernel : ∀ t : Fin grid0.N, _)

theorem b0 (c : Dev nD) (t : Fin cfg0.N) (i : Fin 512) (l : Fin 3072) :
    iblk m c 0 t (ix2 i l) = (V m c main_v24 : S16384x3072.Idx → EReal) (ix2 ⟨512 * t.val + i.val, by have := (widx t).2.2.2.2.2.2.2.2.2; omega⟩ l) := by
  unfold iblk
  refine congrArg (V m c main_v24) ?_
  blk_ext [widx t]

theorem b1 (c : Dev nD) (t : Fin cfg0.N) (i : Fin 512) (l : Fin 128) : iblk m c 1 t (ix2 i l) = (V m c main_v26 : S17920x128.Idx → EReal) (ix2 ⟨512 * t.val + i.val, by have := (widx t).2.2.2.2.2.2.2.2.2; omega⟩ l) := by
  unfold iblk
  refine congrArg (V m c main_v26) ?_
  blk_ext [widx t]

theorem b2 (c : Dev nD) (t : Fin cfg0.N) (l : Fin 128) : iblk m c 2 t (ix3 0 0 l) = (V m c main_v17 : S2x1x128.Idx → EReal) (ix3 1 0 l) := by
  unfold iblk
  refine congrArg (V m c main_v17) ?_
  blk_ext [widx t]

theorem b3 (c : Dev nD) (t : Fin cfg0.N) (l : Fin 128) : iblk m c 3 t (ix3 0 0 l) = (V m c main_v19 : S2x1x128.Idx → EReal) (ix3 1 0 l) := by
  unfold iblk
  refine congrArg (V m c main_v19) ?_
  blk_ext [widx t]

theorem b4 (c : Dev nD) (t : Fin cfg0.N) (l : Fin 2048) : iblk m c 4 t (ix3 0 0 l) = (V m c main_v22 : S2x1x2048.Idx → EReal) (ix3 1 0 l) := by
  unfold iblk
  refine congrArg (V m c main_v22) ?_
  blk_ext [widx t]

theorem b5 (c : Dev nD) (t : Fin cfg0.N) (i : Fin 128) (l : Fin 2048) : iblk m c 5 t (ix2 i l) = (V m c main_v15 : S128x2048.Idx → EReal) (ix2 i l) := by
  unfold iblk
  refine congrArg (V m c main_v15) ?_
  blk_ext [widx t]

theorem b6 (c : Dev nD) (t : Fin cfg0.N) (l : Fin 2048) (n : Fin 128) : iblk m c 6 t (ix3 0 l n) = (V m c main_v27 : S1x2048x128.Idx → EReal) (ix3 0 l n) := by
  unfold iblk
  refine congrArg (V m c main_v27) ?_
  blk_ext [widx t]

end Cert.KernelIdeal.Ssd

end
-- ==== Proof.Ssd.Reads.lean ====
/- One chunk of the scan at its indices, over the extended reals: the decays are real numbers where the steps
   and the rates are, and the three parts each of them is split into are itself and two zeros. -/
module

public import proofs.«01_k».proof.Proof.Ssd.Vocab
public import Idealize.ShloMosaic.Lib.Pipeline.ValueKit
public import Idealize.ShloMosaic.Lib.WordCmp

@[expose] public section

set_option maxRecDepth 16384

noncomputable section

namespace Cert.KernelIdeal.Ssd

open Idealize.ShloMosaic Idealize.ShloMosaic.TcCoe Idealize.SL.Sem Cert.KernelIdeal.Gen

/-- `log (1 + exp z)` in the form that does not overflow. -/
def sp (z : ℝ) : ℝ := max z 0 + Real.log (1 + Real.exp (-|z|))

theorem sp_pos (z : ℝ) : 0 < sp z :=
  add_pos_of_nonneg_of_pos (le_max_right _ _) (Real.log_pos (by linarith [Real.exp_pos (-|z|)]))

theorem coe_max (a b : ℝ) : ((max a b : ℝ) : EReal) = max (a : EReal) b := EReal.coe_strictMono.monotone.map_max

/-- The softplus of a real number, as both programs spell it. -/
theorem softplus_coe (z : ℝ) :
    max (z : EReal) 0 + Ideal.log (1 + Ideal.exp (-(max (z : EReal) (-(z : EReal))))) = ((sp z : ℝ) : EReal) := by
  rw [← EReal.coe_neg, ← coe_max, ← EReal.coe_neg, Ideal.exp_coe, ← EReal.coe_one, ← EReal.coe_add, Ideal.log_coe,
    if_neg (by linarith [Real.exp_pos (-(max z (-z)))]), ← EReal.coe_zero, ← coe_max, ← EReal.coe_add]
  rfl

theorem coe_sub_self (q : ℝ) : (q : EReal) - (q : EReal) = 0 := by
  rw [← EReal.coe_sub, sub_self, EReal.coe_zero]

/-- The decay's logarithm summed up to token `i`. -/
def ac (z : Fin 128 → Fin 128 → ℝ) (w : Fin 128 → ℝ) (i l : Fin 128) : ℝ :=
  ∑ j : Fin 128, if j ≤ i then sp (z j l) * -Real.exp (w l) else 0

/-- The weight token `j` has in token `i`, in head `h`. -/
def wt (z : Fin 128 → Fin 128 → ℝ) (w : Fin 128 → ℝ) (i j h : Fin 128) : ℝ :=
  if j ≤ i then Real.exp (ac z w i h - ac z w j h) * sp (z j h) else 0

theorem coe_sum {ι : Type} (s : Finset ι) (f : ι → ℝ) : ((∑ i ∈ s, f i : ℝ) : EReal) = ∑ i ∈ s, (f i : EReal) :=
  map_sum (⟨⟨((↑) : ℝ → EReal), EReal.coe_zero⟩, EReal.coe_add⟩ : ℝ →+ EReal) f s

/-- A sum over three thirds of which only the first counts. -/
theorem sum_third (g : Fin 128 → EReal) (f : Fin 384 → EReal) (h1 : ∀ j : Fin 128, f ⟨j.val, by omega⟩ = g j)
    (h2 : ∀ x : Fin 384, 128 ≤ x.val → f x = 0) : ∑ x, f x = ∑ j, g j := by
  rw [Fin.sum_univ_add (a := 128) (b := 256) f, Finset.sum_eq_zero (s := Finset.univ) (f := fun i : Fin 256 => f (Fin.natAdd 128 i)) ?_,
    add_zero]
  · exact Finset.sum_congr rfl fun j _ => h1 j
  · intro i _; exact h2 _ (by simp)

theorem tri_toInt (i l : ℕ) (hi : i < 128) (hl : l < 128) :
    ((BitVec.setWidth 32 (IntOp.cmpi CmpIPredicate.sge (BitVec.ofNat 32 i) (BitVec.ofNat 32 l))).toInt) = if l ≤ i then 1 else 0 := by
  rw [WordCmp.cmpi_sge_ofNat (by omega) (by omega)]
  by_cases h : l ≤ i <;> simp [h]

theorem sel_sge {α : Type} (i l : ℕ) (hi : i < 128) (hl : l < 128) (a b : α) :
    Scalar.select (IntOp.cmpi CmpIPredicate.sge (BitVec.ofNat 32 i) (BitVec.ofNat 32 l)) a b = if l ≤ i then a else b := by
  rw [WordCmp.cmpi_sge_ofNat (by omega) (by omega)]
  by_cases h : l ≤ i <;> simp [h, Scalar.select]

theorem pay4_read (i : Fin 128) (l : Fin 384) :
    k0_pay4 (F := Ideal) (ix2 i l) = if l.val % 128 ≤ i.val then 1 else 0 := by
  have hs : ∀ b : BitVec 32, FloatOps.sitofp (F := Ideal) FTy.f32 b = ((b.toInt : ℝ) : EReal) := fun _ => rfl
  pointwise [k0_pay4]
  simp only [hs]
  split_ifs with h1 h2 h3 h4 h5 <;> (rw [tri_toInt _ _ i.isLt (by omega)]; first | rw [if_pos (by omega)] | rw [if_neg (by omega)]) <;> simp

section
variable {d : Vec Ideal S128x128 .f32} {b al : Vec Ideal S1x1x128 .f32} {z : Fin 128 → Fin 128 → ℝ} {w : Fin 128 → ℝ}

theorem pay3_read (hz : ∀ i l, d (ix2 i l) + b (ix3 0 0 l) = (z i l : EReal)) (i l : Fin 128) :
    k0_pay3 d b (ix2 i l) = ((sp (z i l) : ℝ) : EReal) := by
  pointwise [k0_pay3]
  rw [hz, ← softplus_coe, zero_sub]
  rfl

theorem rate_coe (hw : ∀ l, al (ix3 0 0 l) = (w l : EReal)) (l : Fin 128) :
    (0 : EReal) - Ideal.exp (al (ix3 0 0 l)) = ((-Real.exp (w l) : ℝ) : EReal) := by
  rw [hw, Ideal.exp_coe, zero_sub, EReal.coe_neg]

theorem pay5_read (hz : ∀ i l, d (ix2 i l) + b (ix3 0 0 l) = (z i l : EReal)) (hw : ∀ l, al (ix3 0 0 l) = (w l : EReal))
    (i : Fin 384) (l : Fin 128) :
    k0_pay5 d b al (ix2 i l) = if h : i.val < 128 then ((sp (z ⟨i.val, h⟩ l) * -Real.exp (w l) : ℝ) : EReal) else 0 := by
  pointwise [k0_pay5]
  simp only [pay3_read hz, rate_coe hw, ← EReal.coe_mul, coe_sub_self, sub_zero]
  split_ifs <;> rfl

theorem acum_read (hz : ∀ i l, d (ix2 i l) + b (ix3 0 0 l) = (z i l : EReal)) (hw : ∀ l, al (ix3 0 0 l) = (w l : EReal))
    (i l : Fin 128) : k0_pay6 k0_pay4 (k0_pay5 d b al) (ix2 i l) = ((ac z w i l : ℝ) : EReal) := by
  pointwise [k0_pay6]
  rw [ac, coe_sum]
  refine sum_third _ _ (fun j => ?_) (fun x hx => ?_)
  · rw [pay4_read, pay5_read hz hw, dif_pos j.isLt]
    have : j.val % 128 = j.val := Nat.mod_eq_of_lt j.isLt
    simp only [this]
    by_cases h : j ≤ i
    · rw [if_pos h, if_pos (show j.val ≤ i.val from h), one_mul]
    · rw [if_neg h, if_neg (show ¬ j.val ≤ i.val from h), zero_mul, EReal.coe_zero]
  · rw [pay5_read hz hw, dif_neg (by omega), mul_zero]

theorem log2e_val : Named.named (F := Ideal) (φ := .f32) κ "log2e" 1069066811#32 = (((Real.log 2)⁻¹ : ℝ) : EReal) :=
  IdealRules.named_const.ideal_named_scalar _ _ _ _ rfl

theorem a2_read (hz : ∀ i l, d (ix2 i l) + b (ix3 0 0 l) = (z i l : EReal)) (hw : ∀ l, al (ix3 0 0 l) = (w l : EReal))
    (l j : Fin 128) :
    a2Of d b al (ix2 l j) = (((ac z w j l - Real.log (sp (z j l))) * (Real.log 2)⁻¹ : ℝ) : EReal) := by
  have h6 := acum_read hz hw j l
  unfold a2Of
  pointwise [k0_pay7]
  rw [h6, pay3_read hz, log2e_val, Ideal.log_coe, if_neg (not_le.2 (sp_pos _)), ← EReal.coe_sub, ← EReal.coe_mul]

theorem l_read (hz : ∀ i l, d (ix2 i l) + b (ix3 0 0 l) = (z i l : EReal)) (hw : ∀ l, al (ix3 0 0 l) = (w l : EReal))
    (i l : Fin 128) :
    k0_pay10 (acumOf d b al) k0_pay9 (ix2 i l) = ((ac z w i l * (Real.log 2)⁻¹ : ℝ) : EReal) := by
  have h6 := acum_read hz hw i l
  unfold acumOf
  pointwise [k0_pay10, k0_pay9]
  rw [h6, log2e_val, ← EReal.coe_mul]
end

/-! The weights, in base 2. -/

theorem exp2_seg (a c q : ℝ) (hq : 0 < q) :
    Ideal.exp2 (((a * (Real.log 2)⁻¹ : ℝ) : EReal) - (((c - Real.log q) * (Real.log 2)⁻¹ : ℝ) : EReal))
      = ((Real.exp (a - c) * q : ℝ) : EReal) := by
  rw [← EReal.coe_sub, Ideal.exp2_coe]
  congr 1
  have h2 : Real.log 2 ≠ 0 := (Real.log_pos (by norm_num)).ne'
  rw [Real.rpow_eq_pow, Real.rpow_def_of_pos (by norm_num)]
  rw [show Real.log 2 * (a * (Real.log 2)⁻¹ - (c - Real.log q) * (Real.log 2)⁻¹) = (a - c) + Real.log q by field_simp; ring,
    Real.exp_add, Real.exp_log hq]

theorem mask_read (cb L a2 : FVec Ideal S128x128 .f32) (z : Fin 128 → Fin 128 → ℝ) (w : Fin 128 → ℝ)
    (hL : ∀ i l : Fin 128, L (ix2 i l) = ((ac z w i l * (Real.log 2)⁻¹ : ℝ) : EReal))
    (ha : ∀ l j : Fin 128, a2 (ix2 l j) = (((ac z w j l - Real.log (sp (z j l))) * (Real.log 2)⁻¹ : ℝ) : EReal))
    (h : ℕ) (hh : h < 32) (i j : Fin 128) :
    maskOf cb L a2 h hh (ix2 i j) = cb (ix2 i j) * ((wt z w i j ⟨h, by omega⟩ : ℝ) : EReal) := by
  have hb : Ideal.ofBits FTy.f32 4286578688#32 = (⊥ : EReal) := by simp [Ideal.ofBits, Ideal.ieee]
  have he : ∀ x : EReal, FloatOps.exp2 (F := Ideal) (φ := .f32) x = Ideal.exp2 x := fun _ => rfl
  pointwise [maskOf, segOf, k0_pay85]
  rw [sel_sge _ _ i.isLt j.isLt, hL, ha, wt]
  congr 1
  by_cases hij : j ≤ i
  · rw [if_pos (show j.val ≤ i.val from hij), if_pos hij, he, exp2_seg _ _ _ (sp_pos _)]
  · rw [if_neg (show ¬ j.val ≤ i.val from hij), if_neg hij, he, hb, Ideal.exp2_bot, EReal.coe_zero]

/-! The two heads of a pair share 128 columns, each its 64. -/

theorem sel_slt {α : Type} (n l : ℕ) (hn : n < 128) (hl : l < 128) (a b : α) :
    Scalar.select (IntOp.cmpi CmpIPredicate.slt (BitVec.ofNat 32 l) (BitVec.ofNat 32 n)) a b = if l < n then a else b := by
  rw [WordCmp.cmpi_slt_ofNat (by omega) (by omega)]
  by_cases h : l < n <;> simp [h, Scalar.select]

theorem pair_read (x : FVec Ideal S128x2048 .bf16) (p : ℕ) (hp : p < 16) (i : Fin 256) (l : Fin 128) :
    pairOf x p hp (ix2 i l) = if (i.val < 128 ↔ l.val < 64) then x (ix2 ⟨i.val % 128, by omega⟩ ⟨128 * p + l.val, by omega⟩) else 0 := by
  pointwise [pairOf, k0_pay86]
  by_cases h1 : i.val < 128
  · rw [dif_pos h1]
    refine (sel_slt 64 _ (by omega) l.isLt _ _).trans ?_
    simp only [Nat.mod_eq_of_lt h1, h1, true_iff]
  · rw [dif_neg h1]
    refine (sel_slt 64 _ (by omega) l.isLt _ _).trans ?_
    simp only [show i.val % 128 = i.val - 128 by omega, h1, false_iff]
    by_cases h2 : l.val < 64
    · rw [if_pos h2, if_neg (not_not.2 h2)]
    · rw [if_neg h2, if_pos h2]

theorem tile_read (cb L a2 : FVec Ideal S128x128 .f32) (x : FVec Ideal S128x2048 .bf16) (z : Fin 128 → Fin 128 → ℝ) (w : Fin 128 → ℝ)
    (hL : ∀ i l : Fin 128, L (ix2 i l) = ((ac z w i l * (Real.log 2)⁻¹ : ℝ) : EReal))
    (ha : ∀ l j : Fin 128, a2 (ix2 l j) = (((ac z w j l - Real.log (sp (z j l))) * (Real.log 2)⁻¹ : ℝ) : EReal))
    (p : ℕ) (hp : p < 16) (i l : Fin 128) :
    tileOf cb L a2 x p hp (ix2 i l)
      = ∑ j : Fin 128, (cb (ix2 i j) * ((wt z w i j ⟨2 * p + l.val / 64, by omega⟩ : ℝ) : EReal)) * x (ix2 j ⟨128 * p + l.val, by omega⟩) := by
  have m1 := fun h hh i j => mask_read cb L a2 z w hL ha h hh i j
  pointwise [tileOf]
  simp only [m1, pair_read]
  by_cases hl : l.val < 64
  · rw [Finset.sum_eq_zero (s := Finset.univ) (f := fun j : Fin 128 => cb (ix2 i j) * ((wt z w i j ⟨2 * p + 1, by omega⟩ : ℝ) : EReal) * _), add_zero]
    · refine Finset.sum_congr rfl fun j _ => ?_
      rw [if_pos (by simp only [j.isLt, hl])]
      simp only [show l.val / 64 = 0 by omega, Nat.add_zero, Nat.mod_eq_of_lt j.isLt]
    · intro j _
      rw [if_neg (by simp [hl]), mul_zero]
  · rw [Finset.sum_eq_zero (s := Finset.univ) (f := fun j : Fin 128 => cb (ix2 i j) * ((wt z w i j ⟨2 * p, by omega⟩ : ℝ) : EReal) * _), zero_add]
    · refine Finset.sum_congr rfl fun j _ => ?_
      rw [if_pos (by simp [hl])]
      simp only [show l.val / 64 = 1 by omega, Nat.add_mod_left, Nat.mod_eq_of_lt j.isLt]
    · intro j _
      rw [if_neg (by simp [hl]), mul_zero]

theorem cb_read (c : FVec Ideal S128x512 .bf16) (b : FVec Ideal S512x128 .bf16) (g : ℕ) (hg : g < 4) (i j : Fin 128) :
    cbOf c b g hg (ix2 i j) = ∑ n : Fin 128, c (ix2 i ⟨128 * g + n.val, by omega⟩) * b (ix2 ⟨128 * g + n.val, by omega⟩ j) := by
  pointwise [cbOf]

/-- The printed spread: a row of lanes over the columns of its heads. -/
def spreadOf {F : FTy → Type} [FloatOps F] [Named F] (v58 : FVec F S264x128 .f32) (v59 : Vec F S128x2048 .bf16) : FVec F S264x2048 .f32 :=
  have v61 : FVec F S264x128 .bf16 := truncf .bf16 v58 bitsLt_bf16_f32
  have v62 : FVec F S264x128 .f32 := extf .f32 v61 bitsLt_bf16_f32
  have v63 : FVec F S264x128 .f32 := subf v58 v62
  have v65 : FVec F S264x128 .f32 := extf .f32 (truncf .bf16 v63 bitsLt_bf16_f32) bitsLt_bf16_f32
  have v66 : FVec F S264x128 .f32 := subf v63 v65
  have v68 : FVec F S264x128 .f32 := extf .f32 (truncf .bf16 v66 bitsLt_bf16_f32) bitsLt_bf16_f32
  have v69 : IVec S1x128 32 := iota .tc S1x128 32 [1] iota_S1x128_d1_w32
  have m (n : BitVec 32) : IVec S264x128 1 :=
    broadcastTo S264x128 (shapeCast S1x128 (cmpi .slt v69 (broadcast S1x128 n)) shapeCasts_S1x128_S1x128) broadcasts_S1x128_S264x128
  have v81 : FVec F S264x128 .f32 :=
    select (m 96#32) (dynamicRotate 1 64#32 none v68 rotates_S264x128_d1) (broadcast S264x128 (Scalar.ofBits .f32 0x00000000#32))
  have v84 : FVec F S264x128 .f32 := select (m 64#32) (dynamicRotate 1 32#32 none v65 rotates_S264x128_d1) v81
  matmul dot_S264x128_S128x2048_S264x2048_1_0_0_1_n_n none (truncf .bf16 (select (m 32#32) v62 v84) bitsLt_bf16_f32)
    (shapeCast S128x2048 v59 shapeCasts_S128x2048_S128x2048) (constant S264x2048 .f32 0x00000000#32)

/-- The rows that are spread: the decays to each token, from each token, over the chunk. -/
def stackOf {F : FTy → Type} [FloatOps F] [Named F] (q s : FVec F S128x128 .f32) : FVec F S264x128 .f32 :=
  concatenate S264x128 0
    [⟨S128x128, exp s⟩,
     ⟨S128x128, mulf q (exp (subf (broadcastTo S128x128 (extractStridedSlice S1x128 ![127, 0] s slices_S128x128_o127_0_S1x128) broadcasts_S1x128_S128x128) s))⟩,
     ⟨S8x128, broadcastTo S8x128 (shapeCast S1x128 (exp (extractStridedSlice S1x128 ![127, 0] s slices_S128x128_o127_0_S1x128)) shapeCasts_S1x128_S1x128) broadcasts_S1x128_S8x128⟩]
    concatenates_S128x128_S128x128_S8x128_S264x128_d0

theorem qe_eq {F : FTy → Type} [FloatOps F] [Named F] (d : Vec F S128x128 .f32) (b al : Vec F S1x1x128 .f32) (e : Vec F S128x2048 .bf16) :
    qeOf d b al e = spreadOf (stackOf (k0_pay3 d b) (k0_pay6 k0_pay4 (k0_pay5 d b al))) e := rfl

theorem spread_read (v : FVec Ideal S264x128 .f32) (e : Vec Ideal S128x2048 .bf16) (f : Fin 264 → Fin 128 → ℝ)
    (hv : ∀ r l, v (ix2 r l) = (f r l : EReal))
    (he : ∀ (l : Fin 128) (c : Fin 2048), e (ix2 l c) = if l.val % 32 = c.val / 64 ∧ l.val < 96 then 1 else 0)
    (r : Fin 264) (c : Fin 2048) :
    spreadOf v e (ix2 r c) = ((f r ⟨c.val / 64, by omega⟩ : ℝ) : EReal) := by
  have hk : c.val / 64 < 32 := by omega
  pointwise [spreadOf]
  rw [Finset.sum_eq_single ⟨c.val / 64, by omega⟩]
  · rw [sel_slt 32 _ (by omega) (by simp only; omega), if_pos hk, hv, he, if_pos (by simp only; omega), mul_one]
  · intro x _ hx
    have hx' : x.val ≠ c.val / 64 := fun h => hx (Fin.ext h)
    rw [sel_slt 32 _ (by omega) x.isLt, sel_slt 64 _ (by omega) x.isLt, sel_slt 96 _ (by omega) x.isLt]
    simp only [hv, coe_sub_self, sub_zero, ite_self]
    by_cases h : x.val < 32
    · rw [he, if_neg (show ¬ (x.val % 32 = c.val / 64 ∧ x.val < 96) by omega), mul_zero]
    · rw [if_neg h, zero_mul]
  · intro h; exact absurd (Finset.mem_univ _) h

/-- The rows that are spread, as real numbers. -/
def stackR (z : Fin 128 → Fin 128 → ℝ) (w : Fin 128 → ℝ) (r : Fin 264) (l : Fin 128) : ℝ :=
  if h : r.val < 128 then Real.exp (ac z w ⟨r.val, h⟩ l)
  else if h : r.val - 128 < 128 then sp (z ⟨r.val - 128, h⟩ l) * Real.exp (ac z w 127 l - ac z w ⟨r.val - 128, h⟩ l)
  else Real.exp (ac z w 127 l)

theorem stack_read (q s : FVec Ideal S128x128 .f32) (z : Fin 128 → Fin 128 → ℝ) (w : Fin 128 → ℝ)
    (hq : ∀ i l : Fin 128, q (ix2 i l) = ((sp (z i l) : ℝ) : EReal)) (hs : ∀ i l : Fin 128, s (ix2 i l) = ((ac z w i l : ℝ) : EReal))
    (r : Fin 264) (l : Fin 128) : stackOf q s (ix2 r l) = ((stackR z w r l : ℝ) : EReal) := by
  pointwise [stackOf]
  unfold stackR
  simp only [hq, hs, ← EReal.coe_sub, Ideal.exp_coe, ← EReal.coe_mul]
  split_ifs <;> rfl

section
variable {d : Vec Ideal S128x128 .f32} {b al : Vec Ideal S1x1x128 .f32} {e : Vec Ideal S128x2048 .bf16}
  {z : Fin 128 → Fin 128 → ℝ} {w : Fin 128 → ℝ}

theorem qe_read (hz : ∀ i l, d (ix2 i l) + b (ix3 0 0 l) = (z i l : EReal)) (hw : ∀ l, al (ix3 0 0 l) = (w l : EReal))
    (he : ∀ (l : Fin 128) (c : Fin 2048), e (ix2 l c) = if l.val % 32 = c.val / 64 ∧ l.val < 96 then 1 else 0)
    (r : Fin 264) (c : Fin 2048) :
    qeOf d b al e (ix2 r c) = ((stackR z w r ⟨c.val / 64, by omega⟩ : ℝ) : EReal) := by
  rw [qe_eq]
  exact spread_read _ _ _ (stack_read _ _ z w (pay3_read hz) (acum_read hz hw)) he r c

/-- `x` times its logistic. -/
def silu (x : EReal) : EReal := x * Ideal.logistic x

theorem xs_read (x : Vec Ideal S128x3072 .bf16) (i : Fin 128) (c : Fin 2048) :
    k0_pay15 x (ix2 i c) = silu (x (ix2 i ⟨c.val, by omega⟩)) := by
  unfold silu; pointwise [k0_pay15, k0_pay14]

theorem cm_read (x : Vec Ideal S128x3072 .bf16) (i : Fin 128) (n : Fin 512) :
    k0_pay16 x (ix2 i n) = silu (x (ix2 i ⟨2560 + n.val, by omega⟩)) := by
  unfold silu; pointwise [k0_pay16, k0_pay14]

theorem bm_read (x : Vec Ideal S128x3072 .bf16) (n : Fin 512) (i : Fin 128) :
    k0_pay17 x (ix2 n i) = silu (x (ix2 i ⟨2048 + n.val, by omega⟩)) := by
  unfold silu; pointwise [k0_pay17, k0_pay14]

/-- The products of `c`'s row `i` and `b`'s row `j` in group `g`. -/
def cbv (x : Vec Ideal S128x3072 .bf16) (g : ℕ) (hg : g < 4) (i j : Fin 128) : EReal :=
  ∑ n : Fin 128, silu (x (ix2 i ⟨2560 + (128 * g + n.val), by omega⟩)) * silu (x (ix2 j ⟨2048 + (128 * g + n.val), by omega⟩))

theorem cbv_read (x : Vec Ideal S128x3072 .bf16) (g : ℕ) (hg : g < 4) (i j : Fin 128) :
    cbOf (k0_pay16 x) (k0_pay17 x) g hg (ix2 i j) = cbv x g hg i j := by
  rw [cb_read]; simp only [cm_read, bm_read, cbv]

theorem intra_ofFn (L a2 : FVec Ideal S128x128 .f32) (x : FVec Ideal S128x2048 .bf16) (c : FVec Ideal S128x512 .bf16)
    (b : FVec Ideal S512x128 .bf16) :
    intraOf L a2 x c b = concatenate S128x2048 1 (List.ofFn fun n : Fin 16 =>
        (⟨S128x128, tileOf (cbOf c b (n.val / 4) (by omega)) L a2 x n.val n.isLt⟩ : (s : Shape) × (s.Idx → EReal)))
      concatenates_S128x128_S128x128_S128x128_S128x128_S128x128_S128x128_S128x128_S128x128_S128x128_S128x128_S128x128_S128x128_S128x128_S128x128_S128x128_S128x128_S128x2048_d1 :=
  rfl

theorem intra_read (hz : ∀ i l, d (ix2 i l) + b (ix3 0 0 l) = (z i l : EReal)) (hw : ∀ l, al (ix3 0 0 l) = (w l : EReal))
    (x : Vec Ideal S128x3072 .bf16) (i : Fin 128) (c : Fin 2048) :
    intraOf (k0_pay10 (acumOf d b al) k0_pay9) (a2Of d b al) (k0_pay84 (k0_pay15 x)) (k0_pay16 x) (k0_pay17 x) (ix2 i c)
      = ∑ j : Fin 128, (cbv x (c.val / 512) (by omega) i j * ((wt z w i j ⟨c.val / 64, by omega⟩ : ℝ) : EReal))
          * silu (x (ix2 j ⟨c.val, by omega⟩)) := by
  have h16 : ∀ (j : Fin 128) (c : Fin 2048), k0_pay84 (k0_pay15 x) (ix2 j c) = silu (x (ix2 j ⟨c.val, by omega⟩)) := fun j c => by
    rw [← xs_read]; rfl
  have ht := fun (g : ℕ) (hg : g < 4) (p : ℕ) (hp : p < 16) (i l : Fin 128) =>
    tile_read (cbOf (k0_pay16 x) (k0_pay17 x) g hg) _ _ (k0_pay84 (k0_pay15 x)) z w (l_read hz hw) (a2_read hz hw) p hp i l
  simp only [h16, cbv_read] at ht
  have key : ∀ (p : ℕ) (hp : p < 16) (l : Fin 128) (hl : c.val = 128 * p + l.val),
      tileOf (cbOf (k0_pay16 x) (k0_pay17 x) (p / 4) (by omega)) (k0_pay10 (acumOf d b al) k0_pay9) (a2Of d b al) (k0_pay84 (k0_pay15 x)) p hp (ix2 i l)
        = ∑ j : Fin 128, (cbv x (c.val / 512) (by omega) i j * ((wt z w i j ⟨c.val / 64, by omega⟩ : ℝ) : EReal))
          * silu (x (ix2 j ⟨c.val, by omega⟩)) := by
    intro p hp l hl
    rw [ht]
    have e1 : p / 4 = c.val / 512 := by omega
    have e2 : 2 * p + l.val / 64 = c.val / 64 := by omega
    simp only [e1, e2, ← hl]
  rw [intra_ofFn]
  refine (concatenate_ofFn_apply (t := S128x2048) (s₁ := S128x128) 1 _ _ rfl 128 rfl (ix2 i c) ⟨c.val / 128, by omega⟩ rfl
    (ix2 i ⟨c.val % 128, by omega⟩) rfl (fun b hb => ?_)).trans (key _ _ _ ?_)
  · fin_cases b
    · rfl
    · exact absurd rfl hb
  · simp only; omega

/-- The state after a chunk: what is left of it, and what the chunk's tokens bring. -/
theorem st_read (hz : ∀ i l, d (ix2 i l) + b (ix3 0 0 l) = (z i l : EReal)) (hw : ∀ l, al (ix3 0 0 l) = (w l : EReal))
    (he : ∀ (l : Fin 128) (c : Fin 2048), e (ix2 l c) = if l.val % 32 = c.val / 64 ∧ l.val < 96 then 1 else 0)
    (x : Vec Ideal S128x3072 .bf16) (st : Vec Ideal S128x2048 .f32) (n : Fin 128) (c : Fin 2048) :
    stOf d b al e x st (ix2 n c)
      = st (ix2 n c) * ((Real.exp (ac z w 127 ⟨c.val / 64, by omega⟩) : ℝ) : EReal)
        + ∑ j : Fin 128, silu (x (ix2 j ⟨2048 + (128 * (c.val / 512) + n.val), by omega⟩))
            * (silu (x (ix2 j ⟨c.val, by omega⟩))
              * ((sp (z j ⟨c.val / 64, by omega⟩) * Real.exp (ac z w 127 ⟨c.val / 64, by omega⟩ - ac z w j ⟨c.val / 64, by omega⟩) : ℝ) : EReal)) := by
  have hq := qe_read hz hw he
  unfold stOf
  have h0 : stackR z w 256 ⟨c.val / 64, by omega⟩ = Real.exp (ac z w 127 ⟨c.val / 64, by omega⟩) := rfl
  have h1 : ∀ j : Fin 128, stackR z w ⟨128 + j.val, by omega⟩ ⟨c.val / 64, by omega⟩
      = sp (z j ⟨c.val / 64, by omega⟩) * Real.exp (ac z w 127 ⟨c.val / 64, by omega⟩ - ac z w j ⟨c.val / 64, by omega⟩) := fun j => by
    have e : 128 + j.val - 128 = j.val := by omega
    unfold stackR
    rw [dif_neg (by simp), dif_pos (by simp only; omega)]
    simp only [e, Fin.eta]
  pointwise [k0_pay277, k0_pay13, k0_pay271, k0_pay12]
  simp only [hq, h0, bm_read, xs_read]
  congr 1
  by_cases c0 : c.val < 512
  · rw [dif_pos c0]
    simp only [h1, show c.val / 512 = 0 by omega, Nat.mul_zero, Nat.zero_add]
  rw [dif_neg c0]
  by_cases c1 : c.val - 512 < 512
  · rw [dif_pos c1]
    simp only [show 512 + (c.val - 512) = c.val by omega, h1, show c.val / 512 = 1 by omega, Nat.mul_one]
  rw [dif_neg c1]
  by_cases c2 : c.val - 512 - 512 < 512
  · rw [dif_pos c2]
    simp only [show 1024 + (c.val - 512 - 512) = c.val by omega, h1, show c.val / 512 = 2 by omega, Nat.reduceMul]
  rw [dif_neg c2]
  simp only [show 1536 + (c.val - 512 - 512 - 512) = c.val by omega, h1, show c.val / 512 = 3 by omega, Nat.reduceMul]

/-- A chunk's rows of `y`: from its own tokens, from the state before it, and the token's own. -/
theorem y_read (hz : ∀ i l, d (ix2 i l) + b (ix3 0 0 l) = (z i l : EReal)) (hw : ∀ l, al (ix3 0 0 l) = (w l : EReal))
    (he : ∀ (l : Fin 128) (c : Fin 2048), e (ix2 l c) = if l.val % 32 = c.val / 64 ∧ l.val < 96 then 1 else 0)
    (x : Vec Ideal S128x3072 .bf16) (D : Vec Ideal S1x1x2048 .f32) (st : Vec Ideal S128x2048 .f32) (i : Fin 128) (c : Fin 2048) :
    yOf d b al e x D st (ix2 i c)
      = ((∑ j : Fin 128, (cbv x (c.val / 512) (by omega) i j * ((wt z w i j ⟨c.val / 64, by omega⟩ : ℝ) : EReal))
            * silu (x (ix2 j ⟨c.val, by omega⟩)))
          + (∑ n : Fin 128, silu (x (ix2 i ⟨2560 + (128 * (c.val / 512) + n.val), by omega⟩)) * st (ix2 n c))
            * ((Real.exp (ac z w i ⟨c.val / 64, by omega⟩) : ℝ) : EReal))
        + D (ix3 0 0 c) * silu (x (ix2 i ⟨c.val, by omega⟩)) := by
  have hq := qe_read hz hw he
  have hi := intra_read hz hw x i c
  unfold yOf
  generalize intraOf (k0_pay10 (acumOf d b al) k0_pay9) (a2Of d b al) (k0_pay84 (k0_pay15 x)) (k0_pay16 x) (k0_pay17 x) = I at hi
  have h1 : stackR z w ⟨i.val, by omega⟩ ⟨c.val / 64, by omega⟩ = Real.exp (ac z w i ⟨c.val / 64, by omega⟩) := by
    unfold stackR; rw [dif_pos (by simp)]
  pointwise [k0_pay278, k0_pay11, k0_pay272, k0_pay273, k0_pay274, k0_pay275, k0_pay276]
  rw [hi, hq, h1, xs_read]
  simp only [cm_read]
  congr 3
  by_cases c0 : c.val < 512
  · rw [dif_pos c0]
    simp only [show c.val / 512 = 0 by omega, Nat.mul_zero, Nat.zero_add]
  rw [dif_neg c0]
  by_cases c1 : c.val - 512 < 512
  · rw [dif_pos c1]
    simp only [show 512 + (c.val - 512) = c.val by omega, show c.val / 512 = 1 by omega, Nat.mul_one, Fin.eta]
  rw [dif_neg c1]
  by_cases c2 : c.val - 512 - 512 < 512
  · rw [dif_pos c2]
    simp only [show 1024 + (c.val - 512 - 512) = c.val by omega, show c.val / 512 = 2 by omega, Nat.reduceMul, Fin.eta]
  rw [dif_neg c2]
  simp only [show 1536 + (c.val - 512 - 512 - 512) = c.val by omega, show c.val / 512 = 3 by omega, Nat.reduceMul, Fin.eta]
end

end Cert.KernelIdeal.Ssd

end
-- ==== Proof.Ssd.Spec.lean ====
/- The recurrence over chunks, as plain formulas. -/
module

public import proofs.«01_k».proof.Proof.Ssd.Reads

@[expose] public section

noncomputable section

namespace Cert.Ssd

open Idealize.ShloMosaic Cert.KernelIdeal.Ssd

/-- The running sum of one head's log decays over a chunk: `z` the raw steps, `w` the head's `a_log`. -/
def cu (z : Fin 128 → ℝ) (w : ℝ) (i : Fin 128) : ℝ := ∑ j : Fin 128, if j ≤ i then sp (z j) * -Real.exp w else 0

/-- Token `i` of chunk `k`. -/
def tok (k : ℕ) (i : Fin 128) : Fin 2048 := ⟨(128 * k + i.val) % 2048, Nat.mod_lt _ (by decide)⟩

variable (xc : Fin 8 → Fin 2048 → Fin 3072 → EReal) (zt : Fin 8 → Fin 2048 → Fin 32 → ℝ) (w : Fin 32 → ℝ)
  (D : Fin 32 → EReal) (s0 : Fin 32 → Fin 64 → Fin 128 → EReal)

/-- The head of a column. -/
def hd (c : Fin 2048) : Fin 32 := ⟨c.val / 64, by omega⟩

/-- The log decay of head `h` up to token `i` of chunk `k`. -/
def lg (s : Fin 8) (k : ℕ) (h : Fin 32) (i : Fin 128) : ℝ := cu (fun j => zt s (tok k j) h) (w h) i

/-- The activated channel `c` of token `j` of chunk `k`. -/
def sx (s : Fin 8) (k : ℕ) (j : Fin 128) (c : Fin 3072) : EReal := silu (xc s (tok k j) c)

/-- What chunk `k` adds to the state. -/
def gain (s : Fin 8) (k : ℕ) (n : Fin 128) (c : Fin 2048) : EReal :=
  ∑ j : Fin 128, sx xc s k j ⟨2048 + (128 * (c.val / 512) + n.val), by omega⟩
    * (sx xc s k j ⟨c.val, by omega⟩
      * ((sp (zt s (tok k j) (hd c)) * Real.exp (lg zt w s k (hd c) 127 - lg zt w s k (hd c) j) : ℝ) : EReal))

/-- The state before chunk `k` of sequence `s`: entry `n` of column `c`. -/
def St (s : Fin 8) : ℕ → Fin 128 → Fin 2048 → EReal
  | 0, n, c => s0 (hd c) ⟨c.val % 64, Nat.mod_lt _ (by decide)⟩ n
  | k + 1, n, c => St s k n c * ((Real.exp (lg zt w s k (hd c) 127) : ℝ) : EReal) + gain xc zt w s k n c

/-- The output of token `i` of chunk `k` at column `c`. -/
def Yv (s : Fin 8) (k : ℕ) (i : Fin 128) (c : Fin 2048) : EReal :=
  ((∑ j : Fin 128, ((∑ n : Fin 128, sx xc s k i ⟨2560 + (128 * (c.val / 512) + n.val), by omega⟩
        * sx xc s k j ⟨2048 + (128 * (c.val / 512) + n.val), by omega⟩)
      * (((if j ≤ i then Real.exp (lg zt w s k (hd c) i - lg zt w s k (hd c) j) * sp (zt s (tok k j) (hd c)) else 0 : ℝ)) : EReal))
        * sx xc s k j ⟨c.val, by omega⟩)
    + (∑ n : Fin 128, sx xc s k i ⟨2560 + (128 * (c.val / 512) + n.val), by omega⟩ * St xc zt w s0 s k n c)
      * ((Real.exp (lg zt w s k (hd c) i) : ℝ) : EReal))
  + D (hd c) * sx xc s k i ⟨c.val, by omega⟩

end Cert.Ssd

end
-- ==== Proof.Ssd.Kernel.lean ====
/- The kernel's blocks and its carried state follow the recurrence. -/
module

public import proofs.«01_k».proof.Proof.Ssd.Blocks
public import proofs.«01_k».proof.Proof.Ssd.Spec

@[expose] public section

set_option maxRecDepth 16384

noncomputable section

namespace Cert.KernelIdeal.Ssd

open Idealize.ShloMosaic Idealize.ShloMosaic.TcCoe Idealize.SL.Sem Cert.KernelIdeal.Gen Cert.Ssd

theorem dR_apply (X : Vec Ideal S512x128 .f32) (k : ℕ) (hk : k < 4) (i l : Fin 128) :
    dR X k hk (ix2 i l) = X (ix2 ⟨128 * k + i.val, by omega⟩ l) := by
  unfold dR
  refine congrArg X (funext fun a => Fin.ext ?_)
  refine (Rect.idx_unit_val _ _ _ _ _).trans ?_
  revert a
  exact Fin.forall_fin_two.mpr ⟨rfl, by change 0 + l.val = l.val; omega⟩

theorem xR_apply (X : Vec Ideal S512x3072 .bf16) (k : ℕ) (hk : k < 4) (i : Fin 128) (l : Fin 3072) :
    xR X k hk (ix2 i l) = X (ix2 ⟨128 * k + i.val, by omega⟩ l) := by
  unfold xR
  refine congrArg X (funext fun a => Fin.ext ?_)
  refine (Rect.idx_unit_val _ _ _ _ _).trans ?_
  revert a
  exact Fin.forall_fin_two.mpr ⟨rfl, by change 0 + l.val = l.val; omega⟩

variable (m : (ℓ : Loc nD τ sig) → Buf (Elt Ideal) ℓ) (c : Dev nD)

/-- The arguments, as the recurrence takes them. -/
abbrev aX : Fin 8 → Fin 2048 → Fin 3072 → EReal := fun s t l => m ((c : Thread nD τ).loc main_arg0) (ix3 s t l)
abbrev aT : Fin 8 → Fin 2048 → Fin 32 → EReal := fun s t h => m ((c : Thread nD τ).loc main_arg1) (ix3 s t h)
abbrev aB : Fin 32 → EReal := fun h => m ((c : Thread nD τ).loc main_arg2) (ix2 1 h)
abbrev aW : Fin 32 → EReal := fun h => m ((c : Thread nD τ).loc main_arg3) (ix2 1 h)
abbrev aD : Fin 32 → EReal := fun h => m ((c : Thread nD τ).loc main_arg4) (ix2 1 h)
abbrev aS : Fin 32 → Fin 64 → Fin 128 → EReal := fun h p n => m ((c : Thread nD τ).loc main_arg5) (ix4 0 h p n)

variable {m c} {zt : Fin 8 → Fin 2048 → Fin 32 → ℝ} {w : Fin 32 → ℝ}

/-- The real raw steps and `a_log`s on all lanes. -/
def zL (zt : Fin 8 → Fin 2048 → Fin 32 → ℝ) (s : Fin 8) (k : ℕ) (i l : Fin 128) : ℝ :=
  if h : l.val < 32 then zt s (tok k i) ⟨l.val, h⟩ else 0
def wL (w : Fin 32 → ℝ) (l : Fin 128) : ℝ := if h : l.val < 32 then w ⟨l.val, h⟩ else 0

theorem zL_hd (s : Fin 8) (k : ℕ) (i : Fin 128) (q : Fin 2048) : zL zt s k i ⟨q.val / 64, by omega⟩ = zt s (tok k i) (hd q) :=
  dif_pos (by change q.val / 64 < 32; omega)

theorem ac_hd (s : Fin 8) (k : ℕ) (i : Fin 128) (q : Fin 2048) :
    ac (zL zt s k) (wL w) i ⟨q.val / 64, by omega⟩ = lg zt w s k (hd q) i := by
  unfold ac lg cu
  refine Finset.sum_congr rfl fun j _ => ?_
  rw [zL_hd, show wL w ⟨q.val / 64, by omega⟩ = w (hd q) from dif_pos (by change q.val / 64 < 32; omega)]

variable (m c) in
/-- The biases, `a_log`s and head map a point loads. -/
abbrev bB (t : Fin cfg0.N) : Vec Ideal S1x1x128 .f32 := iblk m c 2 t
variable (m c) in
abbrev wB (t : Fin cfg0.N) : Vec Ideal S1x1x128 .f32 := iblk m c 3 t
variable (m c) in
abbrev eB (t : Fin cfg0.N) : Vec Ideal S128x2048 .bf16 := iblk m c 5 t

section Point

variable (hz : ∀ s t h, aT m c s t h + aB m c h = (zt s t h : EReal))
  (hw : ∀ h, aW m c h = (w h : EReal))
  (t : Fin cfg0.N) (s : Fin 8) (b : ℕ) (hb : b < 4) (ht : t.val = 4 * s.val + b)

include hz ht hb in
theorem hzL (k : ℕ) (hk : k < 4) (i l : Fin 128) :
    dR (F := Ideal) (iblk m c 1 t) k hk (ix2 i l) + bB m c t (ix3 0 0 l) = (zL zt s (4 * b + k) i l : EReal) := by
  have htok : (tok (4 * b + k) i).val = 512 * b + (128 * k + i.val) := by
    change (128 * (4 * b + k) + i.val) % 2048 = _
    omega
  dsimp only [bB]
  rw [dR_apply, b1, b2, e17, e26 m c s (tok (4 * b + k) i) _ (by rw [htok]; change 512 * t.val + (128 * k + i.val) = _; omega)]
  unfold zL
  split
  · exact hz _ _ _
  · simp

include hw in
theorem hwL (l : Fin 128) : wB m c t (ix3 0 0 l) = (wL w l : EReal) := by
  dsimp only [wB]
  rw [b3, e19]
  unfold wL
  split
  · exact hw _
  · simp

theorem heL (l : Fin 128) (q : Fin 2048) :
    eB m c t (ix2 l q) = if l.val % 32 = q.val / 64 ∧ l.val < 96 then 1 else 0 := by
  dsimp only [eB]
  rw [b5, e15]

include ht hb in
theorem hxL (k : ℕ) (hk : k < 4) (j : Fin 128) (l : Fin 3072) :
    silu (xR (F := Ideal) (iblk m c 0 t) k hk (ix2 j l)) = sx (aX m c) s (4 * b + k) j l := by
  have htok : (tok (4 * b + k) j).val = 512 * b + (128 * k + j.val) := by
    change (128 * (4 * b + k) + j.val) % 2048 = _
    omega
  rw [xR_apply, b0, e24 m c s (tok (4 * b + k) j) _ (by rw [htok]; change 512 * t.val + (128 * k + j.val) = _; omega)]
  rfl

include hz hw ht hb in
theorem stB_spec (S : Vec Ideal S128x2048 .f32) (hS : ∀ n q, S (ix2 n q) = St (aX m c) zt w (aS m c) s (4 * b) n q) :
    ∀ (k : ℕ) (hk : k ≤ 4) (n : Fin 128) (q : Fin 2048),
      stB m c t S k hk (ix2 n q) = St (aX m c) zt w (aS m c) s (4 * b + k) n q
  | 0, _, n, q => hS n q
  | k + 1, hk, n, q => by
    refine (st_read (hzL hz t s b hb ht k (by omega)) (hwL hw t) (heL t) _ _ n q).trans ?_
    rw [stB_spec S hS k (by omega) n q, ac_hd]
    refine congrArg _ (Finset.sum_congr rfl fun j _ => ?_)
    rw [hxL t s b hb ht, hxL t s b hb ht, ac_hd, zL_hd]
    rfl

include hz hw ht hb in
theorem yB_spec (S : Vec Ideal S128x2048 .f32) (hS : ∀ n q, S (ix2 n q) = St (aX m c) zt w (aS m c) s (4 * b) n q)
    (k : ℕ) (hk : k < 4) (i : Fin 128) (q : Fin 2048) :
    yB m c t S k hk (ix2 i q) = Yv (aX m c) zt w (aD m c) (aS m c) s (4 * b + k) i q := by
  refine (y_read (hzL hz t s b hb ht k hk) (hwL hw t) (heL t) _ _ _ i q).trans ?_
  rw [b4, e22, ac_hd, hxL t s b hb ht]
  refine congrArg₂ _ (congrArg₂ _ (Finset.sum_congr rfl fun j _ => ?_) (congrArg (· * _) (Finset.sum_congr rfl fun n _ => ?_))) rfl
  · rw [hxL t s b hb ht]
    refine congrArg (· * _) (congrArg₂ _ (Finset.sum_congr rfl fun n _ => ?_) ?_)
    · rw [hxL t s b hb ht, hxL t s b hb ht]
    · unfold wt
      rw [ac_hd, ac_hd, zL_hd]
  · rw [hxL t s b hb ht, stB_spec hz hw t s b hb ht S hS k (by omega) n q]

end Point

section Grid

variable (hz : ∀ s t h, aT m c s t h + aB m c h = (zt s t h : EReal))
  (hw : ∀ h, aW m c h = (w h : EReal))

include hz hw in
theorem pre_spec : ∀ (u : ℕ) (hu : u < cfg0.N) (s : Fin 8) (b : ℕ) (_ : b < 4) (_ : u = 4 * s.val + b) (n : Fin 128) (q : Fin 2048),
    preS m c ⟨u, hu⟩ (ix2 n q) = St (aX m c) zt w (aS m c) s (4 * b) n q
  | u, hu, s, 0, hb, e, n, q => by
    rw [preS, if_pos (by change u % 4 = 0; omega)]
    refine (show k0_pay2 (iblk m c 6 ⟨u, hu⟩) (ix2 n q) = iblk m c 6 ⟨u, hu⟩ (ix3 0 q n) by pointwise [k0_pay2]).trans ?_
    rw [b6, e27]
    rfl
  | 0, hu, s, b + 1, hb, e, n, q => absurd e (by omega)
  | u + 1, hu, s, b + 1, hb, e, n, q => by
    rw [preS, if_neg (by change ¬(u + 1) % 4 = 0; omega)]
    have hu' : u < cfg0.N := Nat.lt_of_succ_lt hu
    refine (congrFun (scratch_eq m c ⟨u, hu'⟩) (ix2 n q)).trans ?_
    exact stB_spec hz hw ⟨u, hu'⟩ s b (by omega) (by change u = _; omega) _
      (fun n q => pre_spec u hu' s b (by omega) (by omega) n q) 4 (by decide) n q

include hz hw in
theorem y_spec (t : Fin cfg0.N) (s : Fin 8) (b : ℕ) (hb : b < 4) (ht : t.val = 4 * s.val + b) (k : ℕ) (hk : k < 4)
    (y : Fin 512) (i : Fin 128) (hy : y.val = 128 * k + i.val) (q : Fin 2048) :
    (outsAt0 m c t.val t.isLt).1 (ix2 y q) = Yv (aX m c) zt w (aD m c) (aS m c) s (4 * b + k) i q :=
  (y_eq m c t k hk (ix2 y q) (ix2 i q) hy rfl).trans
    (yB_spec hz hw t s b hb ht _ (fun n q => pre_spec hz hw t.val t.isLt s b hb ht n q) k hk i q)

include hz hw in
theorem ssm_spec (t : Fin cfg0.N) (s : Fin 8) (ht : t.val = 4 * s.val + 3) (q : Fin 2048) (n : Fin 128) :
    (outsAt0 m c t.val t.isLt).2.1 (ix4 0 0 q n) = St (aX m c) zt w (aS m c) s 16 n q := by
  refine (congrFun (ssm_eq m c t (by omega)) _).trans ?_
  refine (show k0_pay1 (stB m c t (preS m c t) 4 (by decide)) (ix4 0 0 q n) = stB m c t (preS m c t) 4 (by decide) (ix2 n q) by
    pointwise [k0_pay1]).trans ?_
  exact stB_spec hz hw t s 3 (by decide) ht _ (fun n q => pre_spec hz hw t.val t.isLt s 3 (by decide) ht n q) 4 (by decide) n q

end Grid

end Cert.KernelIdeal.Ssd

end
-- ==== Proof.Ssd.Arrays.lean ====
/- What the call leaves in its two result arrays. -/
module

public import proofs.«01_k».proof.Proof.Ssd.Kernel
public import proofs.«01_k».proof.Proof.Gen.KernelIdeal.Value

@[expose] public section

set_option maxRecDepth 16384

noncomputable section

namespace Cert.KernelIdeal.Ssd

open Idealize.ShloMosaic Idealize.ShloMosaic.TcCoe Idealize.SL.Sem Cert.KernelIdeal.Gen Cert.Ssd

variable {m : (ℓ : Loc nD τ sig) → Buf (Elt Ideal) ℓ} {c : Dev nD} {zt : Fin 8 → Fin 2048 → Fin 32 → ℝ} {w : Fin 32 → ℝ}
  (hz : ∀ s t h, aT m c s t h + aB m c h = (zt s t h : EReal)) (hw : ∀ h, aW m c h = (w h : EReal))

variable (m c zt w) in
/-- The outputs: the prompt's rows computed, the rest as given. -/
def yArr (i : S17920x2048.Idx) : EReal :=
  if h : (i 0).val < 16384 then
    Yv (aX m c) zt w (aD m c) (aS m c) ⟨(i 0).val / 2048, by omega⟩ ((i 0).val % 2048 / 128) ⟨(i 0).val % 128, Nat.mod_lt _ (by decide)⟩ (i 1)
  else m ((c : Thread nD τ).loc main_arg6) i

variable (m c zt w) in
/-- The states: layer 1 computed, layer 0 as given. -/
def sArr (i : S2x8x2048x128.Idx) : EReal :=
  if (i 0).val = 1 then St (aX m c) zt w (aS m c) (i 1) 16 (i 3) (i 2) else m ((c : Thread nD τ).loc main_arg7) i

theorem yArr_rest (i : S17920x2048.Idx) (h : ¬ (i 0).val < 16384) : yArr m c zt w i = m ((c : Thread nD τ).loc main_arg6) i := by
  unfold yArr
  exact dif_neg h

theorem yArr_at (s : Fin 8) (k : ℕ) (hk : k < 16) (i : Fin 128) (col : Fin 2048) (q : Fin 17920) (hq : q.val = 2048 * s.val + 128 * k + i.val) :
    yArr m c zt w (ix2 q col) = Yv (aX m c) zt w (aD m c) (aS m c) s k i col := by
  unfold yArr
  refine (dif_pos (show q.val < 16384 by omega)).trans ?_
  have e1 : (⟨q.val / 2048, by omega⟩ : Fin 8) = s := Fin.ext (by change q.val / 2048 = s.val; omega)
  have e2 : q.val % 2048 / 128 = k := by omega
  have e3 : (⟨q.val % 128, Nat.mod_lt _ (by decide)⟩ : Fin 128) = i := Fin.ext (by change q.val % 128 = i.val; omega)
  change Yv (aX m c) zt w (aD m c) (aS m c) ⟨q.val / 2048, _⟩ (q.val % 2048 / 128) ⟨q.val % 128, _⟩ col = _
  rw [e1, e2, e3]

include hz hw in
theorem y_point (t : Fin cfg0.N) (y : S512x2048.Idx) (q : S17920x2048.Idx) (h0 : (q 0).val = 512 * t.val + (y 0).val) (h1 : (q 1).val = (y 1).val) :
    (outsAt0 m c t.val t.isLt).1 y = yArr m c zt w q := by
  have ht : t.val < 32 := t.isLt
  have hy : (y 0).val < 512 := (y 0).isLt
  rw [eq_ix2 y, eq_ix2 q]
  refine (y_spec hz hw t ⟨t.val / 4, by omega⟩ (t.val % 4) (by omega) (by change t.val = 4 * (t.val / 4) + t.val % 4; omega) ((y 0).val / 128)
    (by omega) (y 0) ⟨(y 0).val % 128, by omega⟩ (by change (y 0).val = 128 * ((y 0).val / 128) + (y 0).val % 128; omega) (y 1)).trans ?_
  rw [yArr_at ⟨t.val / 4, by omega⟩ (4 * (t.val % 4) + (y 0).val / 128) (by omega) ⟨(y 0).val % 128, by omega⟩ (q 1) (q 0)
    (by change (q 0).val = 2048 * (t.val / 4) + 128 * (4 * (t.val % 4) + (y 0).val / 128) + (y 0).val % 128; omega)]
  exact congrArg _ (Fin.ext h1.symm)

include hz hw in
theorem s_point (t : Fin cfg0.N) (ht3 : t.val % 4 = 3) (y : S1x1x2048x128.Idx) (q : S2x8x2048x128.Idx) (h0 : (q 0).val = 1) (h1 : (q 1).val = t.val / 4)
    (h2 : (q 2).val = (y 2).val) (h3 : (q 3).val = (y 3).val) : (outsAt0 m c t.val t.isLt).2.1 y = sArr m c zt w q := by
  have ht : t.val < 32 := t.isLt
  have e : y = ix4 0 0 (y 2) (y 3) := funext fun a => by
    match a with
    | ⟨0, _⟩ => exact Fin.ext (by have h : (y 0).val < 1 := (y 0).isLt; change (y 0).val = 0; omega)
    | ⟨1, _⟩ => exact Fin.ext (by have h : (y 1).val < 1 := (y 1).isLt; change (y 1).val = 0; omega)
    | ⟨2, _⟩ => rfl
    | ⟨3, _⟩ => rfl
  unfold sArr
  rw [if_pos h0, e]
  refine (ssm_spec hz hw t (q 1) (by rw [h1]; omega) (y 2) (y 3)).trans ?_
  exact congrArg₂ _ (Fin.ext h3.symm) (Fin.ext h2.symm)

include hz hw in
theorem y_cov : (dats m 0 c).arrAt 7 cfg0.N = fun i : S17920x2048.Idx => if (i 0).val < 16384 then yArr m c zt w i else V m c main_v28_0 i := by
  refine (dats m 0 c).arrAt_eq_of_coversWhere 7 _ (fun β => β 0 < 32) (by decide +kernel) (fun t hf y => ?_)
    (fun j => by blk_simp [Pipeline.Window.cell_apply]; omega)
  blk_simp
  rw [after0_7]
  exact y_point hz hw t _ _ (by blk_simp [widx t]; try omega) (by blk_simp [widx t]; try omega)

include hz hw in
theorem s_cov : (dats m 0 c).arrAt 8 cfg0.N = fun i : S2x8x2048x128.Idx => if (i 0).val = 1 then sArr m c zt w i else V m c main_v28_1 i := by
  refine (dats m 0 c).arrAt_eq_of_coversWhere 8 _ (fun β => β 0 = 1) (by decide +kernel) (fun t hf y => ?_)
    (fun j => by blk_simp [Pipeline.Window.cell_apply]; omega)
  blk_simp
  rw [after0_8]
  exact s_point hz hw t ((flush0_8 t).mp hf) _ _ (by blk_simp [widx t]; try omega) (by blk_simp [widx t]; try omega) (by blk_simp [widx t]; try omega) (by blk_simp [widx t]; try omega)

include hz hw in
theorem y_arr : (dats m 0 c).arrAt 7 cfg0.N = yArr m c zt w := by
  rw [y_cov hz hw]
  funext i
  split
  · rfl
  · rename_i h
    rw [V6]
    unfold yArr
    rw [dif_neg h]

include hz hw in
theorem s_arr : (dats m 0 c).arrAt 8 cfg0.N = sArr m c zt w := by
  rw [s_cov hz hw]
  funext i
  split
  · rfl
  · rename_i h
    rw [V7]
    unfold sArr
    rw [if_neg h]

end Cert.KernelIdeal.Ssd

end
-- ==== Proof.Ssd.Scan.lean ====
/- The running sum along a chunk, read at an index. -/
module

public import proofs.«01_k».proof.Proof.Gen.ReferenceIdeal
public import Idealize.ShloMosaic.Lib.Pipeline.ValueKit
public import Idealize.ShloMosaic.Lib.ValueIdxRank6

@[expose] public section

noncomputable section

namespace Cert.ReferenceIdeal.Ssd

open Idealize.ShloMosaic

/-- Folding a sum is adding the sum to the initial value. -/
theorem foldl_add {n : ℕ} (f : Fin n → EReal) (v : EReal) : (List.finRange n).foldl (fun r i => r + f i) v = v + ∑ i, f i := by
  have h : ∀ (l : List (Fin n)) (v : EReal), l.foldl (fun r i => r + f i) v = v + (l.map f).sum := fun l => by
    induction l with
    | nil => intro v; simp
    | cons a l ih => intro v; rw [List.foldl_cons, ih, List.map_cons, List.sum_cons, add_assoc]
  rw [h, Fin.sum_univ_def]

theorem window_add {s t u : Shape} (window strides lo hi : Fin s.rank → ℕ) (x : s.Idx → EReal) (init : u.Idx → EReal)
    (h : s.ReduceWindows window strides lo hi t) (hu : 0 < u.numel) (h0 : init (Shape.Idx.first hu) = 0) (j : t.Idx) :
    Host.reduceWindowAdd (F := Ideal) (φ := .f32) window strides lo hi x init h hu j
      = ∑ n : Fin (⟨s.rank, window⟩ : Shape).numel,
          if hin : ∀ a, lo a ≤ (j (a.cast h.1.symm)).val * strides a + ((⟨s.rank, window⟩ : Shape).rowMajor.symm n a).val
              ∧ (j (a.cast h.1.symm)).val * strides a + ((⟨s.rank, window⟩ : Shape).rowMajor.symm n a).val - lo a < s.size a
          then x (fun a => ⟨(j (a.cast h.1.symm)).val * strides a + ((⟨s.rank, window⟩ : Shape).rowMajor.symm n a).val - lo a, (hin a).2⟩)
          else 0 := by
  refine Eq.trans (b := Host.reduceWindow (· + ·) window strides lo hi x (fun _ : (⟨0, ![]⟩ : Shape).Idx => init (Shape.Idx.first hu)) h (by decide) j) rfl ?_
  unfold Host.reduceWindow
  simp only [h0]
  exact (foldl_add _ _).trans (zero_add (∑ n, _))

/-- A window of 128 padded low by 127 covers the places up to `i`. -/
theorem window_sum (f : Fin 128 → EReal) (i : Fin 128) :
    (∑ n : Fin 128, if h : 127 ≤ i.val + n.val then f ⟨i.val + n.val - 127, by omega⟩ else 0) = ∑ j : Fin 128, if j ≤ i then f j else 0 := by
  rw [← Equiv.sum_comp (Equiv.addRight (i + 1)) fun j => if j ≤ i then f j else 0]
  refine Finset.sum_congr rfl fun n _ => ?_
  have e : (Equiv.addRight (i + 1) n).val = (n.val + (i.val + 1)) % 128 := by
    change (n.val + (i.val + 1) % 128) % 128 = _
    omega
  by_cases h : 127 ≤ i.val + n.val
  · rw [dif_pos h, if_pos (Fin.le_def.mpr (by rw [e]; omega))]
    exact congrArg f (Fin.ext (by rw [e]; change i.val + n.val - 127 = _; omega))
  · rw [dif_neg h, if_neg (fun hh => absurd (Fin.le_def.mp hh) (by rw [e]; omega))]

abbrev WinS : Shape := ⟨5, ![1, 1, 128, 1, 1]⟩

theorem win_coord (n : Fin WinS.numel) : (WinS.rowMajor.symm n 0).val = 0 ∧ (WinS.rowMajor.symm n 1).val = 0
    ∧ (WinS.rowMajor.symm n 2).val = n.val ∧ (WinS.rowMajor.symm n 3).val = 0 ∧ (WinS.rowMajor.symm n 4).val = 0 := by
  have h := Shape.rowMajor_val_five (WinS.rowMajor.symm n)
  rw [Equiv.apply_symm_apply] at h
  generalize WinS.rowMajor.symm n = z at h
  have h0 : (z 0).val < 1 := (z 0).isLt
  have h1 : (z 1).val < 1 := (z 1).isLt
  have h3 : (z 3).val < 1 := (z 3).isLt
  have h4 : (z 4).val < 1 := (z 4).isLt
  have h' : n.val = ((((z 0).val * 1 + (z 1).val) * 128 + (z 2).val) * 1 + (z 3).val) * 1 + (z 4).val := h
  omega

theorem cumsum_read (x : S8x16x128x4x8.Idx → EReal) (init : S_.Idx → EReal) (h0 : ∀ i, init i = 0)
    (h : S8x16x128x4x8.ReduceWindows ![1, 1, 128, 1, 1] ![1, 1, 1, 1, 1] ![0, 0, 127, 0, 0] ![0, 0, 0, 0, 0] S8x16x128x4x8) (hu : 0 < S_.numel)
    (s : Fin 8) (k : Fin 16) (i : Fin 128) (g : Fin 4) (r : Fin 8) :
    Host.reduceWindowAdd (F := Ideal) (φ := .f32) ![1, 1, 128, 1, 1] ![1, 1, 1, 1, 1] ![0, 0, 127, 0, 0] ![0, 0, 0, 0, 0] x init h hu (ix5 s k i g r)
      = ∑ j : Fin 128, if j ≤ i then x (ix5 s k j g r) else 0 := by
  rw [window_add _ _ _ _ _ _ _ _ (h0 _)]
  change (∑ n : Fin WinS.numel, _) = _
  rw [← Equiv.sum_comp (finCongr (by decide : 128 = WinS.numel))]
  refine Eq.trans (Finset.sum_congr rfl fun n _ => ?_) (window_sum (fun j => x (ix5 s k j g r)) i)
  obtain ⟨c0, c1, c2, c3, c4⟩ := win_coord (finCongr (by decide : 128 = WinS.numel) n)
  have cn : (finCongr (by decide : 128 = WinS.numel) n).val = n.val := rfl
  rw [cn] at c2
  generalize WinS.rowMajor.symm (finCongr (by decide : 128 = WinS.numel) n) = z at c0 c1 c2 c3 c4
  have hs := s.isLt
  have hk := k.isLt
  have hi := i.isLt
  have hg := g.isLt
  have hr := r.isLt
  have hn := n.isLt
  by_cases hin : 127 ≤ i.val + n.val
  · rw [dif_pos hin, dif_pos]
    · refine congrArg x (funext fun a => Fin.ext ?_)
      match a with
      | ⟨0, _⟩ => change s.val * 1 + (z 0).val - 0 = s.val; omega
      | ⟨1, _⟩ => change k.val * 1 + (z 1).val - 0 = k.val; omega
      | ⟨2, _⟩ => change i.val * 1 + (z 2).val - 127 = i.val + n.val - 127; omega
      | ⟨3, _⟩ => change g.val * 1 + (z 3).val - 0 = g.val; omega
      | ⟨4, _⟩ => change r.val * 1 + (z 4).val - 0 = r.val; omega
    · intro a
      match a with
      | ⟨0, _⟩ => change 0 ≤ s.val * 1 + (z 0).val ∧ s.val * 1 + (z 0).val - 0 < 8; omega
      | ⟨1, _⟩ => change 0 ≤ k.val * 1 + (z 1).val ∧ k.val * 1 + (z 1).val - 0 < 16; omega
      | ⟨2, _⟩ => change 127 ≤ i.val * 1 + (z 2).val ∧ i.val * 1 + (z 2).val - 127 < 128; omega
      | ⟨3, _⟩ => change 0 ≤ g.val * 1 + (z 3).val ∧ g.val * 1 + (z 3).val - 0 < 4; omega
      | ⟨4, _⟩ => change 0 ≤ r.val * 1 + (z 4).val ∧ r.val * 1 + (z 4).val - 0 < 8; omega
  · rw [dif_neg hin, dif_neg]
    · intro hh
      have h2 : 127 ≤ i.val * 1 + (z 2).val ∧ i.val * 1 + (z 2).val - 127 < 128 := hh 2
      omega

end Cert.ReferenceIdeal.Ssd

end
-- ==== Proof.Ssd.Ref1.lean ====
/- The reference's intermediate arrays, read at an index. -/
module

public import proofs.«01_k».proof.Proof.Gen.ReferenceIdeal.Read
public import proofs.«01_k».proof.Proof.Ssd.Scan
public import proofs.«01_k».proof.Proof.Ssd.Spec
public import Idealize.ShloMosaic.Lib.WordCmp
public import Idealize.ShloMosaic.Lib.IdealHost

@[expose] public section

set_option maxRecDepth 16384

noncomputable section

namespace Cert.ReferenceIdeal.Ssd

open Idealize.ShloMosaic Cert.ReferenceIdeal Cert.ReferenceIdeal.Read Cert.Ssd Cert.KernelIdeal.Ssd

/-- Head `r` of group `g`, its column `p`, and the channels of the group's `B` and `C`. -/
def hg (g : Fin 4) (r : Fin 8) : Fin 32 := ⟨8 * g.val + r.val, by omega⟩
def cX (g : Fin 4) (r : Fin 8) (p : Fin 64) : Fin 3072 := ⟨512 * g.val + 64 * r.val + p.val, by omega⟩
def cB (g : Fin 4) (n : Fin 128) : Fin 3072 := ⟨2048 + (128 * g.val + n.val), by omega⟩
def cC (g : Fin 4) (n : Fin 128) : Fin 3072 := ⟨2560 + (128 * g.val + n.val), by omega⟩

theorem tok_val (k : Fin 16) (i : Fin 128) : (tok k.val i).val = 128 * k.val + i.val := by
  change (128 * k.val + i.val) % 2048 = _
  omega

theorem zero_f32 : FloatOps.ofBits (F := Ideal) .f32 0x00000000#32 = (0 : EReal) := by simp [FloatOps.ofBits, Ideal.ofBits, Ideal.ieee]
theorem one_f32 : FloatOps.ofBits (F := Ideal) .f32 0x3F800000#32 = (1 : EReal) := Ideal.ofBits_one_f32
theorem bot_f32 : FloatOps.ofBits (F := Ideal) .f32 0xFF800000#32 = (⊥ : EReal) := by simp [FloatOps.ofBits, Ideal.ofBits, Ideal.ieee]

variable (x0 : (⟨S8x2048x3072, .f32⟩ : BufTy).Contents (Elt Ideal)) (x1 : (⟨S8x2048x32, .f32⟩ : BufTy).Contents (Elt Ideal))
  (x2 x3 x4 : (⟨S2x32, .f32⟩ : BufTy).Contents (Elt Ideal)) (x5 : (⟨S1x32x64x128, .f32⟩ : BufTy).Contents (Elt Ideal))

/-- The arguments, as the recurrence takes them. -/
abbrev rX : Fin 8 → Fin 2048 → Fin 3072 → EReal := fun s t l => x0 (ix3 s t l)
abbrev rT : Fin 8 → Fin 2048 → Fin 32 → EReal := fun s t h => x1 (ix3 s t h)
abbrev rB : Fin 32 → EReal := fun h => x2 (ix2 1 h)
abbrev rS : Fin 32 → Fin 64 → Fin 128 → EReal := fun h p n => x5 (ix4 0 h p n)

theorem r0 (s : Fin 8) (t : Fin 2048) (l : Fin 3072) : val_main_v0 (F := Ideal) x0 (ix3 s t l) = silu (rX x0 s t l) := by
  rw [val_main_v0_apply, val_main_call0_v5_apply, val_main_call0_v4_apply, val_main_call0_cst_0_apply, val_main_call0_v3_apply,
    val_main_call0_v2_apply, val_main_call0_cst_apply, val_main_call0_v1_apply, val_main_call0_v0_apply, one_f32]
  rfl

theorem r18 (s : Fin 8) (k : Fin 16) (i : Fin 128) (g : Fin 4) (r : Fin 8) (p : Fin 64) :
    val_main_v18 (F := Ideal) x0 (ix6 s k i g r p) = sx (rX x0) s k i (cX g r p) := by
  have ht := tok_val k i
  unfold val_main_v18
  refine (shapeCast_apply _ _ _ (ix4 s (tok k.val i) (hg g r) p) ?_).trans ?_
  · rw [Shape.rowMajor_val_four, Shape.rowMajor_val_six]
    change ((s.val * 2048 + (tok k.val i).val) * 32 + (8 * g.val + r.val)) * 64 + p.val
      = ((((s.val * 16 + k.val) * 128 + i.val) * 4 + g.val) * 8 + r.val) * 64 + p.val
    omega
  unfold val_main_v2
  refine (shapeCast_apply _ _ _ (ix3 s (tok k.val i) (⟨512 * g.val + 64 * r.val + p.val, by omega⟩ : Fin 2048)) ?_).trans ?_
  · rw [Shape.rowMajor_val_three, Shape.rowMajor_val_four]
    change (s.val * 2048 + (tok k.val i).val) * 2048 + (512 * g.val + 64 * r.val + p.val)
      = ((s.val * 2048 + (tok k.val i).val) * 32 + (8 * g.val + r.val)) * 64 + p.val
    omega
  refine (val_main_v1_apply _ _).trans (Eq.trans (congrArg _ (funext fun a => ?_)) (r0 x0 s (tok k.val i) (cX g r p)))
  match a with
  | ⟨0, _⟩ => rfl
  | ⟨1, _⟩ => rfl
  | ⟨2, _⟩ => rfl

theorem r20 (s : Fin 8) (k : Fin 16) (i : Fin 128) (g : Fin 4) (n : Fin 128) :
    val_main_v20 (F := Ideal) x0 (ix5 s k i g n) = sx (rX x0) s k i (cB g n) := by
  have ht := tok_val k i
  unfold val_main_v20
  refine (shapeCast_apply _ _ _ (ix4 s (tok k.val i) g n) ?_).trans ?_
  · rw [Shape.rowMajor_val_four, Shape.rowMajor_val_five]
    change ((s.val * 2048 + (tok k.val i).val) * 4 + g.val) * 128 + n.val
      = (((s.val * 16 + k.val) * 128 + i.val) * 4 + g.val) * 128 + n.val
    omega
  unfold val_main_v4
  refine (shapeCast_apply _ _ _ (ix3 s (tok k.val i) (⟨128 * g.val + n.val, by omega⟩ : Fin 512)) ?_).trans ?_
  · rw [Shape.rowMajor_val_three, Shape.rowMajor_val_four]
    change (s.val * 2048 + (tok k.val i).val) * 512 + (128 * g.val + n.val)
      = ((s.val * 2048 + (tok k.val i).val) * 4 + g.val) * 128 + n.val
    omega
  refine (val_main_v3_apply _ _).trans (Eq.trans (congrArg _ (funext fun a => ?_)) (r0 x0 s (tok k.val i) (cB g n)))
  match a with
  | ⟨0, _⟩ => rfl
  | ⟨1, _⟩ => rfl
  | ⟨2, _⟩ => rfl

theorem r21 (s : Fin 8) (k : Fin 16) (i : Fin 128) (g : Fin 4) (n : Fin 128) :
    val_main_v21 (F := Ideal) x0 (ix5 s k i g n) = sx (rX x0) s k i (cC g n) := by
  have ht := tok_val k i
  unfold val_main_v21
  refine (shapeCast_apply _ _ _ (ix4 s (tok k.val i) g n) ?_).trans ?_
  · rw [Shape.rowMajor_val_four, Shape.rowMajor_val_five]
    change ((s.val * 2048 + (tok k.val i).val) * 4 + g.val) * 128 + n.val
      = (((s.val * 16 + k.val) * 128 + i.val) * 4 + g.val) * 128 + n.val
    omega
  unfold val_main_v6
  refine (shapeCast_apply _ _ _ (ix3 s (tok k.val i) (⟨128 * g.val + n.val, by omega⟩ : Fin 512)) ?_).trans ?_
  · rw [Shape.rowMajor_val_three, Shape.rowMajor_val_four]
    change (s.val * 2048 + (tok k.val i).val) * 512 + (128 * g.val + n.val)
      = ((s.val * 2048 + (tok k.val i).val) * 4 + g.val) * 128 + n.val
    omega
  refine (val_main_v5_apply _ _).trans (Eq.trans (congrArg _ (funext fun a => ?_)) (r0 x0 s (tok k.val i) (cC g n)))
  match a with
  | ⟨0, _⟩ => rfl
  | ⟨1, _⟩ => rfl
  | ⟨2, _⟩ => rfl

section Real

variable {x1 x2 x3} {zt : Fin 8 → Fin 2048 → Fin 32 → ℝ} {w : Fin 32 → ℝ}
  (hz : ∀ s t h, rT x1 s t h + rB x2 h = (zt s t h : EReal)) (hw : ∀ h, rB x3 h = (w h : EReal))

theorem r8 (h : Fin 32) : val_main_v8 (F := Ideal) x2 (ix1 h) = rB x2 h := by
  refine (val_main_v8_apply _ _).trans ((val_main_v7_apply _ _).trans (congrArg _ (funext fun a => ?_)))
  match a with
  | ⟨0, _⟩ => rfl
  | ⟨1, _⟩ => exact Fin.ext (by change h.val % 32 = h.val; omega)

include hz in
theorem r11 (s : Fin 8) (t : Fin 2048) (h : Fin 32) : val_main_v11 (F := Ideal) x1 x2 (ix3 s t h) = (zt s t h : EReal) := by
  rw [val_main_v11_apply, val_main_v10_apply, val_main_v9_apply]
  refine Eq.trans ?_ (hz s t h)
  change rT x1 s t h + _ = _
  refine congrArg _ (Eq.trans (congrArg _ (funext fun a => ?_)) (r8 h))
  match a with
  | ⟨0, _⟩ => rfl

include hz in
theorem r12 (s : Fin 8) (t : Fin 2048) (h : Fin 32) : val_main_v12 (F := Ideal) x1 x2 (ix3 s t h) = (sp (zt s t h) : EReal) := by
  rw [val_main_v12_apply, val_main_call1_v11_apply, val_main_call1_v10_apply, val_main_call1_v9_apply, val_main_call1_v8_apply,
    val_main_call1_v7_apply, val_main_call1_v4_apply, val_main_call1_v3_apply, val_main_call1_v2_apply, val_main_call1_v1_apply,
    val_main_call1_v0_apply, val_main_call1_cst_apply, zero_f32, r11 hz]
  refine Eq.trans ?_ (softplus_coe _)
  change Scalar.select (Ideal.cmp _ ((zt s t h : EReal) - 0) ((zt s t h : EReal) - 0)) _ (max (zt s t h : EReal) 0 + Ideal.log (1 + Ideal.exp (-(max ((zt s t h : EReal) - 0) (-((zt s t h : EReal) - 0)))))) = _
  rw [sub_zero]
  exact if_neg (by simp [Ideal.cmp])

include hz in
theorem r19 (s : Fin 8) (k : Fin 16) (i : Fin 128) (g : Fin 4) (r : Fin 8) :
    val_main_v19 (F := Ideal) x1 x2 (ix5 s k i g r) = (sp (zt s (tok k i) (hg g r)) : EReal) := by
  have ht := tok_val k i
  unfold val_main_v19
  refine (shapeCast_apply _ _ _ (ix3 s (tok k.val i) (hg g r)) ?_).trans (r12 hz _ _ _)
  rw [Shape.rowMajor_val_three, Shape.rowMajor_val_five]
  change (s.val * 2048 + (tok k.val i).val) * 32 + (8 * g.val + r.val)
    = (((s.val * 16 + k.val) * 128 + i.val) * 4 + g.val) * 8 + r.val
  omega

include hw in
theorem r16 (h : Fin 32) : val_main_v16 (F := Ideal) x3 (ix1 h) = ((-Real.exp (w h) : ℝ) : EReal) := by
  rw [val_main_v16_apply, val_main_v15_apply]
  have e : val_main_v14 (F := Ideal) x3 (ix1 h) = (w h : EReal) := by
    rw [← hw h]
    refine (val_main_v14_apply _ _).trans ((val_main_v13_apply _ _).trans (congrArg _ (funext fun a => ?_)))
    match a with
    | ⟨0, _⟩ => rfl
    | ⟨1, _⟩ => exact Fin.ext (by change h.val % 32 = h.val; omega)
  rw [e, EReal.coe_neg, ← Ideal.exp_coe]
  rfl

include hw in
theorem r24 (s : Fin 8) (k : Fin 16) (i : Fin 128) (g : Fin 4) (r : Fin 8) :
    val_main_v24 (F := Ideal) x3 (ix5 s k i g r) = ((-Real.exp (w (hg g r)) : ℝ) : EReal) := by
  rw [val_main_v24_apply, val_main_v23_apply]
  unfold val_main_v22
  refine (shapeCast_apply _ _ _ (ix1 (hg g r)) ?_).trans (r16 hw _)
  rw [Shape.rowMajor_val_one, Shape.rowMajor_val_two]
  change 8 * g.val + r.val = g.val * 8 + r.val
  omega

include hz hw in
theorem r26 (s : Fin 8) (k : Fin 16) (i : Fin 128) (g : Fin 4) (r : Fin 8) :
    val_main_v26 (F := Ideal) x1 x2 x3 (ix5 s k i g r) = (lg zt w s k (hg g r) i : EReal) := by
  unfold val_main_v26
  refine (cumsum_read _ _ (fun _ => zero_f32) _ _ s k i g r).trans ?_
  unfold lg cu
  rw [coe_sum]
  refine Finset.sum_congr rfl fun j _ => ?_
  split
  · rw [val_main_v25_apply, r19 hz, r24 hw, EReal.coe_mul]
    rfl
  · rfl

include hz in
theorem r29 (s : Fin 8) (k : Fin 16) (i : Fin 128) (g : Fin 4) (r : Fin 8) (p : Fin 64) :
    val_main_v29 (F := Ideal) x0 x1 x2 (ix6 s k i g r p) = sx (rX x0) s k i (cX g r p) * (sp (zt s (tok k i) (hg g r)) : EReal) := by
  rw [val_main_v29_apply, r18, val_main_v28_apply, val_main_v27_apply]
  refine congrArg (sx (rX x0) s k i (cX g r p) * ·) (Eq.trans (congrArg _ (funext fun a => ?_)) (r19 hz s k i g r))
  match a with
  | ⟨0, _⟩ => rfl
  | ⟨1, _⟩ => rfl
  | ⟨2, _⟩ => rfl
  | ⟨3, _⟩ => rfl
  | ⟨4, _⟩ => rfl

include hz hw in
theorem r37 (s : Fin 8) (k : Fin 16) (i j : Fin 128) (g : Fin 4) (r : Fin 8) : val_main_v37 (F := Ideal) x1 x2 x3 (ix6 s k i j g r)
    = ((lg zt w s k (hg g r) i - lg zt w s k (hg g r) j : ℝ) : EReal) := by
  rw [val_main_v37_apply, val_main_v36_apply, val_main_v35_apply, val_main_v34_apply, val_main_v33_apply, EReal.coe_sub, ← r26 hz hw s k i g r,
    ← r26 hz hw s k j g r]
  refine congrArg₂ (· - ·) (congrArg _ (funext fun a => ?_)) (congrArg _ (funext fun a => ?_))
  all_goals
    match a with
    | ⟨0, _⟩ => rfl
    | ⟨1, _⟩ => rfl
    | ⟨2, _⟩ => rfl
    | ⟨3, _⟩ => rfl
    | ⟨4, _⟩ => rfl

theorem r31 (i j : Fin 128) : val_main_v31 (F := Ideal) (ix2 i j) = if j ≤ i then 1#1 else 0#1 := by
  rw [val_main_v31_apply, val_main_call3_v5_apply, val_main_call3_v4_apply, val_main_call3_v3_apply, val_main_call3_v2_apply, val_main_call3_v1_apply,
    val_main_call3_v0_apply, val_main_call3_c_apply, val_main_call3_c_0_apply, val_main_v30_apply, val_main_c_apply]
  change Scalar.select (IntOp.cmpi .sge (IntOp.addi (BitVec.ofNat 32 i.val) 0#32) (BitVec.ofNat 32 j.val)) 1#1 0#1 = _
  rw [show IntOp.addi (BitVec.ofNat 32 i.val) 0#32 = BitVec.ofNat 32 i.val from BitVec.add_zero _, WordCmp.cmpi_sge_ofNat (by omega) (by omega)]
  by_cases h : j ≤ i
  · rw [if_pos h, show decide (j.val ≤ i.val) = true from decide_eq_true h]; rfl
  · rw [if_neg h, show decide (j.val ≤ i.val) = false from decide_eq_false h]; rfl

include hz hw in
theorem r39 (s : Fin 8) (k : Fin 16) (i j : Fin 128) (g : Fin 4) (r : Fin 8) : val_main_v39 (F := Ideal) x1 x2 x3 (ix6 s k i j g r)
    = ((if j ≤ i then Real.exp (lg zt w s k (hg g r) i - lg zt w s k (hg g r) j) else 0 : ℝ) : EReal) := by
  have e : val_main_call4_v1 (F := Ideal) (ix6 s k i j g r) = if j ≤ i then 1#1 else 0#1 := by
    rw [val_main_call4_v1_apply, val_main_v32_apply, ← r31]
    refine congrArg _ (funext fun a => ?_)
    match a with
    | ⟨0, _⟩ => rfl
    | ⟨1, _⟩ => rfl
  rw [val_main_v39_apply, val_main_v38_apply, e, r37 hz hw, val_main_call4_v2_apply, val_main_call4_v0_apply, val_main_cst_apply, bot_f32]
  by_cases h : j ≤ i
  · rw [if_pos h, if_pos h]
    exact Ideal.exp_coe _
  · rw [if_neg h, if_neg h]
    exact Ideal.exp_bot

theorem r40 (s : Fin 8) (k : Fin 16) (g : Fin 4) (i j : Fin 128) : val_main_v40 (F := Ideal) x0 (ix5 s k g j i)
    = ∑ n : Fin 128, sx (rX x0) s k i (cC g n) * sx (rX x0) s k j (cB g n) := by
  refine (val_main_v40_apply _ _).trans (Finset.sum_congr rfl fun n _ => ?_)
  rw [← r20, ← r21, mul_comm]
  refine congrArg₂ (· * ·) (congrArg _ (funext fun a => ?_)) (congrArg _ (funext fun a => ?_))
  all_goals
    match a with
    | ⟨0, _⟩ => rfl
    | ⟨1, _⟩ => rfl
    | ⟨2, _⟩ => rfl
    | ⟨3, _⟩ => rfl
    | ⟨4, _⟩ => rfl

theorem r43 (s : Fin 8) (k : Fin 16) (i j : Fin 128) (g : Fin 4) (r : Fin 8) : val_main_v43 (F := Ideal) x0 (ix6 s k i j g r)
    = ∑ n : Fin 128, sx (rX x0) s k i (cC g n) * sx (rX x0) s k j (cB g n) := by
  rw [val_main_v43_apply, val_main_v42_apply, val_main_v41_apply, ← r40]
  refine congrArg _ (funext fun a => ?_)
  match a with
  | ⟨0, _⟩ => rfl
  | ⟨1, _⟩ => rfl
  | ⟨2, _⟩ => rfl
  | ⟨3, _⟩ => rfl
  | ⟨4, _⟩ => rfl

include hz hw in
theorem r46 (s : Fin 8) (k : Fin 16) (i : Fin 128) (g : Fin 4) (r : Fin 8) (p : Fin 64) :
    val_main_v46 (F := Ideal) x0 x1 x2 x3 (ix6 s k i g r p)
      = ∑ j : Fin 128, ((∑ n : Fin 128, sx (rX x0) s k i (cC g n) * sx (rX x0) s k j (cB g n))
          * ((if j ≤ i then Real.exp (lg zt w s k (hg g r) i - lg zt w s k (hg g r) j) * sp (zt s (tok k j) (hg g r)) else 0 : ℝ) : EReal))
          * sx (rX x0) s k j (cX g r p) := by
  rw [val_main_v46_apply]
  refine (val_main_v45_apply _ _ _ _ _).trans (Finset.sum_congr rfl fun j _ => ?_)
  have e1 : lidx_main_v45 (idx_main_v46 (ix6 s k i g r p)) j = ix6 s k j g r p := funext fun a => by
    match a with
    | ⟨0, _⟩ => rfl
    | ⟨1, _⟩ => rfl
    | ⟨2, _⟩ => rfl
    | ⟨3, _⟩ => rfl
    | ⟨4, _⟩ => rfl
    | ⟨5, _⟩ => rfl
  have e2 : ridx_main_v45 (idx_main_v46 (ix6 s k i g r p)) j = ix6 s k i j g r := funext fun a => by
    match a with
    | ⟨0, _⟩ => rfl
    | ⟨1, _⟩ => rfl
    | ⟨2, _⟩ => rfl
    | ⟨3, _⟩ => rfl
    | ⟨4, _⟩ => rfl
    | ⟨5, _⟩ => rfl
  rw [e1, e2, r29 x0 hz, val_main_v44_apply, r43, r39 hz hw]
  have e3 : ((if j ≤ i then Real.exp (lg zt w s k (hg g r) i - lg zt w s k (hg g r) j) * sp (zt s (tok k j) (hg g r)) else 0 : ℝ) : EReal)
      = (sp (zt s (tok k j) (hg g r)) : EReal) * ((if j ≤ i then Real.exp (lg zt w s k (hg g r) i - lg zt w s k (hg g r) j) else 0 : ℝ) : EReal) := by
    rw [← EReal.coe_mul, mul_ite, mul_zero, mul_comm]
  rw [e3]
  generalize (∑ n : Fin 128, sx (rX x0) s k i (cC g n) * sx (rX x0) s k j (cB g n)) = A
  change (_ * _) * (A * _) = _
  generalize sx (rX x0) s k j (cX g r p) = X
  rw [mul_comm (X * _), mul_assoc A, mul_assoc A]
  refine congrArg (A * ·) ?_
  rw [mul_comm X, ← mul_assoc, mul_comm ((if j ≤ i then _ else _ : ℝ) : EReal)]

include hz hw in
theorem r47 (s : Fin 8) (k : Fin 16) (g : Fin 4) (r : Fin 8) :
    val_main_v47 (F := Ideal) x1 x2 x3 (ix5 s k 0 g r) = (lg zt w s k (hg g r) 127 : EReal) := by
  rw [val_main_v47_apply, ← r26 hz hw]
  refine congrArg _ (funext fun a => ?_)
  match a with
  | ⟨0, _⟩ => rfl
  | ⟨1, _⟩ => rfl
  | ⟨2, _⟩ => rfl
  | ⟨3, _⟩ => rfl
  | ⟨4, _⟩ => rfl

include hz hw in
theorem r57 (s : Fin 8) (k : Fin 16) (g : Fin 4) (r : Fin 8) :
    val_main_v57 (F := Ideal) x1 x2 x3 (ix4 s k g r) = (Real.exp (lg zt w s k (hg g r) 127) : EReal) := by
  rw [val_main_v57_apply]
  unfold val_main_v56
  rw [shapeCast_apply _ _ (ix4 s k g r) (ix5 s k 0 g r) (by
    rw [Shape.rowMajor_val_four, Shape.rowMajor_val_five]
    change (((s.val * 16 + k.val) * 1 + 0) * 4 + g.val) * 8 + r.val = ((s.val * 16 + k.val) * 4 + g.val) * 8 + r.val
    omega)]
  refine Eq.trans (congrArg Ideal.exp ?_) (Ideal.exp_coe _)
  exact r47 hz hw s k g r

include hz hw in
theorem r50 (s : Fin 8) (k : Fin 16) (i : Fin 128) (g : Fin 4) (r : Fin 8) : val_main_v50 (F := Ideal) x1 x2 x3 (ix5 s k i g r)
    = (Real.exp (lg zt w s k (hg g r) 127 - lg zt w s k (hg g r) i) : EReal) := by
  rw [val_main_v50_apply, val_main_v49_apply, val_main_v48_apply, r26 hz hw]
  refine Eq.trans (congrArg Ideal.exp ?_) (Ideal.exp_coe _)
  rw [EReal.coe_sub, ← r47 hz hw]
  refine congrArg (· - _) (congrArg _ (funext fun a => ?_))
  match a with
  | ⟨0, _⟩ => rfl
  | ⟨1, _⟩ => rfl
  | ⟨2, _⟩ => rfl
  | ⟨3, _⟩ => rfl
  | ⟨4, _⟩ => rfl

include hz hw in
theorem r54 (s : Fin 8) (k : Fin 16) (g : Fin 4) (r : Fin 8) (p : Fin 64) (n : Fin 128) :
    val_main_v54 (F := Ideal) x0 x1 x2 x3 (ix6 s k g r p n)
      = ∑ j : Fin 128, sx (rX x0) s k j (cB g n) * (sx (rX x0) s k j (cX g r p)
          * ((sp (zt s (tok k j) (hg g r)) * Real.exp (lg zt w s k (hg g r) 127 - lg zt w s k (hg g r) j) : ℝ) : EReal)) := by
  refine (val_main_v54_apply _ _ _ _ _).trans (Finset.sum_congr rfl fun j _ => ?_)
  have e1 : lidx_main_v54 (ix6 s k g r p n) j = ix6 s k j g r p := funext fun a => by
    match a with
    | ⟨0, _⟩ => rfl
    | ⟨1, _⟩ => rfl
    | ⟨2, _⟩ => rfl
    | ⟨3, _⟩ => rfl
    | ⟨4, _⟩ => rfl
    | ⟨5, _⟩ => rfl
  have e2 : ridx_main_v54 (ix6 s k g r p n) j = ix5 s k j g n := funext fun a => by
    match a with
    | ⟨0, _⟩ => rfl
    | ⟨1, _⟩ => rfl
    | ⟨2, _⟩ => rfl
    | ⟨3, _⟩ => rfl
    | ⟨4, _⟩ => rfl
  have e3 : idx_main_v51 (idx_main_v52 (ix6 s k j g r p)) = ix5 s k j g r := funext fun a => by
    match a with
    | ⟨0, _⟩ => rfl
    | ⟨1, _⟩ => rfl
    | ⟨2, _⟩ => rfl
    | ⟨3, _⟩ => rfl
    | ⟨4, _⟩ => rfl
  rw [e1, e2, r20, val_main_v53_apply, r29 x0 hz, val_main_v52_apply, val_main_v51_apply, e3, r50 hz hw, EReal.coe_mul, ← mul_assoc (sx (rX x0) s k j (cX g r p))]
  exact mul_comm _ _

end Real

end Cert.ReferenceIdeal.Ssd

end
-- ==== Proof.Ssd.Ref2.lean ====
/- The reference's states and results follow the recurrence. -/
module

public import proofs.«01_k».proof.Proof.Ssd.Ref1

@[expose] public section

set_option maxRecDepth 16384

noncomputable section

namespace Cert.ReferenceIdeal.Ssd

open Idealize.ShloMosaic Cert.ReferenceIdeal Cert.ReferenceIdeal.Read Cert.Ssd Cert.KernelIdeal.Ssd

/-- Column `p` of head `r` of group `g`. -/
def cS (g : Fin 4) (r : Fin 8) (p : Fin 64) : Fin 2048 := ⟨512 * g.val + 64 * r.val + p.val, by omega⟩

theorem hd_cS (g : Fin 4) (r : Fin 8) (p : Fin 64) : hd (cS g r p) = hg g r :=
  Fin.ext (by change (512 * g.val + 64 * r.val + p.val) / 64 = 8 * g.val + r.val; omega)

theorem div_cS (g : Fin 4) (r : Fin 8) (p : Fin 64) : (cS g r p).val / 512 = g.val := by
  change (512 * g.val + 64 * r.val + p.val) / 512 = g.val
  omega

section Cat

variable {α : Type} {t s1 s2 : Shape} (a : Fin t.rank) (x1 : s1.Idx → α) (x2 : s2.Idx → α)

theorem cat_fst (h : Shape.Concatenates (([⟨s1, x1⟩, ⟨s2, x2⟩] : List ((s : Shape) × (s.Idx → α))).map (·.1)) t a) (j : t.Idx) (hr : s1.rank = t.rank) (i : s1.Idx)
    (hi : ∀ b : Fin s1.rank, b.cast hr ≠ a → (i b).val = (j (b.cast hr)).val) (ha : (i (a.cast hr.symm)).val = (j a).val) :
    concatenate t a [⟨s1, x1⟩, ⟨s2, x2⟩] h j = x1 i :=
  concatenate_apply_piece a _ h j 0 (Nat.zero_lt_succ _) s1 x1 rfl hr 0 rfl i hi ((Nat.zero_add _).trans ha)

theorem cat_snd (h : Shape.Concatenates (([⟨s1, x1⟩, ⟨s2, x2⟩] : List ((s : Shape) × (s.Idx → α))).map (·.1)) t a) (j : t.Idx) (hr1 : s1.rank = t.rank) (hr : s2.rank = t.rank) (i : s2.Idx)
    (hi : ∀ b : Fin s2.rank, b.cast hr ≠ a → (i b).val = (j (b.cast hr)).val)
    (ha : s1.size (a.cast hr1.symm) + (i (a.cast hr.symm)).val = (j a).val) :
    concatenate t a [⟨s1, x1⟩, ⟨s2, x2⟩] h j = x2 i :=
  concatenate_apply_piece a _ h j 1 (Nat.lt_succ_self _) s2 x2 rfl hr (s1.size (a.cast hr1.symm)) (by simp [hr1]) i hi ha

variable (y0 y1 y2 y3 y4 y5 y6 y7 y8 y9 y10 y11 y12 y13 y14 y15 : S1x8x4x8x64x128.Idx → α) (s : Fin 8) (g : Fin 4) (r : Fin 8) (p : Fin 64) (n : Fin 128)
  (h : Shape.Concatenates (([⟨S1x8x4x8x64x128, y0⟩, ⟨S1x8x4x8x64x128, y1⟩, ⟨S1x8x4x8x64x128, y2⟩, ⟨S1x8x4x8x64x128, y3⟩, ⟨S1x8x4x8x64x128, y4⟩, ⟨S1x8x4x8x64x128, y5⟩, ⟨S1x8x4x8x64x128, y6⟩, ⟨S1x8x4x8x64x128, y7⟩, ⟨S1x8x4x8x64x128, y8⟩, ⟨S1x8x4x8x64x128, y9⟩, ⟨S1x8x4x8x64x128, y10⟩, ⟨S1x8x4x8x64x128, y11⟩, ⟨S1x8x4x8x64x128, y12⟩, ⟨S1x8x4x8x64x128, y13⟩, ⟨S1x8x4x8x64x128, y14⟩, ⟨S1x8x4x8x64x128, y15⟩] : List ((s : Shape) × (s.Idx → α))).map (·.1)) S16x8x4x8x64x128 0)

set_option maxHeartbeats 1600000 in
theorem row0 : concatenate S16x8x4x8x64x128 0 [⟨S1x8x4x8x64x128, y0⟩, ⟨S1x8x4x8x64x128, y1⟩, ⟨S1x8x4x8x64x128, y2⟩, ⟨S1x8x4x8x64x128, y3⟩, ⟨S1x8x4x8x64x128, y4⟩, ⟨S1x8x4x8x64x128, y5⟩, ⟨S1x8x4x8x64x128, y6⟩, ⟨S1x8x4x8x64x128, y7⟩, ⟨S1x8x4x8x64x128, y8⟩, ⟨S1x8x4x8x64x128, y9⟩, ⟨S1x8x4x8x64x128, y10⟩, ⟨S1x8x4x8x64x128, y11⟩, ⟨S1x8x4x8x64x128, y12⟩, ⟨S1x8x4x8x64x128, y13⟩, ⟨S1x8x4x8x64x128, y14⟩, ⟨S1x8x4x8x64x128, y15⟩] h (ix6 0 s g r p n) = y0 (ix6 0 s g r p n) :=
  concatenate_apply_piece 0 _ h (ix6 0 s g r p n) 0 (by simp) S1x8x4x8x64x128 y0 rfl rfl 0 rfl (ix6 0 s g r p n)
    (fun b hb => by
      match b with
      | ⟨0, _⟩ => exact absurd rfl hb
      | ⟨1, _⟩ => rfl
      | ⟨2, _⟩ => rfl
      | ⟨3, _⟩ => rfl
      | ⟨4, _⟩ => rfl
      | ⟨5, _⟩ => rfl) rfl

set_option maxHeartbeats 1600000 in
theorem row1 : concatenate S16x8x4x8x64x128 0 [⟨S1x8x4x8x64x128, y0⟩, ⟨S1x8x4x8x64x128, y1⟩, ⟨S1x8x4x8x64x128, y2⟩, ⟨S1x8x4x8x64x128, y3⟩, ⟨S1x8x4x8x64x128, y4⟩, ⟨S1x8x4x8x64x128, y5⟩, ⟨S1x8x4x8x64x128, y6⟩, ⟨S1x8x4x8x64x128, y7⟩, ⟨S1x8x4x8x64x128, y8⟩, ⟨S1x8x4x8x64x128, y9⟩, ⟨S1x8x4x8x64x128, y10⟩, ⟨S1x8x4x8x64x128, y11⟩, ⟨S1x8x4x8x64x128, y12⟩, ⟨S1x8x4x8x64x128, y13⟩, ⟨S1x8x4x8x64x128, y14⟩, ⟨S1x8x4x8x64x128, y15⟩] h (ix6 1 s g r p n) = y1 (ix6 0 s g r p n) :=
  concatenate_apply_piece 0 _ h (ix6 1 s g r p n) 1 (by simp) S1x8x4x8x64x128 y1 rfl rfl 1 rfl (ix6 0 s g r p n)
    (fun b hb => by
      match b with
      | ⟨0, _⟩ => exact absurd rfl hb
      | ⟨1, _⟩ => rfl
      | ⟨2, _⟩ => rfl
      | ⟨3, _⟩ => rfl
      | ⟨4, _⟩ => rfl
      | ⟨5, _⟩ => rfl) rfl

set_option maxHeartbeats 1600000 in
theorem row2 : concatenate S16x8x4x8x64x128 0 [⟨S1x8x4x8x64x128, y0⟩, ⟨S1x8x4x8x64x128, y1⟩, ⟨S1x8x4x8x64x128, y2⟩, ⟨S1x8x4x8x64x128, y3⟩, ⟨S1x8x4x8x64x128, y4⟩, ⟨S1x8x4x8x64x128, y5⟩, ⟨S1x8x4x8x64x128, y6⟩, ⟨S1x8x4x8x64x128, y7⟩, ⟨S1x8x4x8x64x128, y8⟩, ⟨S1x8x4x8x64x128, y9⟩, ⟨S1x8x4x8x64x128, y10⟩, ⟨S1x8x4x8x64x128, y11⟩, ⟨S1x8x4x8x64x128, y12⟩, ⟨S1x8x4x8x64x128, y13⟩, ⟨S1x8x4x8x64x128, y14⟩, ⟨S1x8x4x8x64x128, y15⟩] h (ix6 2 s g r p n) = y2 (ix6 0 s g r p n) :=
  concatenate_apply_piece 0 _ h (ix6 2 s g r p n) 2 (by simp) S1x8x4x8x64x128 y2 rfl rfl 2 rfl (ix6 0 s g r p n)
    (fun b hb => by
      match b with
      | ⟨0, _⟩ => exact absurd rfl hb
      | ⟨1, _⟩ => rfl
      | ⟨2, _⟩ => rfl
      | ⟨3, _⟩ => rfl
      | ⟨4, _⟩ => rfl
      | ⟨5, _⟩ => rfl) rfl

set_option maxHeartbeats 1600000 in
theorem row3 : concatenate S16x8x4x8x64x128 0 [⟨S1x8x4x8x64x128, y0⟩, ⟨S1x8x4x8x64x128, y1⟩, ⟨S1x8x4x8x64x128, y2⟩, ⟨S1x8x4x8x64x128, y3⟩, ⟨S1x8x4x8x64x128, y4⟩, ⟨S1x8x4x8x64x128, y5⟩, ⟨S1x8x4x8x64x128, y6⟩, ⟨S1x8x4x8x64x128, y7⟩, ⟨S1x8x4x8x64x128, y8⟩, ⟨S1x8x4x8x64x128, y9⟩, ⟨S1x8x4x8x64x128, y10⟩, ⟨S1x8x4x8x64x128, y11⟩, ⟨S1x8x4x8x64x128, y12⟩, ⟨S1x8x4x8x64x128, y13⟩, ⟨S1x8x4x8x64x128, y14⟩, ⟨S1x8x4x8x64x128, y15⟩] h (ix6 3 s g r p n) = y3 (ix6 0 s g r p n) :=
  concatenate_apply_piece 0 _ h (ix6 3 s g r p n) 3 (by simp) S1x8x4x8x64x128 y3 rfl rfl 3 rfl (ix6 0 s g r p n)
    (fun b hb => by
      match b with
      | ⟨0, _⟩ => exact absurd rfl hb
      | ⟨1, _⟩ => rfl
      | ⟨2, _⟩ => rfl
      | ⟨3, _⟩ => rfl
      | ⟨4, _⟩ => rfl
      | ⟨5, _⟩ => rfl) rfl

set_option maxHeartbeats 1600000 in
theorem row4 : concatenate S16x8x4x8x64x128 0 [⟨S1x8x4x8x64x128, y0⟩, ⟨S1x8x4x8x64x128, y1⟩, ⟨S1x8x4x8x64x128, y2⟩, ⟨S1x8x4x8x64x128, y3⟩, ⟨S1x8x4x8x64x128, y4⟩, ⟨S1x8x4x8x64x128, y5⟩, ⟨S1x8x4x8x64x128, y6⟩, ⟨S1x8x4x8x64x128, y7⟩, ⟨S1x8x4x8x64x128, y8⟩, ⟨S1x8x4x8x64x128, y9⟩, ⟨S1x8x4x8x64x128, y10⟩, ⟨S1x8x4x8x64x128, y11⟩, ⟨S1x8x4x8x64x128, y12⟩, ⟨S1x8x4x8x64x128, y13⟩, ⟨S1x8x4x8x64x128, y14⟩, ⟨S1x8x4x8x64x128, y15⟩] h (ix6 4 s g r p n) = y4 (ix6 0 s g r p n) :=
  concatenate_apply_piece 0 _ h (ix6 4 s g r p n) 4 (by simp) S1x8x4x8x64x128 y4 rfl rfl 4 rfl (ix6 0 s g r p n)
    (fun b hb => by
      match b with
      | ⟨0, _⟩ => exact absurd rfl hb
      | ⟨1, _⟩ => rfl
      | ⟨2, _⟩ => rfl
      | ⟨3, _⟩ => rfl
      | ⟨4, _⟩ => rfl
      | ⟨5, _⟩ => rfl) rfl

set_option maxHeartbeats 1600000 in
theorem row5 : concatenate S16x8x4x8x64x128 0 [⟨S1x8x4x8x64x128, y0⟩, ⟨S1x8x4x8x64x128, y1⟩, ⟨S1x8x4x8x64x128, y2⟩, ⟨S1x8x4x8x64x128, y3⟩, ⟨S1x8x4x8x64x128, y4⟩, ⟨S1x8x4x8x64x128, y5⟩, ⟨S1x8x4x8x64x128, y6⟩, ⟨S1x8x4x8x64x128, y7⟩, ⟨S1x8x4x8x64x128, y8⟩, ⟨S1x8x4x8x64x128, y9⟩, ⟨S1x8x4x8x64x128, y10⟩, ⟨S1x8x4x8x64x128, y11⟩, ⟨S1x8x4x8x64x128, y12⟩, ⟨S1x8x4x8x64x128, y13⟩, ⟨S1x8x4x8x64x128, y14⟩, ⟨S1x8x4x8x64x128, y15⟩] h (ix6 5 s g r p n) = y5 (ix6 0 s g r p n) :=
  concatenate_apply_piece 0 _ h (ix6 5 s g r p n) 5 (by simp) S1x8x4x8x64x128 y5 rfl rfl 5 rfl (ix6 0 s g r p n)
    (fun b hb => by
      match b with
      | ⟨0, _⟩ => exact absurd rfl hb
      | ⟨1, _⟩ => rfl
      | ⟨2, _⟩ => rfl
      | ⟨3, _⟩ => rfl
      | ⟨4, _⟩ => rfl
      | ⟨5, _⟩ => rfl) rfl

set_option maxHeartbeats 1600000 in
theorem row6 : concatenate S16x8x4x8x64x128 0 [⟨S1x8x4x8x64x128, y0⟩, ⟨S1x8x4x8x64x128, y1⟩, ⟨S1x8x4x8x64x128, y2⟩, ⟨S1x8x4x8x64x128, y3⟩, ⟨S1x8x4x8x64x128, y4⟩, ⟨S1x8x4x8x64x128, y5⟩, ⟨S1x8x4x8x64x128, y6⟩, ⟨S1x8x4x8x64x128, y7⟩, ⟨S1x8x4x8x64x128, y8⟩, ⟨S1x8x4x8x64x128, y9⟩, ⟨S1x8x4x8x64x128, y10⟩, ⟨S1x8x4x8x64x128, y11⟩, ⟨S1x8x4x8x64x128, y12⟩, ⟨S1x8x4x8x64x128, y13⟩, ⟨S1x8x4x8x64x128, y14⟩, ⟨S1x8x4x8x64x128, y15⟩] h (ix6 6 s g r p n) = y6 (ix6 0 s g r p n) :=
  concatenate_apply_piece 0 _ h (ix6 6 s g r p n) 6 (by simp) S1x8x4x8x64x128 y6 rfl rfl 6 rfl (ix6 0 s g r p n)
    (fun b hb => by
      match b with
      | ⟨0, _⟩ => exact absurd rfl hb
      | ⟨1, _⟩ => rfl
      | ⟨2, _⟩ => rfl
      | ⟨3, _⟩ => rfl
      | ⟨4, _⟩ => rfl
      | ⟨5, _⟩ => rfl) rfl

set_option maxHeartbeats 1600000 in
theorem row7 : concatenate S16x8x4x8x64x128 0 [⟨S1x8x4x8x64x128, y0⟩, ⟨S1x8x4x8x64x128, y1⟩, ⟨S1x8x4x8x64x128, y2⟩, ⟨S1x8x4x8x64x128, y3⟩, ⟨S1x8x4x8x64x128, y4⟩, ⟨S1x8x4x8x64x128, y5⟩, ⟨S1x8x4x8x64x128, y6⟩, ⟨S1x8x4x8x64x128, y7⟩, ⟨S1x8x4x8x64x128, y8⟩, ⟨S1x8x4x8x64x128, y9⟩, ⟨S1x8x4x8x64x128, y10⟩, ⟨S1x8x4x8x64x128, y11⟩, ⟨S1x8x4x8x64x128, y12⟩, ⟨S1x8x4x8x64x128, y13⟩, ⟨S1x8x4x8x64x128, y14⟩, ⟨S1x8x4x8x64x128, y15⟩] h (ix6 7 s g r p n) = y7 (ix6 0 s g r p n) :=
  concatenate_apply_piece 0 _ h (ix6 7 s g r p n) 7 (by simp) S1x8x4x8x64x128 y7 rfl rfl 7 rfl (ix6 0 s g r p n)
    (fun b hb => by
      match b with
      | ⟨0, _⟩ => exact absurd rfl hb
      | ⟨1, _⟩ => rfl
      | ⟨2, _⟩ => rfl
      | ⟨3, _⟩ => rfl
      | ⟨4, _⟩ => rfl
      | ⟨5, _⟩ => rfl) rfl

set_option maxHeartbeats 1600000 in
theorem row8 : concatenate S16x8x4x8x64x128 0 [⟨S1x8x4x8x64x128, y0⟩, ⟨S1x8x4x8x64x128, y1⟩, ⟨S1x8x4x8x64x128, y2⟩, ⟨S1x8x4x8x64x128, y3⟩, ⟨S1x8x4x8x64x128, y4⟩, ⟨S1x8x4x8x64x128, y5⟩, ⟨S1x8x4x8x64x128, y6⟩, ⟨S1x8x4x8x64x128, y7⟩, ⟨S1x8x4x8x64x128, y8⟩, ⟨S1x8x4x8x64x128, y9⟩, ⟨S1x8x4x8x64x128, y10⟩, ⟨S1x8x4x8x64x128, y11⟩, ⟨S1x8x4x8x64x128, y12⟩, ⟨S1x8x4x8x64x128, y13⟩, ⟨S1x8x4x8x64x128, y14⟩, ⟨S1x8x4x8x64x128, y15⟩] h (ix6 8 s g r p n) = y8 (ix6 0 s g r p n) :=
  concatenate_apply_piece 0 _ h (ix6 8 s g r p n) 8 (by simp) S1x8x4x8x64x128 y8 rfl rfl 8 rfl (ix6 0 s g r p n)
    (fun b hb => by
      match b with
      | ⟨0, _⟩ => exact absurd rfl hb
      | ⟨1, _⟩ => rfl
      | ⟨2, _⟩ => rfl
      | ⟨3, _⟩ => rfl
      | ⟨4, _⟩ => rfl
      | ⟨5, _⟩ => rfl) rfl

set_option maxHeartbeats 1600000 in
theorem row9 : concatenate S16x8x4x8x64x128 0 [⟨S1x8x4x8x64x128, y0⟩, ⟨S1x8x4x8x64x128, y1⟩, ⟨S1x8x4x8x64x128, y2⟩, ⟨S1x8x4x8x64x128, y3⟩, ⟨S1x8x4x8x64x128, y4⟩, ⟨S1x8x4x8x64x128, y5⟩, ⟨S1x8x4x8x64x128, y6⟩, ⟨S1x8x4x8x64x128, y7⟩, ⟨S1x8x4x8x64x128, y8⟩, ⟨S1x8x4x8x64x128, y9⟩, ⟨S1x8x4x8x64x128, y10⟩, ⟨S1x8x4x8x64x128, y11⟩, ⟨S1x8x4x8x64x128, y12⟩, ⟨S1x8x4x8x64x128, y13⟩, ⟨S1x8x4x8x64x128, y14⟩, ⟨S1x8x4x8x64x128, y15⟩] h (ix6 9 s g r p n) = y9 (ix6 0 s g r p n) :=
  concatenate_apply_piece 0 _ h (ix6 9 s g r p n) 9 (by simp) S1x8x4x8x64x128 y9 rfl rfl 9 rfl (ix6 0 s g r p n)
    (fun b hb => by
      match b with
      | ⟨0, _⟩ => exact absurd rfl hb
      | ⟨1, _⟩ => rfl
      | ⟨2, _⟩ => rfl
      | ⟨3, _⟩ => rfl
      | ⟨4, _⟩ => rfl
      | ⟨5, _⟩ => rfl) rfl

set_option maxHeartbeats 1600000 in
theorem row10 : concatenate S16x8x4x8x64x128 0 [⟨S1x8x4x8x64x128, y0⟩, ⟨S1x8x4x8x64x128, y1⟩, ⟨S1x8x4x8x64x128, y2⟩, ⟨S1x8x4x8x64x128, y3⟩, ⟨S1x8x4x8x64x128, y4⟩, ⟨S1x8x4x8x64x128, y5⟩, ⟨S1x8x4x8x64x128, y6⟩, ⟨S1x8x4x8x64x128, y7⟩, ⟨S1x8x4x8x64x128, y8⟩, ⟨S1x8x4x8x64x128, y9⟩, ⟨S1x8x4x8x64x128, y10⟩, ⟨S1x8x4x8x64x128, y11⟩, ⟨S1x8x4x8x64x128, y12⟩, ⟨S1x8x4x8x64x128, y13⟩, ⟨S1x8x4x8x64x128, y14⟩, ⟨S1x8x4x8x64x128, y15⟩] h (ix6 10 s g r p n) = y10 (ix6 0 s g r p n) :=
  concatenate_apply_piece 0 _ h (ix6 10 s g r p n) 10 (by simp) S1x8x4x8x64x128 y10 rfl rfl 10 rfl (ix6 0 s g r p n)
    (fun b hb => by
      match b with
      | ⟨0, _⟩ => exact absurd rfl hb
      | ⟨1, _⟩ => rfl
      | ⟨2, _⟩ => rfl
      | ⟨3, _⟩ => rfl
      | ⟨4, _⟩ => rfl
      | ⟨5, _⟩ => rfl) rfl

set_option maxHeartbeats 1600000 in
theorem row11 : concatenate S16x8x4x8x64x128 0 [⟨S1x8x4x8x64x128, y0⟩, ⟨S1x8x4x8x64x128, y1⟩, ⟨S1x8x4x8x64x128, y2⟩, ⟨S1x8x4x8x64x128, y3⟩, ⟨S1x8x4x8x64x128, y4⟩, ⟨S1x8x4x8x64x128, y5⟩, ⟨S1x8x4x8x64x128, y6⟩, ⟨S1x8x4x8x64x128, y7⟩, ⟨S1x8x4x8x64x128, y8⟩, ⟨S1x8x4x8x64x128, y9⟩, ⟨S1x8x4x8x64x128, y10⟩, ⟨S1x8x4x8x64x128, y11⟩, ⟨S1x8x4x8x64x128, y12⟩, ⟨S1x8x4x8x64x128, y13⟩, ⟨S1x8x4x8x64x128, y14⟩, ⟨S1x8x4x8x64x128, y15⟩] h (ix6 11 s g r p n) = y11 (ix6 0 s g r p n) :=
  concatenate_apply_piece 0 _ h (ix6 11 s g r p n) 11 (by simp) S1x8x4x8x64x128 y11 rfl rfl 11 rfl (ix6 0 s g r p n)
    (fun b hb => by
      match b with
      | ⟨0, _⟩ => exact absurd rfl hb
      | ⟨1, _⟩ => rfl
      | ⟨2, _⟩ => rfl
      | ⟨3, _⟩ => rfl
      | ⟨4, _⟩ => rfl
      | ⟨5, _⟩ => rfl) rfl

set_option maxHeartbeats 1600000 in
theorem row12 : concatenate S16x8x4x8x64x128 0 [⟨S1x8x4x8x64x128, y0⟩, ⟨S1x8x4x8x64x128, y1⟩, ⟨S1x8x4x8x64x128, y2⟩, ⟨S1x8x4x8x64x128, y3⟩, ⟨S1x8x4x8x64x128, y4⟩, ⟨S1x8x4x8x64x128, y5⟩, ⟨S1x8x4x8x64x128, y6⟩, ⟨S1x8x4x8x64x128, y7⟩, ⟨S1x8x4x8x64x128, y8⟩, ⟨S1x8x4x8x64x128, y9⟩, ⟨S1x8x4x8x64x128, y10⟩, ⟨S1x8x4x8x64x128, y11⟩, ⟨S1x8x4x8x64x128, y12⟩, ⟨S1x8x4x8x64x128, y13⟩, ⟨S1x8x4x8x64x128, y14⟩, ⟨S1x8x4x8x64x128, y15⟩] h (ix6 12 s g r p n) = y12 (ix6 0 s g r p n) :=
  concatenate_apply_piece 0 _ h (ix6 12 s g r p n) 12 (by simp) S1x8x4x8x64x128 y12 rfl rfl 12 rfl (ix6 0 s g r p n)
    (fun b hb => by
      match b with
      | ⟨0, _⟩ => exact absurd rfl hb
      | ⟨1, _⟩ => rfl
      | ⟨2, _⟩ => rfl
      | ⟨3, _⟩ => rfl
      | ⟨4, _⟩ => rfl
      | ⟨5, _⟩ => rfl) rfl

set_option maxHeartbeats 1600000 in
theorem row13 : concatenate S16x8x4x8x64x128 0 [⟨S1x8x4x8x64x128, y0⟩, ⟨S1x8x4x8x64x128, y1⟩, ⟨S1x8x4x8x64x128, y2⟩, ⟨S1x8x4x8x64x128, y3⟩, ⟨S1x8x4x8x64x128, y4⟩, ⟨S1x8x4x8x64x128, y5⟩, ⟨S1x8x4x8x64x128, y6⟩, ⟨S1x8x4x8x64x128, y7⟩, ⟨S1x8x4x8x64x128, y8⟩, ⟨S1x8x4x8x64x128, y9⟩, ⟨S1x8x4x8x64x128, y10⟩, ⟨S1x8x4x8x64x128, y11⟩, ⟨S1x8x4x8x64x128, y12⟩, ⟨S1x8x4x8x64x128, y13⟩, ⟨S1x8x4x8x64x128, y14⟩, ⟨S1x8x4x8x64x128, y15⟩] h (ix6 13 s g r p n) = y13 (ix6 0 s g r p n) :=
  concatenate_apply_piece 0 _ h (ix6 13 s g r p n) 13 (by simp) S1x8x4x8x64x128 y13 rfl rfl 13 rfl (ix6 0 s g r p n)
    (fun b hb => by
      match b with
      | ⟨0, _⟩ => exact absurd rfl hb
      | ⟨1, _⟩ => rfl
      | ⟨2, _⟩ => rfl
      | ⟨3, _⟩ => rfl
      | ⟨4, _⟩ => rfl
      | ⟨5, _⟩ => rfl) rfl

set_option maxHeartbeats 1600000 in
theorem row14 : concatenate S16x8x4x8x64x128 0 [⟨S1x8x4x8x64x128, y0⟩, ⟨S1x8x4x8x64x128, y1⟩, ⟨S1x8x4x8x64x128, y2⟩, ⟨S1x8x4x8x64x128, y3⟩, ⟨S1x8x4x8x64x128, y4⟩, ⟨S1x8x4x8x64x128, y5⟩, ⟨S1x8x4x8x64x128, y6⟩, ⟨S1x8x4x8x64x128, y7⟩, ⟨S1x8x4x8x64x128, y8⟩, ⟨S1x8x4x8x64x128, y9⟩, ⟨S1x8x4x8x64x128, y10⟩, ⟨S1x8x4x8x64x128, y11⟩, ⟨S1x8x4x8x64x128, y12⟩, ⟨S1x8x4x8x64x128, y13⟩, ⟨S1x8x4x8x64x128, y14⟩, ⟨S1x8x4x8x64x128, y15⟩] h (ix6 14 s g r p n) = y14 (ix6 0 s g r p n) :=
  concatenate_apply_piece 0 _ h (ix6 14 s g r p n) 14 (by simp) S1x8x4x8x64x128 y14 rfl rfl 14 rfl (ix6 0 s g r p n)
    (fun b hb => by
      match b with
      | ⟨0, _⟩ => exact absurd rfl hb
      | ⟨1, _⟩ => rfl
      | ⟨2, _⟩ => rfl
      | ⟨3, _⟩ => rfl
      | ⟨4, _⟩ => rfl
      | ⟨5, _⟩ => rfl) rfl

set_option maxHeartbeats 1600000 in
theorem row15 : concatenate S16x8x4x8x64x128 0 [⟨S1x8x4x8x64x128, y0⟩, ⟨S1x8x4x8x64x128, y1⟩, ⟨S1x8x4x8x64x128, y2⟩, ⟨S1x8x4x8x64x128, y3⟩, ⟨S1x8x4x8x64x128, y4⟩, ⟨S1x8x4x8x64x128, y5⟩, ⟨S1x8x4x8x64x128, y6⟩, ⟨S1x8x4x8x64x128, y7⟩, ⟨S1x8x4x8x64x128, y8⟩, ⟨S1x8x4x8x64x128, y9⟩, ⟨S1x8x4x8x64x128, y10⟩, ⟨S1x8x4x8x64x128, y11⟩, ⟨S1x8x4x8x64x128, y12⟩, ⟨S1x8x4x8x64x128, y13⟩, ⟨S1x8x4x8x64x128, y14⟩, ⟨S1x8x4x8x64x128, y15⟩] h (ix6 15 s g r p n) = y15 (ix6 0 s g r p n) :=
  concatenate_apply_piece 0 _ h (ix6 15 s g r p n) 15 (by simp) S1x8x4x8x64x128 y15 rfl rfl 15 rfl (ix6 0 s g r p n)
    (fun b hb => by
      match b with
      | ⟨0, _⟩ => exact absurd rfl hb
      | ⟨1, _⟩ => rfl
      | ⟨2, _⟩ => rfl
      | ⟨3, _⟩ => rfl
      | ⟨4, _⟩ => rfl
      | ⟨5, _⟩ => rfl) rfl

end Cat

variable (x0 : (⟨S8x2048x3072, .f32⟩ : BufTy).Contents (Elt Ideal)) (x1 : (⟨S8x2048x32, .f32⟩ : BufTy).Contents (Elt Ideal))
  (x2 x3 x4 : (⟨S2x32, .f32⟩ : BufTy).Contents (Elt Ideal)) (x5 : (⟨S1x32x64x128, .f32⟩ : BufTy).Contents (Elt Ideal))
  (x6 : (⟨S17920x2048, .bf16⟩ : BufTy).Contents (Elt Ideal)) (x7 : (⟨S2x8x2048x128, .f32⟩ : BufTy).Contents (Elt Ideal))

theorem s58 (s : Fin 8) (g : Fin 4) (r : Fin 8) (p : Fin 64) (n : Fin 128) :
    val_main_v58 (F := Ideal) x5 (ix5 s g r p n) = rS x5 (hg g r) p n := by
  unfold val_main_v58
  refine (shapeCast_apply _ _ _ (ix4 s (hg g r) p n) ?_).trans ?_
  · rw [Shape.rowMajor_val_four, Shape.rowMajor_val_five]
    change ((s.val * 32 + (8 * g.val + r.val)) * 64 + p.val) * 128 + n.val
      = (((s.val * 4 + g.val) * 8 + r.val) * 64 + p.val) * 128 + n.val
    omega
  · refine (val_main_v17_apply _ _).trans (congrArg _ (funext fun a => ?_))
    match a with
    | ⟨0, _⟩ => rfl
    | ⟨1, _⟩ => rfl
    | ⟨2, _⟩ => rfl
    | ⟨3, _⟩ => rfl

section Real

variable {x1 x2 x3} {zt : Fin 8 → Fin 2048 → Fin 32 → ℝ} {w : Fin 32 → ℝ}
  (hz : ∀ s t h, rT x1 s t h + rB x2 h = (zt s t h : EReal)) (hw : ∀ h, rB x3 h = (w h : EReal))

theorem gain_eq (X : Fin 8 → Fin 2048 → Fin 3072 → EReal) (s : Fin 8) (k : ℕ) (g : Fin 4) (r : Fin 8) (p : Fin 64) (n : Fin 128) :
    gain X zt w s k n (cS g r p) = ∑ j : Fin 128, sx X s k j (cB g n) * (sx X s k j (cX g r p)
      * ((sp (zt s (tok k j) (hg g r)) * Real.exp (lg zt w s k (hg g r) 127 - lg zt w s k (hg g r) j) : ℝ) : EReal)) := by
  unfold gain
  refine Finset.sum_congr rfl fun j _ => ?_
  rw [hd_cS]
  refine congrArg (· * _) (congrArg (sx X s k j) (Fin.ext ?_))
  change 2048 + (128 * ((cS g r p).val / 512) + n.val) = 2048 + (128 * g.val + n.val)
  rw [div_cS]

include hz hw in
theorem g62 (s : Fin 8) (k : Fin 16) (g : Fin 4) (r : Fin 8) (p : Fin 64) (n : Fin 128) :
    val_main_v62 (F := Ideal) x0 x1 x2 x3 (ix6 k s g r p n) = gain (rX x0) zt w s k n (cS g r p) := by
  rw [gain_eq, ← r54 x0 hz hw]
  refine (val_main_v62_apply _ _ _ _ _).trans ((val_main_v59_apply _ _ _ _ _).trans (congrArg _ (funext fun a => ?_)))
  match a with
  | ⟨0, _⟩ => rfl
  | ⟨1, _⟩ => rfl
  | ⟨2, _⟩ => rfl
  | ⟨3, _⟩ => rfl
  | ⟨4, _⟩ => rfl
  | ⟨5, _⟩ => rfl

include hz hw in
theorem d64 (s : Fin 8) (k : Fin 16) (g : Fin 4) (r : Fin 8) :
    val_main_v64 (F := Ideal) x1 x2 x3 (ix4 k s g r) = (Real.exp (lg zt w s k (hg g r) 127) : EReal) := by
  rw [← r57 hz hw]
  refine (val_main_v64_apply _ _ _ _).trans ((val_main_v60_apply _ _ _ _).trans (congrArg _ (funext fun a => ?_)))
  match a with
  | ⟨0, _⟩ => rfl
  | ⟨1, _⟩ => rfl
  | ⟨2, _⟩ => rfl
  | ⟨3, _⟩ => rfl

include hz hw in
theorem s73 (s : Fin 8) (g : Fin 4) (r : Fin 8) (p : Fin 64) (n : Fin 128) :
    val_main_v73 (F := Ideal) x0 x1 x2 x3 x5 (ix5 s g r p n) = St (rX x0) zt w (rS x5) s 1 n (cS g r p) := by
  have e1 : val_main_v67 (F := Ideal) x0 x1 x2 x3 (ix5 s g r p n) = gain (rX x0) zt w s 0 n (cS g r p) := by
    unfold val_main_v67
    refine (shapeCast_apply _ _ _ (ix6 0 s g r p n) ?_).trans ?_
    · rw [Shape.rowMajor_val_five, Shape.rowMajor_val_six]
      change ((((0 * 8 + s.val) * 4 + g.val) * 8 + r.val) * 64 + p.val) * 128 + n.val
        = (((s.val * 4 + g.val) * 8 + r.val) * 64 + p.val) * 128 + n.val
      omega
    · refine (val_main_v66_apply _ _ _ _ _).trans (Eq.trans (congrArg _ (funext fun a => ?_)) (g62 x0 hz hw s 0 g r p n))
      match a with
      | ⟨0, _⟩ => rfl
      | ⟨1, _⟩ => rfl
      | ⟨2, _⟩ => rfl
      | ⟨3, _⟩ => rfl
      | ⟨4, _⟩ => rfl
      | ⟨5, _⟩ => rfl
  have e2 : val_main_v71 (F := Ideal) x1 x2 x3 (ix5 s g r p n) = (Real.exp (lg zt w s 0 (hg g r) 127) : EReal) := by
    rw [val_main_v71_apply, val_main_v70_apply]
    unfold val_main_v69
    refine (shapeCast_apply _ _ _ (ix4 0 s g r) ?_).trans ?_
    · rw [Shape.rowMajor_val_three, Shape.rowMajor_val_four]
      change ((0 * 8 + s.val) * 4 + g.val) * 8 + r.val = (s.val * 4 + g.val) * 8 + r.val
      omega
    · refine (val_main_v68_apply _ _ _ _).trans (Eq.trans (congrArg _ (funext fun a => ?_)) (d64 hz hw s 0 g r))
      match a with
      | ⟨0, _⟩ => rfl
      | ⟨1, _⟩ => rfl
      | ⟨2, _⟩ => rfl
      | ⟨3, _⟩ => rfl
  have e3 : val_main_v58 (F := Ideal) x5 (ix5 s g r p n) = St (rX x0) zt w (rS x5) s 0 n (cS g r p) :=
    (s58 x5 s g r p n).trans (by
      unfold St
      rw [hd_cS]
      exact congrArg (fun q => rS x5 (hg g r) q n) (Fin.ext (by change p.val = (512 * g.val + 64 * r.val + p.val) % 64; omega)))
  rw [val_main_v73_apply, val_main_v72_apply, e1, e2, e3]
  change _ = _ * ((Real.exp (lg zt w s 0 (hd (cS g r p)) 127) : ℝ) : EReal) + _
  rw [hd_cS]
  rfl

include hz hw in
theorem s81 (s : Fin 8) (g : Fin 4) (r : Fin 8) (p : Fin 64) (n : Fin 128) :
    val_main_v81 (F := Ideal) x0 x1 x2 x3 x5 (ix5 s g r p n) = St (rX x0) zt w (rS x5) s 2 n (cS g r p) := by
  have e1 : val_main_v75 (F := Ideal) x0 x1 x2 x3 (ix5 s g r p n) = gain (rX x0) zt w s 1 n (cS g r p) := by
    unfold val_main_v75
    refine (shapeCast_apply _ _ _ (ix6 0 s g r p n) ?_).trans ?_
    · rw [Shape.rowMajor_val_five, Shape.rowMajor_val_six]
      change ((((0 * 8 + s.val) * 4 + g.val) * 8 + r.val) * 64 + p.val) * 128 + n.val
        = (((s.val * 4 + g.val) * 8 + r.val) * 64 + p.val) * 128 + n.val
      omega
    · refine (val_main_v74_apply _ _ _ _ _).trans (Eq.trans (congrArg _ (funext fun a => ?_)) (g62 x0 hz hw s 1 g r p n))
      match a with
      | ⟨0, _⟩ => rfl
      | ⟨1, _⟩ => rfl
      | ⟨2, _⟩ => rfl
      | ⟨3, _⟩ => rfl
      | ⟨4, _⟩ => rfl
      | ⟨5, _⟩ => rfl
  have e2 : val_main_v79 (F := Ideal) x1 x2 x3 (ix5 s g r p n) = (Real.exp (lg zt w s 1 (hg g r) 127) : EReal) := by
    rw [val_main_v79_apply, val_main_v78_apply]
    unfold val_main_v77
    refine (shapeCast_apply _ _ _ (ix4 0 s g r) ?_).trans ?_
    · rw [Shape.rowMajor_val_three, Shape.rowMajor_val_four]
      change ((0 * 8 + s.val) * 4 + g.val) * 8 + r.val = (s.val * 4 + g.val) * 8 + r.val
      omega
    · refine (val_main_v76_apply _ _ _ _).trans (Eq.trans (congrArg _ (funext fun a => ?_)) (d64 hz hw s 1 g r))
      match a with
      | ⟨0, _⟩ => rfl
      | ⟨1, _⟩ => rfl
      | ⟨2, _⟩ => rfl
      | ⟨3, _⟩ => rfl
  have e3 : val_main_v73 (F := Ideal) x0 x1 x2 x3 x5 (ix5 s g r p n) = St (rX x0) zt w (rS x5) s 1 n (cS g r p) :=
    s73 x0 x5 hz hw s g r p n
  rw [val_main_v81_apply, val_main_v80_apply, e1, e2, e3]
  change _ = _ * ((Real.exp (lg zt w s 1 (hd (cS g r p)) 127) : ℝ) : EReal) + _
  rw [hd_cS]
  rfl

include hz hw in
theorem s89 (s : Fin 8) (g : Fin 4) (r : Fin 8) (p : Fin 64) (n : Fin 128) :
    val_main_v89 (F := Ideal) x0 x1 x2 x3 x5 (ix5 s g r p n) = St (rX x0) zt w (rS x5) s 3 n (cS g r p) := by
  have e1 : val_main_v83 (F := Ideal) x0 x1 x2 x3 (ix5 s g r p n) = gain (rX x0) zt w s 2 n (cS g r p) := by
    unfold val_main_v83
    refine (shapeCast_apply _ _ _ (ix6 0 s g r p n) ?_).trans ?_
    · rw [Shape.rowMajor_val_five, Shape.rowMajor_val_six]
      change ((((0 * 8 + s.val) * 4 + g.val) * 8 + r.val) * 64 + p.val) * 128 + n.val
        = (((s.val * 4 + g.val) * 8 + r.val) * 64 + p.val) * 128 + n.val
      omega
    · refine (val_main_v82_apply _ _ _ _ _).trans (Eq.trans (congrArg _ (funext fun a => ?_)) (g62 x0 hz hw s 2 g r p n))
      match a with
      | ⟨0, _⟩ => rfl
      | ⟨1, _⟩ => rfl
      | ⟨2, _⟩ => rfl
      | ⟨3, _⟩ => rfl
      | ⟨4, _⟩ => rfl
      | ⟨5, _⟩ => rfl
  have e2 : val_main_v87 (F := Ideal) x1 x2 x3 (ix5 s g r p n) = (Real.exp (lg zt w s 2 (hg g r) 127) : EReal) := by
    rw [val_main_v87_apply, val_main_v86_apply]
    unfold val_main_v85
    refine (shapeCast_apply _ _ _ (ix4 0 s g r) ?_).trans ?_
    · rw [Shape.rowMajor_val_three, Shape.rowMajor_val_four]
      change ((0 * 8 + s.val) * 4 + g.val) * 8 + r.val = (s.val * 4 + g.val) * 8 + r.val
      omega
    · refine (val_main_v84_apply _ _ _ _).trans (Eq.trans (congrArg _ (funext fun a => ?_)) (d64 hz hw s 2 g r))
      match a with
      | ⟨0, _⟩ => rfl
      | ⟨1, _⟩ => rfl
      | ⟨2, _⟩ => rfl
      | ⟨3, _⟩ => rfl
  have e3 : val_main_v81 (F := Ideal) x0 x1 x2 x3 x5 (ix5 s g r p n) = St (rX x0) zt w (rS x5) s 2 n (cS g r p) :=
    s81 x0 x5 hz hw s g r p n
  rw [val_main_v89_apply, val_main_v88_apply, e1, e2, e3]
  change _ = _ * ((Real.exp (lg zt w s 2 (hd (cS g r p)) 127) : ℝ) : EReal) + _
  rw [hd_cS]
  rfl

include hz hw in
theorem s97 (s : Fin 8) (g : Fin 4) (r : Fin 8) (p : Fin 64) (n : Fin 128) :
    val_main_v97 (F := Ideal) x0 x1 x2 x3 x5 (ix5 s g r p n) = St (rX x0) zt w (rS x5) s 4 n (cS g r p) := by
  have e1 : val_main_v91 (F := Ideal) x0 x1 x2 x3 (ix5 s g r p n) = gain (rX x0) zt w s 3 n (cS g r p) := by
    unfold val_main_v91
    refine (shapeCast_apply _ _ _ (ix6 0 s g r p n) ?_).trans ?_
    · rw [Shape.rowMajor_val_five, Shape.rowMajor_val_six]
      change ((((0 * 8 + s.val) * 4 + g.val) * 8 + r.val) * 64 + p.val) * 128 + n.val
        = (((s.val * 4 + g.val) * 8 + r.val) * 64 + p.val) * 128 + n.val
      omega
    · refine (val_main_v90_apply _ _ _ _ _).trans (Eq.trans (congrArg _ (funext fun a => ?_)) (g62 x0 hz hw s 3 g r p n))
      match a with
      | ⟨0, _⟩ => rfl
      | ⟨1, _⟩ => rfl
      | ⟨2, _⟩ => rfl
      | ⟨3, _⟩ => rfl
      | ⟨4, _⟩ => rfl
      | ⟨5, _⟩ => rfl
  have e2 : val_main_v95 (F := Ideal) x1 x2 x3 (ix5 s g r p n) = (Real.exp (lg zt w s 3 (hg g r) 127) : EReal) := by
    rw [val_main_v95_apply, val_main_v94_apply]
    unfold val_main_v93
    refine (shapeCast_apply _ _ _ (ix4 0 s g r) ?_).trans ?_
    · rw [Shape.rowMajor_val_three, Shape.rowMajor_val_four]
      change ((0 * 8 + s.val) * 4 + g.val) * 8 + r.val = (s.val * 4 + g.val) * 8 + r.val
      omega
    · refine (val_main_v92_apply _ _ _ _).trans (Eq.trans (congrArg _ (funext fun a => ?_)) (d64 hz hw s 3 g r))
      match a with
      | ⟨0, _⟩ => rfl
      | ⟨1, _⟩ => rfl
      | ⟨2, _⟩ => rfl
      | ⟨3, _⟩ => rfl
  have e3 : val_main_v89 (F := Ideal) x0 x1 x2 x3 x5 (ix5 s g r p n) = St (rX x0) zt w (rS x5) s 3 n (cS g r p) :=
    s89 x0 x5 hz hw s g r p n
  rw [val_main_v97_apply, val_main_v96_apply, e1, e2, e3]
  change _ = _ * ((Real.exp (lg zt w s 3 (hd (cS g r p)) 127) : ℝ) : EReal) + _
  rw [hd_cS]
  rfl

include hz hw in
theorem s105 (s : Fin 8) (g : Fin 4) (r : Fin 8) (p : Fin 64) (n : Fin 128) :
    val_main_v105 (F := Ideal) x0 x1 x2 x3 x5 (ix5 s g r p n) = St (rX x0) zt w (rS x5) s 5 n (cS g r p) := by
  have e1 : val_main_v99 (F := Ideal) x0 x1 x2 x3 (ix5 s g r p n) = gain (rX x0) zt w s 4 n (cS g r p) := by
    unfold val_main_v99
    refine (shapeCast_apply _ _ _ (ix6 0 s g r p n) ?_).trans ?_
    · rw [Shape.rowMajor_val_five, Shape.rowMajor_val_six]
      change ((((0 * 8 + s.val) * 4 + g.val) * 8 + r.val) * 64 + p.val) * 128 + n.val
        = (((s.val * 4 + g.val) * 8 + r.val) * 64 + p.val) * 128 + n.val
      omega
    · refine (val_main_v98_apply _ _ _ _ _).trans (Eq.trans (congrArg _ (funext fun a => ?_)) (g62 x0 hz hw s 4 g r p n))
      match a with
      | ⟨0, _⟩ => rfl
      | ⟨1, _⟩ => rfl
      | ⟨2, _⟩ => rfl
      | ⟨3, _⟩ => rfl
      | ⟨4, _⟩ => rfl
      | ⟨5, _⟩ => rfl
  have e2 : val_main_v103 (F := Ideal) x1 x2 x3 (ix5 s g r p n) = (Real.exp (lg zt w s 4 (hg g r) 127) : EReal) := by
    rw [val_main_v103_apply, val_main_v102_apply]
    unfold val_main_v101
    refine (shapeCast_apply _ _ _ (ix4 0 s g r) ?_).trans ?_
    · rw [Shape.rowMajor_val_three, Shape.rowMajor_val_four]
      change ((0 * 8 + s.val) * 4 + g.val) * 8 + r.val = (s.val * 4 + g.val) * 8 + r.val
      omega
    · refine (val_main_v100_apply _ _ _ _).trans (Eq.trans (congrArg _ (funext fun a => ?_)) (d64 hz hw s 4 g r))
      match a with
      | ⟨0, _⟩ => rfl
      | ⟨1, _⟩ => rfl
      | ⟨2, _⟩ => rfl
      | ⟨3, _⟩ => rfl
  have e3 : val_main_v97 (F := Ideal) x0 x1 x2 x3 x5 (ix5 s g r p n) = St (rX x0) zt w (rS x5) s 4 n (cS g r p) :=
    s97 x0 x5 hz hw s g r p n
  rw [val_main_v105_apply, val_main_v104_apply, e1, e2, e3]
  change _ = _ * ((Real.exp (lg zt w s 4 (hd (cS g r p)) 127) : ℝ) : EReal) + _
  rw [hd_cS]
  rfl

include hz hw in
theorem s113 (s : Fin 8) (g : Fin 4) (r : Fin 8) (p : Fin 64) (n : Fin 128) :
    val_main_v113 (F := Ideal) x0 x1 x2 x3 x5 (ix5 s g r p n) = St (rX x0) zt w (rS x5) s 6 n (cS g r p) := by
  have e1 : val_main_v107 (F := Ideal) x0 x1 x2 x3 (ix5 s g r p n) = gain (rX x0) zt w s 5 n (cS g r p) := by
    unfold val_main_v107
    refine (shapeCast_apply _ _ _ (ix6 0 s g r p n) ?_).trans ?_
    · rw [Shape.rowMajor_val_five, Shape.rowMajor_val_six]
      change ((((0 * 8 + s.val) * 4 + g.val) * 8 + r.val) * 64 + p.val) * 128 + n.val
        = (((s.val * 4 + g.val) * 8 + r.val) * 64 + p.val) * 128 + n.val
      omega
    · refine (val_main_v106_apply _ _ _ _ _).trans (Eq.trans (congrArg _ (funext fun a => ?_)) (g62 x0 hz hw s 5 g r p n))
      match a with
      | ⟨0, _⟩ => rfl
      | ⟨1, _⟩ => rfl
      | ⟨2, _⟩ => rfl
      | ⟨3, _⟩ => rfl
      | ⟨4, _⟩ => rfl
      | ⟨5, _⟩ => rfl
  have e2 : val_main_v111 (F := Ideal) x1 x2 x3 (ix5 s g r p n) = (Real.exp (lg zt w s 5 (hg g r) 127) : EReal) := by
    rw [val_main_v111_apply, val_main_v110_apply]
    unfold val_main_v109
    refine (shapeCast_apply _ _ _ (ix4 0 s g r) ?_).trans ?_
    · rw [Shape.rowMajor_val_three, Shape.rowMajor_val_four]
      change ((0 * 8 + s.val) * 4 + g.val) * 8 + r.val = (s.val * 4 + g.val) * 8 + r.val
      omega
    · refine (val_main_v108_apply _ _ _ _).trans (Eq.trans (congrArg _ (funext fun a => ?_)) (d64 hz hw s 5 g r))
      match a with
      | ⟨0, _⟩ => rfl
      | ⟨1, _⟩ => rfl
      | ⟨2, _⟩ => rfl
      | ⟨3, _⟩ => rfl
  have e3 : val_main_v105 (F := Ideal) x0 x1 x2 x3 x5 (ix5 s g r p n) = St (rX x0) zt w (rS x5) s 5 n (cS g r p) :=
    s105 x0 x5 hz hw s g r p n
  rw [val_main_v113_apply, val_main_v112_apply, e1, e2, e3]
  change _ = _ * ((Real.exp (lg zt w s 5 (hd (cS g r p)) 127) : ℝ) : EReal) + _
  rw [hd_cS]
  rfl

include hz hw in
theorem s121 (s : Fin 8) (g : Fin 4) (r : Fin 8) (p : Fin 64) (n : Fin 128) :
    val_main_v121 (F := Ideal) x0 x1 x2 x3 x5 (ix5 s g r p n) = St (rX x0) zt w (rS x5) s 7 n (cS g r p) := by
  have e1 : val_main_v115 (F := Ideal) x0 x1 x2 x3 (ix5 s g r p n) = gain (rX x0) zt w s 6 n (cS g r p) := by
    unfold val_main_v115
    refine (shapeCast_apply _ _ _ (ix6 0 s g r p n) ?_).trans ?_
    · rw [Shape.rowMajor_val_five, Shape.rowMajor_val_six]
      change ((((0 * 8 + s.val) * 4 + g.val) * 8 + r.val) * 64 + p.val) * 128 + n.val
        = (((s.val * 4 + g.val) * 8 + r.val) * 64 + p.val) * 128 + n.val
      omega
    · refine (val_main_v114_apply _ _ _ _ _).trans (Eq.trans (congrArg _ (funext fun a => ?_)) (g62 x0 hz hw s 6 g r p n))
      match a with
      | ⟨0, _⟩ => rfl
      | ⟨1, _⟩ => rfl
      | ⟨2, _⟩ => rfl
      | ⟨3, _⟩ => rfl
      | ⟨4, _⟩ => rfl
      | ⟨5, _⟩ => rfl
  have e2 : val_main_v119 (F := Ideal) x1 x2 x3 (ix5 s g r p n) = (Real.exp (lg zt w s 6 (hg g r) 127) : EReal) := by
    rw [val_main_v119_apply, val_main_v118_apply]
    unfold val_main_v117
    refine (shapeCast_apply _ _ _ (ix4 0 s g r) ?_).trans ?_
    · rw [Shape.rowMajor_val_three, Shape.rowMajor_val_four]
      change ((0 * 8 + s.val) * 4 + g.val) * 8 + r.val = (s.val * 4 + g.val) * 8 + r.val
      omega
    · refine (val_main_v116_apply _ _ _ _).trans (Eq.trans (congrArg _ (funext fun a => ?_)) (d64 hz hw s 6 g r))
      match a with
      | ⟨0, _⟩ => rfl
      | ⟨1, _⟩ => rfl
      | ⟨2, _⟩ => rfl
      | ⟨3, _⟩ => rfl
  have e3 : val_main_v113 (F := Ideal) x0 x1 x2 x3 x5 (ix5 s g r p n) = St (rX x0) zt w (rS x5) s 6 n (cS g r p) :=
    s113 x0 x5 hz hw s g r p n
  rw [val_main_v121_apply, val_main_v120_apply, e1, e2, e3]
  change _ = _ * ((Real.exp (lg zt w s 6 (hd (cS g r p)) 127) : ℝ) : EReal) + _
  rw [hd_cS]
  rfl

include hz hw in
theorem s129 (s : Fin 8) (g : Fin 4) (r : Fin 8) (p : Fin 64) (n : Fin 128) :
    val_main_v129 (F := Ideal) x0 x1 x2 x3 x5 (ix5 s g r p n) = St (rX x0) zt w (rS x5) s 8 n (cS g r p) := by
  have e1 : val_main_v123 (F := Ideal) x0 x1 x2 x3 (ix5 s g r p n) = gain (rX x0) zt w s 7 n (cS g r p) := by
    unfold val_main_v123
    refine (shapeCast_apply _ _ _ (ix6 0 s g r p n) ?_).trans ?_
    · rw [Shape.rowMajor_val_five, Shape.rowMajor_val_six]
      change ((((0 * 8 + s.val) * 4 + g.val) * 8 + r.val) * 64 + p.val) * 128 + n.val
        = (((s.val * 4 + g.val) * 8 + r.val) * 64 + p.val) * 128 + n.val
      omega
    · refine (val_main_v122_apply _ _ _ _ _).trans (Eq.trans (congrArg _ (funext fun a => ?_)) (g62 x0 hz hw s 7 g r p n))
      match a with
      | ⟨0, _⟩ => rfl
      | ⟨1, _⟩ => rfl
      | ⟨2, _⟩ => rfl
      | ⟨3, _⟩ => rfl
      | ⟨4, _⟩ => rfl
      | ⟨5, _⟩ => rfl
  have e2 : val_main_v127 (F := Ideal) x1 x2 x3 (ix5 s g r p n) = (Real.exp (lg zt w s 7 (hg g r) 127) : EReal) := by
    rw [val_main_v127_apply, val_main_v126_apply]
    unfold val_main_v125
    refine (shapeCast_apply _ _ _ (ix4 0 s g r) ?_).trans ?_
    · rw [Shape.rowMajor_val_three, Shape.rowMajor_val_four]
      change ((0 * 8 + s.val) * 4 + g.val) * 8 + r.val = (s.val * 4 + g.val) * 8 + r.val
      omega
    · refine (val_main_v124_apply _ _ _ _).trans (Eq.trans (congrArg _ (funext fun a => ?_)) (d64 hz hw s 7 g r))
      match a with
      | ⟨0, _⟩ => rfl
      | ⟨1, _⟩ => rfl
      | ⟨2, _⟩ => rfl
      | ⟨3, _⟩ => rfl
  have e3 : val_main_v121 (F := Ideal) x0 x1 x2 x3 x5 (ix5 s g r p n) = St (rX x0) zt w (rS x5) s 7 n (cS g r p) :=
    s121 x0 x5 hz hw s g r p n
  rw [val_main_v129_apply, val_main_v128_apply, e1, e2, e3]
  change _ = _ * ((Real.exp (lg zt w s 7 (hd (cS g r p)) 127) : ℝ) : EReal) + _
  rw [hd_cS]
  rfl

include hz hw in
theorem s137 (s : Fin 8) (g : Fin 4) (r : Fin 8) (p : Fin 64) (n : Fin 128) :
    val_main_v137 (F := Ideal) x0 x1 x2 x3 x5 (ix5 s g r p n) = St (rX x0) zt w (rS x5) s 9 n (cS g r p) := by
  have e1 : val_main_v131 (F := Ideal) x0 x1 x2 x3 (ix5 s g r p n) = gain (rX x0) zt w s 8 n (cS g r p) := by
    unfold val_main_v131
    refine (shapeCast_apply _ _ _ (ix6 0 s g r p n) ?_).trans ?_
    · rw [Shape.rowMajor_val_five, Shape.rowMajor_val_six]
      change ((((0 * 8 + s.val) * 4 + g.val) * 8 + r.val) * 64 + p.val) * 128 + n.val
        = (((s.val * 4 + g.val) * 8 + r.val) * 64 + p.val) * 128 + n.val
      omega
    · refine (val_main_v130_apply _ _ _ _ _).trans (Eq.trans (congrArg _ (funext fun a => ?_)) (g62 x0 hz hw s 8 g r p n))
      match a with
      | ⟨0, _⟩ => rfl
      | ⟨1, _⟩ => rfl
      | ⟨2, _⟩ => rfl
      | ⟨3, _⟩ => rfl
      | ⟨4, _⟩ => rfl
      | ⟨5, _⟩ => rfl
  have e2 : val_main_v135 (F := Ideal) x1 x2 x3 (ix5 s g r p n) = (Real.exp (lg zt w s 8 (hg g r) 127) : EReal) := by
    rw [val_main_v135_apply, val_main_v134_apply]
    unfold val_main_v133
    refine (shapeCast_apply _ _ _ (ix4 0 s g r) ?_).trans ?_
    · rw [Shape.rowMajor_val_three, Shape.rowMajor_val_four]
      change ((0 * 8 + s.val) * 4 + g.val) * 8 + r.val = (s.val * 4 + g.val) * 8 + r.val
      omega
    · refine (val_main_v132_apply _ _ _ _).trans (Eq.trans (congrArg _ (funext fun a => ?_)) (d64 hz hw s 8 g r))
      match a with
      | ⟨0, _⟩ => rfl
      | ⟨1, _⟩ => rfl
      | ⟨2, _⟩ => rfl
      | ⟨3, _⟩ => rfl
  have e3 : val_main_v129 (F := Ideal) x0 x1 x2 x3 x5 (ix5 s g r p n) = St (rX x0) zt w (rS x5) s 8 n (cS g r p) :=
    s129 x0 x5 hz hw s g r p n
  rw [val_main_v137_apply, val_main_v136_apply, e1, e2, e3]
  change _ = _ * ((Real.exp (lg zt w s 8 (hd (cS g r p)) 127) : ℝ) : EReal) + _
  rw [hd_cS]
  rfl

include hz hw in
theorem s145 (s : Fin 8) (g : Fin 4) (r : Fin 8) (p : Fin 64) (n : Fin 128) :
    val_main_v145 (F := Ideal) x0 x1 x2 x3 x5 (ix5 s g r p n) = St (rX x0) zt w (rS x5) s 10 n (cS g r p) := by
  have e1 : val_main_v139 (F := Ideal) x0 x1 x2 x3 (ix5 s g r p n) = gain (rX x0) zt w s 9 n (cS g r p) := by
    unfold val_main_v139
    refine (shapeCast_apply _ _ _ (ix6 0 s g r p n) ?_).trans ?_
    · rw [Shape.rowMajor_val_five, Shape.rowMajor_val_six]
      change ((((0 * 8 + s.val) * 4 + g.val) * 8 + r.val) * 64 + p.val) * 128 + n.val
        = (((s.val * 4 + g.val) * 8 + r.val) * 64 + p.val) * 128 + n.val
      omega
    · refine (val_main_v138_apply _ _ _ _ _).trans (Eq.trans (congrArg _ (funext fun a => ?_)) (g62 x0 hz hw s 9 g r p n))
      match a with
      | ⟨0, _⟩ => rfl
      | ⟨1, _⟩ => rfl
      | ⟨2, _⟩ => rfl
      | ⟨3, _⟩ => rfl
      | ⟨4, _⟩ => rfl
      | ⟨5, _⟩ => rfl
  have e2 : val_main_v143 (F := Ideal) x1 x2 x3 (ix5 s g r p n) = (Real.exp (lg zt w s 9 (hg g r) 127) : EReal) := by
    rw [val_main_v143_apply, val_main_v142_apply]
    unfold val_main_v141
    refine (shapeCast_apply _ _ _ (ix4 0 s g r) ?_).trans ?_
    · rw [Shape.rowMajor_val_three, Shape.rowMajor_val_four]
      change ((0 * 8 + s.val) * 4 + g.val) * 8 + r.val = (s.val * 4 + g.val) * 8 + r.val
      omega
    · refine (val_main_v140_apply _ _ _ _).trans (Eq.trans (congrArg _ (funext fun a => ?_)) (d64 hz hw s 9 g r))
      match a with
      | ⟨0, _⟩ => rfl
      | ⟨1, _⟩ => rfl
      | ⟨2, _⟩ => rfl
      | ⟨3, _⟩ => rfl
  have e3 : val_main_v137 (F := Ideal) x0 x1 x2 x3 x5 (ix5 s g r p n) = St (rX x0) zt w (rS x5) s 9 n (cS g r p) :=
    s137 x0 x5 hz hw s g r p n
  rw [val_main_v145_apply, val_main_v144_apply, e1, e2, e3]
  change _ = _ * ((Real.exp (lg zt w s 9 (hd (cS g r p)) 127) : ℝ) : EReal) + _
  rw [hd_cS]
  rfl

include hz hw in
theorem s153 (s : Fin 8) (g : Fin 4) (r : Fin 8) (p : Fin 64) (n : Fin 128) :
    val_main_v153 (F := Ideal) x0 x1 x2 x3 x5 (ix5 s g r p n) = St (rX x0) zt w (rS x5) s 11 n (cS g r p) := by
  have e1 : val_main_v147 (F := Ideal) x0 x1 x2 x3 (ix5 s g r p n) = gain (rX x0) zt w s 10 n (cS g r p) := by
    unfold val_main_v147
    refine (shapeCast_apply _ _ _ (ix6 0 s g r p n) ?_).trans ?_
    · rw [Shape.rowMajor_val_five, Shape.rowMajor_val_six]
      change ((((0 * 8 + s.val) * 4 + g.val) * 8 + r.val) * 64 + p.val) * 128 + n.val
        = (((s.val * 4 + g.val) * 8 + r.val) * 64 + p.val) * 128 + n.val
      omega
    · refine (val_main_v146_apply _ _ _ _ _).trans (Eq.trans (congrArg _ (funext fun a => ?_)) (g62 x0 hz hw s 10 g r p n))
      match a with
      | ⟨0, _⟩ => rfl
      | ⟨1, _⟩ => rfl
      | ⟨2, _⟩ => rfl
      | ⟨3, _⟩ => rfl
      | ⟨4, _⟩ => rfl
      | ⟨5, _⟩ => rfl
  have e2 : val_main_v151 (F := Ideal) x1 x2 x3 (ix5 s g r p n) = (Real.exp (lg zt w s 10 (hg g r) 127) : EReal) := by
    rw [val_main_v151_apply, val_main_v150_apply]
    unfold val_main_v149
    refine (shapeCast_apply _ _ _ (ix4 0 s g r) ?_).trans ?_
    · rw [Shape.rowMajor_val_three, Shape.rowMajor_val_four]
      change ((0 * 8 + s.val) * 4 + g.val) * 8 + r.val = (s.val * 4 + g.val) * 8 + r.val
      omega
    · refine (val_main_v148_apply _ _ _ _).trans (Eq.trans (congrArg _ (funext fun a => ?_)) (d64 hz hw s 10 g r))
      match a with
      | ⟨0, _⟩ => rfl
      | ⟨1, _⟩ => rfl
      | ⟨2, _⟩ => rfl
      | ⟨3, _⟩ => rfl
  have e3 : val_main_v145 (F := Ideal) x0 x1 x2 x3 x5 (ix5 s g r p n) = St (rX x0) zt w (rS x5) s 10 n (cS g r p) :=
    s145 x0 x5 hz hw s g r p n
  rw [val_main_v153_apply, val_main_v152_apply, e1, e2, e3]
  change _ = _ * ((Real.exp (lg zt w s 10 (hd (cS g r p)) 127) : ℝ) : EReal) + _
  rw [hd_cS]
  rfl

include hz hw in
theorem s161 (s : Fin 8) (g : Fin 4) (r : Fin 8) (p : Fin 64) (n : Fin 128) :
    val_main_v161 (F := Ideal) x0 x1 x2 x3 x5 (ix5 s g r p n) = St (rX x0) zt w (rS x5) s 12 n (cS g r p) := by
  have e1 : val_main_v155 (F := Ideal) x0 x1 x2 x3 (ix5 s g r p n) = gain (rX x0) zt w s 11 n (cS g r p) := by
    unfold val_main_v155
    refine (shapeCast_apply _ _ _ (ix6 0 s g r p n) ?_).trans ?_
    · rw [Shape.rowMajor_val_five, Shape.rowMajor_val_six]
      change ((((0 * 8 + s.val) * 4 + g.val) * 8 + r.val) * 64 + p.val) * 128 + n.val
        = (((s.val * 4 + g.val) * 8 + r.val) * 64 + p.val) * 128 + n.val
      omega
    · refine (val_main_v154_apply _ _ _ _ _).trans (Eq.trans (congrArg _ (funext fun a => ?_)) (g62 x0 hz hw s 11 g r p n))
      match a with
      | ⟨0, _⟩ => rfl
      | ⟨1, _⟩ => rfl
      | ⟨2, _⟩ => rfl
      | ⟨3, _⟩ => rfl
      | ⟨4, _⟩ => rfl
      | ⟨5, _⟩ => rfl
  have e2 : val_main_v159 (F := Ideal) x1 x2 x3 (ix5 s g r p n) = (Real.exp (lg zt w s 11 (hg g r) 127) : EReal) := by
    rw [val_main_v159_apply, val_main_v158_apply]
    unfold val_main_v157
    refine (shapeCast_apply _ _ _ (ix4 0 s g r) ?_).trans ?_
    · rw [Shape.rowMajor_val_three, Shape.rowMajor_val_four]
      change ((0 * 8 + s.val) * 4 + g.val) * 8 + r.val = (s.val * 4 + g.val) * 8 + r.val
      omega
    · refine (val_main_v156_apply _ _ _ _).trans (Eq.trans (congrArg _ (funext fun a => ?_)) (d64 hz hw s 11 g r))
      match a with
      | ⟨0, _⟩ => rfl
      | ⟨1, _⟩ => rfl
      | ⟨2, _⟩ => rfl
      | ⟨3, _⟩ => rfl
  have e3 : val_main_v153 (F := Ideal) x0 x1 x2 x3 x5 (ix5 s g r p n) = St (rX x0) zt w (rS x5) s 11 n (cS g r p) :=
    s153 x0 x5 hz hw s g r p n
  rw [val_main_v161_apply, val_main_v160_apply, e1, e2, e3]
  change _ = _ * ((Real.exp (lg zt w s 11 (hd (cS g r p)) 127) : ℝ) : EReal) + _
  rw [hd_cS]
  rfl

include hz hw in
theorem s169 (s : Fin 8) (g : Fin 4) (r : Fin 8) (p : Fin 64) (n : Fin 128) :
    val_main_v169 (F := Ideal) x0 x1 x2 x3 x5 (ix5 s g r p n) = St (rX x0) zt w (rS x5) s 13 n (cS g r p) := by
  have e1 : val_main_v163 (F := Ideal) x0 x1 x2 x3 (ix5 s g r p n) = gain (rX x0) zt w s 12 n (cS g r p) := by
    unfold val_main_v163
    refine (shapeCast_apply _ _ _ (ix6 0 s g r p n) ?_).trans ?_
    · rw [Shape.rowMajor_val_five, Shape.rowMajor_val_six]
      change ((((0 * 8 + s.val) * 4 + g.val) * 8 + r.val) * 64 + p.val) * 128 + n.val
        = (((s.val * 4 + g.val) * 8 + r.val) * 64 + p.val) * 128 + n.val
      omega
    · refine (val_main_v162_apply _ _ _ _ _).trans (Eq.trans (congrArg _ (funext fun a => ?_)) (g62 x0 hz hw s 12 g r p n))
      match a with
      | ⟨0, _⟩ => rfl
      | ⟨1, _⟩ => rfl
      | ⟨2, _⟩ => rfl
      | ⟨3, _⟩ => rfl
      | ⟨4, _⟩ => rfl
      | ⟨5, _⟩ => rfl
  have e2 : val_main_v167 (F := Ideal) x1 x2 x3 (ix5 s g r p n) = (Real.exp (lg zt w s 12 (hg g r) 127) : EReal) := by
    rw [val_main_v167_apply, val_main_v166_apply]
    unfold val_main_v165
    refine (shapeCast_apply _ _ _ (ix4 0 s g r) ?_).trans ?_
    · rw [Shape.rowMajor_val_three, Shape.rowMajor_val_four]
      change ((0 * 8 + s.val) * 4 + g.val) * 8 + r.val = (s.val * 4 + g.val) * 8 + r.val
      omega
    · refine (val_main_v164_apply _ _ _ _).trans (Eq.trans (congrArg _ (funext fun a => ?_)) (d64 hz hw s 12 g r))
      match a with
      | ⟨0, _⟩ => rfl
      | ⟨1, _⟩ => rfl
      | ⟨2, _⟩ => rfl
      | ⟨3, _⟩ => rfl
  have e3 : val_main_v161 (F := Ideal) x0 x1 x2 x3 x5 (ix5 s g r p n) = St (rX x0) zt w (rS x5) s 12 n (cS g r p) :=
    s161 x0 x5 hz hw s g r p n
  rw [val_main_v169_apply, val_main_v168_apply, e1, e2, e3]
  change _ = _ * ((Real.exp (lg zt w s 12 (hd (cS g r p)) 127) : ℝ) : EReal) + _
  rw [hd_cS]
  rfl

include hz hw in
theorem s177 (s : Fin 8) (g : Fin 4) (r : Fin 8) (p : Fin 64) (n : Fin 128) :
    val_main_v177 (F := Ideal) x0 x1 x2 x3 x5 (ix5 s g r p n) = St (rX x0) zt w (rS x5) s 14 n (cS g r p) := by
  have e1 : val_main_v171 (F := Ideal) x0 x1 x2 x3 (ix5 s g r p n) = gain (rX x0) zt w s 13 n (cS g r p) := by
    unfold val_main_v171
    refine (shapeCast_apply _ _ _ (ix6 0 s g r p n) ?_).trans ?_
    · rw [Shape.rowMajor_val_five, Shape.rowMajor_val_six]
      change ((((0 * 8 + s.val) * 4 + g.val) * 8 + r.val) * 64 + p.val) * 128 + n.val
        = (((s.val * 4 + g.val) * 8 + r.val) * 64 + p.val) * 128 + n.val
      omega
    · refine (val_main_v170_apply _ _ _ _ _).trans (Eq.trans (congrArg _ (funext fun a => ?_)) (g62 x0 hz hw s 13 g r p n))
      match a with
      | ⟨0, _⟩ => rfl
      | ⟨1, _⟩ => rfl
      | ⟨2, _⟩ => rfl
      | ⟨3, _⟩ => rfl
      | ⟨4, _⟩ => rfl
      | ⟨5, _⟩ => rfl
  have e2 : val_main_v175 (F := Ideal) x1 x2 x3 (ix5 s g r p n) = (Real.exp (lg zt w s 13 (hg g r) 127) : EReal) := by
    rw [val_main_v175_apply, val_main_v174_apply]
    unfold val_main_v173
    refine (shapeCast_apply _ _ _ (ix4 0 s g r) ?_).trans ?_
    · rw [Shape.rowMajor_val_three, Shape.rowMajor_val_four]
      change ((0 * 8 + s.val) * 4 + g.val) * 8 + r.val = (s.val * 4 + g.val) * 8 + r.val
      omega
    · refine (val_main_v172_apply _ _ _ _).trans (Eq.trans (congrArg _ (funext fun a => ?_)) (d64 hz hw s 13 g r))
      match a with
      | ⟨0, _⟩ => rfl
      | ⟨1, _⟩ => rfl
      | ⟨2, _⟩ => rfl
      | ⟨3, _⟩ => rfl
  have e3 : val_main_v169 (F := Ideal) x0 x1 x2 x3 x5 (ix5 s g r p n) = St (rX x0) zt w (rS x5) s 13 n (cS g r p) :=
    s169 x0 x5 hz hw s g r p n
  rw [val_main_v177_apply, val_main_v176_apply, e1, e2, e3]
  change _ = _ * ((Real.exp (lg zt w s 13 (hd (cS g r p)) 127) : ℝ) : EReal) + _
  rw [hd_cS]
  rfl

include hz hw in
theorem s185 (s : Fin 8) (g : Fin 4) (r : Fin 8) (p : Fin 64) (n : Fin 128) :
    val_main_v185 (F := Ideal) x0 x1 x2 x3 x5 (ix5 s g r p n) = St (rX x0) zt w (rS x5) s 15 n (cS g r p) := by
  have e1 : val_main_v179 (F := Ideal) x0 x1 x2 x3 (ix5 s g r p n) = gain (rX x0) zt w s 14 n (cS g r p) := by
    unfold val_main_v179
    refine (shapeCast_apply _ _ _ (ix6 0 s g r p n) ?_).trans ?_
    · rw [Shape.rowMajor_val_five, Shape.rowMajor_val_six]
      change ((((0 * 8 + s.val) * 4 + g.val) * 8 + r.val) * 64 + p.val) * 128 + n.val
        = (((s.val * 4 + g.val) * 8 + r.val) * 64 + p.val) * 128 + n.val
      omega
    · refine (val_main_v178_apply _ _ _ _ _).trans (Eq.trans (congrArg _ (funext fun a => ?_)) (g62 x0 hz hw s 14 g r p n))
      match a with
      | ⟨0, _⟩ => rfl
      | ⟨1, _⟩ => rfl
      | ⟨2, _⟩ => rfl
      | ⟨3, _⟩ => rfl
      | ⟨4, _⟩ => rfl
      | ⟨5, _⟩ => rfl
  have e2 : val_main_v183 (F := Ideal) x1 x2 x3 (ix5 s g r p n) = (Real.exp (lg zt w s 14 (hg g r) 127) : EReal) := by
    rw [val_main_v183_apply, val_main_v182_apply]
    unfold val_main_v181
    refine (shapeCast_apply _ _ _ (ix4 0 s g r) ?_).trans ?_
    · rw [Shape.rowMajor_val_three, Shape.rowMajor_val_four]
      change ((0 * 8 + s.val) * 4 + g.val) * 8 + r.val = (s.val * 4 + g.val) * 8 + r.val
      omega
    · refine (val_main_v180_apply _ _ _ _).trans (Eq.trans (congrArg _ (funext fun a => ?_)) (d64 hz hw s 14 g r))
      match a with
      | ⟨0, _⟩ => rfl
      | ⟨1, _⟩ => rfl
      | ⟨2, _⟩ => rfl
      | ⟨3, _⟩ => rfl
  have e3 : val_main_v177 (F := Ideal) x0 x1 x2 x3 x5 (ix5 s g r p n) = St (rX x0) zt w (rS x5) s 14 n (cS g r p) :=
    s177 x0 x5 hz hw s g r p n
  rw [val_main_v185_apply, val_main_v184_apply, e1, e2, e3]
  change _ = _ * ((Real.exp (lg zt w s 14 (hd (cS g r p)) 127) : ℝ) : EReal) + _
  rw [hd_cS]
  rfl

include hz hw in
theorem s193 (s : Fin 8) (g : Fin 4) (r : Fin 8) (p : Fin 64) (n : Fin 128) :
    val_main_v193 (F := Ideal) x0 x1 x2 x3 x5 (ix5 s g r p n) = St (rX x0) zt w (rS x5) s 16 n (cS g r p) := by
  have e1 : val_main_v187 (F := Ideal) x0 x1 x2 x3 (ix5 s g r p n) = gain (rX x0) zt w s 15 n (cS g r p) := by
    unfold val_main_v187
    refine (shapeCast_apply _ _ _ (ix6 0 s g r p n) ?_).trans ?_
    · rw [Shape.rowMajor_val_five, Shape.rowMajor_val_six]
      change ((((0 * 8 + s.val) * 4 + g.val) * 8 + r.val) * 64 + p.val) * 128 + n.val
        = (((s.val * 4 + g.val) * 8 + r.val) * 64 + p.val) * 128 + n.val
      omega
    · refine (val_main_v186_apply _ _ _ _ _).trans (Eq.trans (congrArg _ (funext fun a => ?_)) (g62 x0 hz hw s 15 g r p n))
      match a with
      | ⟨0, _⟩ => rfl
      | ⟨1, _⟩ => rfl
      | ⟨2, _⟩ => rfl
      | ⟨3, _⟩ => rfl
      | ⟨4, _⟩ => rfl
      | ⟨5, _⟩ => rfl
  have e2 : val_main_v191 (F := Ideal) x1 x2 x3 (ix5 s g r p n) = (Real.exp (lg zt w s 15 (hg g r) 127) : EReal) := by
    rw [val_main_v191_apply, val_main_v190_apply]
    unfold val_main_v189
    refine (shapeCast_apply _ _ _ (ix4 0 s g r) ?_).trans ?_
    · rw [Shape.rowMajor_val_three, Shape.rowMajor_val_four]
      change ((0 * 8 + s.val) * 4 + g.val) * 8 + r.val = (s.val * 4 + g.val) * 8 + r.val
      omega
    · refine (val_main_v188_apply _ _ _ _).trans (Eq.trans (congrArg _ (funext fun a => ?_)) (d64 hz hw s 15 g r))
      match a with
      | ⟨0, _⟩ => rfl
      | ⟨1, _⟩ => rfl
      | ⟨2, _⟩ => rfl
      | ⟨3, _⟩ => rfl
  have e3 : val_main_v185 (F := Ideal) x0 x1 x2 x3 x5 (ix5 s g r p n) = St (rX x0) zt w (rS x5) s 15 n (cS g r p) :=
    s185 x0 x5 hz hw s g r p n
  rw [val_main_v193_apply, val_main_v192_apply, e1, e2, e3]
  change _ = _ * ((Real.exp (lg zt w s 15 (hd (cS g r p)) 127) : ℝ) : EReal) + _
  rw [hd_cS]
  rfl

include hz hw in
theorem c0 (s : Fin 8) (g : Fin 4) (r : Fin 8) (p : Fin 64) (n : Fin 128) :
    val_main_v210 (F := Ideal) x0 x1 x2 x3 x5 (ix6 0 s g r p n) = St (rX x0) zt w (rS x5) s 0 n (cS g r p) := by
  unfold val_main_v210
  refine (row0 _ _ _ _ _ _ _ _ _ _ _ _ _ _ _ _ s g r p n _).trans ?_
  rw [val_main_v194_apply]
  refine Eq.trans (congrArg _ (funext fun a => ?_)) ((s58 x5 s g r p n).trans (by
      unfold St
      rw [hd_cS]
      exact congrArg (fun q => rS x5 (hg g r) q n) (Fin.ext (by change p.val = (512 * g.val + 64 * r.val + p.val) % 64; omega))))
  match a with
  | ⟨0, _⟩ => rfl
  | ⟨1, _⟩ => rfl
  | ⟨2, _⟩ => rfl
  | ⟨3, _⟩ => rfl
  | ⟨4, _⟩ => rfl

include hz hw in
theorem c1 (s : Fin 8) (g : Fin 4) (r : Fin 8) (p : Fin 64) (n : Fin 128) :
    val_main_v210 (F := Ideal) x0 x1 x2 x3 x5 (ix6 1 s g r p n) = St (rX x0) zt w (rS x5) s 1 n (cS g r p) := by
  unfold val_main_v210
  refine (row1 _ _ _ _ _ _ _ _ _ _ _ _ _ _ _ _ s g r p n _).trans ?_
  rw [val_main_v195_apply]
  refine Eq.trans (congrArg _ (funext fun a => ?_)) (s73 x0 x5 hz hw s g r p n)
  match a with
  | ⟨0, _⟩ => rfl
  | ⟨1, _⟩ => rfl
  | ⟨2, _⟩ => rfl
  | ⟨3, _⟩ => rfl
  | ⟨4, _⟩ => rfl

include hz hw in
theorem c2 (s : Fin 8) (g : Fin 4) (r : Fin 8) (p : Fin 64) (n : Fin 128) :
    val_main_v210 (F := Ideal) x0 x1 x2 x3 x5 (ix6 2 s g r p n) = St (rX x0) zt w (rS x5) s 2 n (cS g r p) := by
  unfold val_main_v210
  refine (row2 _ _ _ _ _ _ _ _ _ _ _ _ _ _ _ _ s g r p n _).trans ?_
  rw [val_main_v196_apply]
  refine Eq.trans (congrArg _ (funext fun a => ?_)) (s81 x0 x5 hz hw s g r p n)
  match a with
  | ⟨0, _⟩ => rfl
  | ⟨1, _⟩ => rfl
  | ⟨2, _⟩ => rfl
  | ⟨3, _⟩ => rfl
  | ⟨4, _⟩ => rfl

include hz hw in
theorem c3 (s : Fin 8) (g : Fin 4) (r : Fin 8) (p : Fin 64) (n : Fin 128) :
    val_main_v210 (F := Ideal) x0 x1 x2 x3 x5 (ix6 3 s g r p n) = St (rX x0) zt w (rS x5) s 3 n (cS g r p) := by
  unfold val_main_v210
  refine (row3 _ _ _ _ _ _ _ _ _ _ _ _ _ _ _ _ s g r p n _).trans ?_
  rw [val_main_v197_apply]
  refine Eq.trans (congrArg _ (funext fun a => ?_)) (s89 x0 x5 hz hw s g r p n)
  match a with
  | ⟨0, _⟩ => rfl
  | ⟨1, _⟩ => rfl
  | ⟨2, _⟩ => rfl
  | ⟨3, _⟩ => rfl
  | ⟨4, _⟩ => rfl

include hz hw in
theorem c4 (s : Fin 8) (g : Fin 4) (r : Fin 8) (p : Fin 64) (n : Fin 128) :
    val_main_v210 (F := Ideal) x0 x1 x2 x3 x5 (ix6 4 s g r p n) = St (rX x0) zt w (rS x5) s 4 n (cS g r p) := by
  unfold val_main_v210
  refine (row4 _ _ _ _ _ _ _ _ _ _ _ _ _ _ _ _ s g r p n _).trans ?_
  rw [val_main_v198_apply]
  refine Eq.trans (congrArg _ (funext fun a => ?_)) (s97 x0 x5 hz hw s g r p n)
  match a with
  | ⟨0, _⟩ => rfl
  | ⟨1, _⟩ => rfl
  | ⟨2, _⟩ => rfl
  | ⟨3, _⟩ => rfl
  | ⟨4, _⟩ => rfl

include hz hw in
theorem c5 (s : Fin 8) (g : Fin 4) (r : Fin 8) (p : Fin 64) (n : Fin 128) :
    val_main_v210 (F := Ideal) x0 x1 x2 x3 x5 (ix6 5 s g r p n) = St (rX x0) zt w (rS x5) s 5 n (cS g r p) := by
  unfold val_main_v210
  refine (row5 _ _ _ _ _ _ _ _ _ _ _ _ _ _ _ _ s g r p n _).trans ?_
  rw [val_main_v199_apply]
  refine Eq.trans (congrArg _ (funext fun a => ?_)) (s105 x0 x5 hz hw s g r p n)
  match a with
  | ⟨0, _⟩ => rfl
  | ⟨1, _⟩ => rfl
  | ⟨2, _⟩ => rfl
  | ⟨3, _⟩ => rfl
  | ⟨4, _⟩ => rfl

include hz hw in
theorem c6 (s : Fin 8) (g : Fin 4) (r : Fin 8) (p : Fin 64) (n : Fin 128) :
    val_main_v210 (F := Ideal) x0 x1 x2 x3 x5 (ix6 6 s g r p n) = St (rX x0) zt w (rS x5) s 6 n (cS g r p) := by
  unfold val_main_v210
  refine (row6 _ _ _ _ _ _ _ _ _ _ _ _ _ _ _ _ s g r p n _).trans ?_
  rw [val_main_v200_apply]
  refine Eq.trans (congrArg _ (funext fun a => ?_)) (s113 x0 x5 hz hw s g r p n)
  match a with
  | ⟨0, _⟩ => rfl
  | ⟨1, _⟩ => rfl
  | ⟨2, _⟩ => rfl
  | ⟨3, _⟩ => rfl
  | ⟨4, _⟩ => rfl

include hz hw in
theorem c7 (s : Fin 8) (g : Fin 4) (r : Fin 8) (p : Fin 64) (n : Fin 128) :
    val_main_v210 (F := Ideal) x0 x1 x2 x3 x5 (ix6 7 s g r p n) = St (rX x0) zt w (rS x5) s 7 n (cS g r p) := by
  unfold val_main_v210
  refine (row7 _ _ _ _ _ _ _ _ _ _ _ _ _ _ _ _ s g r p n _).trans ?_
  rw [val_main_v201_apply]
  refine Eq.trans (congrArg _ (funext fun a => ?_)) (s121 x0 x5 hz hw s g r p n)
  match a with
  | ⟨0, _⟩ => rfl
  | ⟨1, _⟩ => rfl
  | ⟨2, _⟩ => rfl
  | ⟨3, _⟩ => rfl
  | ⟨4, _⟩ => rfl

include hz hw in
theorem c8 (s : Fin 8) (g : Fin 4) (r : Fin 8) (p : Fin 64) (n : Fin 128) :
    val_main_v210 (F := Ideal) x0 x1 x2 x3 x5 (ix6 8 s g r p n) = St (rX x0) zt w (rS x5) s 8 n (cS g r p) := by
  unfold val_main_v210
  refine (row8 _ _ _ _ _ _ _ _ _ _ _ _ _ _ _ _ s g r p n _).trans ?_
  rw [val_main_v202_apply]
  refine Eq.trans (congrArg _ (funext fun a => ?_)) (s129 x0 x5 hz hw s g r p n)
  match a with
  | ⟨0, _⟩ => rfl
  | ⟨1, _⟩ => rfl
  | ⟨2, _⟩ => rfl
  | ⟨3, _⟩ => rfl
  | ⟨4, _⟩ => rfl

include hz hw in
theorem c9 (s : Fin 8) (g : Fin 4) (r : Fin 8) (p : Fin 64) (n : Fin 128) :
    val_main_v210 (F := Ideal) x0 x1 x2 x3 x5 (ix6 9 s g r p n) = St (rX x0) zt w (rS x5) s 9 n (cS g r p) := by
  unfold val_main_v210
  refine (row9 _ _ _ _ _ _ _ _ _ _ _ _ _ _ _ _ s g r p n _).trans ?_
  rw [val_main_v203_apply]
  refine Eq.trans (congrArg _ (funext fun a => ?_)) (s137 x0 x5 hz hw s g r p n)
  match a with
  | ⟨0, _⟩ => rfl
  | ⟨1, _⟩ => rfl
  | ⟨2, _⟩ => rfl
  | ⟨3, _⟩ => rfl
  | ⟨4, _⟩ => rfl

include hz hw in
theorem c10 (s : Fin 8) (g : Fin 4) (r : Fin 8) (p : Fin 64) (n : Fin 128) :
    val_main_v210 (F := Ideal) x0 x1 x2 x3 x5 (ix6 10 s g r p n) = St (rX x0) zt w (rS x5) s 10 n (cS g r p) := by
  unfold val_main_v210
  refine (row10 _ _ _ _ _ _ _ _ _ _ _ _ _ _ _ _ s g r p n _).trans ?_
  rw [val_main_v204_apply]
  refine Eq.trans (congrArg _ (funext fun a => ?_)) (s145 x0 x5 hz hw s g r p n)
  match a with
  | ⟨0, _⟩ => rfl
  | ⟨1, _⟩ => rfl
  | ⟨2, _⟩ => rfl
  | ⟨3, _⟩ => rfl
  | ⟨4, _⟩ => rfl

include hz hw in
theorem c11 (s : Fin 8) (g : Fin 4) (r : Fin 8) (p : Fin 64) (n : Fin 128) :
    val_main_v210 (F := Ideal) x0 x1 x2 x3 x5 (ix6 11 s g r p n) = St (rX x0) zt w (rS x5) s 11 n (cS g r p) := by
  unfold val_main_v210
  refine (row11 _ _ _ _ _ _ _ _ _ _ _ _ _ _ _ _ s g r p n _).trans ?_
  rw [val_main_v205_apply]
  refine Eq.trans (congrArg _ (funext fun a => ?_)) (s153 x0 x5 hz hw s g r p n)
  match a with
  | ⟨0, _⟩ => rfl
  | ⟨1, _⟩ => rfl
  | ⟨2, _⟩ => rfl
  | ⟨3, _⟩ => rfl
  | ⟨4, _⟩ => rfl

include hz hw in
theorem c12 (s : Fin 8) (g : Fin 4) (r : Fin 8) (p : Fin 64) (n : Fin 128) :
    val_main_v210 (F := Ideal) x0 x1 x2 x3 x5 (ix6 12 s g r p n) = St (rX x0) zt w (rS x5) s 12 n (cS g r p) := by
  unfold val_main_v210
  refine (row12 _ _ _ _ _ _ _ _ _ _ _ _ _ _ _ _ s g r p n _).trans ?_
  rw [val_main_v206_apply]
  refine Eq.trans (congrArg _ (funext fun a => ?_)) (s161 x0 x5 hz hw s g r p n)
  match a with
  | ⟨0, _⟩ => rfl
  | ⟨1, _⟩ => rfl
  | ⟨2, _⟩ => rfl
  | ⟨3, _⟩ => rfl
  | ⟨4, _⟩ => rfl

include hz hw in
theorem c13 (s : Fin 8) (g : Fin 4) (r : Fin 8) (p : Fin 64) (n : Fin 128) :
    val_main_v210 (F := Ideal) x0 x1 x2 x3 x5 (ix6 13 s g r p n) = St (rX x0) zt w (rS x5) s 13 n (cS g r p) := by
  unfold val_main_v210
  refine (row13 _ _ _ _ _ _ _ _ _ _ _ _ _ _ _ _ s g r p n _).trans ?_
  rw [val_main_v207_apply]
  refine Eq.trans (congrArg _ (funext fun a => ?_)) (s169 x0 x5 hz hw s g r p n)
  match a with
  | ⟨0, _⟩ => rfl
  | ⟨1, _⟩ => rfl
  | ⟨2, _⟩ => rfl
  | ⟨3, _⟩ => rfl
  | ⟨4, _⟩ => rfl

include hz hw in
theorem c14 (s : Fin 8) (g : Fin 4) (r : Fin 8) (p : Fin 64) (n : Fin 128) :
    val_main_v210 (F := Ideal) x0 x1 x2 x3 x5 (ix6 14 s g r p n) = St (rX x0) zt w (rS x5) s 14 n (cS g r p) := by
  unfold val_main_v210
  refine (row14 _ _ _ _ _ _ _ _ _ _ _ _ _ _ _ _ s g r p n _).trans ?_
  rw [val_main_v208_apply]
  refine Eq.trans (congrArg _ (funext fun a => ?_)) (s177 x0 x5 hz hw s g r p n)
  match a with
  | ⟨0, _⟩ => rfl
  | ⟨1, _⟩ => rfl
  | ⟨2, _⟩ => rfl
  | ⟨3, _⟩ => rfl
  | ⟨4, _⟩ => rfl

include hz hw in
theorem c15 (s : Fin 8) (g : Fin 4) (r : Fin 8) (p : Fin 64) (n : Fin 128) :
    val_main_v210 (F := Ideal) x0 x1 x2 x3 x5 (ix6 15 s g r p n) = St (rX x0) zt w (rS x5) s 15 n (cS g r p) := by
  unfold val_main_v210
  refine (row15 _ _ _ _ _ _ _ _ _ _ _ _ _ _ _ _ s g r p n _).trans ?_
  rw [val_main_v209_apply]
  refine Eq.trans (congrArg _ (funext fun a => ?_)) (s185 x0 x5 hz hw s g r p n)
  match a with
  | ⟨0, _⟩ => rfl
  | ⟨1, _⟩ => rfl
  | ⟨2, _⟩ => rfl
  | ⟨3, _⟩ => rfl
  | ⟨4, _⟩ => rfl

include hz hw in
theorem c210 (k : Fin 16) (s : Fin 8) (g : Fin 4) (r : Fin 8) (p : Fin 64) (n : Fin 128) :
    val_main_v210 (F := Ideal) x0 x1 x2 x3 x5 (ix6 k s g r p n) = St (rX x0) zt w (rS x5) s k n (cS g r p) := by
  match k with
  | ⟨0, _⟩ => exact c0 x0 x5 hz hw s g r p n
  | ⟨1, _⟩ => exact c1 x0 x5 hz hw s g r p n
  | ⟨2, _⟩ => exact c2 x0 x5 hz hw s g r p n
  | ⟨3, _⟩ => exact c3 x0 x5 hz hw s g r p n
  | ⟨4, _⟩ => exact c4 x0 x5 hz hw s g r p n
  | ⟨5, _⟩ => exact c5 x0 x5 hz hw s g r p n
  | ⟨6, _⟩ => exact c6 x0 x5 hz hw s g r p n
  | ⟨7, _⟩ => exact c7 x0 x5 hz hw s g r p n
  | ⟨8, _⟩ => exact c8 x0 x5 hz hw s g r p n
  | ⟨9, _⟩ => exact c9 x0 x5 hz hw s g r p n
  | ⟨10, _⟩ => exact c10 x0 x5 hz hw s g r p n
  | ⟨11, _⟩ => exact c11 x0 x5 hz hw s g r p n
  | ⟨12, _⟩ => exact c12 x0 x5 hz hw s g r p n
  | ⟨13, _⟩ => exact c13 x0 x5 hz hw s g r p n
  | ⟨14, _⟩ => exact c14 x0 x5 hz hw s g r p n
  | ⟨15, _⟩ => exact c15 x0 x5 hz hw s g r p n
  | ⟨k + 16, h⟩ => exact absurd h (by omega)

include hz hw in
theorem r212 (s : Fin 8) (k : Fin 16) (g : Fin 4) (r : Fin 8) (p : Fin 64) (n : Fin 128) :
    val_main_v212 (F := Ideal) x0 x1 x2 x3 x5 (ix6 s k g r p n) = St (rX x0) zt w (rS x5) s k n (cS g r p) := by
  rw [val_main_v212_apply, ← c210 x0 x5 hz hw]
  unfold val_main_v211
  refine (cat_snd (t := S16x8x4x8x64x128) (s1 := S0x8x4x8x64x128) (s2 := S16x8x4x8x64x128) 0 _ _ _ _ rfl rfl
    (ix6 k s g r p n) (fun b hb => ?_) ?_)
  · match b with
    | ⟨0, _⟩ => exact absurd rfl hb
    | ⟨1, _⟩ => rfl
    | ⟨2, _⟩ => rfl
    | ⟨3, _⟩ => rfl
    | ⟨4, _⟩ => rfl
    | ⟨5, _⟩ => rfl
  · exact Nat.zero_add _

include hz hw in
theorem r218 (s : Fin 8) (k : Fin 16) (i : Fin 128) (g : Fin 4) (r : Fin 8) (p : Fin 64) :
    val_main_v218 (F := Ideal) x0 x1 x2 x3 x5 (ix6 s k i g r p)
      = (∑ n : Fin 128, sx (rX x0) s k i (cC g n) * St (rX x0) zt w (rS x5) s k n (cS g r p)) * (Real.exp (lg zt w s k (hg g r) i) : EReal) := by
  rw [val_main_v218_apply, val_main_v214_apply, val_main_v217_apply, val_main_v216_apply, val_main_v215_apply]
  refine congrArg₂ (· * ·) ?_ ?_
  · refine (val_main_v213_apply _ _ _ _ _ _).trans (Finset.sum_congr rfl fun n _ => ?_)
    rw [← r21, ← r212 x0 x5 hz hw, mul_comm]
    refine congrArg₂ (· * ·) (congrArg _ (funext fun a => ?_)) (congrArg _ (funext fun a => ?_))
    · match a with
    | ⟨0, _⟩ => rfl
    | ⟨1, _⟩ => rfl
    | ⟨2, _⟩ => rfl
    | ⟨3, _⟩ => rfl
    | ⟨4, _⟩ => rfl
    · match a with
    | ⟨0, _⟩ => rfl
    | ⟨1, _⟩ => rfl
    | ⟨2, _⟩ => rfl
    | ⟨3, _⟩ => rfl
    | ⟨4, _⟩ => rfl
    | ⟨5, _⟩ => rfl
  · refine Eq.trans (congrArg Ideal.exp ?_) (Ideal.exp_coe _)
    rw [← r26 hz hw]
    refine congrArg _ (funext fun a => ?_)
    match a with
    | ⟨0, _⟩ => rfl
    | ⟨1, _⟩ => rfl
    | ⟨2, _⟩ => rfl
    | ⟨3, _⟩ => rfl
    | ⟨4, _⟩ => rfl

theorem Y_eq (X : Fin 8 → Fin 2048 → Fin 3072 → EReal) (D : Fin 32 → EReal) (S0 : Fin 32 → Fin 64 → Fin 128 → EReal) (s : Fin 8) (k : ℕ) (i : Fin 128)
    (g : Fin 4) (r : Fin 8) (p : Fin 64) :
    Yv X zt w D S0 s k i (cS g r p)
      = ((∑ j : Fin 128, ((∑ n : Fin 128, sx X s k i (cC g n) * sx X s k j (cB g n))
          * ((if j ≤ i then Real.exp (lg zt w s k (hg g r) i - lg zt w s k (hg g r) j) * sp (zt s (tok k j) (hg g r)) else 0 : ℝ) : EReal))
          * sx X s k j (cX g r p))
        + (∑ n : Fin 128, sx X s k i (cC g n) * St X zt w S0 s k n (cS g r p)) * (Real.exp (lg zt w s k (hg g r) i) : EReal))
      + D (hg g r) * sx X s k i (cX g r p) := by
  have hC : ∀ (n : Fin 128) (h : 2560 + (128 * ((cS g r p).val / 512) + n.val) < 3072),
      (⟨2560 + (128 * ((cS g r p).val / 512) + n.val), h⟩ : Fin 3072) = cC g n := fun n h =>
    Fin.ext (by change 2560 + (128 * ((cS g r p).val / 512) + n.val) = 2560 + (128 * g.val + n.val); rw [div_cS])
  have hB : ∀ (n : Fin 128) (h : 2048 + (128 * ((cS g r p).val / 512) + n.val) < 3072),
      (⟨2048 + (128 * ((cS g r p).val / 512) + n.val), h⟩ : Fin 3072) = cB g n := fun n h =>
    Fin.ext (by change 2048 + (128 * ((cS g r p).val / 512) + n.val) = 2048 + (128 * g.val + n.val); rw [div_cS])
  unfold Yv
  simp only [hC, hB, hd_cS]
  rfl

include hz hw in
theorem r220 (s : Fin 8) (k : Fin 16) (i : Fin 128) (g : Fin 4) (r : Fin 8) (p : Fin 64) :
    val_main_v227 (F := Ideal) x0 x1 x2 x3 x4 x5 (ix4 s (tok k i) (hg g r) p) = Yv (rX x0) zt w (rB x4) (rS x5) s k i (cS g r p) := by
  have ht := tok_val k i
  rw [Y_eq, val_main_v227_apply, val_main_v226_apply, ← r46 x0 hz hw, ← r218 x0 x5 hz hw, ← r18]
  refine congrArg₂ (· + ·) ?_ (congrArg₂ (· * ·) ?_ ?_)
  · unfold val_main_v220
    refine (shapeCast_apply _ _ _ (ix6 s k i g r p) ?_).trans ?_
    · rw [Shape.rowMajor_val_four, Shape.rowMajor_val_six]
      change ((((s.val * 16 + k.val) * 128 + i.val) * 4 + g.val) * 8 + r.val) * 64 + p.val
        = ((s.val * 2048 + (tok k.val i).val) * 32 + (8 * g.val + r.val)) * 64 + p.val
      omega
    · rw [val_main_v219_apply]
      rfl
  · rw [val_main_v225_apply, val_main_v224_apply, val_main_v223_apply, val_main_v222_apply, val_main_v221_apply]
    refine congrArg _ (funext fun a => ?_)
    match a with
    | ⟨0, _⟩ => rfl
    | ⟨1, _⟩ => exact Fin.ext (by change (hg g r).val % 32 = (hg g r).val; exact Nat.mod_eq_of_lt (hg g r).isLt)
  · unfold val_main_v18
    refine (shapeCast_apply _ _ _ (ix4 s (tok k.val i) (hg g r) p) ?_).symm
    rw [Shape.rowMajor_val_four, Shape.rowMajor_val_six]
    change ((s.val * 2048 + (tok k.val i).val) * 32 + (8 * g.val + r.val)) * 64 + p.val
      = ((((s.val * 16 + k.val) * 128 + i.val) * 4 + g.val) * 8 + r.val) * 64 + p.val
    omega

include hz hw in
/-- The outputs: the prompt's rows, then the rows carried through. -/
theorem y_prompt (s : Fin 8) (k : Fin 16) (i : Fin 128) (c : Fin 2048) (q : Fin 17920) (hq : q.val = 2048 * s.val + 128 * k.val + i.val) :
    val_main_v232 (F := Ideal) x0 x1 x2 x3 x4 x5 x6 (ix2 q c) = Yv (rX x0) zt w (rB x4) (rS x5) s k i c := by
  have ht := tok_val k i
  obtain ⟨g, r, p, rfl⟩ : ∃ (g : Fin 4) (r : Fin 8) (p : Fin 64), c = cS g r p :=
    ⟨⟨c.val / 512, by omega⟩, ⟨c.val / 64 % 8, by omega⟩, ⟨c.val % 64, by omega⟩,
      Fin.ext (by change c.val = 512 * (c.val / 512) + 64 * (c.val / 64 % 8) + c.val % 64; omega)⟩
  rw [← r220 x0 x4 x5 hz hw]
  unfold val_main_v232
  refine (cat_fst (t := S17920x2048) (s1 := S16384x2048) (s2 := S1536x2048) 0 _ _ _ _ rfl
    (ix2 (⟨q.val, by omega⟩ : Fin 16384) (cS g r p)) (fun b hb => ?_) rfl).trans ?_
  · match b with
    | ⟨0, _⟩ => exact absurd rfl hb
    | ⟨1, _⟩ => rfl
  · refine (val_main_v229_apply _ _ _ _ _ _ _).trans ?_
    unfold val_main_v228
    refine (shapeCast_apply _ _ _ (ix4 s (tok k i) (hg g r) p) ?_)
    rw [Shape.rowMajor_val_four, Shape.rowMajor_val_two]
    change ((s.val * 2048 + (tok k.val i).val) * 32 + (8 * g.val + r.val)) * 64 + p.val
      = q.val * 2048 + (512 * g.val + 64 * r.val + p.val)
    omega

theorem y_rest (c : Fin 2048) (q : Fin 17920) (hq : 16384 ≤ q.val) :
    val_main_v232 (F := Ideal) x0 x1 x2 x3 x4 x5 x6 (ix2 q c) = x6 (ix2 q c) := by
  unfold val_main_v232
  refine (cat_snd (t := S17920x2048) (s1 := S16384x2048) (s2 := S1536x2048) 0 _ _ _ _ rfl rfl
    (ix2 (⟨q.val - 16384, by omega⟩ : Fin 1536) c) (fun b hb => ?_) ?_).trans ?_
  · match b with
    | ⟨0, _⟩ => exact absurd rfl hb
    | ⟨1, _⟩ => rfl
  · change 16384 + (q.val - 16384) = q.val
    omega
  · refine (val_main_v231_apply _ _).trans (congrArg _ (funext fun a => ?_))
    match a with
    | ⟨0, _⟩ => exact Fin.ext (by change 16384 + (q.val - 16384) = q.val; omega)
    | ⟨1, _⟩ => rfl

include hz hw in
/-- The states: the other layer's as given, this layer's after the last chunk. -/
theorem ssm_new (s : Fin 8) (c : Fin 2048) (n : Fin 128) :
    val_main_v237 (F := Ideal) x0 x1 x2 x3 x5 x7 (ix4 1 s c n) = St (rX x0) zt w (rS x5) s 16 n c := by
  obtain ⟨g, r, p, rfl⟩ : ∃ (g : Fin 4) (r : Fin 8) (p : Fin 64), c = cS g r p :=
    ⟨⟨c.val / 512, by omega⟩, ⟨c.val / 64 % 8, by omega⟩, ⟨c.val % 64, by omega⟩,
      Fin.ext (by change c.val = 512 * (c.val / 512) + 64 * (c.val / 64 % 8) + c.val % 64; omega)⟩
  rw [← s193 x0 x5 hz hw]
  unfold val_main_v237
  refine (cat_snd (t := S2x8x2048x128) (s1 := S1x8x2048x128) (s2 := S1x8x2048x128) 0 _ _ _ _ rfl rfl
    (ix4 0 s (cS g r p) n) (fun b hb => ?_) rfl).trans ?_
  · match b with
    | ⟨0, _⟩ => exact absurd rfl hb
    | ⟨1, _⟩ => rfl
    | ⟨2, _⟩ => rfl
    | ⟨3, _⟩ => rfl
  · rw [val_main_v236_apply]
    unfold val_main_v230
    refine (shapeCast_apply _ _ _ (ix5 s g r p n) ?_)
    rw [Shape.rowMajor_val_five, Shape.rowMajor_val_three]
    change (((s.val * 4 + g.val) * 8 + r.val) * 64 + p.val) * 128 + n.val
      = (s.val * 2048 + (512 * g.val + 64 * r.val + p.val)) * 128 + n.val
    omega

theorem ssm_old (s : Fin 8) (c : Fin 2048) (n : Fin 128) :
    val_main_v237 (F := Ideal) x0 x1 x2 x3 x5 x7 (ix4 0 s c n) = x7 (ix4 0 s c n) := by
  unfold val_main_v237
  refine (cat_fst (t := S2x8x2048x128) (s1 := S1x8x2048x128) (s2 := S1x8x2048x128) 0 _ _ _ _ rfl
    (ix4 0 s c n) (fun b hb => ?_) rfl).trans ?_
  · match b with
    | ⟨0, _⟩ => exact absurd rfl hb
    | ⟨1, _⟩ => rfl
    | ⟨2, _⟩ => rfl
    | ⟨3, _⟩ => rfl
  · rw [val_main_v235_apply]
    unfold val_main_v234
    refine (shapeCast_apply _ _ _ (ix4 0 s c n) ?_).trans ?_
    · rw [Shape.rowMajor_val_four, Shape.rowMajor_val_three]
      change ((0 * 8 + s.val) * 2048 + c.val) * 128 + n.val = (s.val * 2048 + c.val) * 128 + n.val
      omega
    · refine (val_main_v233_apply _ _).trans (congrArg _ (funext fun a => ?_))
      match a with
      | ⟨0, _⟩ => rfl
      | ⟨1, _⟩ => rfl
      | ⟨2, _⟩ => rfl
      | ⟨3, _⟩ => rfl

end Real

end Cert.ReferenceIdeal.Ssd

end
-- ==== Proof.Ssd.Claims.lean ====
/- The claims about the recurrence: both programs run, and end with the same outputs and states. -/
module

public import proofs.«01_k».proof.Defs
public import proofs.«01_k».proof.Proof.Ssd.Arrays
public import proofs.«01_k».proof.Proof.Ssd.Ref2
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import Idealize.ShloMosaic.Adequacy
public import Idealize.ShloMosaic.Lib.ReduceAll
public import Idealize.ShloMosaic.Lib.Pointwise.Select

@[expose] public section

set_option maxRecDepth 16384

noncomputable section

namespace Cert.Proof.Ssd

open Idealize.ShloMosaic Idealize.SL.Sem Cert.Ssd

/-- A number whose absolute value is below infinity is a real. -/
theorem real_of_abs_lt (x : EReal) (h : max x (-x) < ⊤) : x = (x.toReal : EReal) := by
  refine (EReal.coe_toReal (fun e => ?_) (fun e => ?_)).symm
  · subst e; simp at h
  · subst e; simp at h

theorem inf_f32 : Ideal.ofBits .f32 0x7F800000#32 = ⊤ := by simp [Ideal.ofBits, Ideal.ieee]

section Pre
open Cert.Pre_finite

variable [Cert.Pre_finite.Facts]
  (x0 : FVec Ideal S8x2048x3072 .f32) (x1 : FVec Ideal S8x2048x32 .f32) (x2 x3 x4 : FVec Ideal S2x32 .f32)
  (x5 : FVec Ideal S1x32x64x128 .f32) (x6 : FVec Ideal S17920x2048 .bf16) (x7 : FVec Ideal S2x8x2048x128 .f32)

/-- The precondition, entry by entry: the step sizes, their bias and the decay rates are reals. -/
theorem reals (h : ∀ j, Cert.Pre_finite.fn (F := Ideal) x0 x1 x2 x3 x4 x5 x6 x7 j = 1#1) :
    (∀ i, (x1 i : EReal) = ((x1 i : EReal).toReal : EReal)) ∧ (∀ i, (x2 i : EReal) = ((x2 i : EReal).toReal : EReal))
      ∧ ∀ i, (x3 i : EReal) = ((x3 i : EReal).toReal : EReal) := by
  have h0 := h (fun a => a.elim0)
  dsimp only [Cert.Pre_finite.fn] at h0
  obtain ⟨h12, h3⟩ := IntOp.andi_eq_one.mp h0
  obtain ⟨h1, h2⟩ := IntOp.andi_eq_one.mp h12
  haveI : Subsingleton S_.Idx := ⟨fun a b => funext fun k => k.elim0⟩
  refine ⟨fun i => ?_, fun i => ?_, fun i => ?_⟩
  · have e := Host.reduce_andi_all _ _ _ _ _ h1 i
    have e' := (Ideal.cmp_olt_eq_one (x := _) (y := _)).mp e
    exact real_of_abs_lt _ (inf_f32 ▸ e')
  · have e := Host.reduce_andi_all _ _ _ _ _ h2 i
    have e' := (Ideal.cmp_olt_eq_one (x := _) (y := _)).mp e
    exact real_of_abs_lt _ (inf_f32 ▸ e')
  · have e := Host.reduce_andi_all _ _ _ _ _ h3 i
    have e' := (Ideal.cmp_olt_eq_one (x := _) (y := _)).mp e
    exact real_of_abs_lt _ (inf_f32 ▸ e')

end Pre

theorem frame_p : Cert.quiescent_Kernel := fun m ρ _ => Cert.Kernel.Gen.frame m ρ

theorem frame_pi : Cert.quiescent_KernelIdeal := fun m ρ _ => Cert.KernelIdeal.Gen.frame m ρ

theorem frame_pi_pre : Cert.quiescent_KernelIdeal_pre_finite := fun m ρ _ => Cert.KernelIdeal.Gen.frame m ρ

theorem frame_ri : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

theorem frame_ri_pre : Cert.quiescent_ReferenceIdeal_pre_finite := fun m ρ _ => frame_ri m ρ trivial

theorem preserves : Cert.preserves_Kernel_KernelIdeal :=
  IdealRules.named_const.statement Cert.KernelIdeal.κ "log2e" .f32 0x3FB8AA3B#32 (((Real.log 2)⁻¹ : ℝ) : EReal) rfl

theorem algebraic : Cert.algebraic_KernelIdeal_ReferenceIdeal_pre_finite := by
  intro m ρ m' ρ' hpre hagree
  have hr := fun c => reals _ _ _ _ _ _ _ _ (fun j => congrFun (hpre c) j)
  have hz : ∀ c s t h, Cert.KernelIdeal.Ssd.aT m c s t h + Cert.KernelIdeal.Ssd.aB m c h
      = (((Cert.KernelIdeal.Ssd.aT m c s t h).toReal + (Cert.KernelIdeal.Ssd.aB m c h).toReal : ℝ) : EReal) := fun c s t h => by
    rw [EReal.coe_add]
    exact congrArg₂ (fun a b : EReal => a + b) ((hr c).1 (ix3 s t h)) ((hr c).2.1 (ix2 1 h))
  have hw : ∀ c h, Cert.KernelIdeal.Ssd.aW m c h = ((Cert.KernelIdeal.Ssd.aW m c h).toReal : EReal) := fun c h =>
    (hr c).2.2 (ix2 1 h)
  refine ⟨_, _, (θ_run Cert.KernelIdeal.defs _ _).mono (fun _ h c =>
      ⟨(h c).1.trans (Cert.KernelIdeal.Ssd.y_arr (hz c) (hw c)), (h c).2.1.trans (Cert.KernelIdeal.Ssd.s_arr (hz c) (hw c)), (h c).2.2⟩)
    (Cert.KernelIdeal.Value.run_blocks (F := Ideal) m ρ), ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v232_eq (StableHlo.launchContents m' c)).trans ?_
    change Cert.ReferenceIdeal.Read.val_main_v232 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = _
    rw [(hagree c).1, (hagree c).2.1, (hagree c).2.2.1, (hagree c).2.2.2.1, (hagree c).2.2.2.2.1, (hagree c).2.2.2.2.2.1, (hagree c).2.2.2.2.2.2.1]
    funext i
    rw [eq_ix2 i]
    have hi : (i 0).val < 17920 := (i 0).isLt
    by_cases hq : (i 0).val < 16384
    · refine (Cert.ReferenceIdeal.Ssd.y_prompt _ _ _ _ (hz c) (hw c) ⟨(i 0).val / 2048, by omega⟩ ⟨(i 0).val % 2048 / 128, by omega⟩
        ⟨(i 0).val % 128, by omega⟩ (i 1) (i 0) (by change (i 0).val = 2048 * ((i 0).val / 2048) + 128 * ((i 0).val % 2048 / 128) + (i 0).val % 128; omega)).trans ?_
      exact (Cert.KernelIdeal.Ssd.yArr_at ⟨(i 0).val / 2048, by omega⟩ ((i 0).val % 2048 / 128) (by omega)
        ⟨(i 0).val % 128, by omega⟩ (i 1) (i 0) (by change (i 0).val = 2048 * ((i 0).val / 2048) + 128 * ((i 0).val % 2048 / 128) + (i 0).val % 128; omega)).symm
    · refine (Cert.ReferenceIdeal.Ssd.y_rest _ _ _ _ (i 1) (i 0) (by omega)).trans ?_
      exact (Cert.KernelIdeal.Ssd.yArr_rest (ix2 (i 0) (i 1)) hq).symm
  · refine (Cert.ReferenceIdeal.Read.val_main_v237_eq (StableHlo.launchContents m' c)).trans ?_
    change Cert.ReferenceIdeal.Read.val_main_v237 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg7)) = _
    rw [(hagree c).1, (hagree c).2.1, (hagree c).2.2.1, (hagree c).2.2.2.1, (hagree c).2.2.2.2.2.1, (hagree c).2.2.2.2.2.2.2]
    funext i
    rw [eq_ix4 i]
    have hi : (i 0).val < 2 := (i 0).isLt
    by_cases hq : (i 0).val = 1
    · have e : i 0 = (1 : Fin 2) := Fin.ext hq
      rw [e]
      refine (Cert.ReferenceIdeal.Ssd.ssm_new _ _ _ (hz c) (hw c) (i 1) (i 2) (i 3)).trans ?_
      exact (if_pos rfl).symm
    · have e : i 0 = (0 : Fin 2) := Fin.ext (by change (i 0).val = 0; omega)
      rw [e]
      refine (Cert.ReferenceIdeal.Ssd.ssm_old _ _ _ (i 1) (i 2) (i 3)).trans ?_
      exact (if_neg (show ¬ (0 : ℕ) = 1 by decide)).symm

end Cert.Proof.Ssd

end
-- ==== Proof.Rows.Spec.lean ====
/- The token-wise parts of the layer, one row at a time, over the extended reals: the normalisation by the root
   mean square, the feed-forward part, and the mixer's output part. -/
module

public import Idealize.ShloMosaic.Lib.Pipeline.ValueKit

@[expose] public section

noncomputable section

namespace Cert.Rows

open Idealize.ShloMosaic

/-- The number added under each root. -/
def eps : EReal := Ideal.ofBits .f32 0x358637BD#32

/-- The row lengths, and the weight of the feed-forward part. -/
def w1024 : EReal := Ideal.ofBits .f32 0x44800000#32
def w2048 : EReal := Ideal.ofBits .f32 0x45000000#32
def half : EReal := Ideal.ofBits .f32 0x3F000000#32

/-- A row over its root mean square, scaled. -/
def rms {n : ℕ} (d : EReal) (v g : Fin n → EReal) (j : Fin n) : EReal :=
  v j * Ideal.rsqrt (Ideal.div (∑ k, v k * v k) d + eps) * g j

def silu (x : EReal) : EReal := x * Ideal.logistic x

/-- The hidden row: the gated products of the normalised row with the first matrix's two halves. -/
def hiddenRow (x g : Fin 1024 → EReal) (W : Fin 1024 → Fin 5632 → EReal) (n : Fin 2816) : EReal :=
  silu (∑ k, rms w1024 x g k * W k ⟨n.val, by omega⟩) * ∑ k, rms w1024 x g k * W k ⟨2816 + n.val, by omega⟩

/-- The hidden row times the second matrix. -/
def ffnRow (x g : Fin 1024 → EReal) (W : Fin 1024 → Fin 5632 → EReal) (O : Fin 2816 → Fin 1024 → EReal) (j : Fin 1024) : EReal :=
  ∑ n, hiddenRow x g W n * O n j

/-- The feed-forward part: the row plus half its normalised image. -/
def ffn (x g : Fin 1024 → EReal) (W : Fin 1024 → Fin 5632 → EReal) (O : Fin 2816 → Fin 1024 → EReal) (g' : Fin 1024 → EReal)
    (j : Fin 1024) : EReal :=
  x j + half * rms w1024 (ffnRow x g W O) g' j

/-! ## The mixer's output part -/

/-- The normalised row times the input projection. -/
def proj (x g : Fin 1024 → EReal) (W : Fin 1024 → Fin 8224 → EReal) (n : Fin 8224) : EReal := ∑ k, rms w1024 x g k * W k n

/-- The recurrence's outputs, gated. -/
def gatedRow (x : Fin 1024 → EReal) (y : Fin 2048 → EReal) (g : Fin 1024 → EReal) (W : Fin 1024 → Fin 8224 → EReal) (n : Fin 2048) : EReal := y n * silu (proj x g W ⟨n.val, by omega⟩)

/-- The recurrence's branch. -/
def ssdRow (x : Fin 1024 → EReal) (y : Fin 2048 → EReal) (g : Fin 1024 → EReal) (W : Fin 1024 → Fin 8224 → EReal)
    (s : Fin 2048 → EReal) (B : Fin 2048 → Fin 1024 → EReal) (j : Fin 1024) : EReal :=
  ∑ n, rms w2048 (gatedRow x y g W) s n * B n j

/-- The pooled channels, mixed within each of the four groups and scaled. -/
def mixedRow (p : Fin 1024 → EReal) (M : Fin 4 → Fin 256 → Fin 256 → EReal) (s : Fin 1024 → EReal) (k : Fin 1024) : EReal :=
  (∑ d : Fin 256, p ⟨256 * (k.val / 256) + d.val, by omega⟩ * M ⟨k.val / 256, by omega⟩ d ⟨k.val % 256, by omega⟩) * s k

/-- The pool's branch. -/
def poolRow (p : Fin 1024 → EReal) (M : Fin 4 → Fin 256 → Fin 256 → EReal) (s : Fin 1024 → EReal)
    (C : Fin 1024 → Fin 1024 → EReal) (j : Fin 1024) : EReal := ∑ k, mixedRow p M s k * C k j

/-- The two branches, each under its gate, added. -/
def mergedRow (x g : Fin 1024 → EReal) (W : Fin 1024 → Fin 8224 → EReal) (a b : Fin 1024 → EReal) (j : Fin 1024) : EReal :=
  Ideal.logistic (proj x g W ⟨6176 + j.val, by omega⟩) * a j + Ideal.logistic (proj x g W ⟨7200 + j.val, by omega⟩) * b j

/-- The output part: the row plus the normalised image of the merged branches. -/
def mix (x : Fin 1024 → EReal) (y : Fin 2048 → EReal) (p g : Fin 1024 → EReal) (W : Fin 1024 → Fin 8224 → EReal) (s : Fin 2048 → EReal)
    (B : Fin 2048 → Fin 1024 → EReal) (M : Fin 4 → Fin 256 → Fin 256 → EReal) (s' : Fin 1024 → EReal) (C O : Fin 1024 → Fin 1024 → EReal)
    (h : Fin 1024 → EReal) (j : Fin 1024) : EReal :=
  x j + rms w1024 (fun j => ∑ k, mergedRow x g W (ssdRow x y g W s B) (poolRow p M s' C) k * O k j) h j

end Cert.Rows

end
-- ==== Proof.Feed.Kernel.lean ====
/- The feed-forward kernel's result array: every row is the row-wise formula of its input row. -/
module

public import proofs.«01_k».proof.Proof.Rows.Spec
public import proofs.«01_k».proof.Proof.Gen.FfnIdeal.Value
public import Idealize.ShloMosaic.Lib.Pipeline.ValueKit

@[expose] public section

set_option maxRecDepth 16384

noncomputable section

namespace Cert.FfnIdeal.Feed

open Idealize.ShloMosaic Idealize.ShloMosaic.TcCoe Idealize.SL.Sem Cert.FfnIdeal.Gen Cert.Rows

section
variable (x : Vec Ideal S512x1024 .f32) (g g' : Vec Ideal S1x1x1024 .f32) (wa wb : Vec Ideal S1x1024x2816 .bf16)
  (o : Vec Ideal S1x2816x1024 .bf16)

/-- The body's hidden entry. -/
def hid (i : Fin 512) (n : Fin 2816) : EReal :=
  silu (∑ k : Fin 1024, rms w1024 (fun k => x (ix2 i k)) (fun k => g (ix3 0 0 k)) k * wa (ix3 0 k n))
    * ∑ k : Fin 1024, rms w1024 (fun k => x (ix2 i k)) (fun k => g (ix3 0 0 k)) k * wb (ix3 0 k n)

/-- The body's products with the second matrix. -/
def pv (i : Fin 512) (j : Fin 1024) : EReal := ∑ n : Fin 2816, hid x g wa wb i n * o (ix3 0 n j)

theorem p2 (i : Fin 512) (j : Fin 1024) : k0_pay2 x g wa wb o (ix2 i j) = pv x g wa wb o i j := by
  unfold pv hid rms silu w1024 eps
  pointwise [k0_pay2]

theorem p4 (i : Fin 512) : k0_pay4 x g wa wb o (ix2 i 0) = ∑ k : Fin 1024, pv x g wa wb o i k * pv x g wa wb o i k := by
  simp only [← p2]
  pointwise [k0_pay4]

theorem p1 (i : Fin 512) (j : Fin 1024) :
    k0_pay1 x (k0_pay2 x g wa wb o) (k0_pay3 g') (k0_pay4 x g wa wb o) (Scalar.ofBits .f32 0x44800000#32) (ix2 i j)
      = x (ix2 i j) + half * rms w1024 (pv x g wa wb o i) (fun k => g' (ix3 0 0 k)) j := by
  unfold rms w1024 eps half
  rw [← p4, ← p2]
  pointwise [k0_pay1, k0_pay3]

end

theorem out_read (x0 : Vec Ideal S512x1024 .f32) (x1 : Vec Ideal S1x1x1024 .f32) (x2 : Vec Ideal S1x1024x5632 .bf16) (x3 : Vec Ideal S1x2816x1024 .bf16)
    (x4 : Vec Ideal S1x1x1024 .f32) (i : Fin 512) (j : Fin 1024) :
    out0_5 x0 x1 x2 x3 x4 (ix2 i j) = ffn (fun k => x0 (ix2 i k)) (fun k => x1 (ix3 0 0 k)) (fun k n => x2 (ix3 0 k n)) (fun n j => x3 (ix3 0 n j))
      (fun k => x4 (ix3 0 0 k)) j := by
  have l0 : View.ld x0 r0_0 = x0 := View.ld_unit_lit _ x0 (by decide)
  have l1 : View.ld x1 r0_1 = x1 := View.ld_unit_lit _ x1 (by decide)
  have l3 : View.ld x3 r0_4 = x3 := View.ld_unit_lit _ x3 (by decide)
  have l4 : View.ld x4 r0_1 = x4 := View.ld_unit_lit _ x4 (by decide)
  have la : ∀ (k : Fin 1024) (n : Fin 2816), View.ld x2 r0_2 (ix3 0 k n) = x2 (ix3 0 k ⟨n.val, by omega⟩) := fun k n =>
    (View.ld_apply _ _ _).trans (congrArg x2 (by blk_ext [Rect.idx_unit_val, r0_2]))
  have lb : ∀ (k : Fin 1024) (n : Fin 2816), View.ld x2 r0_3 (ix3 0 k n) = x2 (ix3 0 k ⟨2816 + n.val, by omega⟩) := fun k n =>
    (View.ld_apply _ _ _).trans (congrArg x2 (by blk_ext [Rect.idx_unit_val, r0_3]))
  unfold out0_5
  rw [l0, l1, l3, l4]
  refine (congrFun (View.canon_cons_unit_lit _ _ _ (by decide)) (ix2 i j)).trans ?_
  refine (p1 x0 x1 x4 (View.ld x2 r0_2) (View.ld x2 r0_3) x3 i j).trans ?_
  unfold ffn ffnRow hiddenRow pv hid
  simp only [la, lb]

section
variable (m : (ℓ : Loc nD τ sig) → Buf (Elt Ideal) ℓ) (c : Dev nD)

/-! ## The arguments and the blocks -/

/-- The input rows, the two norms' scales and the two matrices. -/
def aX (q : Fin 17920) (k : Fin 1024) : EReal := (m ((c : Thread nD τ).loc main_arg0) : S17920x1024.Idx → EReal) (ix2 q k)
def aG (k : Fin 1024) : EReal := (m ((c : Thread nD τ).loc main_arg1) : S2x1024.Idx → EReal) (ix2 1 k)
def aW (k : Fin 1024) (n : Fin 5632) : EReal := (m ((c : Thread nD τ).loc main_arg2) : S2x1024x5632.Idx → EReal) (ix3 1 k n)
def aO (n : Fin 2816) (j : Fin 1024) : EReal := (m ((c : Thread nD τ).loc main_arg3) : S2x2816x1024.Idx → EReal) (ix3 1 n j)
def aH (k : Fin 1024) : EReal := (m ((c : Thread nD τ).loc main_arg4) : S2x1024.Idx → EReal) (ix2 1 k)

theorem V0 : (V m c main_v0 : S2x1x1024.Idx → EReal) = broadcastInDim S2x1x1024 ![0, 2] bcast_S2x1024_S2x1x1024_0_2 (m ((c : Thread nD τ).loc main_arg1)) := by
  simp only [V, hostOps0]
  entry_read
  rfl
theorem V1 : (V m c main_v1 : S2x1024x5632.Idx → EReal) = truncf (F := Ideal) .bf16 (m ((c : Thread nD τ).loc main_arg2)) bitsLt_bf16_f32 := by
  simp only [V, hostOps0]
  entry_read
  rfl
theorem V2 : (V m c main_v2 : S2x2816x1024.Idx → EReal) = truncf (F := Ideal) .bf16 (m ((c : Thread nD τ).loc main_arg3)) bitsLt_bf16_f32 := by
  simp only [V, hostOps0]
  entry_read
  rfl
theorem V3 : (V m c main_v3 : S2x1x1024.Idx → EReal) = broadcastInDim S2x1x1024 ![0, 2] bcast_S2x1024_S2x1x1024_0_2 (m ((c : Thread nD τ).loc main_arg4)) := by
  simp only [V, hostOps0]
  entry_read
  rfl

/-- Which block of its array each point takes. -/
theorem widx : ∀ t : Fin cfg0.N, win0_0.index t = ![t.val, 0] ∧ win0_1.index t = ![1, 0, 0] ∧ win0_2.index t = ![1, 0, 0]
    ∧ win0_3.index t = ![1, 0, 0] ∧ win0_4.index t = ![1, 0, 0] ∧ win0_5.index t = ![t.val, 0] ∧ t.val < 35 :=
  (by decide +kernel : ∀ t : Fin grid0.N, _)

theorem b0 (t : Fin cfg0.N) (i : Fin 512) (k : Fin 1024) (q : Fin 17920) (hq : q.val = 512 * t.val + i.val) :
    iblk m c 0 t (ix2 i k) = aX m c q k := by
  unfold iblk aX
  rw [← V_main_arg0 m c]
  refine congrArg (V m c main_arg0) ?_
  blk_ext [widx t]

theorem b1 (t : Fin cfg0.N) (k : Fin 1024) : iblk m c 1 t (ix3 0 0 k) = aG m c k := by
  refine Eq.trans (b := (V m c main_v0 : S2x1x1024.Idx → EReal) (ix3 1 0 k)) ?_ ?_
  · unfold iblk
    refine congrArg (V m c main_v0) ?_
    blk_ext [widx t]
  · rw [V0]; unfold aG; pointwise []

theorem b2 (t : Fin cfg0.N) (k : Fin 1024) (n : Fin 5632) : iblk m c 2 t (ix3 0 k n) = aW m c k n := by
  refine Eq.trans (b := (V m c main_v1 : S2x1024x5632.Idx → EReal) (ix3 1 k n)) ?_ ?_
  · unfold iblk
    refine congrArg (V m c main_v1) ?_
    blk_ext [widx t]
  · rw [V1]; rfl

theorem b3 (t : Fin cfg0.N) (n : Fin 2816) (j : Fin 1024) : iblk m c 3 t (ix3 0 n j) = aO m c n j := by
  refine Eq.trans (b := (V m c main_v2 : S2x2816x1024.Idx → EReal) (ix3 1 n j)) ?_ ?_
  · unfold iblk
    refine congrArg (V m c main_v2) ?_
    blk_ext [widx t]
  · rw [V2]; rfl

theorem b4 (t : Fin cfg0.N) (k : Fin 1024) : iblk m c 4 t (ix3 0 0 k) = aH m c k := by
  refine Eq.trans (b := (V m c main_v3 : S2x1x1024.Idx → EReal) (ix3 1 0 k)) ?_ ?_
  · unfold iblk
    refine congrArg (V m c main_v3) ?_
    blk_ext [widx t]
  · rw [V3]; unfold aH; pointwise []

/-! ## The result -/

/-- Every row computed. -/
def outArr (i : S17920x1024.Idx) : EReal := ffn (aX m c (i 0)) (aG m c) (aW m c) (aO m c) (aH m c) (i 1)

theorem out_point (t : Fin cfg0.N) (y : S512x1024.Idx) (q : S17920x1024.Idx) (h0 : (q 0).val = 512 * t.val + (y 0).val) (h1 : (q 1).val = (y 1).val) :
    out0_5 (iblk m c 0 t) (iblk m c 1 t) (iblk m c 2 t) (iblk m c 3 t) (iblk m c 4 t) y = outArr m c q := by
  rw [eq_ix2 y]
  refine (out_read (iblk m c 0 t) (iblk m c 1 t) (iblk m c 2 t) (iblk m c 3 t) (iblk m c 4 t) (y 0) (y 1)).trans ?_
  simp only [b1, b2, b3, b4, fun k => b0 m c t (y 0) k (q 0) h0]
  exact congrArg (ffn (aX m c (q 0)) (aG m c) (aW m c) (aO m c) (aH m c)) (Fin.ext h1.symm)

theorem out_arr : (dats m 0 c).arrAt 5 cfg0.N = outArr m c := by
  refine (dats m 0 c).arrAt_eq_of_covers 5 _ (by decide +kernel) (fun t hf y => ?_)
  blk_simp
  rw [after0_5]
  exact out_point m c t _ _ (by blk_simp [widx t]; try omega) (by blk_simp [widx t]; try omega)

end

end Cert.FfnIdeal.Feed

end
-- ==== Proof.Feed.Reference.lean ====
/- The reference's feed-forward part, entry by entry. -/
module

public import proofs.«01_k».proof.Proof.Rows.Spec
public import proofs.«01_k».proof.Proof.Gen.FfnReferenceIdeal.Read
public import Idealize.ShloMosaic.Lib.Pipeline.ValueKit

@[expose] public section

set_option maxRecDepth 16384

noncomputable section

namespace Cert.FfnReferenceIdeal.Feed

open Idealize.ShloMosaic Cert.FfnReferenceIdeal Cert.FfnReferenceIdeal.Read Cert.Rows

theorem zero_f32 : FloatOps.ofBits (F := Ideal) .f32 0x00000000#32 = (0 : EReal) := by simp [FloatOps.ofBits, Ideal.ofBits, Ideal.ieee]
theorem one_f32 : FloatOps.ofBits (F := Ideal) .f32 0x3F800000#32 = (1 : EReal) := Ideal.ofBits_one_f32

variable (x0 : (⟨S17920x1024, .f32⟩ : BufTy).Contents (Elt Ideal)) (x1 x4 : (⟨S2x1024, .f32⟩ : BufTy).Contents (Elt Ideal))
  (x2 : (⟨S2x1024x5632, .f32⟩ : BufTy).Contents (Elt Ideal)) (x3 : (⟨S2x2816x1024, .f32⟩ : BufTy).Contents (Elt Ideal))

/-- The arguments at their entries. -/
def rX (q : Fin 17920) (k : Fin 1024) : EReal := x0 (ix2 q k)
def rG (k : Fin 1024) : EReal := x1 (ix2 1 k)
def rW (k : Fin 1024) (n : Fin 5632) : EReal := x2 (ix3 1 k n)
def rO (n : Fin 2816) (j : Fin 1024) : EReal := x3 (ix3 1 n j)

theorem i3 (q : Fin 17920) (k x : Fin 1024) : idx_main_v3 (idx_main_v4 (idx_main_v10 (ix2 q k))) x = ix2 q x := by
  funext a; match a with | ⟨0, _⟩ => rfl | ⟨1, _⟩ => rfl

theorem i28 (q : Fin 17920) (k x : Fin 1024) : idx_main_v28 (idx_main_v29 (idx_main_v35 (ix2 q k))) x = ix2 q x := by
  funext a; match a with | ⟨0, _⟩ => rfl | ⟨1, _⟩ => rfl

theorem g_read (q : Fin 17920) (k : Fin 1024) : val_main_v1 (F := Ideal) x1 (idx_main_v12 (idx_main_v13 (ix2 q k))) = rG x1 k := by
  rw [val_main_v1_apply, val_main_v0_apply]
  refine congrArg x1 ?_
  blk_ext []

theorem h_read (q : Fin 17920) (k : Fin 1024) : val_main_v26 (F := Ideal) x4 (idx_main_v37 (idx_main_v38 (ix2 q k))) = rG x4 k := by
  rw [val_main_v26_apply, val_main_v25_apply]
  refine congrArg x4 ?_
  blk_ext []

theorem norm_read (q : Fin 17920) (k : Fin 1024) : val_main_v14 (F := Ideal) x0 x1 (ix2 q k) = rms w1024 (rX x0 q) (rG x1) k := by
  unfold rms w1024 eps rX
  simp only [val_main_v14_apply, val_main_v13_apply, val_main_v12_apply, val_main_v11_apply, val_main_v10_apply, val_main_v9_apply,
    val_main_v8_apply, val_main_v7_apply, val_main_v6_apply, val_main_v5_apply, val_main_v4_apply, val_main_v3_apply, val_main_v2_apply,
    val_main_cst_apply, val_main_cst_0_apply, val_main_cst_1_apply, g_read, zero_f32, i3]
  pointwise [zero_add]

theorem proj_read (q : Fin 17920) (n : Fin 5632) :
    val_main_v17 (F := Ideal) x0 x1 x2 (ix2 q n) = ∑ k : Fin 1024, rms w1024 (rX x0 q) (rG x1) k * rW x2 k n := by
  rw [val_main_v17_apply]
  refine Finset.sum_congr rfl fun k _ => ?_
  refine congrArg₂ (fun a b : EReal => a * b) ?_ ?_
  · refine Eq.trans (congrArg _ ?_) (norm_read x0 x1 q k)
    funext a; match a with | ⟨0, _⟩ => rfl | ⟨1, _⟩ => rfl
  · rw [val_main_v16_apply, val_main_v15_apply]
    refine congrArg x2 ?_
    blk_ext []

theorem hid_read (q : Fin 17920) (n : Fin 2816) :
    val_main_v21 (F := Ideal) x0 x1 x2 (ix2 q n) = hiddenRow (rX x0 q) (rG x1) (rW x2) n := by
  have e18 : val_main_v18 (F := Ideal) x0 x1 x2 (ix2 q n) = ∑ k : Fin 1024, rms w1024 (rX x0 q) (rG x1) k * rW x2 k ⟨n.val, by omega⟩ := by
    rw [val_main_v18_apply, ← proj_read]
    refine congrArg _ ?_
    blk_ext []
  have e19 : val_main_v19 (F := Ideal) x0 x1 x2 (ix2 q n) = ∑ k : Fin 1024, rms w1024 (rX x0 q) (rG x1) k * rW x2 k ⟨2816 + n.val, by omega⟩ := by
    rw [val_main_v19_apply, ← proj_read]
    refine congrArg _ ?_
    blk_ext []
  unfold hiddenRow silu
  rw [← e18, ← e19]
  simp only [val_main_v21_apply, val_main_v20_apply, val_main_call0_v5_apply, val_main_call0_v4_apply, val_main_call0_v3_apply,
    val_main_call0_v2_apply, val_main_call0_v1_apply, val_main_call0_v0_apply, val_main_call0_cst_apply, val_main_call0_cst_0_apply, one_f32]
  rfl

theorem row_read (q : Fin 17920) (j : Fin 1024) :
    val_main_v24 (F := Ideal) x0 x1 x2 x3 (ix2 q j) = ffnRow (rX x0 q) (rG x1) (rW x2) (rO x3) j := by
  rw [val_main_v24_apply]
  unfold ffnRow
  refine Finset.sum_congr rfl fun n _ => ?_
  refine congrArg₂ (fun a b : EReal => a * b) ?_ ?_
  · refine Eq.trans (congrArg _ ?_) (hid_read x0 x1 x2 q n)
    funext a; match a with | ⟨0, _⟩ => rfl | ⟨1, _⟩ => rfl
  · rw [val_main_v23_apply, val_main_v22_apply]
    refine congrArg x3 ?_
    blk_ext []

theorem out_read (q : Fin 17920) (j : Fin 1024) :
    val_main_v42 (F := Ideal) x0 x1 x2 x3 x4 (ix2 q j) = ffn (rX x0 q) (rG x1) (rW x2) (rO x3) (rG x4) j := by
  unfold ffn rms w1024 eps half
  simp only [← row_read, val_main_v42_apply, val_main_v41_apply, val_main_v40_apply, val_main_v39_apply, val_main_v38_apply, val_main_v37_apply, val_main_v36_apply,
    val_main_v35_apply, val_main_v34_apply, val_main_v33_apply, val_main_v32_apply, val_main_v31_apply, val_main_v30_apply, val_main_v29_apply,
    val_main_v28_apply, val_main_v27_apply, val_main_cst_2_apply, val_main_cst_3_apply, val_main_cst_4_apply, val_main_cst_5_apply,
    h_read, zero_f32, i28]
  pointwise [zero_add, rX]

end Cert.FfnReferenceIdeal.Feed

end
-- ==== Proof.Feed.Claims.lean ====
/- The claims about the feed-forward part: both programs run, and end with the same rows. -/
module

public import proofs.«01_k».proof.Defs
public import proofs.«01_k».proof.Proof.Feed.Kernel
public import proofs.«01_k».proof.Proof.Feed.Reference
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnReferenceIdeal
public import proofs.«01_k».proof.Proof.Gen.FfnReferenceIdeal.Run
public import proofs.«01_k».proof.Proof.Gen.FfnReferenceIdeal.Read
public import Idealize.ShloMosaic.Adequacy

@[expose] public section

set_option maxRecDepth 16384

noncomputable section

namespace Cert.Proof.Feed

open Idealize.ShloMosaic Idealize.SL.Sem

theorem frame_p : Cert.quiescent_Ffn := fun m ρ _ => Cert.Ffn.Gen.frame m ρ

theorem frame_pi : Cert.quiescent_FfnIdeal := fun m ρ _ => Cert.FfnIdeal.Gen.frame m ρ

theorem frame_ri : Cert.quiescent_FfnReferenceIdeal := fun m ρ _ =>
  (θ_run Cert.FfnReferenceIdeal.defs _ _).mono (fun r h => ⟨fun c => (h c).2,
      Idealize.ShloMosaic.sem_eq_zero_of_no_sems (by decide) r.2⟩)
    (Cert.FfnReferenceIdeal.Value.run (F := Ideal) m ρ)

theorem preserves : Cert.preserves_Ffn_FfnIdeal := trivial

theorem algebraic : Cert.algebraic_FfnIdeal_FfnReferenceIdeal := by
  intro m ρ m' ρ' hpre hagree
  refine ⟨_, (θ_run Cert.FfnIdeal.defs _ _).mono (fun _ h c => ⟨(h c).1.trans (Cert.FfnIdeal.Feed.out_arr m c), (h c).2⟩)
    (Cert.FfnIdeal.Value.run_blocks (F := Ideal) m ρ), ?_⟩
  refine (θ_run Cert.FfnReferenceIdeal.defs _ _).mono (fun _ h c => ⟨(h c).1.trans ?_, (h c).2⟩)
    (Cert.FfnReferenceIdeal.Value.run (F := Ideal) m' ρ')
  refine (Cert.FfnReferenceIdeal.Read.val_main_v42_eq m' c).trans ?_
  rw [(hagree c).1, (hagree c).2.1, (hagree c).2.2.1, (hagree c).2.2.2.1, (hagree c).2.2.2.2]
  funext i
  rw [eq_ix2 i]
  exact Cert.FfnReferenceIdeal.Feed.out_read _ _ _ _ _ (i 0) (i 1)

end Cert.Proof.Feed

end
-- ==== Proof.Mixer.Kernel.lean ====
/- The mixer kernel's body at its indices: every row is the row-wise formula of its input rows. -/
module

public import proofs.«01_k».proof.Proof.Rows.Spec
public import proofs.«01_k».proof.Proof.Gen.MixIdeal.Value
public import Idealize.ShloMosaic.Lib.Pipeline.ValueKit

@[expose] public section

set_option maxRecDepth 16384

noncomputable section

namespace Cert.MixIdeal.Mixer

open Idealize.ShloMosaic Idealize.ShloMosaic.TcCoe Idealize.SL.Sem Cert.MixIdeal.Gen Cert.Rows

section
variable (x : Vec Ideal S512x1024 .f32) (g : Vec Ideal S1x1x1024 .f32) (w : Vec Ideal S1x2048x1024 .bf16) (y : Vec Ideal S512x2048 .bf16)

theorem p2 (i : Fin 512) (k : Fin 1024) : k0_pay2 x g (ix2 i k) = rms w1024 (fun k => x (ix2 i k)) (fun k => g (ix3 0 0 k)) k := by
  unfold rms w1024 eps
  pointwise [k0_pay2]

/-- The normalised row times a row of the transposed matrix. -/
def pr (i : Fin 512) (n : Fin 2048) : EReal := ∑ k : Fin 1024, rms w1024 (fun k => x (ix2 i k)) (fun k => g (ix3 0 0 k)) k * w (ix3 0 n k)

theorem p3 (i : Fin 512) (n : Fin 2048) : k0_pay3 x g w (ix2 i n) = pr x g w i n := by
  unfold pr
  simp only [← p2]
  pointwise [k0_pay3]

/-- The gated output. -/
def gt (i : Fin 512) (n : Fin 2048) : EReal := y (ix2 i n) * silu (pr x g w i n)

theorem p4 (i : Fin 512) (n : Fin 2048) : k0_pay4 x g w y (ix2 i n) = gt x g w y i n := by
  unfold gt pr silu
  simp only [← p2]
  pointwise [k0_pay4]

theorem p6 (i : Fin 512) : k0_pay6 x g w y (ix2 i 0) = Ideal.div (∑ n : Fin 2048, gt x g w y i n * gt x g w y i n) w2048 := by
  simp only [← p4]
  unfold w2048
  pointwise [k0_pay6]

theorem p8 (s : Vec Ideal S1x1x2048 .f32) (b : Vec Ideal S1x2048x1024 .bf16) (i : Fin 512) (j : Fin 1024) :
    k0_pay8 (k0_pay4 x g w y) (k0_pay5 s) (k0_pay6 x g w y) (k0_pay7 (F := Ideal)) b (ix2 i j)
      = ∑ n : Fin 2048, rms w2048 (gt x g w y i) (fun n => s (ix3 0 0 n)) n * b (ix3 0 n j) := by
  unfold rms eps
  pointwise [k0_pay8, k0_pay5, k0_pay7]
  simp only [p6, p4]

end

section
variable (p : Vec Ideal S512x1024 .bf16) (m0 m1 m2 m3 : Vec Ideal S1x1x256x256 .bf16)

theorem p9_0 (i : Fin 512) (e : Fin 256) : k0_pay9 p m0 m1 m2 m3 (ix2 i ⟨e.val, by omega⟩)
    = ∑ d : Fin 256, p (ix2 i ⟨d.val, by omega⟩) * m0 (ix4 0 0 d e) := by
  pointwise [k0_pay9]

theorem p9_1 (i : Fin 512) (e : Fin 256) : k0_pay9 p m0 m1 m2 m3 (ix2 i ⟨256 + e.val, by omega⟩)
    = ∑ d : Fin 256, p (ix2 i ⟨256 + d.val, by omega⟩) * m1 (ix4 0 0 d e) := by
  pointwise [k0_pay9]

theorem p9_2 (i : Fin 512) (e : Fin 256) : k0_pay9 p m0 m1 m2 m3 (ix2 i ⟨512 + e.val, by omega⟩)
    = ∑ d : Fin 256, p (ix2 i ⟨512 + d.val, by omega⟩) * m2 (ix4 0 0 d e) := by
  pointwise [k0_pay9]
  rw [dif_neg (by omega), dif_neg (by omega), dif_pos (by omega)]
  exact Finset.sum_congr rfl fun d _ => congrArg₂ (fun a b : EReal => a * b) rfl (congrArg m2 (congrArg (ix4 0 0 d) (Fin.ext (by simp only []; omega))))

theorem p9_3 (i : Fin 512) (e : Fin 256) : k0_pay9 p m0 m1 m2 m3 (ix2 i ⟨768 + e.val, by omega⟩)
    = ∑ d : Fin 256, p (ix2 i ⟨768 + d.val, by omega⟩) * m3 (ix4 0 0 d e) := by
  pointwise [k0_pay9]
  rw [dif_neg (by omega), dif_neg (by omega), dif_neg (by omega)]
  exact Finset.sum_congr rfl fun d _ => congrArg₂ (fun a b : EReal => a * b) rfl (congrArg m3 (congrArg (ix4 0 0 d) (Fin.ext (by simp only []; omega))))

theorem p10 (s : Vec Ideal S1x1x1024 .f32) (i : Fin 512) (j : Fin 1024) : k0_pay10 s (ix2 i j) = s (ix3 0 0 j) := by
  pointwise [k0_pay10]

end

section
variable (x : Vec Ideal S512x1024 .f32) (u : FVec Ideal S512x2048 .f32) (a q s : FVec Ideal S512x1024 .f32)
  (C O : Vec Ideal S1x1024x1024 .bf16) (h : Vec Ideal S1x1x1024 .f32)

/-- The two branches, each under its gate, added. -/
def mg (i : Fin 512) (j : Fin 1024) : EReal :=
  Ideal.logistic (u (ix2 i ⟨j.val, by omega⟩)) * a (ix2 i j)
    + Ideal.logistic (u (ix2 i ⟨1024 + j.val, by omega⟩)) * ∑ k : Fin 1024, q (ix2 i k) * s (ix2 i k) * C (ix3 0 k j)

theorem p1 (i : Fin 512) (j : Fin 1024) : k0_pay1 x u a q s C O h (ix2 i j)
    = x (ix2 i j) + rms w1024 (fun j => ∑ k : Fin 1024, mg u a q s C i k * O (ix3 0 k j)) (fun k => h (ix3 0 0 k)) j := by
  unfold rms w1024 eps mg
  pointwise [k0_pay1]

end

theorem out_read (x0 : Vec Ideal S512x1024 .f32) (x1 : Vec Ideal S512x2048 .bf16) (x2 : Vec Ideal S512x1024 .bf16) (x3 : Vec Ideal S1x1x1024 .f32)
    (x4 : Vec Ideal S1x8224x1024 .bf16) (x5 : Vec Ideal S1x1x2048 .f32) (x6 : Vec Ideal S1x2048x1024 .bf16) (x7 : Vec Ideal S1x4x256x256 .bf16)
    (x8 : Vec Ideal S1x1x1024 .f32) (x9 x10 : Vec Ideal S1x1024x1024 .bf16) (x11 : Vec Ideal S1x1x1024 .f32) (i : Fin 512) (j : Fin 1024) :
    out0_12 x0 x1 x2 x3 x4 x5 x6 x7 x8 x9 x10 x11 (ix2 i j)
      = mix (fun k => x0 (ix2 i k)) (fun n => x1 (ix2 i n)) (fun k => x2 (ix2 i k)) (fun k => x3 (ix3 0 0 k)) (fun k n => x4 (ix3 0 n k))
          (fun n => x5 (ix3 0 0 n)) (fun n j => x6 (ix3 0 n j)) (fun g d e => x7 (ix4 0 g d e)) (fun k => x8 (ix3 0 0 k))
          (fun k j => x9 (ix3 0 k j)) (fun k j => x10 (ix3 0 k j)) (fun k => x11 (ix3 0 0 k)) j := by
  have l0 : View.ld x0 r0_0 = x0 := View.ld_unit_lit _ x0 (by decide)
  have l1 : View.ld x1 r0_4 = x1 := View.ld_unit_lit _ x1 (by decide)
  have l2 : View.ld x2 r0_0 = x2 := View.ld_unit_lit _ x2 (by decide)
  have l3 : View.ld x3 r0_1 = x3 := View.ld_unit_lit _ x3 (by decide)
  have l5 : View.ld x5 r0_5 = x5 := View.ld_unit_lit _ x5 (by decide)
  have l6 : View.ld x6 r0_6 = x6 := View.ld_unit_lit _ x6 (by decide)
  have l8 : View.ld x8 r0_1 = x8 := View.ld_unit_lit _ x8 (by decide)
  have l9 : View.ld x9 r0_11 = x9 := View.ld_unit_lit _ x9 (by decide)
  have l10 : View.ld x10 r0_11 = x10 := View.ld_unit_lit _ x10 (by decide)
  have l11 : View.ld x11 r0_1 = x11 := View.ld_unit_lit _ x11 (by decide)
  have la : ∀ n : Fin 2048, pr x0 x3 (View.ld x4 r0_2) i n
      = proj (fun k => x0 (ix2 i k)) (fun k => x3 (ix3 0 0 k)) (fun k n => x4 (ix3 0 n k)) ⟨n.val, by omega⟩ := fun n =>
    Finset.sum_congr rfl fun k _ => congrArg₂ (fun a b : EReal => a * b) rfl
      ((View.ld_apply _ _ _).trans (congrArg x4 (by blk_ext [Rect.idx_unit_val, r0_2])))
  have lb : ∀ (n : Fin 2048), pr x0 x3 (View.ld x4 r0_3) i n
      = proj (fun k => x0 (ix2 i k)) (fun k => x3 (ix3 0 0 k)) (fun k n => x4 (ix3 0 n k)) ⟨6176 + n.val, by omega⟩ := fun n =>
    Finset.sum_congr rfl fun k _ => congrArg₂ (fun a b : EReal => a * b) rfl
      ((View.ld_apply _ _ _).trans (congrArg x4 (by blk_ext [Rect.idx_unit_val, r0_3])))
  have m0 : ∀ d e : Fin 256, View.ld x7 r0_7 (ix4 0 0 d e) = x7 (ix4 0 0 d e) := fun d e =>
    (View.ld_apply _ _ _).trans (congrArg x7 (by blk_ext [Rect.idx_unit_val, r0_7]))
  have m1 : ∀ d e : Fin 256, View.ld x7 r0_8 (ix4 0 0 d e) = x7 (ix4 0 1 d e) := fun d e =>
    (View.ld_apply _ _ _).trans (congrArg x7 (by blk_ext [Rect.idx_unit_val, r0_8]))
  have m2 : ∀ d e : Fin 256, View.ld x7 r0_9 (ix4 0 0 d e) = x7 (ix4 0 2 d e) := fun d e =>
    (View.ld_apply _ _ _).trans (congrArg x7 (by blk_ext [Rect.idx_unit_val, r0_9]))
  have m3 : ∀ d e : Fin 256, View.ld x7 r0_10 (ix4 0 0 d e) = x7 (ix4 0 3 d e) := fun d e =>
    (View.ld_apply _ _ _).trans (congrArg x7 (by blk_ext [Rect.idx_unit_val, r0_10]))
  have p9 : ∀ k : Fin 1024, (k0_pay9 x2 (View.ld x7 r0_7) (View.ld x7 r0_8) (View.ld x7 r0_9) (View.ld x7 r0_10) (ix2 i k) : EReal) * k0_pay10 x8 (ix2 i k)
      = mixedRow (fun k => x2 (ix2 i k)) (fun g d e => x7 (ix4 0 g d e)) (fun k => x8 (ix3 0 0 k)) k := fun k => by
    rw [p10]
    unfold mixedRow
    refine congrArg (fun a : EReal => a * x8 (ix3 0 0 k)) ?_
    obtain ⟨k, hk⟩ := k
    rcases (by omega : k < 256 ∨ (256 ≤ k ∧ k < 512) ∨ (512 ≤ k ∧ k < 768) ∨ 768 ≤ k) with h | h | h | h
    · refine (p9_0 x2 _ _ _ _ i ⟨k, by omega⟩).trans (Finset.sum_congr rfl fun d _ => ?_)
      rw [m0]
      refine congrArg₂ (fun a b : EReal => a * b) (congrArg x2 (congrArg (ix2 i) (Fin.ext ?_))) (congrArg x7 ?_)
      · change d.val = 256 * (k / 256) + d.val; omega
      · exact congrArg₂ (fun a b => ix4 0 a d b) (Fin.ext (by change 0 = k / 256; omega)) (Fin.ext (by change k = k % 256; omega))
    · obtain ⟨e, rfl⟩ : ∃ e, k = 256 + e := ⟨k - 256, by omega⟩
      refine (p9_1 x2 _ _ _ _ i ⟨e, by omega⟩).trans (Finset.sum_congr rfl fun d _ => ?_)
      rw [m1]
      refine congrArg₂ (fun a b : EReal => a * b) (congrArg x2 (congrArg (ix2 i) (Fin.ext ?_))) (congrArg x7 ?_)
      · change 256 + d.val = 256 * ((256 + e) / 256) + d.val; omega
      · exact congrArg₂ (fun a b => ix4 0 a d b) (Fin.ext (by change 1 = (256 + e) / 256; omega)) (Fin.ext (by change e = (256 + e) % 256; omega))
    · obtain ⟨e, rfl⟩ : ∃ e, k = 512 + e := ⟨k - 512, by omega⟩
      refine (p9_2 x2 _ _ _ _ i ⟨e, by omega⟩).trans (Finset.sum_congr rfl fun d _ => ?_)
      rw [m2]
      refine congrArg₂ (fun a b : EReal => a * b) (congrArg x2 (congrArg (ix2 i) (Fin.ext ?_))) (congrArg x7 ?_)
      · change 512 + d.val = 256 * ((512 + e) / 256) + d.val; omega
      · exact congrArg₂ (fun a b => ix4 0 a d b) (Fin.ext (by change 2 = (512 + e) / 256; omega)) (Fin.ext (by change e = (512 + e) % 256; omega))
    · obtain ⟨e, rfl⟩ : ∃ e, k = 768 + e := ⟨k - 768, by omega⟩
      refine (p9_3 x2 _ _ _ _ i ⟨e, by omega⟩).trans (Finset.sum_congr rfl fun d _ => ?_)
      rw [m3]
      refine congrArg₂ (fun a b : EReal => a * b) (congrArg x2 (congrArg (ix2 i) (Fin.ext ?_))) (congrArg x7 ?_)
      · change 768 + d.val = 256 * ((768 + e) / 256) + d.val; omega
      · exact congrArg₂ (fun a b => ix4 0 a d b) (Fin.ext (by change 3 = (768 + e) / 256; omega)) (Fin.ext (by change e = (768 + e) % 256; omega))
  have gt' : gt x0 x3 (View.ld x4 r0_2) x1 i = gatedRow (fun k => x0 (ix2 i k)) (fun n => x1 (ix2 i n)) (fun k => x3 (ix3 0 0 k)) (fun k n => x4 (ix3 0 n k)) := by
    funext n
    unfold gt gatedRow
    rw [la]
  unfold out0_12
  rw [l0, l1, l2, l3, l5, l6, l8, l9, l10, l11]
  refine (congrFun (View.canon_cons_unit_lit _ _ _ (by decide)) (ix2 i j)).trans ?_
  refine (p1 x0 _ _ _ _ x9 x10 x11 i j).trans ?_
  unfold mix mg mergedRow ssdRow poolRow
  simp only [p8, p3, lb, p9, gt', ← Nat.add_assoc, Nat.reduceAdd]

end Cert.MixIdeal.Mixer

end
-- ==== Proof.Mixer.Arrays.lean ====
/- What the mixer's output call leaves in its result array. -/
module

public import proofs.«01_k».proof.Proof.Mixer.Kernel

@[expose] public section

set_option maxRecDepth 16384

noncomputable section

namespace Cert.MixIdeal.Mixer

open Idealize.ShloMosaic Idealize.ShloMosaic.TcCoe Idealize.SL.Sem Cert.MixIdeal.Gen Cert.Rows

variable (m : (ℓ : Loc nD τ sig) → Buf (Elt Ideal) ℓ) (c : Dev nD)

/-! ## The arguments and the blocks -/

def aX (q : Fin 17920) (k : Fin 1024) : EReal := (m ((c : Thread nD τ).loc main_arg0) : S17920x1024.Idx → EReal) (ix2 q k)
def aY (q : Fin 17920) (n : Fin 2048) : EReal := (m ((c : Thread nD τ).loc main_arg1) : S17920x2048.Idx → EReal) (ix2 q n)
def aP (q : Fin 17920) (k : Fin 1024) : EReal := (m ((c : Thread nD τ).loc main_arg2) : S17920x1024.Idx → EReal) (ix2 q k)
def aG (k : Fin 1024) : EReal := (m ((c : Thread nD τ).loc main_arg3) : S2x1024.Idx → EReal) (ix2 1 k)
def aW (k : Fin 1024) (n : Fin 8224) : EReal := (m ((c : Thread nD τ).loc main_arg4) : S2x1024x8224.Idx → EReal) (ix3 1 k n)
def aS (n : Fin 2048) : EReal := (m ((c : Thread nD τ).loc main_arg5) : S2x2048.Idx → EReal) (ix2 1 n)
def aB (n : Fin 2048) (j : Fin 1024) : EReal := (m ((c : Thread nD τ).loc main_arg6) : S2x2048x1024.Idx → EReal) (ix3 1 n j)
def aM (g : Fin 4) (d e : Fin 256) : EReal := (m ((c : Thread nD τ).loc main_arg7) : S2x4x256x256.Idx → EReal) (ix4 1 g d e)
def aT (k : Fin 1024) : EReal := (m ((c : Thread nD τ).loc main_arg8) : S2x1024.Idx → EReal) (ix2 1 k)
def aC (k j : Fin 1024) : EReal := (m ((c : Thread nD τ).loc main_arg9) : S2x1024x1024.Idx → EReal) (ix3 1 k j)
def aO (k j : Fin 1024) : EReal := (m ((c : Thread nD τ).loc main_arg10) : S2x1024x1024.Idx → EReal) (ix3 1 k j)
def aH (k : Fin 1024) : EReal := (m ((c : Thread nD τ).loc main_arg11) : S2x1024.Idx → EReal) (ix2 1 k)

theorem V1 : (V m c main_v1 : S2x8224x1024.Idx → EReal) = truncf (F := Ideal) .bf16 (transpose S2x8224x1024 [0, 2, 1] (m ((c : Thread nD τ).loc main_arg4)) transposes_S2x1024x8224_S2x8224x1024_0_2_1) bitsLt_bf16_f32 := by
  simp only [V, hostOps0]
  entry_read
  rfl
theorem V2 : (V m c main_v2 : S2x1x1024.Idx → EReal) = broadcastInDim S2x1x1024 ![0, 2] bcast_S2x1024_S2x1x1024_0_2 (m ((c : Thread nD τ).loc main_arg3)) := by
  simp only [V, hostOps0]
  entry_read
  rfl
theorem V3 : (V m c main_v3 : S2x1x2048.Idx → EReal) = broadcastInDim S2x1x2048 ![0, 2] bcast_S2x2048_S2x1x2048_0_2 (m ((c : Thread nD τ).loc main_arg5)) := by
  simp only [V, hostOps0]
  entry_read
  rfl
theorem V4 : (V m c main_v4 : S2x2048x1024.Idx → EReal) = truncf (F := Ideal) .bf16 (m ((c : Thread nD τ).loc main_arg6)) bitsLt_bf16_f32 := by
  simp only [V, hostOps0]
  entry_read
  rfl
theorem V5 : (V m c main_v5 : S2x4x256x256.Idx → EReal) = truncf (F := Ideal) .bf16 (m ((c : Thread nD τ).loc main_arg7)) bitsLt_bf16_f32 := by
  simp only [V, hostOps0]
  entry_read
  rfl
theorem V6 : (V m c main_v6 : S2x1x1024.Idx → EReal) = broadcastInDim S2x1x1024 ![0, 2] bcast_S2x1024_S2x1x1024_0_2 (m ((c : Thread nD τ).loc main_arg8)) := by
  simp only [V, hostOps0]
  entry_read
  rfl
theorem V7 : (V m c main_v7 : S2x1024x1024.Idx → EReal) = truncf (F := Ideal) .bf16 (m ((c : Thread nD τ).loc main_arg9)) bitsLt_bf16_f32 := by
  simp only [V, hostOps0]
  entry_read
  rfl
theorem V8 : (V m c main_v8 : S2x1024x1024.Idx → EReal) = truncf (F := Ideal) .bf16 (m ((c : Thread nD τ).loc main_arg10)) bitsLt_bf16_f32 := by
  simp only [V, hostOps0]
  entry_read
  rfl
theorem V9 : (V m c main_v9 : S2x1x1024.Idx → EReal) = broadcastInDim S2x1x1024 ![0, 2] bcast_S2x1024_S2x1x1024_0_2 (m ((c : Thread nD τ).loc main_arg11)) := by
  simp only [V, hostOps0]
  entry_read
  rfl

/-- Which block of its array each point takes. -/
theorem widx : ∀ t : Fin cfg0.N, win0_0.index t = ![t.val, 0] ∧ win0_1.index t = ![t.val, 0] ∧ win0_2.index t = ![t.val, 0]
    ∧ win0_3.index t = ![1, 0, 0] ∧ win0_4.index t = ![1, 0, 0] ∧ win0_5.index t = ![1, 0, 0] ∧ win0_6.index t = ![1, 0, 0]
    ∧ win0_7.index t = ![1, 0, 0, 0] ∧ win0_8.index t = ![1, 0, 0] ∧ win0_9.index t = ![1, 0, 0] ∧ win0_10.index t = ![1, 0, 0]
    ∧ win0_11.index t = ![1, 0, 0] ∧ win0_12.index t = ![t.val, 0] ∧ t.val < 34 :=
  (by decide +kernel : ∀ t : Fin grid0.N, _)

theorem b0 (t : Fin cfg0.N) (i : Fin 512) (k : Fin 1024) (q : Fin 17920) (hq : q.val = 512 * t.val + i.val) :
    iblk m c 0 t (ix2 i k) = aX m c q k := by
  unfold iblk aX
  rw [← V_main_arg0 m c]
  refine congrArg (V m c main_arg0) ?_
  blk_ext [widx t]

theorem b1 (t : Fin cfg0.N) (i : Fin 512) (k : Fin 2048) (q : Fin 17920) (hq : q.val = 512 * t.val + i.val) :
    iblk m c 1 t (ix2 i k) = aY m c q k := by
  unfold iblk aY
  rw [← V_main_arg1 m c]
  refine congrArg (V m c main_arg1) ?_
  blk_ext [widx t]

theorem b2 (t : Fin cfg0.N) (i : Fin 512) (k : Fin 1024) (q : Fin 17920) (hq : q.val = 512 * t.val + i.val) :
    iblk m c 2 t (ix2 i k) = aP m c q k := by
  unfold iblk aP
  rw [← V_main_arg2 m c]
  refine congrArg (V m c main_arg2) ?_
  blk_ext [widx t]

theorem b3 (t : Fin cfg0.N) (k : Fin 1024) : iblk m c 3 t (ix3 0 0 k) = aG m c k := by
  refine Eq.trans (b := (V m c main_v2 : S2x1x1024.Idx → EReal) (ix3 1 0 k)) ?_ ?_
  · unfold iblk
    refine congrArg (V m c main_v2) ?_
    blk_ext [widx t]
  · rw [V2]; unfold aG; pointwise []

theorem b4 (t : Fin cfg0.N) (n : Fin 8224) (k : Fin 1024) : iblk m c 4 t (ix3 0 n k) = aW m c k n := by
  refine Eq.trans (b := (V m c main_v1 : S2x8224x1024.Idx → EReal) (ix3 1 n k)) ?_ ?_
  · unfold iblk
    refine congrArg (V m c main_v1) ?_
    blk_ext [widx t]
  · rw [V1]; unfold aW; pointwise []

theorem b5 (t : Fin cfg0.N) (k : Fin 2048) : iblk m c 5 t (ix3 0 0 k) = aS m c k := by
  refine Eq.trans (b := (V m c main_v3 : S2x1x2048.Idx → EReal) (ix3 1 0 k)) ?_ ?_
  · unfold iblk
    refine congrArg (V m c main_v3) ?_
    blk_ext [widx t]
  · rw [V3]; unfold aS; pointwise []

theorem b6 (t : Fin cfg0.N) (n : Fin 2048) (j : Fin 1024) : iblk m c 6 t (ix3 0 n j) = aB m c n j := by
  refine Eq.trans (b := (V m c main_v4 : S2x2048x1024.Idx → EReal) (ix3 1 n j)) ?_ ?_
  · unfold iblk
    refine congrArg (V m c main_v4) ?_
    blk_ext [widx t]
  · rw [V4]; rfl

theorem b7 (t : Fin cfg0.N) (g : Fin 4) (d e : Fin 256) : iblk m c 7 t (ix4 0 g d e) = aM m c g d e := by
  refine Eq.trans (b := (V m c main_v5 : S2x4x256x256.Idx → EReal) (ix4 1 g d e)) ?_ ?_
  · unfold iblk
    refine congrArg (V m c main_v5) ?_
    blk_ext [widx t]
  · rw [V5]; rfl

theorem b8 (t : Fin cfg0.N) (k : Fin 1024) : iblk m c 8 t (ix3 0 0 k) = aT m c k := by
  refine Eq.trans (b := (V m c main_v6 : S2x1x1024.Idx → EReal) (ix3 1 0 k)) ?_ ?_
  · unfold iblk
    refine congrArg (V m c main_v6) ?_
    blk_ext [widx t]
  · rw [V6]; unfold aT; pointwise []

theorem b9 (t : Fin cfg0.N) (n : Fin 1024) (j : Fin 1024) : iblk m c 9 t (ix3 0 n j) = aC m c n j := by
  refine Eq.trans (b := (V m c main_v7 : S2x1024x1024.Idx → EReal) (ix3 1 n j)) ?_ ?_
  · unfold iblk
    refine congrArg (V m c main_v7) ?_
    blk_ext [widx t]
  · rw [V7]; rfl

theorem b10 (t : Fin cfg0.N) (n : Fin 1024) (j : Fin 1024) : iblk m c 10 t (ix3 0 n j) = aO m c n j := by
  refine Eq.trans (b := (V m c main_v8 : S2x1024x1024.Idx → EReal) (ix3 1 n j)) ?_ ?_
  · unfold iblk
    refine congrArg (V m c main_v8) ?_
    blk_ext [widx t]
  · rw [V8]; rfl

theorem b11 (t : Fin cfg0.N) (k : Fin 1024) : iblk m c 11 t (ix3 0 0 k) = aH m c k := by
  refine Eq.trans (b := (V m c main_v9 : S2x1x1024.Idx → EReal) (ix3 1 0 k)) ?_ ?_
  · unfold iblk
    refine congrArg (V m c main_v9) ?_
    blk_ext [widx t]
  · rw [V9]; unfold aH; pointwise []

/-! ## The result -/

/-- Every row computed. -/
def outArr (i : S17408x1024.Idx) : EReal :=
  mix (aX m c ⟨(i 0).val, Nat.lt_trans (i 0).isLt (by decide)⟩) (aY m c ⟨(i 0).val, Nat.lt_trans (i 0).isLt (by decide)⟩)
    (aP m c ⟨(i 0).val, Nat.lt_trans (i 0).isLt (by decide)⟩) (aG m c) (aW m c) (aS m c) (aB m c) (aM m c) (aT m c) (aC m c) (aO m c) (aH m c) (i 1)

theorem out_point (t : Fin cfg0.N) (y : S512x1024.Idx) (q : S17408x1024.Idx) (h0 : (q 0).val = 512 * t.val + (y 0).val) (h1 : (q 1).val = (y 1).val) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y = outArr m c q := by
  rw [eq_ix2 y]
  refine (out_read (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (y 0) (y 1)).trans ?_
  have hq := Nat.lt_trans (q 0).isLt (by decide : 17408 < 17920)
  simp only [b3, b4, b5, b6, b7, b8, b9, b10, b11, fun k => b0 m c t (y 0) k ⟨(q 0).val, hq⟩ h0, fun k => b1 m c t (y 0) k ⟨(q 0).val, hq⟩ h0,
    fun k => b2 m c t (y 0) k ⟨(q 0).val, hq⟩ h0]
  exact congrArg (mix _ _ _ (aG m c) (aW m c) (aS m c) (aB m c) (aM m c) (aT m c) (aC m c) (aO m c) (aH m c)) (Fin.ext h1.symm)

theorem out_arr : (dats m 0 c).arrAt 12 cfg0.N = outArr m c := by
  refine (dats m 0 c).arrAt_eq_of_covers 12 _ (by decide +kernel) (fun t hf y => ?_)
  blk_simp
  rw [after0_12]
  exact out_point m c t _ _ (by blk_simp [widx t]; try omega) (by blk_simp [widx t]; try omega)

end Cert.MixIdeal.Mixer

end
-- ==== Proof.Mixer.Reference.lean ====
/- The reference's output part of the mixer, entry by entry. -/
module

public import proofs.«01_k».proof.Proof.Rows.Spec
public import proofs.«01_k».proof.Proof.Gen.MixReferenceIdeal.Read
public import Idealize.ShloMosaic.Lib.Pipeline.ValueKit

@[expose] public section

set_option maxRecDepth 16384

noncomputable section

namespace Cert.MixReferenceIdeal.Mixer

open Idealize.ShloMosaic Cert.MixReferenceIdeal Cert.MixReferenceIdeal.Read Cert.Rows

theorem zero_f32 : FloatOps.ofBits (F := Ideal) .f32 0x00000000#32 = (0 : EReal) := by simp [FloatOps.ofBits, Ideal.ofBits, Ideal.ieee]
theorem one_f32 : FloatOps.ofBits (F := Ideal) .f32 0x3F800000#32 = (1 : EReal) := Ideal.ofBits_one_f32

variable (x0 : (⟨S17920x1024, .f32⟩ : BufTy).Contents (Elt Ideal)) (x1 : (⟨S17920x2048, .bf16⟩ : BufTy).Contents (Elt Ideal))
  (x2 : (⟨S17920x1024, .bf16⟩ : BufTy).Contents (Elt Ideal)) (x3 x8 x11 : (⟨S2x1024, .f32⟩ : BufTy).Contents (Elt Ideal))
  (x4 : (⟨S2x1024x8224, .f32⟩ : BufTy).Contents (Elt Ideal)) (x5 : (⟨S2x2048, .f32⟩ : BufTy).Contents (Elt Ideal))
  (x6 : (⟨S2x2048x1024, .f32⟩ : BufTy).Contents (Elt Ideal)) (x7 : (⟨S2x4x256x256, .f32⟩ : BufTy).Contents (Elt Ideal))
  (x9 x10 : (⟨S2x1024x1024, .f32⟩ : BufTy).Contents (Elt Ideal))

/-- The arguments at their entries. -/
def rX (q : Fin 17408) (k : Fin 1024) : EReal := x0 (ix2 ⟨q.val, by omega⟩ k)
def rY (q : Fin 17408) (n : Fin 2048) : EReal := x1 (ix2 ⟨q.val, by omega⟩ n)
def rP (q : Fin 17408) (k : Fin 1024) : EReal := x2 (ix2 ⟨q.val, by omega⟩ k)
def rG (k : Fin 1024) : EReal := x3 (ix2 1 k)
def rW (k : Fin 1024) (n : Fin 8224) : EReal := x4 (ix3 1 k n)
def rS (n : Fin 2048) : EReal := x5 (ix2 1 n)
def rB (n : Fin 2048) (j : Fin 1024) : EReal := x6 (ix3 1 n j)
def rM (g : Fin 4) (d e : Fin 256) : EReal := x7 (ix4 1 g d e)
def rC (k j : Fin 1024) : EReal := x9 (ix3 1 k j)

theorem x_read (q : Fin 17408) (k : Fin 1024) : val_main_v0 (F := Ideal) x0 (ix2 q k) = rX x0 q k := by
  rw [val_main_v0_apply]
  refine congrArg x0 ?_
  blk_ext []

theorem y_read (q : Fin 17408) (n : Fin 2048) : val_main_v2 (F := Ideal) x1 (ix2 q n) = rY x1 q n := by
  rw [val_main_v2_apply, val_main_v1_apply]
  refine (congrArg x1 ?_ : _)
  blk_ext []

theorem p_read (q : Fin 17408) (k : Fin 1024) : val_main_v4 (F := Ideal) x2 (ix2 q k) = rP x2 q k := by
  rw [val_main_v4_apply, val_main_v3_apply]
  refine (congrArg x2 ?_ : _)
  blk_ext []

theorem g_read (q : Fin 17408) (k : Fin 1024) : val_main_v6 (F := Ideal) x3 (idx_main_v17 (idx_main_v18 (ix2 q k))) = rG x3 k := by
  rw [val_main_v6_apply, val_main_v5_apply]
  refine congrArg x3 ?_
  blk_ext []

theorem s_read (q : Fin 17408) (k : Fin 2048) : val_main_v29 (F := Ideal) x5 (idx_main_v40 (idx_main_v41 (ix2 q k))) = rS x5 k := by
  rw [val_main_v29_apply, val_main_v28_apply]
  refine congrArg x5 ?_
  blk_ext []

theorem t_read (q : Fin 17408) (k : Fin 1024) : val_main_v53 (F := Ideal) x8 (idx_main_v54 (idx_main_v55 (ix2 q k))) = rG x8 k := by
  rw [val_main_v53_apply, val_main_v52_apply]
  refine congrArg x8 ?_
  blk_ext []

theorem h_read (q : Fin 17408) (k : Fin 1024) : val_main_v79 (F := Ideal) x11 (idx_main_v90 (idx_main_v91 (ix2 q k))) = rG x11 k := by
  rw [val_main_v79_apply, val_main_v78_apply]
  refine congrArg x11 ?_
  blk_ext []

theorem i8 (q : Fin 17408) (k x : Fin 1024) : idx_main_v8 (idx_main_v9 (idx_main_v15 (ix2 q k))) x = ix2 q x := by
  funext a; match a with | ⟨0, _⟩ => rfl | ⟨1, _⟩ => rfl

theorem i31 (q : Fin 17408) (k x : Fin 2048) : idx_main_v31 (idx_main_v32 (idx_main_v38 (ix2 q k))) x = ix2 q x := by
  funext a; match a with | ⟨0, _⟩ => rfl | ⟨1, _⟩ => rfl

theorem i81 (q : Fin 17408) (k x : Fin 1024) : idx_main_v81 (idx_main_v82 (idx_main_v88 (ix2 q k))) x = ix2 q x := by
  funext a; match a with | ⟨0, _⟩ => rfl | ⟨1, _⟩ => rfl

theorem norm_read (q : Fin 17408) (k : Fin 1024) : val_main_v19 (F := Ideal) x0 x3 (ix2 q k) = rms w1024 (rX x0 q) (rG x3) k := by
  unfold rms w1024 eps
  simp only [val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_cst_apply, val_main_cst_0_apply, val_main_cst_1_apply, g_read, x_read, zero_f32, i8]
  pointwise [zero_add]

theorem proj_read (q : Fin 17408) (n : Fin 8224) : val_main_v22 (F := Ideal) x0 x3 x4 (ix2 q n) = proj (rX x0 q) (rG x3) (rW x4) n := by
  rw [val_main_v22_apply]
  unfold proj
  refine Finset.sum_congr rfl fun k _ => ?_
  refine congrArg₂ (fun a b : EReal => a * b) ?_ ?_
  · refine Eq.trans (congrArg _ ?_) (norm_read x0 x3 q k)
    funext a; match a with | ⟨0, _⟩ => rfl | ⟨1, _⟩ => rfl
  · rw [val_main_v21_apply, val_main_v20_apply]
    refine congrArg x4 ?_
    blk_ext []

theorem z_read (q : Fin 17408) (n : Fin 2048) : val_main_v23 (F := Ideal) x0 x3 x4 (ix2 q n) = proj (rX x0 q) (rG x3) (rW x4) ⟨n.val, by omega⟩ := by
  rw [val_main_v23_apply, ← proj_read]
  refine congrArg _ ?_
  blk_ext []

theorem gs_read (q : Fin 17408) (n : Fin 1024) : val_main_v24 (F := Ideal) x0 x3 x4 (ix2 q n) = proj (rX x0 q) (rG x3) (rW x4) ⟨6176 + n.val, by omega⟩ := by
  rw [val_main_v24_apply, ← proj_read]
  refine congrArg _ ?_
  blk_ext []

theorem gp_read (q : Fin 17408) (n : Fin 1024) : val_main_v25 (F := Ideal) x0 x3 x4 (ix2 q n) = proj (rX x0 q) (rG x3) (rW x4) ⟨7200 + n.val, by omega⟩ := by
  rw [val_main_v25_apply, ← proj_read]
  refine congrArg _ ?_
  blk_ext []

theorem gated_read (q : Fin 17408) (n : Fin 2048) :
    val_main_v27 (F := Ideal) x0 x1 x3 x4 (ix2 q n) = gatedRow (rX x0 q) (rY x1 q) (rG x3) (rW x4) n := by
  unfold gatedRow silu
  rw [← z_read]
  simp only [val_main_v27_apply, val_main_v26_apply, val_main_call0_v5_apply, val_main_call0_v4_apply, val_main_call0_v3_apply,
    val_main_call0_v2_apply, val_main_call0_v1_apply, val_main_call0_v0_apply, val_main_call0_cst_apply, val_main_call0_cst_0_apply, one_f32, y_read]
  rfl

theorem gnorm_read (q : Fin 17408) (n : Fin 2048) :
    val_main_v42 (F := Ideal) x0 x1 x3 x4 x5 (ix2 q n) = rms w2048 (gatedRow (rX x0 q) (rY x1 q) (rG x3) (rW x4)) (rS x5) n := by
  unfold rms w2048 eps
  simp only [val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_cst_2_apply, val_main_cst_3_apply, val_main_cst_4_apply, s_read, gated_read, zero_f32, i31]
  pointwise [zero_add]

theorem ssd_read (q : Fin 17408) (j : Fin 1024) :
    val_main_v45 (F := Ideal) x0 x1 x3 x4 x5 x6 (ix2 q j) = ssdRow (rX x0 q) (rY x1 q) (rG x3) (rW x4) (rS x5) (rB x6) j := by
  rw [val_main_v45_apply]
  unfold ssdRow
  refine Finset.sum_congr rfl fun k _ => ?_
  refine congrArg₂ (fun a b : EReal => a * b) ?_ ?_
  · refine Eq.trans (congrArg _ ?_) (gnorm_read x0 x1 x3 x4 x5 q k)
    funext a; match a with | ⟨0, _⟩ => rfl | ⟨1, _⟩ => rfl
  · rw [val_main_v44_apply, val_main_v43_apply]
    refine congrArg x6 ?_
    blk_ext []

theorem mixed_read (q : Fin 17408) (k : Fin 1024) :
    val_main_v56 (F := Ideal) x2 x7 x8 (ix2 q k) = mixedRow (rP x2 q) (rM x7) (rG x8) k := by
  unfold mixedRow
  simp only [val_main_v56_apply, val_main_v55_apply, val_main_v54_apply, t_read]
  refine congrArg (fun a : EReal => a * rG x8 k) ?_
  rw [val_main_v51_apply, val_main_v50_apply, val_main_v49_apply]
  refine Finset.sum_congr rfl fun d _ => ?_
  rw [mul_comm]
  refine congrArg₂ (fun a b : EReal => a * b) ?_ ?_
  · rw [val_main_v46_apply]
    refine Eq.trans (congrArg _ ?_) (p_read x2 q _)
    blk_ext []
  · rw [val_main_v48_apply, val_main_v47_apply]
    refine congrArg x7 ?_
    blk_ext []

theorem pool_read (q : Fin 17408) (j : Fin 1024) :
    val_main_v59 (F := Ideal) x2 x7 x8 x9 (ix2 q j) = poolRow (rP x2 q) (rM x7) (rG x8) (rC x9) j := by
  rw [val_main_v59_apply]
  unfold poolRow
  refine Finset.sum_congr rfl fun k _ => ?_
  refine congrArg₂ (fun a b : EReal => a * b) ?_ ?_
  · refine Eq.trans (congrArg _ ?_) (mixed_read x2 x8 x7 q k)
    funext a; match a with | ⟨0, _⟩ => rfl | ⟨1, _⟩ => rfl
  · rw [val_main_v58_apply, val_main_v57_apply]
    refine congrArg x9 ?_
    blk_ext []

/-- The merged branches, from the reference's arguments. -/
abbrev mg (q : Fin 17408) (j : Fin 1024) : EReal :=
  mergedRow (rX x0 q) (rG x3) (rW x4) (ssdRow (rX x0 q) (rY x1 q) (rG x3) (rW x4) (rS x5) (rB x6)) (poolRow (rP x2 q) (rM x7) (rG x8) (rC x9)) j

theorem merged_read (q : Fin 17408) (j : Fin 1024) :
    val_main_v74 (F := Ideal) x0 x1 x2 x3 x4 x5 x6 x7 x8 x9 (ix2 q j) = mg x0 x1 x2 x3 x8 x4 x5 x6 x7 x9 q j := by
  unfold mg mergedRow
  rw [← ssd_read, ← pool_read, ← gs_read, ← gp_read]
  simp only [val_main_v74_apply, val_main_v73_apply, val_main_v72_apply, val_main_v71_apply, val_main_v70_apply, val_main_v69_apply, val_main_v68_apply, val_main_v67_apply, val_main_v66_apply, val_main_v65_apply, val_main_v64_apply, val_main_v63_apply, val_main_v62_apply, val_main_v61_apply, val_main_v60_apply, val_main_cst_5_apply, val_main_cst_6_apply, val_main_cst_7_apply, val_main_cst_8_apply, one_f32]
  rfl

theorem outp_read (q : Fin 17408) (j : Fin 1024) :
    val_main_v77 (F := Ideal) x0 x1 x2 x3 x4 x5 x6 x7 x8 x9 x10 (ix2 q j) = ∑ k, mg x0 x1 x2 x3 x8 x4 x5 x6 x7 x9 q k * rC x10 k j := by
  rw [val_main_v77_apply]
  refine Finset.sum_congr rfl fun k _ => ?_
  refine congrArg₂ (fun a b : EReal => a * b) ?_ ?_
  · refine Eq.trans (congrArg _ ?_) (merged_read x0 x1 x2 x3 x8 x4 x5 x6 x7 x9 q k)
    funext a; match a with | ⟨0, _⟩ => rfl | ⟨1, _⟩ => rfl
  · rw [val_main_v76_apply, val_main_v75_apply]
    refine congrArg x10 ?_
    blk_ext []

theorem out_read (q : Fin 17408) (j : Fin 1024) :
    val_main_v93 (F := Ideal) x0 x1 x2 x3 x4 x5 x6 x7 x8 x9 x10 x11 (ix2 q j)
      = mix (rX x0 q) (rY x1 q) (rP x2 q) (rG x3) (rW x4) (rS x5) (rB x6) (rM x7) (rG x8) (rC x9) (rC x10) (rG x11) j := by
  unfold mix rms w1024 eps
  simp only [← outp_read]
  simp only [val_main_v93_apply, val_main_v92_apply, val_main_v91_apply, val_main_v90_apply, val_main_v89_apply, val_main_v88_apply, val_main_v87_apply, val_main_v86_apply, val_main_v85_apply, val_main_v84_apply, val_main_v83_apply, val_main_v82_apply, val_main_v81_apply, val_main_v80_apply, val_main_cst_9_apply, val_main_cst_10_apply, val_main_cst_11_apply, h_read, x_read, zero_f32, i81]
  pointwise [zero_add]

end Cert.MixReferenceIdeal.Mixer

end
-- ==== Proof.Mixer.Claims.lean ====
/- The claims about the mixer's output part: both programs run, and end with the same rows. -/
module

public import proofs.«01_k».proof.Defs
public import proofs.«01_k».proof.Proof.Mixer.Arrays
public import proofs.«01_k».proof.Proof.Mixer.Reference
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixReferenceIdeal
public import proofs.«01_k».proof.Proof.Gen.MixReferenceIdeal.Run
public import proofs.«01_k».proof.Proof.Gen.MixReferenceIdeal.Read
public import Idealize.ShloMosaic.Adequacy

@[expose] public section

set_option maxRecDepth 16384

noncomputable section

namespace Cert.Proof.Mixer

open Idealize.ShloMosaic Idealize.SL.Sem

theorem frame_p : Cert.quiescent_Mix := fun m ρ _ => Cert.Mix.Gen.frame m ρ

theorem frame_pi : Cert.quiescent_MixIdeal := fun m ρ _ => Cert.MixIdeal.Gen.frame m ρ

theorem frame_ri : Cert.quiescent_MixReferenceIdeal := fun m ρ _ =>
  (θ_run Cert.MixReferenceIdeal.defs _ _).mono (fun r h => ⟨fun c => (h c).2,
      Idealize.ShloMosaic.sem_eq_zero_of_no_sems (by decide) r.2⟩)
    (Cert.MixReferenceIdeal.Value.run (F := Ideal) m ρ)

theorem preserves : Cert.preserves_Mix_MixIdeal := trivial

theorem algebraic : Cert.algebraic_MixIdeal_MixReferenceIdeal := by
  intro m ρ m' ρ' hpre hagree
  refine ⟨_, (θ_run Cert.MixIdeal.defs _ _).mono (fun _ h c => ⟨(h c).1.trans (Cert.MixIdeal.Mixer.out_arr m c), (h c).2⟩)
    (Cert.MixIdeal.Value.run_blocks (F := Ideal) m ρ), ?_⟩
  refine (θ_run Cert.MixReferenceIdeal.defs _ _).mono (fun _ h c => ⟨(h c).1.trans ?_, (h c).2⟩)
    (Cert.MixReferenceIdeal.Value.run (F := Ideal) m' ρ')
  refine (Cert.MixReferenceIdeal.Read.val_main_v93_eq m' c).trans ?_
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
  funext i
  rw [eq_ix2 i]
  exact Cert.MixReferenceIdeal.Mixer.out_read _ _ _ _ _ _ _ _ _ _ _ _ (i 0) (i 1)

end Cert.Proof.Mixer

end
-- ==== Proof.Inproj.Spec.lean ====
/- The input projection of the prompt, over the extended reals: the projected channels behind their history, the
   causal convolution of the first part of them, and the trailing-window means of the last part. -/
module

public import proofs.«01_k».proof.Proof.Rows.Spec

@[expose] public section

noncomputable section

namespace Cert.Rows

open Idealize.ShloMosaic

variable (X : ℕ → Fin 1024 → EReal) (g : Fin 1024 → EReal) (W : Fin 1024 → Fin 8224 → EReal)

/-- Sequence `b`'s convolved channels at position `q`, the first three positions being the history. -/
def histC (C : ℕ → Fin 3072 → EReal) (b q : ℕ) (n : Fin 3072) : EReal :=
  if q < 3 then C q n else proj (X (2048 * b + (q - 3))) g W ⟨2048 + n.val, by omega⟩

/-- The causal convolution over four positions, at position `p` of sequence `b`. -/
def convAt (C : ℕ → Fin 3072 → EReal) (K : Fin 4 → Fin 3072 → EReal) (B : Fin 3072 → EReal) (b p : ℕ) (n : Fin 3072) : EReal :=
  B n + histC X g W C b p n * K 0 n + histC X g W C b (p + 1) n * K 1 n + histC X g W C b (p + 2) n * K 2 n
    + histC X g W C b (p + 3) n * K 3 n

/-- Sequence `b`'s pooled channels at position `q`, the first fifteen positions being the history. -/
def histU (C : ℕ → Fin 1024 → EReal) (b q : ℕ) (n : Fin 1024) : EReal :=
  if q < 15 then C q n else proj (X (2048 * b + (q - 15))) g W ⟨5152 + n.val, by omega⟩

/-- The mean over the last `w` positions minus the position's own value. -/
def meanAt (C : ℕ → Fin 1024 → EReal) (w b p : ℕ) (n : Fin 1024) : EReal :=
  Ideal.div (∑ i ∈ Finset.range w, histU X g W C b (p + 15 - i) n) ((w : ℝ) : EReal) - histU X g W C b (p + 15) n

/-- Each quarter of the channels has its own window. -/
def poolAt (C : ℕ → Fin 1024 → EReal) (b p : ℕ) (n : Fin 1024) : EReal :=
  if n.val < 256 then meanAt X g W C 2 b p n else if n.val < 512 then meanAt X g W C 4 b p n
  else if n.val < 768 then meanAt X g W C 8 b p n else meanAt X g W C 16 b p n

/-- The raw step sizes of the heads, zero on the lanes past them. -/
def stepAt (q : ℕ) (l : Fin 128) : EReal := if h : l.val < 32 then proj (X q) g W ⟨5120 + l.val, by omega⟩ else 0

end Cert.Rows

end
-- ==== Proof.Inproj.Kernel.lean ====
/- The input projection kernel's body at its indices. -/
module

public import proofs.«01_k».proof.Proof.Inproj.Spec
public import proofs.«01_k».proof.Proof.Gen.InprojIdeal.Value
public import Idealize.ShloMosaic.Lib.Pipeline.ValueKit

@[expose] public section

set_option maxRecDepth 16384

noncomputable section

namespace Cert.InprojIdeal.Proj

open Idealize.ShloMosaic Idealize.ShloMosaic.TcCoe Idealize.SL.Sem Cert.InprojIdeal.Gen Cert.Rows

/-! ## One payload at its indices -/

theorem p6 (x : Vec Ideal S512x1024 .f32) (g : Vec Ideal S1x1x1024 .f32) (i : Fin 512) (k : Fin 1024) :
    k0_pay6 x g (ix2 i k) = rms w1024 (fun k => x (ix2 i k)) (fun k => g (ix3 0 0 k)) k := by
  unfold rms w1024 eps
  pointwise [k0_pay6]

section
variable (h : FVec Ideal S512x1024 .bf16) (wt : Vec Ideal S1x512x1024 .bf16) (tl : Vec Ideal S8x512 .f32)
  (cw : Vec Ideal S1x4x512 .f32) (cb : Vec Ideal S1x1x512 .f32)

/-- The tile's rows times a slab of the transposed matrix. -/
def dd (i e : Fin 512) : EReal := ∑ k : Fin 1024, (h (ix2 i k) : EReal) * wt (ix3 0 e k)

theorem p47 (i e : Fin 512) : k0_pay47 h wt (ix2 i e) = dd h wt i e := by
  unfold dd
  pointwise [k0_pay47]

theorem p49 (i : Fin 8) (e : Fin 512) : k0_pay49 (k0_pay47 h wt) (ix2 i e) = dd h wt ⟨504 + i.val, by omega⟩ e := by
  rw [← p47]
  pointwise [k0_pay49]

/-- The tile's rows behind the eight rows carried from the tile before. -/
def ext (s : ℕ) (e : Fin 512) : EReal :=
  if hs : s < 8 then tl (ix2 ⟨s, hs⟩ e) else if h' : s - 8 < 512 then dd h wt ⟨s - 8, h'⟩ e else 0

theorem ext_of (q s : ℕ) (hq : q = s) (hs : s < 520) (e : Fin 512) :
    (if h' : q < 8 then tl (ix2 ⟨q, h'⟩ e) else dd h wt ⟨q - 8, by omega⟩ e) = ext h wt tl s e := by
  subst hq
  unfold ext
  split
  · rfl
  · rw [dif_pos (by omega)]

theorem p48 (i e : Fin 512) : k0_pay48 h wt tl cw cb (ix2 i e)
    = cb (ix3 0 0 e) + (cw (ix3 0 3 e) * ext h wt tl (i.val + 8) e + cw (ix3 0 2 e) * ext h wt tl (i.val + 7) e)
      + (cw (ix3 0 1 e) * ext h wt tl (i.val + 6) e + cw (ix3 0 0 e) * ext h wt tl (i.val + 5) e) := by
  have e8 : dd h wt i e = ext h wt tl (i.val + 8) e := by
    unfold ext
    rw [dif_neg (by omega), dif_pos (by omega)]
    rfl
  pointwise [k0_pay48]
  simp only [p47]
  rw [e8]
  refine congrArg₂ (fun a b : EReal => cb (ix3 0 0 e) + (cw (ix3 0 3 e) * ext h wt tl (i.val + 8) e + cw (ix3 0 2 e) * a) + b)
    (ext_of h wt tl _ _ (by omega) (by omega) e)
    (congrArg₂ (fun a b : EReal => cw (ix3 0 1 e) * a + cw (ix3 0 0 e) * b)
      (ext_of h wt tl _ _ (by omega) (by omega) e) (ext_of h wt tl _ _ (by omega) (by omega) e))

end

section
variable (h : FVec Ideal S512x1024 .bf16) (wt : Vec Ideal S1x1024x1024 .bf16) (tl : Vec Ideal S16x1024 .f32)

def du (i : Fin 512) (e : Fin 1024) : EReal := ∑ k : Fin 1024, (h (ix2 i k) : EReal) * wt (ix3 0 e k)

/-- The tile's pooled channels behind the sixteen rows carried from the tile before. -/
def extU (s : ℕ) (e : Fin 1024) : EReal :=
  if hs : s < 16 then tl (ix2 ⟨s, hs⟩ e) else if h' : s - 16 < 512 then du h wt ⟨s - 16, h'⟩ e else 0

theorem p51 (s : Fin 528) (e : Fin 1024) : k0_pay51 h wt tl (ix2 s e) = extU h wt tl s.val e := by
  unfold extU du
  pointwise [k0_pay51]
  split
  · rfl
  · rw [dif_pos (by omega)]

theorem p57 (i : Fin 16) (e : Fin 1024) : k0_pay57 (k0_pay51 h wt tl) (ix2 i e) = extU h wt tl (512 + i.val) e := by
  refine Eq.trans ?_ (p51 h wt tl ⟨512 + i.val, by omega⟩ e)
  pointwise [k0_pay57]

theorem p58 (i : Fin 15) (e : Fin 1024) : k0_pay58 (k0_pay51 h wt tl) (ix3 0 i e) = extU h wt tl (513 + i.val) e := by
  refine Eq.trans ?_ (p51 h wt tl ⟨513 + i.val, by omega⟩ e)
  pointwise [k0_pay58]

end

theorem p59 : ∀ l : Fin 128, k0_pay59 (ix2 0 l) = if l.val < 32 then 1#1 else 0#1 := by decide +kernel

theorem p1 (h : FVec Ideal S512x1024 .bf16) (wt : Vec Ideal S1x128x1024 .bf16) (i : Fin 512) (l : Fin 128) :
    k0_pay1 k0_pay59 (k0_pay60 h wt) (Scalar.ofBits (F := Ideal) .f32 0x00000000#32) (ix2 i l)
      = if l.val < 32 then ∑ k : Fin 1024, (h (ix2 i k) : EReal) * wt (ix3 0 l k) else 0 := by
  pointwise [k0_pay1, k0_pay60]
  rw [p59]
  split <;> rfl

/-- A column block plus itself rotated by one, two, four, eight rows. -/
def d1 (x : FVec Ideal S528x256 .f32) : FVec Ideal S528x256 .f32 := addf x (dynamicRotate 0 1#32 none x rotates_S528x256_d0)
def d2 (x : FVec Ideal S528x256 .f32) : FVec Ideal S528x256 .f32 := addf x (dynamicRotate 0 2#32 none x rotates_S528x256_d0)
def d4 (x : FVec Ideal S528x256 .f32) : FVec Ideal S528x256 .f32 := addf x (dynamicRotate 0 4#32 none x rotates_S528x256_d0)
def d8 (x : FVec Ideal S528x256 .f32) : FVec Ideal S528x256 .f32 := addf x (dynamicRotate 0 8#32 none x rotates_S528x256_d0)

section
variable (x : FVec Ideal S528x256 .f32) (f : ℕ → EReal) (e : Fin 256) (lo : ℕ)
  (hx : ∀ q : Fin 528, lo ≤ q.val → x (ix2 q e) = f q.val)
include hx

theorem d1_read (q : Fin 528) (hq : lo + 1 ≤ q.val) : d1 x (ix2 q e) = f q.val + f (q.val - 1) := by
  rw [← hx q (by omega), ← hx ⟨q.val - 1, by omega⟩ (by simp only []; omega)]
  unfold d1
  pointwise []
  exact congrArg (fun a : Fin 528 => (x (ix2 q e) + x (ix2 a e) : EReal)) (Fin.ext (by simp only []; omega))

theorem d2_read (q : Fin 528) (hq : lo + 2 ≤ q.val) : d2 x (ix2 q e) = f q.val + f (q.val - 2) := by
  rw [← hx q (by omega), ← hx ⟨q.val - 2, by omega⟩ (by simp only []; omega)]
  unfold d2
  pointwise []
  exact congrArg (fun a : Fin 528 => (x (ix2 q e) + x (ix2 a e) : EReal)) (Fin.ext (by simp only []; omega))

theorem d4_read (q : Fin 528) (hq : lo + 4 ≤ q.val) : d4 x (ix2 q e) = f q.val + f (q.val - 4) := by
  rw [← hx q (by omega), ← hx ⟨q.val - 4, by omega⟩ (by simp only []; omega)]
  unfold d4
  pointwise []
  exact congrArg (fun a : Fin 528 => (x (ix2 q e) + x (ix2 a e) : EReal)) (Fin.ext (by simp only []; omega))

theorem d8_read (q : Fin 528) (hq : lo + 8 ≤ q.val) : d8 x (ix2 q e) = f q.val + f (q.val - 8) := by
  rw [← hx q (by omega), ← hx ⟨q.val - 8, by omega⟩ (by simp only []; omega)]
  unfold d8
  pointwise []
  exact congrArg (fun a : Fin 528 => (x (ix2 q e) + x (ix2 a e) : EReal)) (Fin.ext (by simp only []; omega))

theorem w2_read (q : Fin 528) (hq : lo + 1 ≤ q.val) : d1 x (ix2 q e) = ∑ k ∈ Finset.range 2, f (q.val - k) := by
  rw [d1_read x f e lo hx q hq]
  simp only [Finset.sum_range_succ, Finset.sum_range_zero, zero_add, Nat.sub_zero]

theorem w4_read (q : Fin 528) (hq : lo + 3 ≤ q.val) : d2 (d1 x) (ix2 q e) = ∑ k ∈ Finset.range 4, f (q.val - k) := by
  rw [d2_read (d1 x) (fun q => f q + f (q - 1)) e (lo + 1) (d1_read x f e lo hx) q (by omega)]
  simp only [Finset.sum_range_succ, Finset.sum_range_zero, zero_add, Nat.sub_zero, Nat.sub_sub, Nat.reduceAdd]
  abel

theorem w8_read (q : Fin 528) (hq : lo + 7 ≤ q.val) : d4 (d2 (d1 x)) (ix2 q e) = ∑ k ∈ Finset.range 8, f (q.val - k) := by
  rw [d4_read (d2 (d1 x)) (fun q => ∑ k ∈ Finset.range 4, f (q - k)) e (lo + 3) (w4_read x f e lo hx) q (by omega)]
  simp only [Finset.sum_range_succ, Finset.sum_range_zero, zero_add, Nat.sub_zero, Nat.sub_sub, Nat.reduceAdd]
  abel

theorem w16_read (q : Fin 528) (hq : lo + 15 ≤ q.val) : d8 (d4 (d2 (d1 x))) (ix2 q e) = ∑ k ∈ Finset.range 16, f (q.val - k) := by
  rw [d8_read (d4 (d2 (d1 x))) (fun q => ∑ k ∈ Finset.range 8, f (q - k)) e (lo + 7) (w8_read x f e lo hx) q (by omega)]
  simp only [Finset.sum_range_succ, Finset.sum_range_zero, zero_add, Nat.sub_zero, Nat.sub_sub, Nat.reduceAdd]
  abel

end

/-- What the kernel stores of the pooled channels, from the tile's channels behind the carried rows. -/
def means (u : FVec Ideal S528x1024 .f32) : FVec Ideal S512x1024 .bf16 :=
  truncf .bf16 (concatenate S512x1024 1
    [⟨S512x256, subf (mulf (extractStridedSlice S512x256 ![16, 0] (d1 (extractStridedSlice S528x256 ![0, 0] u slices_S528x1024_o0_0_S528x256)) slices_S528x256_o16_0_S512x256) (broadcast S512x256 (Scalar.ofBits (F := Ideal) .f32 0x3F000000#32)))
        (extractStridedSlice S512x256 ![16, 0] (extractStridedSlice S528x256 ![0, 0] u slices_S528x1024_o0_0_S528x256) slices_S528x256_o16_0_S512x256)⟩,
     ⟨S512x256, subf (mulf (extractStridedSlice S512x256 ![16, 0] (d2 (d1 (extractStridedSlice S528x256 ![0, 256] u slices_S528x1024_o0_256_S528x256))) slices_S528x256_o16_0_S512x256) (broadcast S512x256 (Scalar.ofBits (F := Ideal) .f32 0x3E800000#32)))
        (extractStridedSlice S512x256 ![16, 0] (extractStridedSlice S528x256 ![0, 256] u slices_S528x1024_o0_256_S528x256) slices_S528x256_o16_0_S512x256)⟩,
     ⟨S512x256, subf (mulf (extractStridedSlice S512x256 ![16, 0] (d4 (d2 (d1 (extractStridedSlice S528x256 ![0, 512] u slices_S528x1024_o0_512_S528x256)))) slices_S528x256_o16_0_S512x256) (broadcast S512x256 (Scalar.ofBits (F := Ideal) .f32 0x3E000000#32)))
        (extractStridedSlice S512x256 ![16, 0] (extractStridedSlice S528x256 ![0, 512] u slices_S528x1024_o0_512_S528x256) slices_S528x256_o16_0_S512x256)⟩,
     ⟨S512x256, subf (mulf (extractStridedSlice S512x256 ![16, 0] (d8 (d4 (d2 (d1 (extractStridedSlice S528x256 ![0, 768] u slices_S528x1024_o0_768_S528x256))))) slices_S528x256_o16_0_S512x256) (broadcast S512x256 (Scalar.ofBits (F := Ideal) .f32 0x3D800000#32)))
        (extractStridedSlice S512x256 ![16, 0] (extractStridedSlice S528x256 ![0, 768] u slices_S528x1024_o0_768_S528x256) slices_S528x256_o16_0_S512x256)⟩]
    concatenates_S512x256_S512x256_S512x256_S512x256_S512x1024_d1) bitsLt_bf16_f32

theorem means_eq (h : FVec Ideal S512x1024 .bf16) (wt : Vec Ideal S1x1024x1024 .bf16) (tl : Vec Ideal S16x1024 .f32) :
    k0_pay56 (k0_pay51 h wt tl) (k0_pay52 h wt tl) (k0_pay53 h wt tl) (k0_pay54 h wt tl) (k0_pay55 h wt tl) 4#32
      = means (k0_pay51 h wt tl) := rfl

theorem half_f32 : Ideal.ofBits .f32 0x3F000000#32 = ((1 / 2 : ℝ) : EReal) := by
  simp [Ideal.ofBits, Ideal.ieee, -EReal.coe_mul]; norm_num
theorem quarter_f32 : Ideal.ofBits .f32 0x3E800000#32 = ((1 / 4 : ℝ) : EReal) := by
  simp [Ideal.ofBits, Ideal.ieee, -EReal.coe_mul]; norm_num
theorem eighth_f32 : Ideal.ofBits .f32 0x3E000000#32 = ((1 / 8 : ℝ) : EReal) := by
  simp [Ideal.ofBits, Ideal.ieee, -EReal.coe_mul]; norm_num
theorem sixteenth_f32 : Ideal.ofBits .f32 0x3D800000#32 = ((1 / 16 : ℝ) : EReal) := by
  simp [Ideal.ofBits, Ideal.ieee, -EReal.coe_mul]; norm_num

section
variable (u : FVec Ideal S528x1024 .f32) (f : ℕ → EReal) (i : Fin 512) (e : Fin 256)

theorem means_0 (hu : ∀ q : Fin 528, 1 ≤ q.val → u (ix2 q ⟨e.val, by omega⟩) = f q.val) : means u (ix2 i ⟨e.val, by omega⟩)
    = Ideal.div (∑ k ∈ Finset.range 2, f (16 + i.val - k)) ((2 : ℝ) : EReal) - f (16 + i.val) := by
  rw [Ideal.div_coe (by norm_num), ← half_f32, ← hu ⟨16 + i.val, by omega⟩ (by simp only []; omega),
    ← w2_read (extractStridedSlice S528x256 ![0, 0] u slices_S528x1024_o0_0_S528x256) f e 1
      (fun q hq => (by pointwise [] : _ = u (ix2 q ⟨e.val, by omega⟩)).trans (hu q hq)) ⟨16 + i.val, by omega⟩ (by simp only []; omega)]
  unfold means
  pointwise []

theorem means_1 (hu : ∀ q : Fin 528, 1 ≤ q.val → u (ix2 q ⟨256 + e.val, by omega⟩) = f q.val) : means u (ix2 i ⟨256 + e.val, by omega⟩)
    = Ideal.div (∑ k ∈ Finset.range 4, f (16 + i.val - k)) ((4 : ℝ) : EReal) - f (16 + i.val) := by
  rw [Ideal.div_coe (by norm_num), ← quarter_f32, ← hu ⟨16 + i.val, by omega⟩ (by simp only []; omega),
    ← w4_read (extractStridedSlice S528x256 ![0, 256] u slices_S528x1024_o0_256_S528x256) f e 1
      (fun q hq => (by pointwise [] : _ = u (ix2 q ⟨256 + e.val, by omega⟩)).trans (hu q hq)) ⟨16 + i.val, by omega⟩ (by simp only []; omega)]
  unfold means
  pointwise []

theorem means_2 (hu : ∀ q : Fin 528, 1 ≤ q.val → u (ix2 q ⟨512 + e.val, by omega⟩) = f q.val) : means u (ix2 i ⟨512 + e.val, by omega⟩)
    = Ideal.div (∑ k ∈ Finset.range 8, f (16 + i.val - k)) ((8 : ℝ) : EReal) - f (16 + i.val) := by
  rw [Ideal.div_coe (by norm_num), ← eighth_f32, ← hu ⟨16 + i.val, by omega⟩ (by simp only []; omega),
    ← w8_read (extractStridedSlice S528x256 ![0, 512] u slices_S528x1024_o0_512_S528x256) f e 1
      (fun q hq => (by pointwise [] : _ = u (ix2 q ⟨512 + e.val, by omega⟩)).trans (hu q hq)) ⟨16 + i.val, by omega⟩ (by simp only []; omega)]
  unfold means
  pointwise []
  rw [dif_neg (by omega), dif_neg (by omega), dif_pos (by omega)]
  exact congrArg₂ (fun (a : Fin 256) (b : Fin 1024) => (d4 (d2 (d1 (extractStridedSlice S528x256 ![0, 512] u slices_S528x1024_o0_512_S528x256))) (ix2 ⟨16 + i.val, by omega⟩ a)
      * Ideal.ofBits .f32 0x3E000000#32 - u (ix2 ⟨16 + i.val, by omega⟩ b) : EReal)) (Fin.ext (by simp only []; omega)) (Fin.ext (by simp only []; omega))

theorem means_3 (hu : ∀ q : Fin 528, 1 ≤ q.val → u (ix2 q ⟨768 + e.val, by omega⟩) = f q.val) : means u (ix2 i ⟨768 + e.val, by omega⟩)
    = Ideal.div (∑ k ∈ Finset.range 16, f (16 + i.val - k)) ((16 : ℝ) : EReal) - f (16 + i.val) := by
  rw [Ideal.div_coe (by norm_num), ← sixteenth_f32, ← hu ⟨16 + i.val, by omega⟩ (by simp only []; omega),
    ← w16_read (extractStridedSlice S528x256 ![0, 768] u slices_S528x1024_o0_768_S528x256) f e 1
      (fun q hq => (by pointwise [] : _ = u (ix2 q ⟨768 + e.val, by omega⟩)).trans (hu q hq)) ⟨16 + i.val, by omega⟩ (by simp only []; omega)]
  unfold means
  pointwise []
  rw [dif_neg (by omega), dif_neg (by omega), dif_neg (by omega)]
  exact congrArg₂ (fun (a : Fin 256) (b : Fin 1024) => (d8 (d4 (d2 (d1 (extractStridedSlice S528x256 ![0, 768] u slices_S528x1024_o0_768_S528x256)))) (ix2 ⟨16 + i.val, by omega⟩ a)
      * Ideal.ofBits .f32 0x3D800000#32 - u (ix2 ⟨16 + i.val, by omega⟩ b) : EReal)) (Fin.ext (by simp only []; omega)) (Fin.ext (by simp only []; omega))

end

/-! ## The payloads over the blocks' loads -/

section
variable (x0 : Vec Ideal S512x1024 .f32) (x1 : Vec Ideal S1x1x1024 .f32) (x2 : Vec Ideal S1x8224x1024 .bf16)

/-- Row `i` of the tile, projected to column `n`. -/
def prj (i : Fin 512) (n : Fin 8224) : EReal :=
  proj (fun k => x0 (ix2 i k)) (fun k => x1 (ix3 0 0 k)) (fun k n => x2 (ix3 0 n k)) n

theorem slab (a : ℕ) (ia) (i i' : Fin 512) (hi : i.val = i'.val) (e : Fin 512) (n : Fin 8224) (hn : n.val = a + e.val) :
    dd (k0_pay6 x0 x1) (View.ld x2 (Rect.unit (s := S1x8224x1024) ![0, a, 0] ![1, 512, 1024] ia)) i' e = prj x0 x1 x2 i n := by
  obtain rfl : i = i' := Fin.ext hi
  unfold dd prj proj
  refine Finset.sum_congr rfl fun k _ => congrArg₂ (fun a b : EReal => a * b) (p6 x0 x1 i k) ?_
  refine (View.ld_apply _ _ _).trans (congrArg x2 ?_)
  blk_ext [Rect.idx_unit_val]

theorem slabU (ia) (i : Fin 512) (e : Fin 1024) :
    du (k0_pay6 x0 x1) (View.ld x2 (Rect.unit (s := S1x8224x1024) ![0, 5152, 0] ![1, 1024, 1024] ia)) i e = prj x0 x1 x2 i ⟨5152 + e.val, by omega⟩ := by
  unfold du prj proj
  refine Finset.sum_congr rfl fun k _ => congrArg₂ (fun a b : EReal => a * b) (p6 x0 x1 i k) ?_
  refine (View.ld_apply _ _ _).trans (congrArg x2 ?_)
  blk_ext [Rect.idx_unit_val]

theorem steps (ia) (i : Fin 512) (l : Fin 128) :
    k0_pay1 k0_pay59 (k0_pay60 (k0_pay6 x0 x1) (View.ld x2 (Rect.unit (s := S1x8224x1024) ![0, 5120, 0] ![1, 128, 1024] ia))) (Scalar.ofBits (F := Ideal) .f32 0x00000000#32) (ix2 i l)
      = if h : l.val < 32 then prj x0 x1 x2 i ⟨5120 + l.val, by omega⟩ else 0 := by
  rw [p1]
  split
  · unfold prj proj
    refine Finset.sum_congr rfl fun k _ => congrArg₂ (fun a b : EReal => a * b) (p6 x0 x1 i k) ?_
    refine (View.ld_apply _ _ _).trans (congrArg x2 ?_)
    blk_ext [Rect.idx_unit_val]
  · rfl

/-- The tile's convolved channels behind eight carried rows `P`. -/
def extC (P : Vec Ideal S8x3072 .f32) (s : ℕ) (n : Fin 3072) : EReal :=
  if hs : s < 8 then P (ix2 ⟨s, hs⟩ n) else if h' : s - 8 < 512 then prj x0 x1 x2 ⟨s - 8, h'⟩ ⟨2048 + n.val, by omega⟩ else 0

theorem ext_eq (P : Vec Ideal S8x3072 .f32) (o a : ℕ) (ha : a = 2048 + o) (ia) (io) (s : ℕ) (e : Fin 512) (n : Fin 3072) (hn : n.val = o + e.val) :
    ext (k0_pay6 x0 x1) (View.ld x2 (Rect.unit (s := S1x8224x1024) ![0, a, 0] ![1, 512, 1024] ia))
      (View.ld P (Rect.unit (s := S8x3072) ![0, o] ![8, 512] io)) s e = extC x0 x1 x2 P s n := by
  unfold ext extC
  split
  · refine (View.ld_apply _ _ _).trans (congrArg P ?_)
    blk_ext [Rect.idx_unit_val]
  · split
    · exact slab x0 x1 x2 a ia _ _ rfl e _ (by simp only []; omega)
    · rfl

/-- The convolution of the tile. -/
def outC (x3 : Vec Ideal S1x4x3072 .f32) (x4 : Vec Ideal S1x1x3072 .f32) (P : Vec Ideal S8x3072 .f32) (i : Fin 512) (n : Fin 3072) : EReal :=
  x4 (ix3 0 0 n) + (x3 (ix3 0 3 n) * extC x0 x1 x2 P (i.val + 8) n + x3 (ix3 0 2 n) * extC x0 x1 x2 P (i.val + 7) n)
    + (x3 (ix3 0 1 n) * extC x0 x1 x2 P (i.val + 6) n + x3 (ix3 0 0 n) * extC x0 x1 x2 P (i.val + 5) n)

theorem chunk (x3 : Vec Ideal S1x4x3072 .f32) (x4 : Vec Ideal S1x1x3072 .f32) (P : Vec Ideal S8x3072 .f32) (o a : ℕ) (ha : a = 2048 + o)
    (ia) (io) (i3) (i4) (y : S512x3072.Idx) (x : S512x512.Idx) (hi : (y 0).val = (x 0).val) (hn : (y 1).val = o + (x 1).val) :
    k0_pay48 (k0_pay6 x0 x1) (View.ld x2 (Rect.unit (s := S1x8224x1024) ![0, a, 0] ![1, 512, 1024] ia))
      (View.ld P (Rect.unit (s := S8x3072) ![0, o] ![8, 512] io)) (View.ld x3 (Rect.unit (s := S1x4x3072) ![0, 0, o] ![1, 4, 512] i3))
      (View.ld x4 (Rect.unit (s := S1x1x3072) ![0, 0, o] ![1, 1, 512] i4)) x = outC x0 x1 x2 x3 x4 P (y 0) (y 1) := by
  obtain ⟨i, e, rfl⟩ : ∃ (i e : Fin 512), x = ix2 i e := ⟨x 0, x 1, eq_ix2 x⟩
  obtain ⟨j, n, rfl⟩ : ∃ (j : Fin 512) (n : Fin 3072), y = ix2 j n := ⟨y 0, y 1, eq_ix2 y⟩
  obtain rfl : j = i := Fin.ext hi
  replace hn : n.val = o + e.val := hn
  have w3 : ∀ q : Fin 4, View.ld x3 (Rect.unit (s := S1x4x3072) ![0, 0, o] ![1, 4, 512] i3) (ix3 0 q e) = x3 (ix3 0 q n) := fun q => by
    refine (View.ld_apply _ _ _).trans (congrArg x3 ?_)
    blk_ext [Rect.idx_unit_val]
  have w4 : View.ld x4 (Rect.unit (s := S1x1x3072) ![0, 0, o] ![1, 1, 512] i4) (ix3 0 0 e) = x4 (ix3 0 0 n) := by
    refine (View.ld_apply _ _ _).trans (congrArg x4 ?_)
    blk_ext [Rect.idx_unit_val]
  rw [p48]
  simp only [w3, w4, ext_eq x0 x1 x2 P o a ha ia io _ e n hn]
  rfl

/-- The tile's last eight rows. -/
theorem carry (o a : ℕ) (ha : a = 2048 + o) (ia) (y : S8x3072.Idx) (x : S8x512.Idx) (hi : (y 0).val = (x 0).val) (hn : (y 1).val = o + (x 1).val) :
    k0_pay49 (k0_pay47 (k0_pay6 x0 x1) (View.ld x2 (Rect.unit (s := S1x8224x1024) ![0, a, 0] ![1, 512, 1024] ia))) x
      = prj x0 x1 x2 ⟨504 + (y 0).val, by have := (y 0).isLt; have h : S8x3072.size 0 = 8 := rfl; omega⟩
          ⟨2048 + (y 1).val, by have := (y 1).isLt; have h : S8x3072.size 1 = 3072 := rfl; omega⟩ := by
  obtain ⟨i, e, rfl⟩ : ∃ (i : Fin 8) (e : Fin 512), x = ix2 i e := ⟨x 0, x 1, eq_ix2 x⟩
  obtain ⟨j, n, rfl⟩ : ∃ (j : Fin 8) (n : Fin 3072), y = ix2 j n := ⟨y 0, y 1, eq_ix2 y⟩
  obtain rfl : j = i := Fin.ext hi
  replace hn : n.val = o + e.val := hn
  rw [p49]
  exact slab x0 x1 x2 a ia _ _ rfl e _ (show 2048 + n.val = a + e.val by omega)

/-- The tile's pooled channels behind sixteen carried rows `P`. -/
def extP (P : Vec Ideal S16x1024 .f32) (s : ℕ) (n : Fin 1024) : EReal :=
  if hs : s < 16 then P (ix2 ⟨s, hs⟩ n) else if h' : s - 16 < 512 then prj x0 x1 x2 ⟨s - 16, h'⟩ ⟨5152 + n.val, by omega⟩ else 0

theorem extU_eq (P : Vec Ideal S16x1024 .f32) (ia) (s : ℕ) (n : Fin 1024) :
    extU (k0_pay6 x0 x1) (View.ld x2 (Rect.unit (s := S1x8224x1024) ![0, 5152, 0] ![1, 1024, 1024] ia)) P s n = extP x0 x1 x2 P s n := by
  unfold extU extP
  split
  · rfl
  · split
    · exact slabU x0 x1 x2 ia _ n
    · rfl

end

/-! ## The six column chunks are one computation -/

section
variable (x0 : Vec Ideal S512x1024 .f32) (x1 : Vec Ideal S1x1x1024 .f32) (h : FVec Ideal S512x1024 .bf16) (wt : Vec Ideal S1x512x1024 .bf16)
  (tl : Vec Ideal S8x512 .f32) (cw : Vec Ideal S1x4x512 .f32) (cb : Vec Ideal S1x1x512 .f32)

theorem c0 : k0_pay14 (k0_pay8 x0 x1 wt tl) (k0_pay9 cw) (k0_pay10 cb) (k0_pay11 x0 x1 wt tl) (k0_pay12 x0 x1 wt tl cw) (k0_pay13 cw)
    = k0_pay48 (k0_pay6 x0 x1) wt tl cw cb := rfl
theorem c1 : k0_pay23 (k0_pay17 h wt tl) (k0_pay18 cw) (k0_pay19 cb) (k0_pay20 h wt tl) (k0_pay21 h wt tl cw) (k0_pay22 cw)
    = k0_pay48 h wt tl cw cb := rfl
theorem c2 : k0_pay33 (k0_pay28 cb) (k0_pay30 h wt tl cw) (k0_pay31 h wt tl cw) (k0_pay32 h wt tl cw) = k0_pay48 h wt tl cw cb := rfl
theorem c3 : k0_pay41 (k0_pay39 h wt tl cw) (k0_pay40 h wt tl cw cb) = k0_pay48 h wt tl cw cb := rfl
theorem c4 : k0_pay45 (k0_pay44 h wt tl cw cb) = k0_pay48 h wt tl cw cb := rfl
theorem t0 : k0_pay15 (k0_pay7 x0 x1 wt) = k0_pay49 (k0_pay47 (k0_pay6 x0 x1) wt) := rfl
theorem t1 : k0_pay24 (k0_pay16 h wt) = k0_pay49 (k0_pay47 h wt) := rfl
theorem t2 : k0_pay34 (k0_pay25 h wt) = k0_pay49 (k0_pay47 h wt) := rfl
theorem t3 : k0_pay42 (k0_pay35 h wt) = k0_pay49 (k0_pay47 h wt) := rfl
theorem t4 : k0_pay46 (k0_pay43 h wt) = k0_pay49 (k0_pay47 h wt) := rfl

end

end Cert.InprojIdeal.Proj

end
-- ==== Proof.Inproj.Points.lean ====
/- What a grid point leaves: the five results' blocks and the two carried tails, over the point's input blocks and the
   tails the point before left. -/
module

public import proofs.«01_k».proof.Proof.Gen.InprojIdeal.Value
public import proofs.«01_k».proof.Proof.Inproj.Kernel
public import Idealize.ShloMosaic.Lib.Pipeline.ValueKit
public import Idealize.ShloMosaic.Lib.Pipeline.ReadBack

@[expose] public section

set_option maxRecDepth 16384

noncomputable section

namespace Cert.InprojIdeal.Proj

open Idealize.ShloMosaic Idealize.ShloMosaic.TcCoe Idealize.SL.Sem Cert.InprojIdeal.Gen Cert.Rows
open Idealize.ShloMosaic.Pipeline (Dat)

variable (m : (ℓ : Loc nD τ sig) → Buf (Elt Ideal) ℓ)

theorem emb_0 {s : Shape} (lo sz : Fin s.rank → ℕ) (inb) (x : (Rect.unit (s := s) lo sz inb).shape.Idx) (a : Fin s.rank) :
    ((Rect.unit (s := s) lo sz inb).emb x a).val = lo a + (x a).val := Rect.idx_unit_val lo sz inb x a

theorem e0 {M N : ℕ} (o h w : ℕ) (inb) (x : (Rect.unit (s := ⟨2, ![M, N]⟩) ![0, o] ![h, w] inb).shape.Idx) :
    ((Rect.unit (s := ⟨2, ![M, N]⟩) ![0, o] ![h, w] inb).emb x 0).val = (x 0).val := (emb_0 _ _ inb x 0).trans (Nat.zero_add _)
theorem e1 {M N : ℕ} (o h w : ℕ) (inb) (x : (Rect.unit (s := ⟨2, ![M, N]⟩) ![0, o] ![h, w] inb).shape.Idx) :
    ((Rect.unit (s := ⟨2, ![M, N]⟩) ![0, o] ![h, w] inb).emb x 1).val = o + (x 1).val := emb_0 _ _ inb x 1

theorem readCov_ld {sig : RefSig} {κ : Kind} {sp : Space} {s : Shape} {e : EltTy} (v : View sig κ sp s e) (L : List (View.Piece (Elt Ideal) s e)) (r : Rect s) :
    v.readCov L r.toLoadRect = View.ld (View.canon L) r := View.readCov_eq_canon' v L _

/-- Where the last `n` stores are blocks of `G` and one of them covers an index, `G` is what is read there. -/
theorem canon_last {s : Shape} {e : EltTy} (G : Vec Ideal s e) (n : ℕ) (L : List (View.Piece (Elt Ideal) s e)) (y : s.Idx)
    (h : View.PiecesOf G (L.take n)) (hc : ∃ p ∈ L.take n, y ∈ p.1.set) : View.canon L y = G y := by
  have := View.canon_append_of_piecesOf G (L.drop n) (L.take n) h y hc
  rwa [List.take_append_drop] at this

theorem inb_c5 : ∀ a, (![5, 0] : Fin 2 → ℕ) a + (![3, 3072] : Fin 2 → ℕ) a ≤ S8x3072.size a := by decide
theorem inb_c0 : ∀ a, (![0, 0] : Fin 2 → ℕ) a + (![5, 3072] : Fin 2 → ℕ) a ≤ S8x3072.size a := by decide
theorem inb_u1 : ∀ a, (![1, 0] : Fin 2 → ℕ) a + (![15, 1024] : Fin 2 → ℕ) a ≤ S16x1024.size a := by decide
theorem inb_u0 : ∀ a, (![0, 0] : Fin 2 → ℕ) a + (![1, 1024] : Fin 2 → ℕ) a ≤ S16x1024.size a := by decide

/-- The carried rows a batch's first tile starts from: zeros before the convolution's history. -/
def initC (x5 : Vec Ideal S1x3x3072 .f32) : Vec Ideal S8x3072 .f32 :=
  View.canon [⟨Rect.unit (s := S8x3072) ![5, 0] ![3, 3072] inb_c5, k0_pay3 x5⟩, ⟨Rect.unit (s := S8x3072) ![0, 0] ![5, 3072] inb_c0, k0_pay2 (F := Ideal)⟩]

/-- The same of the pooled channels. -/
def initU (x6 : Vec Ideal S1x15x1024 .f32) : Vec Ideal S16x1024 .f32 :=
  View.canon [⟨Rect.unit (s := S16x1024) ![1, 0] ![15, 1024] inb_u1, k0_pay5 x6⟩, ⟨Rect.unit (s := S16x1024) ![0, 0] ![1, 1024] inb_u0, k0_pay4 (F := Ideal)⟩]

/-- The convolution's rows a point starts from. -/
def preC (c : Dev nD) (t : Fin cfg0.N) : Vec Ideal S8x3072 .f32 :=
  if t.val % 4 = 0 then initC (iblk m c 5 t)
  else (outsAt0 m c (t.val - 1) (Nat.lt_of_le_of_lt (Nat.sub_le _ _) t.isLt)).2.2.2.2.2.1

/-- The pooled rows a point starts from. -/
def preU (c : Dev nD) (t : Fin cfg0.N) : Vec Ideal S16x1024 .f32 :=
  if t.val % 4 = 0 then initU (iblk m c 6 t)
  else (outsAt0 m c (t.val - 1) (Nat.lt_of_le_of_lt (Nat.sub_le _ _) t.isLt)).2.2.2.2.2.2

set_option maxHeartbeats 3200000 in
/-- The convolved block. -/
theorem conv_at (c : Dev nD) (t : Fin cfg0.N) (y : S512x3072.Idx) :
    (outsAt0 m c t.val t.isLt).1 y = outC (iblk m c 0 t) (iblk m c 1 t) (iblk m c 2 t) (iblk m c 3 t) (iblk m c 4 t) (preC m c t) (y 0) (y 1) := by
  by_cases h0 : t.val % 4 = 0
  · rw [preC, if_pos h0, outsAt0_A m c t h0]
    frame_open
    simp (disch := decide) only [↓ View.readCov_skip, ↓ View.readCov_cons_toLoadRect, ↓ View.readCov_fill, readCov_ld]
    frame_out
    simp only [c0, c1, c2, c3, c4]
    exact canon_last (s := S512x3072) (e := .bf16) (fun y => outC (iblk m c 0 t) (iblk m c 1 t) (iblk m c 2 t) (iblk m c 3 t) (iblk m c 4 t) (initC (iblk m c 5 t)) (y 0) (y 1)) 6 _ y
      ⟨fun x => chunk _ _ _ _ _ _ 2560 4608 rfl _ _ _ _ _ _ (e0 _ _ _ inb_S512x3072_S512x512_0_2560 x) (e1 _ _ _ inb_S512x3072_S512x512_0_2560 x), fun x => chunk _ _ _ _ _ _ 2048 4096 rfl _ _ _ _ _ _ (e0 _ _ _ inb_S512x3072_S512x512_0_2048 x) (e1 _ _ _ inb_S512x3072_S512x512_0_2048 x), fun x => chunk _ _ _ _ _ _ 1536 3584 rfl _ _ _ _ _ _ (e0 _ _ _ inb_S512x3072_S512x512_0_1536 x) (e1 _ _ _ inb_S512x3072_S512x512_0_1536 x), fun x => chunk _ _ _ _ _ _ 1024 3072 rfl _ _ _ _ _ _ (e0 _ _ _ inb_S512x3072_S512x512_0_1024 x) (e1 _ _ _ inb_S512x3072_S512x512_0_1024 x), fun x => chunk _ _ _ _ _ _ 512 2560 rfl _ _ _ _ _ _ (e0 _ _ _ inb_S512x3072_S512x512_0_512 x) (e1 _ _ _ inb_S512x3072_S512x512_0_512 x), fun x => chunk _ _ _ _ _ _ 0 2048 rfl _ _ _ _ _ _ (e0 _ _ _ inb_S512x3072_S512x512_0_0 x) (e1 _ _ _ inb_S512x3072_S512x512_0_0 x), trivial⟩ (View.cover_of_tiledL _ ![512, 512] (by sl_kernel_rfl) y)
  · rw [preC, if_neg h0, outsAt0_B m c t h0]
    frame_open
    simp (disch := decide) only [↓ View.readCov_skip, ↓ View.readCov_cons_toLoadRect, ↓ View.readCov_fill, readCov_ld]
    frame_out
    simp only [read_unread_whole, c0, c1, c2, c3, c4]
    exact canon_last (s := S512x3072) (e := .bf16) (fun y => outC (iblk m c 0 t) (iblk m c 1 t) (iblk m c 2 t) (iblk m c 3 t) (iblk m c 4 t) _ (y 0) (y 1)) 6 _ y
      ⟨fun x => chunk _ _ _ _ _ _ 2560 4608 rfl _ _ _ _ _ _ (e0 _ _ _ inb_S512x3072_S512x512_0_2560 x) (e1 _ _ _ inb_S512x3072_S512x512_0_2560 x), fun x => chunk _ _ _ _ _ _ 2048 4096 rfl _ _ _ _ _ _ (e0 _ _ _ inb_S512x3072_S512x512_0_2048 x) (e1 _ _ _ inb_S512x3072_S512x512_0_2048 x), fun x => chunk _ _ _ _ _ _ 1536 3584 rfl _ _ _ _ _ _ (e0 _ _ _ inb_S512x3072_S512x512_0_1536 x) (e1 _ _ _ inb_S512x3072_S512x512_0_1536 x), fun x => chunk _ _ _ _ _ _ 1024 3072 rfl _ _ _ _ _ _ (e0 _ _ _ inb_S512x3072_S512x512_0_1024 x) (e1 _ _ _ inb_S512x3072_S512x512_0_1024 x), fun x => chunk _ _ _ _ _ _ 512 2560 rfl _ _ _ _ _ _ (e0 _ _ _ inb_S512x3072_S512x512_0_512 x) (e1 _ _ _ inb_S512x3072_S512x512_0_512 x), fun x => chunk _ _ _ _ _ _ 0 2048 rfl _ _ _ _ _ _ (e0 _ _ _ inb_S512x3072_S512x512_0_0 x) (e1 _ _ _ inb_S512x3072_S512x512_0_0 x), trivial⟩ (View.cover_of_tiledL _ ![512, 512] (by sl_kernel_rfl) y)

/-- The tile's last eight convolved rows. -/
def carC (c : Dev nD) (t : Fin cfg0.N) : Vec Ideal S8x3072 .f32 := fun y =>
  prj (iblk m c 0 t) (iblk m c 1 t) (iblk m c 2 t) ⟨504 + (y 0).val, by have := (y 0).isLt; have h : S8x3072.size 0 = 8 := rfl; omega⟩
          ⟨2048 + (y 1).val, by have := (y 1).isLt; have h : S8x3072.size 1 = 3072 := rfl; omega⟩

set_option maxHeartbeats 3200000 in
/-- The carried rows a point leaves. -/
theorem ctail_at (c : Dev nD) (t : Fin cfg0.N) (y : S8x3072.Idx) :
    (outsAt0 m c t.val t.isLt).2.2.2.2.2.1 y = carC m c t y := by
  by_cases h0 : t.val % 4 = 0
  · rw [outsAt0_A m c t h0]
    frame_open
    simp (disch := decide) only [↓ View.readCov_skip, ↓ View.readCov_cons_toLoadRect, ↓ View.readCov_fill, readCov_ld]
    frame_out
    simp only [t0, t1, t2, t3, t4]
    exact canon_last (s := S8x3072) (e := .f32) (fun y => prj (iblk m c 0 t) (iblk m c 1 t) (iblk m c 2 t) ⟨504 + (y 0).val, by have := (y 0).isLt; have h : S8x3072.size 0 = 8 := rfl; omega⟩
          ⟨2048 + (y 1).val, by have := (y 1).isLt; have h : S8x3072.size 1 = 3072 := rfl; omega⟩) 6 _ y ⟨fun x => carry _ _ _ 2560 4608 rfl _ _ _ (e0 _ _ _ inb_S8x3072_S8x512_0_2560 x) (e1 _ _ _ inb_S8x3072_S8x512_0_2560 x), fun x => carry _ _ _ 2048 4096 rfl _ _ _ (e0 _ _ _ inb_S8x3072_S8x512_0_2048 x) (e1 _ _ _ inb_S8x3072_S8x512_0_2048 x), fun x => carry _ _ _ 1536 3584 rfl _ _ _ (e0 _ _ _ inb_S8x3072_S8x512_0_1536 x) (e1 _ _ _ inb_S8x3072_S8x512_0_1536 x), fun x => carry _ _ _ 1024 3072 rfl _ _ _ (e0 _ _ _ inb_S8x3072_S8x512_0_1024 x) (e1 _ _ _ inb_S8x3072_S8x512_0_1024 x), fun x => carry _ _ _ 512 2560 rfl _ _ _ (e0 _ _ _ inb_S8x3072_S8x512_0_512 x) (e1 _ _ _ inb_S8x3072_S8x512_0_512 x), fun x => carry _ _ _ 0 2048 rfl _ _ _ (e0 _ _ _ inb_S8x3072_S8x512_0_0 x) (e1 _ _ _ inb_S8x3072_S8x512_0_0 x), trivial⟩ (View.cover_of_tiledL _ ![8, 512] (by sl_kernel_rfl) y)
  · rw [outsAt0_B m c t h0]
    frame_open
    simp (disch := decide) only [↓ View.readCov_skip, ↓ View.readCov_cons_toLoadRect, ↓ View.readCov_fill, readCov_ld]
    frame_out
    simp only [t0, t1, t2, t3, t4]
    exact canon_last (s := S8x3072) (e := .f32) (fun y => prj (iblk m c 0 t) (iblk m c 1 t) (iblk m c 2 t) ⟨504 + (y 0).val, by have := (y 0).isLt; have h : S8x3072.size 0 = 8 := rfl; omega⟩
          ⟨2048 + (y 1).val, by have := (y 1).isLt; have h : S8x3072.size 1 = 3072 := rfl; omega⟩) 6 _ y ⟨fun x => carry _ _ _ 2560 4608 rfl _ _ _ (e0 _ _ _ inb_S8x3072_S8x512_0_2560 x) (e1 _ _ _ inb_S8x3072_S8x512_0_2560 x), fun x => carry _ _ _ 2048 4096 rfl _ _ _ (e0 _ _ _ inb_S8x3072_S8x512_0_2048 x) (e1 _ _ _ inb_S8x3072_S8x512_0_2048 x), fun x => carry _ _ _ 1536 3584 rfl _ _ _ (e0 _ _ _ inb_S8x3072_S8x512_0_1536 x) (e1 _ _ _ inb_S8x3072_S8x512_0_1536 x), fun x => carry _ _ _ 1024 3072 rfl _ _ _ (e0 _ _ _ inb_S8x3072_S8x512_0_1024 x) (e1 _ _ _ inb_S8x3072_S8x512_0_1024 x), fun x => carry _ _ _ 512 2560 rfl _ _ _ (e0 _ _ _ inb_S8x3072_S8x512_0_512 x) (e1 _ _ _ inb_S8x3072_S8x512_0_512 x), fun x => carry _ _ _ 0 2048 rfl _ _ _ (e0 _ _ _ inb_S8x3072_S8x512_0_0 x) (e1 _ _ _ inb_S8x3072_S8x512_0_0 x), trivial⟩ (View.cover_of_tiledL _ ![8, 512] (by sl_kernel_rfl) y)

set_option maxHeartbeats 3200000 in
/-- The convolution's new history: the last three rows. -/
theorem cstate_at (c : Dev nD) (t : Fin cfg0.N) (h0 : ¬ t.val % 4 = 0) :
    (outsAt0 m c t.val t.isLt).2.2.2.1 = k0_pay50 (View.ld (carC m c t) (Rect.unit (s := S8x3072) ![5, 0] ![3, 3072] inb_c5)) := by
  rw [outsAt0_B m c t h0]
  frame_open
  simp (disch := decide) only [↓ readCov_ld]
  frame_out
  simp only [t0, t1, t2, t3, t4]
  refine congrArg (fun v : Vec Ideal S8x3072 .f32 => k0_pay50 (View.ld v (Rect.unit (s := S8x3072) ![5, 0] ![3, 3072] inb_c5))) (funext fun y => ?_)
  exact canon_last (s := S8x3072) (e := .f32) (fun y => prj (iblk m c 0 t) (iblk m c 1 t) (iblk m c 2 t) ⟨504 + (y 0).val, by have := (y 0).isLt; have h : S8x3072.size 0 = 8 := rfl; omega⟩
          ⟨2048 + (y 1).val, by have := (y 1).isLt; have h : S8x3072.size 1 = 3072 := rfl; omega⟩) 6 _ y ⟨fun x => carry _ _ _ 2560 4608 rfl _ _ _ (e0 _ _ _ inb_S8x3072_S8x512_0_2560 x) (e1 _ _ _ inb_S8x3072_S8x512_0_2560 x), fun x => carry _ _ _ 2048 4096 rfl _ _ _ (e0 _ _ _ inb_S8x3072_S8x512_0_2048 x) (e1 _ _ _ inb_S8x3072_S8x512_0_2048 x), fun x => carry _ _ _ 1536 3584 rfl _ _ _ (e0 _ _ _ inb_S8x3072_S8x512_0_1536 x) (e1 _ _ _ inb_S8x3072_S8x512_0_1536 x), fun x => carry _ _ _ 1024 3072 rfl _ _ _ (e0 _ _ _ inb_S8x3072_S8x512_0_1024 x) (e1 _ _ _ inb_S8x3072_S8x512_0_1024 x), fun x => carry _ _ _ 512 2560 rfl _ _ _ (e0 _ _ _ inb_S8x3072_S8x512_0_512 x) (e1 _ _ _ inb_S8x3072_S8x512_0_512 x), fun x => carry _ _ _ 0 2048 rfl _ _ _ (e0 _ _ _ inb_S8x3072_S8x512_0_0 x) (e1 _ _ _ inb_S8x3072_S8x512_0_0 x), trivial⟩ (View.cover_of_tiledL _ ![8, 512] (by sl_kernel_rfl) y)

set_option maxHeartbeats 3200000 in
/-- Over the pooled rows. -/
theorem ptail_at (c : Dev nD) (t : Fin cfg0.N) :
    (outsAt0 m c t.val t.isLt).2.2.2.2.2.2 = k0_pay57 (k0_pay51 (k0_pay6 (iblk m c 0 t) (iblk m c 1 t)) (View.ld (iblk m c 2 t) (Rect.unit (s := S1x8224x1024) ![0, 5152, 0] ![1, 1024, 1024] inb_S1x8224x1024_S1x1024x1024_0_5152_0)) (preU m c t)) := by
  by_cases h0 : t.val % 4 = 0
  · rw [preU, if_pos h0, outsAt0_A m c t h0]
    frame_open
    simp (disch := decide) only [↓ View.readCov_skip, ↓ View.readCov_cons_toLoadRect, ↓ View.readCov_fill, readCov_ld]
    frame_out
    rfl
  · rw [preU, if_neg h0, outsAt0_B m c t h0]
    frame_open
    simp (disch := decide) only [↓ View.readCov_skip, ↓ View.readCov_cons_toLoadRect, ↓ View.readCov_fill, readCov_ld]
    frame_out
    simp only [read_unread_whole]
    rfl

set_option maxHeartbeats 3200000 in
/-- Over the pooled rows. -/
theorem pstate_at (c : Dev nD) (t : Fin cfg0.N) :
    (outsAt0 m c t.val t.isLt).2.2.2.2.1 = k0_pay58 (k0_pay51 (k0_pay6 (iblk m c 0 t) (iblk m c 1 t)) (View.ld (iblk m c 2 t) (Rect.unit (s := S1x8224x1024) ![0, 5152, 0] ![1, 1024, 1024] inb_S1x8224x1024_S1x1024x1024_0_5152_0)) (preU m c t)) := by
  by_cases h0 : t.val % 4 = 0
  · rw [preU, if_pos h0, outsAt0_A m c t h0]
    frame_open
    simp (disch := decide) only [↓ View.readCov_skip, ↓ View.readCov_cons_toLoadRect, ↓ View.readCov_fill, readCov_ld]
    frame_out
    rfl
  · rw [preU, if_neg h0, outsAt0_B m c t h0]
    frame_open
    simp (disch := decide) only [↓ View.readCov_skip, ↓ View.readCov_cons_toLoadRect, ↓ View.readCov_fill, readCov_ld]
    frame_out
    simp only [read_unread_whole]
    rfl

set_option maxHeartbeats 3200000 in
/-- Over the pooled rows. -/
theorem pooled_at (c : Dev nD) (t : Fin cfg0.N) :
    (outsAt0 m c t.val t.isLt).2.2.1 = means (k0_pay51 (k0_pay6 (iblk m c 0 t) (iblk m c 1 t)) (View.ld (iblk m c 2 t) (Rect.unit (s := S1x8224x1024) ![0, 5152, 0] ![1, 1024, 1024] inb_S1x8224x1024_S1x1024x1024_0_5152_0)) (preU m c t)) := by
  by_cases h0 : t.val % 4 = 0
  · rw [preU, if_pos h0, outsAt0_A m c t h0]
    frame_open
    simp (disch := decide) only [↓ View.readCov_skip, ↓ View.readCov_cons_toLoadRect, ↓ View.readCov_fill, readCov_ld]
    frame_out
    exact means_eq _ _ _
  · rw [preU, if_neg h0, outsAt0_B m c t h0]
    frame_open
    simp (disch := decide) only [↓ View.readCov_skip, ↓ View.readCov_cons_toLoadRect, ↓ View.readCov_fill, readCov_ld]
    frame_out
    simp only [read_unread_whole]
    exact means_eq _ _ _

set_option maxHeartbeats 3200000 in
/-- The raw steps. -/
theorem dt_at (c : Dev nD) (t : Fin cfg0.N) :
    (outsAt0 m c t.val t.isLt).2.1 = k0_pay1 k0_pay59 (k0_pay60 (k0_pay6 (iblk m c 0 t) (iblk m c 1 t)) (View.ld (iblk m c 2 t) (Rect.unit (s := S1x8224x1024) ![0, 5120, 0] ![1, 128, 1024] inb_S1x8224x1024_S1x128x1024_0_5120_0))) (Scalar.ofBits (F := Ideal) .f32 0x00000000#32) := by
  by_cases h0 : t.val % 4 = 0
  · rw [outsAt0_A m c t h0]
    frame_open
    simp (disch := decide) only [↓ View.readCov_skip, ↓ View.readCov_cons_toLoadRect, ↓ View.readCov_fill, readCov_ld]
    frame_out
    rfl
  · rw [outsAt0_B m c t h0]
    frame_open
    simp (disch := decide) only [↓ View.readCov_skip, ↓ View.readCov_cons_toLoadRect, ↓ View.readCov_fill, readCov_ld]
    frame_out
    rfl

end Cert.InprojIdeal.Proj
end
-- ==== Proof.Inproj.Arrays.lean ====
/- What the prompt's input projection leaves in its five result arrays. -/
module

public import proofs.«01_k».proof.Proof.Inproj.Points
public import proofs.«01_k».proof.Proof.Inproj.Spec

@[expose] public section

set_option maxRecDepth 16384

noncomputable section

namespace Cert.InprojIdeal.Proj

open Idealize.ShloMosaic Idealize.ShloMosaic.TcCoe Idealize.SL.Sem Cert.InprojIdeal.Gen Cert.Rows

variable (m : (ℓ : Loc nD τ sig) → Buf (Elt Ideal) ℓ) (c : Dev nD)

/-! ## The arguments and the blocks -/

def aX (q : ℕ) (k : Fin 1024) : EReal := if h : q < 17920 then (m ((c : Thread nD τ).loc main_arg0) : S17920x1024.Idx → EReal) (ix2 ⟨q, h⟩ k) else 0
def aG (k : Fin 1024) : EReal := (m ((c : Thread nD τ).loc main_arg1) : S2x1024.Idx → EReal) (ix2 1 k)
def aW (k : Fin 1024) (n : Fin 8224) : EReal := (m ((c : Thread nD τ).loc main_arg2) : S2x1024x8224.Idx → EReal) (ix3 1 k n)
def aK (a : Fin 4) (n : Fin 3072) : EReal := (m ((c : Thread nD τ).loc main_arg3) : S2x4x3072.Idx → EReal) (ix3 1 a n)
def aB (n : Fin 3072) : EReal := (m ((c : Thread nD τ).loc main_arg4) : S2x3072.Idx → EReal) (ix2 1 n)
def aC (q : ℕ) (n : Fin 3072) : EReal := if h : q < 3 then (m ((c : Thread nD τ).loc main_arg5) : S1x3x3072.Idx → EReal) (ix3 0 ⟨q, h⟩ n) else 0
def aP (q : ℕ) (n : Fin 1024) : EReal := if h : q < 15 then (m ((c : Thread nD τ).loc main_arg6) : S1x15x1024.Idx → EReal) (ix3 0 ⟨q, h⟩ n) else 0

theorem V1 : (V m c main_v1 : S2x8224x1024.Idx → EReal) = truncf (F := Ideal) .bf16 (transpose S2x8224x1024 [0, 2, 1] (m ((c : Thread nD τ).loc main_arg2)) transposes_S2x1024x8224_S2x8224x1024_0_2_1) bitsLt_bf16_f32 := by
  simp only [V, hostOps0]
  entry_read
  rfl
theorem V2 : (V m c main_v2 : S2x1x1024.Idx → EReal) = broadcastInDim S2x1x1024 ![0, 2] bcast_S2x1024_S2x1x1024_0_2 (m ((c : Thread nD τ).loc main_arg1)) := by
  simp only [V, hostOps0]
  entry_read
  rfl
theorem V3 : (V m c main_v3 : S2x1x3072.Idx → EReal) = broadcastInDim S2x1x3072 ![0, 2] bcast_S2x3072_S2x1x3072_0_2 (m ((c : Thread nD τ).loc main_arg4)) := by
  simp only [V, hostOps0]
  entry_read
  rfl
theorem V41 : (V m c main_v4_1 : S17920x128.Idx → EReal) = m ((c : Thread nD τ).loc main_arg7) := by
  simp only [V, hostOps0]
  entry_read
  rfl
theorem V42 : (V m c main_v4_2 : S17920x1024.Idx → EReal) = m ((c : Thread nD τ).loc main_arg8) := by
  simp only [V, hostOps0]
  entry_read
  rfl

/-- Which block of its array each point takes. -/
theorem widx : ∀ t : Fin cfg0.N, win0_0.index t = ![t.val, 0] ∧ win0_1.index t = ![1, 0, 0] ∧ win0_2.index t = ![1, 0, 0]
    ∧ win0_3.index t = ![1, 0, 0] ∧ win0_4.index t = ![1, 0, 0] ∧ win0_5.index t = ![0, 0, 0] ∧ win0_6.index t = ![0, 0, 0]
    ∧ win0_7.index t = ![t.val, 0] ∧ win0_8.index t = ![t.val, 0] ∧ win0_9.index t = ![t.val, 0] ∧ win0_10.index t = ![t.val / 4, 0, 0]
    ∧ win0_11.index t = ![t.val / 4, 0, 0] ∧ t.val < 32 :=
  (by decide +kernel : ∀ t : Fin grid0.N, _)

theorem b0 (t : Fin cfg0.N) (i : Fin 512) (k : Fin 1024) : iblk m c 0 t (ix2 i k) = aX m c (512 * t.val + i.val) k := by
  have ht : t.val < 32 := t.isLt
  unfold aX
  rw [dif_pos (by omega), ← V_main_arg0 m c]
  unfold iblk
  refine congrArg (V m c main_arg0) ?_
  blk_ext [widx t]

theorem b1 (t : Fin cfg0.N) (k : Fin 1024) : iblk m c 1 t (ix3 0 0 k) = aG m c k := by
  refine Eq.trans (b := (V m c main_v2 : S2x1x1024.Idx → EReal) (ix3 1 0 k)) ?_ ?_
  · unfold iblk
    refine congrArg (V m c main_v2) ?_
    blk_ext [widx t]
  · rw [V2]; unfold aG; pointwise []

theorem b2 (t : Fin cfg0.N) (n : Fin 8224) (k : Fin 1024) : iblk m c 2 t (ix3 0 n k) = aW m c k n := by
  refine Eq.trans (b := (V m c main_v1 : S2x8224x1024.Idx → EReal) (ix3 1 n k)) ?_ ?_
  · unfold iblk
    refine congrArg (V m c main_v1) ?_
    blk_ext [widx t]
  · rw [V1]; unfold aW; pointwise []

theorem b3 (t : Fin cfg0.N) (a : Fin 4) (n : Fin 3072) : iblk m c 3 t (ix3 0 a n) = aK m c a n := by
  unfold iblk aK
  rw [← V_main_arg3 m c]
  refine congrArg (V m c main_arg3) ?_
  blk_ext [widx t]

theorem b4 (t : Fin cfg0.N) (n : Fin 3072) : iblk m c 4 t (ix3 0 0 n) = aB m c n := by
  refine Eq.trans (b := (V m c main_v3 : S2x1x3072.Idx → EReal) (ix3 1 0 n)) ?_ ?_
  · unfold iblk
    refine congrArg (V m c main_v3) ?_
    blk_ext [widx t]
  · rw [V3]; unfold aB; pointwise []

theorem b5 (t : Fin cfg0.N) (q : Fin 3) (n : Fin 3072) : iblk m c 5 t (ix3 0 q n) = aC m c q.val n := by
  unfold aC
  rw [dif_pos q.isLt, ← V_main_arg5 m c]
  unfold iblk
  refine congrArg (V m c main_arg5) ?_
  blk_ext [widx t]

theorem b6 (t : Fin cfg0.N) (q : Fin 15) (n : Fin 1024) : iblk m c 6 t (ix3 0 q n) = aP m c q.val n := by
  unfold aP
  rw [dif_pos q.isLt, ← V_main_arg6 m c]
  unfold iblk
  refine congrArg (V m c main_arg6) ?_
  blk_ext [widx t]

/-! ## The points -/

/-- A tile's row, projected. -/
theorem prj_at (t : Fin cfg0.N) (i : Fin 512) (n : Fin 8224) (q : ℕ) (hq : q = 512 * t.val + i.val) :
    prj (iblk m c 0 t) (iblk m c 1 t) (iblk m c 2 t) i n = proj (aX m c q) (aG m c) (aW m c) n := by
  subst hq
  unfold prj
  simp only [b0, b1, b2]

abbrev hC := histC (aX m c) (aG m c) (aW m c) (aC m c)
abbrev hU := histU (aX m c) (aG m c) (aW m c) (aP m c)

theorem initC_at (x5 : Vec Ideal S1x3x3072 .f32) (q : Fin 3) (n : Fin 3072) : initC x5 (ix2 ⟨5 + q.val, by omega⟩ n) = x5 (ix3 0 q n) := by
  unfold initC
  refine Eq.trans ?_ ((View.canon_cons_emb (Val := Elt Ideal) (e := .f32) (Rect.unit (s := S8x3072) ![5, 0] ![3, 3072] inb_c5) (k0_pay3 x5)
    [⟨Rect.unit (s := S8x3072) ![0, 0] ![5, 3072] inb_c0, k0_pay2 (F := Ideal)⟩] (ix2 q n)).trans ?_)
  · refine congrArg _ ?_
    blk_ext [emb_0]
  · pointwise [k0_pay3]

theorem initU_at (x6 : Vec Ideal S1x15x1024 .f32) (q : Fin 15) (n : Fin 1024) : initU x6 (ix2 ⟨1 + q.val, by omega⟩ n) = x6 (ix3 0 q n) := by
  unfold initU
  refine Eq.trans ?_ ((View.canon_cons_emb (Val := Elt Ideal) (e := .f32) (Rect.unit (s := S16x1024) ![1, 0] ![15, 1024] inb_u1) (k0_pay5 x6)
    [⟨Rect.unit (s := S16x1024) ![0, 0] ![1, 1024] inb_u0, k0_pay4 (F := Ideal)⟩] (ix2 q n)).trans ?_)
  · refine congrArg _ ?_
    blk_ext [emb_0]
  · pointwise [k0_pay5]

/-- The rows before the tile's first, of the convolved channels. -/
theorem preC_at (t : Fin cfg0.N) (i : Fin 8) (hi : 5 ≤ i.val) (n : Fin 3072) :
    preC m c t (ix2 i n) = hC m c (t.val / 4) (512 * (t.val % 4) + i.val - 5) n := by
  have ht : t.val < 32 := t.isLt
  unfold preC hC histC
  by_cases h0 : t.val % 4 = 0
  · rw [if_pos h0, if_pos (by omega), h0]
    refine Eq.trans (congrArg (initC (iblk m c 5 t)) (?_ : ix2 i n = ix2 ⟨5 + (⟨i.val - 5, by omega⟩ : Fin 3).val, by simp only []; omega⟩ n))
      ((initC_at _ ⟨i.val - 5, by omega⟩ n).trans ((b5 m c t _ n).trans ?_))
    · exact congrArg (fun j : Fin 8 => ix2 j n) (Fin.ext (by simp only []; omega))
    · exact congrArg (fun j => aC m c j n) (by simp only []; omega)
  · rw [if_neg h0, if_neg (by omega)]
    refine (ctail_at m c ⟨t.val - 1, Nat.lt_of_le_of_lt (Nat.sub_le _ _) t.isLt⟩ (ix2 i n)).trans ?_
    exact prj_at m c _ _ _ _ (show _ = 512 * (t.val - 1) + (504 + i.val) by omega)

theorem extC_at (t : Fin cfg0.N) (s : ℕ) (h5 : 5 ≤ s) (hs : s < 520) (n : Fin 3072) :
    extC (iblk m c 0 t) (iblk m c 1 t) (iblk m c 2 t) (preC m c t) s n = hC m c (t.val / 4) (512 * (t.val % 4) + s - 5) n := by
  unfold extC
  by_cases h8 : s < 8
  · rw [dif_pos h8]
    exact preC_at m c t ⟨s, h8⟩ h5 n
  · rw [dif_neg h8, dif_pos (by omega)]
    unfold hC histC
    rw [if_neg (by omega)]
    exact prj_at m c _ _ _ _ (show _ = 512 * t.val + (s - 8) by omega)

theorem preU_at (t : Fin cfg0.N) (i : Fin 16) (hi : 1 ≤ i.val) (n : Fin 1024) :
    preU m c t (ix2 i n) = hU m c (t.val / 4) (512 * (t.val % 4) + i.val - 1) n := by
  have ht : t.val < 32 := t.isLt
  unfold preU hU histU
  by_cases h0 : t.val % 4 = 0
  · rw [if_pos h0, if_pos (by omega), h0]
    refine Eq.trans (congrArg (initU (iblk m c 6 t)) (?_ : ix2 i n = ix2 ⟨1 + (⟨i.val - 1, by omega⟩ : Fin 15).val, by simp only []; omega⟩ n))
      ((initU_at _ ⟨i.val - 1, by omega⟩ n).trans ((b6 m c t _ n).trans ?_))
    · exact congrArg (fun j : Fin 16 => ix2 j n) (Fin.ext (by simp only []; omega))
    · exact congrArg (fun j => aP m c j n) (by simp only []; omega)
  · rw [if_neg h0, if_neg (by omega), ptail_at m c ⟨t.val - 1, Nat.lt_of_le_of_lt (Nat.sub_le _ _) t.isLt⟩, p57, extU_eq]
    unfold extP
    rw [dif_neg (by omega), dif_pos (by omega)]
    exact prj_at m c _ _ _ _ (show _ = 512 * (t.val - 1) + (512 + i.val - 16) by omega)

theorem extP_at (t : Fin cfg0.N) (s : ℕ) (h1 : 1 ≤ s) (hs : s < 528) (n : Fin 1024) :
    extP (iblk m c 0 t) (iblk m c 1 t) (iblk m c 2 t) (preU m c t) s n = hU m c (t.val / 4) (512 * (t.val % 4) + s - 1) n := by
  unfold extP
  by_cases h8 : s < 16
  · rw [dif_pos h8]
    exact preU_at m c t ⟨s, h8⟩ h1 n
  · rw [dif_neg h8, dif_pos (by omega)]
    unfold hU histU
    rw [if_neg (by omega)]
    exact prj_at m c _ _ _ _ (show _ = 512 * t.val + (s - 16) by omega)

/-- The convolved block. -/
theorem conv_point (t : Fin cfg0.N) (i : Fin 512) (n : Fin 3072) : (outsAt0 m c t.val t.isLt).1 (ix2 i n)
    = convAt (aX m c) (aG m c) (aW m c) (aC m c) (aK m c) (aB m c) (t.val / 4) (512 * (t.val % 4) + i.val) n := by
  refine (conv_at m c t (ix2 i n)).trans ?_
  change outC (iblk m c 0 t) (iblk m c 1 t) (iblk m c 2 t) (iblk m c 3 t) (iblk m c 4 t) (preC m c t) i n = _
  unfold outC convAt
  rw [b3, b3, b3, b3, b4, extC_at m c t (i.val + 8) (by omega) (by omega), extC_at m c t (i.val + 7) (by omega) (by omega),
    extC_at m c t (i.val + 6) (by omega) (by omega), extC_at m c t (i.val + 5) (by omega) (by omega),
    show 512 * (t.val % 4) + (i.val + 8) - 5 = 512 * (t.val % 4) + i.val + 3 by omega,
    show 512 * (t.val % 4) + (i.val + 7) - 5 = 512 * (t.val % 4) + i.val + 2 by omega,
    show 512 * (t.val % 4) + (i.val + 6) - 5 = 512 * (t.val % 4) + i.val + 1 by omega,
    show 512 * (t.val % 4) + (i.val + 5) - 5 = 512 * (t.val % 4) + i.val by omega,
    mul_comm (aK m c 0 n), mul_comm (aK m c 1 n), mul_comm (aK m c 2 n), mul_comm (aK m c 3 n)]
  abel

/-- The convolution's new history. -/
theorem cstate_point (t : Fin cfg0.N) (h3 : t.val % 4 = 3) (i : Fin 3) (n : Fin 3072) :
    (outsAt0 m c t.val t.isLt).2.2.2.1 (ix3 0 i n) = hC m c (t.val / 4) (2048 + i.val) n := by
  rw [cstate_at m c t (by omega)]
  refine Eq.trans (b := carC m c t (ix2 ⟨5 + i.val, by omega⟩ n)) ?_ ?_
  · refine Eq.trans (b := View.ld (carC m c t) (Rect.unit (s := S8x3072) ![5, 0] ![3, 3072] inb_c5) (ix2 i n)) (by pointwise [k0_pay50]) ?_
    refine (View.ld_apply _ _ _).trans (congrArg (carC m c t) ?_)
    blk_ext [Rect.idx_unit_val]
  · unfold hC histC
    rw [if_neg (by omega)]
    exact prj_at m c _ _ _ _ (show _ = 512 * t.val + (504 + (5 + i.val)) by omega)

/-- The pooled channels' new history. -/
theorem pstate_point (t : Fin cfg0.N) (h3 : t.val % 4 = 3) (i : Fin 15) (n : Fin 1024) :
    (outsAt0 m c t.val t.isLt).2.2.2.2.1 (ix3 0 i n) = hU m c (t.val / 4) (2048 + i.val) n := by
  rw [pstate_at, p58, extU_eq, extP_at m c t _ (by omega) (by omega), show 512 * (t.val % 4) + (513 + i.val) - 1 = 2048 + i.val by omega]

/-- The raw steps. -/
theorem dt_point (t : Fin cfg0.N) (i : Fin 512) (l : Fin 128) :
    (outsAt0 m c t.val t.isLt).2.1 (ix2 i l) = stepAt (aX m c) (aG m c) (aW m c) (512 * t.val + i.val) l := by
  rw [dt_at, steps]
  unfold stepAt
  split
  · exact prj_at m c t i _ _ rfl
  · rfl

theorem hu_at (t : Fin cfg0.N) (q : Fin 528) (hq : 1 ≤ q.val) (n : Fin 1024) :
    k0_pay51 (k0_pay6 (iblk m c 0 t) (iblk m c 1 t))
      (View.ld (iblk m c 2 t) (Rect.unit (s := S1x8224x1024) ![0, 5152, 0] ![1, 1024, 1024] inb_S1x8224x1024_S1x1024x1024_0_5152_0)) (preU m c t) (ix2 q n)
      = hU m c (t.val / 4) (512 * (t.val % 4) + q.val - 1) n := by
  rw [p51, extU_eq, extP_at m c t q.val hq q.isLt]

theorem mean_of (t : Fin cfg0.N) (i : Fin 512) (n : Fin 1024) (w : ℕ) (hw : w ≤ 16) (r : ℝ) (hr : r = (w : ℝ)) :
    Ideal.div (∑ k ∈ Finset.range w, hU m c (t.val / 4) (512 * (t.val % 4) + (16 + i.val - k) - 1) n) ((r : ℝ) : EReal)
        - hU m c (t.val / 4) (512 * (t.val % 4) + (16 + i.val) - 1) n
      = meanAt (aX m c) (aG m c) (aW m c) (aP m c) w (t.val / 4) (512 * (t.val % 4) + i.val) n := by
  subst hr
  unfold meanAt
  refine congrArg₂ (fun a b : EReal => Ideal.div a ((w : ℝ) : EReal) - b) (Finset.sum_congr rfl fun k hk => ?_) ?_
  · have := Finset.mem_range.mp hk
    exact congrArg (fun q => hU m c (t.val / 4) q n) (by omega)
  · exact congrArg (fun q => hU m c (t.val / 4) q n) (by omega)

/-- The pooled block, by its channels' quarters. -/
theorem pooled_of (u : FVec Ideal S528x1024 .f32) (f : ℕ → Fin 1024 → EReal) (hu : ∀ (q : Fin 528), 1 ≤ q.val → ∀ n, u (ix2 q n) = f q.val n)
    (i : Fin 512) (n : Fin 1024) : means u (ix2 i n)
      = if n.val < 256 then Ideal.div (∑ k ∈ Finset.range 2, f (16 + i.val - k) n) ((2 : ℝ) : EReal) - f (16 + i.val) n
        else if n.val < 512 then Ideal.div (∑ k ∈ Finset.range 4, f (16 + i.val - k) n) ((4 : ℝ) : EReal) - f (16 + i.val) n
        else if n.val < 768 then Ideal.div (∑ k ∈ Finset.range 8, f (16 + i.val - k) n) ((8 : ℝ) : EReal) - f (16 + i.val) n
        else Ideal.div (∑ k ∈ Finset.range 16, f (16 + i.val - k) n) ((16 : ℝ) : EReal) - f (16 + i.val) n := by
  split_ifs with h2 h4 h8
  · exact means_0 u (fun q => f q n) i ⟨n.val, h2⟩ (fun q hq => hu q hq n)
  · obtain ⟨e, he⟩ : ∃ e : Fin 256, (⟨256 + e.val, by omega⟩ : Fin 1024) = n := ⟨⟨n.val - 256, by omega⟩, Fin.ext (by simp only []; omega)⟩
    rw [← he]
    exact means_1 u (fun q => f q ⟨256 + e.val, by omega⟩) i e (fun q hq => hu q hq _)
  · obtain ⟨e, he⟩ : ∃ e : Fin 256, (⟨512 + e.val, by omega⟩ : Fin 1024) = n := ⟨⟨n.val - 512, by omega⟩, Fin.ext (by simp only []; omega)⟩
    rw [← he]
    exact means_2 u (fun q => f q ⟨512 + e.val, by omega⟩) i e (fun q hq => hu q hq _)
  · obtain ⟨e, he⟩ : ∃ e : Fin 256, (⟨768 + e.val, by omega⟩ : Fin 1024) = n := ⟨⟨n.val - 768, by omega⟩, Fin.ext (by simp only []; omega)⟩
    rw [← he]
    exact means_3 u (fun q => f q ⟨768 + e.val, by omega⟩) i e (fun q hq => hu q hq _)

theorem pooled_point (t : Fin cfg0.N) (i : Fin 512) (n : Fin 1024) : (outsAt0 m c t.val t.isLt).2.2.1 (ix2 i n)
    = poolAt (aX m c) (aG m c) (aW m c) (aP m c) (t.val / 4) (512 * (t.val % 4) + i.val) n := by
  rw [pooled_at, pooled_of _ (fun q n => hU m c (t.val / 4) (512 * (t.val % 4) + q - 1) n) (hu_at m c t) i n]
  unfold poolAt
  split_ifs
  · exact mean_of m c t i n 2 (by omega) 2 (by norm_num)
  · exact mean_of m c t i n 4 (by omega) 4 (by norm_num)
  · exact mean_of m c t i n 8 (by omega) 8 (by norm_num)
  · exact mean_of m c t i n 16 (by omega) 16 (by norm_num)

/-! ## The arrays -/

/-- The convolution before its activation, every prompt row. -/
def convArr (i : S16384x3072.Idx) : EReal :=
  convAt (aX m c) (aG m c) (aW m c) (aC m c) (aK m c) (aB m c) ((i 0).val / 2048) ((i 0).val % 2048) (i 1)

/-- The raw steps: the prompt's rows computed, the rest as given. -/
def dtArr (i : S17920x128.Idx) : EReal :=
  if (i 0).val < 16384 then stepAt (aX m c) (aG m c) (aW m c) (i 0).val (i 1) else m ((c : Thread nD τ).loc main_arg7) i

/-- The pooled channels: the prompt's rows computed, the rest as given. -/
def poolArr (i : S17920x1024.Idx) : EReal :=
  if (i 0).val < 16384 then poolAt (aX m c) (aG m c) (aW m c) (aP m c) ((i 0).val / 2048) ((i 0).val % 2048) (i 1)
  else m ((c : Thread nD τ).loc main_arg8) i

/-- The last three rows of every sequence's convolved channels. -/
def cArr (i : S8x3x3072.Idx) : EReal := hC m c (i 0).val (2048 + (i 1).val) (i 2)

/-- The last fifteen rows of every sequence's pooled channels. -/
def pArr (i : S8x15x1024.Idx) : EReal := hU m c (i 0).val (2048 + (i 1).val) (i 2)

theorem conv_arr : (dats m 0 c).arrAt 7 cfg0.N = convArr m c := by
  refine (dats m 0 c).arrAt_eq_of_covers 7 _ (by decide +kernel) (fun t hf y => ?_)
  blk_simp
  rw [after0_7]
  have key : ∀ (y : S512x3072.Idx) (q : S16384x3072.Idx), (q 0).val = 512 * t.val + (y 0).val → (q 1).val = (y 1).val →
      (outsAt0 m c t.val t.isLt).1 y = convArr m c q := fun y q h0 h1 => by
    have hy : (y 0).val < 512 := (y 0).isLt
    rw [eq_ix2 y]
    refine (conv_point m c t (y 0) (y 1)).trans ?_
    unfold convArr
    rw [show (q 0).val / 2048 = t.val / 4 by omega, show (q 0).val % 2048 = 512 * (t.val % 4) + (y 0).val by omega]
    exact congrArg _ (Fin.ext h1.symm)
  exact key _ _ (by blk_simp [widx t]; try omega) (by blk_simp [widx t]; try omega)

theorem dt_cov : (dats m 0 c).arrAt 8 cfg0.N = fun i : S17920x128.Idx => if (i 0).val < 16384 then dtArr m c i else V m c main_v4_1 i := by
  refine (dats m 0 c).arrAt_eq_of_coversWhere 8 _ (fun β => β 0 < 32) (by decide +kernel) (fun t hf y => ?_)
    (fun j => by blk_simp [Pipeline.Window.cell_apply]; omega)
  blk_simp
  rw [after0_8]
  have ht : t.val < 32 := t.isLt
  have key : ∀ (y : S512x128.Idx) (q : S17920x128.Idx), (q 0).val = 512 * t.val + (y 0).val → (q 1).val = (y 1).val →
      (outsAt0 m c t.val t.isLt).2.1 y = dtArr m c q := fun y q h0 h1 => by
    have hy : (y 0).val < 512 := (y 0).isLt
    rw [eq_ix2 y]
    refine (dt_point m c t (y 0) (y 1)).trans ?_
    unfold dtArr
    rw [if_pos (by omega), h0]
    exact congrArg _ (Fin.ext h1.symm)
  exact key _ _ (by blk_simp [widx t]; try omega) (by blk_simp [widx t]; try omega)

theorem pool_cov : (dats m 0 c).arrAt 9 cfg0.N = fun i : S17920x1024.Idx => if (i 0).val < 16384 then poolArr m c i else V m c main_v4_2 i := by
  refine (dats m 0 c).arrAt_eq_of_coversWhere 9 _ (fun β => β 0 < 32) (by decide +kernel) (fun t hf y => ?_)
    (fun j => by blk_simp [Pipeline.Window.cell_apply]; omega)
  blk_simp
  rw [after0_9]
  have ht : t.val < 32 := t.isLt
  have key : ∀ (y : S512x1024.Idx) (q : S17920x1024.Idx), (q 0).val = 512 * t.val + (y 0).val → (q 1).val = (y 1).val →
      (outsAt0 m c t.val t.isLt).2.2.1 y = poolArr m c q := fun y q h0 h1 => by
    have hy : (y 0).val < 512 := (y 0).isLt
    rw [eq_ix2 y]
    refine (pooled_point m c t (y 0) (y 1)).trans ?_
    unfold poolArr
    rw [if_pos (by omega), show (q 0).val / 2048 = t.val / 4 by omega, show (q 0).val % 2048 = 512 * (t.val % 4) + (y 0).val by omega]
    exact congrArg _ (Fin.ext h1.symm)
  exact key _ _ (by blk_simp [widx t]; try omega) (by blk_simp [widx t]; try omega)

theorem dt_arr : (dats m 0 c).arrAt 8 cfg0.N = dtArr m c := by
  rw [dt_cov]
  funext i
  split
  · rfl
  · rename_i h
    rw [V41]
    unfold dtArr
    rw [if_neg h]

theorem pool_arr : (dats m 0 c).arrAt 9 cfg0.N = poolArr m c := by
  rw [pool_cov]
  funext i
  split
  · rfl
  · rename_i h
    rw [V42]
    unfold poolArr
    rw [if_neg h]

theorem c_arr : (dats m 0 c).arrAt 10 cfg0.N = cArr m c := by
  refine (dats m 0 c).arrAt_eq_of_covers 10 _ (by decide +kernel) (fun t hf y => ?_)
  blk_simp
  rw [after0_10]
  have h3 := (flush0_10 t).mp hf
  have key : ∀ (y : S1x3x3072.Idx) (q : S8x3x3072.Idx), (q 0).val = t.val / 4 → (q 1).val = (y 1).val → (q 2).val = (y 2).val →
      (outsAt0 m c t.val t.isLt).2.2.2.1 y = cArr m c q := fun y q h0 h1 h2 => by
    have e : y = ix3 0 (y 1) (y 2) := funext fun a => by
      match a with
      | ⟨0, _⟩ => exact Fin.ext (by have h : (y 0).val < 1 := (y 0).isLt; change (y 0).val = 0; omega)
      | ⟨1, _⟩ => rfl
      | ⟨2, _⟩ => rfl
    rw [e]
    refine (cstate_point m c t h3 (y 1) (y 2)).trans ?_
    unfold cArr
    rw [h0, h1]
    exact congrArg _ (Fin.ext h2.symm)
  exact key _ _ (by blk_simp [widx t]; try omega) (by blk_simp [widx t]; try omega) (by blk_simp [widx t]; try omega)

theorem p_arr : (dats m 0 c).arrAt 11 cfg0.N = pArr m c := by
  refine (dats m 0 c).arrAt_eq_of_covers 11 _ (by decide +kernel) (fun t hf y => ?_)
  blk_simp
  rw [after0_11]
  have h3 := (flush0_11 t).mp hf
  have key : ∀ (y : S1x15x1024.Idx) (q : S8x15x1024.Idx), (q 0).val = t.val / 4 → (q 1).val = (y 1).val → (q 2).val = (y 2).val →
      (outsAt0 m c t.val t.isLt).2.2.2.2.1 y = pArr m c q := fun y q h0 h1 h2 => by
    have e : y = ix3 0 (y 1) (y 2) := funext fun a => by
      match a with
      | ⟨0, _⟩ => exact Fin.ext (by have h : (y 0).val < 1 := (y 0).isLt; change (y 0).val = 0; omega)
      | ⟨1, _⟩ => rfl
      | ⟨2, _⟩ => rfl
    rw [e]
    refine (pstate_point m c t h3 (y 1) (y 2)).trans ?_
    unfold pArr
    rw [h0, h1]
    exact congrArg _ (Fin.ext h2.symm)
  exact key _ _ (by blk_simp [widx t]; try omega) (by blk_simp [widx t]; try omega) (by blk_simp [widx t]; try omega)

end Cert.InprojIdeal.Proj

end
-- ==== Proof.Inproj.Reference.lean ====
/- The reference's input projection, entry by entry. -/
module

public import proofs.«01_k».proof.Proof.Rows.Spec
public import proofs.«01_k».proof.Proof.Inproj.Spec
public import proofs.«01_k».proof.Proof.Gen.InprojReferenceIdeal.Read
public import Idealize.ShloMosaic.Lib.Pipeline.ValueKit

@[expose] public section

set_option maxRecDepth 16384

noncomputable section

namespace Cert.InprojReferenceIdeal.Proj

open Idealize.ShloMosaic Cert.InprojReferenceIdeal Cert.InprojReferenceIdeal.Read Cert.Rows

theorem zero_f32 : FloatOps.ofBits (F := Ideal) .f32 0x00000000#32 = (0 : EReal) := by simp [FloatOps.ofBits, Ideal.ofBits, Ideal.ieee]

variable (x0 : (⟨S17920x1024, .f32⟩ : BufTy).Contents (Elt Ideal)) (x1 : (⟨S2x1024, .f32⟩ : BufTy).Contents (Elt Ideal))
  (x2 : (⟨S2x1024x8224, .f32⟩ : BufTy).Contents (Elt Ideal)) (x3 : (⟨S2x4x3072, .f32⟩ : BufTy).Contents (Elt Ideal))
  (x4 : (⟨S2x3072, .f32⟩ : BufTy).Contents (Elt Ideal)) (x5 : (⟨S1x3x3072, .f32⟩ : BufTy).Contents (Elt Ideal))
  (x6 : (⟨S1x15x1024, .f32⟩ : BufTy).Contents (Elt Ideal)) (x7 : (⟨S17920x128, .f32⟩ : BufTy).Contents (Elt Ideal))
  (x8 : (⟨S17920x1024, .bf16⟩ : BufTy).Contents (Elt Ideal))

/-- The arguments at their entries. -/
def rX (q : ℕ) (k : Fin 1024) : EReal := if h : q < 17920 then x0 (ix2 ⟨q, h⟩ k) else 0
def rG (k : Fin 1024) : EReal := x1 (ix2 1 k)
def rW (k : Fin 1024) (n : Fin 8224) : EReal := x2 (ix3 1 k n)
def rK (a : Fin 4) (n : Fin 3072) : EReal := x3 (ix3 1 a n)
def rB (n : Fin 3072) : EReal := x4 (ix2 1 n)
def rC (q : ℕ) (n : Fin 3072) : EReal := if h : q < 3 then x5 (ix3 0 ⟨q, h⟩ n) else 0
def rP (q : ℕ) (n : Fin 1024) : EReal := if h : q < 15 then x6 (ix3 0 ⟨q, h⟩ n) else 0

theorem x_read (q : Fin 16384) (k : Fin 1024) : val_main_v0 (F := Ideal) x0 (ix2 q k) = rX x0 q.val k := by
  unfold rX
  rw [val_main_v0_apply, dif_pos (by omega)]
  refine congrArg x0 ?_
  blk_ext []

theorem g_read (q : Fin 16384) (k : Fin 1024) : val_main_v2 (F := Ideal) x1 (idx_main_v13 (idx_main_v14 (ix2 q k))) = rG x1 k := by
  rw [val_main_v2_apply, val_main_v1_apply]
  refine congrArg x1 ?_
  blk_ext []

theorem i4 (q : Fin 16384) (k x : Fin 1024) : idx_main_v4 (idx_main_v5 (idx_main_v11 (ix2 q k))) x = ix2 q x := by
  funext a; match a with | ⟨0, _⟩ => rfl | ⟨1, _⟩ => rfl

theorem norm_read (q : Fin 16384) (k : Fin 1024) : val_main_v15 (F := Ideal) x0 x1 (ix2 q k) = rms w1024 (rX x0 q.val) (rG x1) k := by
  unfold rms w1024 eps
  simp only [val_main_v15_apply, val_main_v14_apply, val_main_v13_apply, val_main_v12_apply, val_main_v11_apply, val_main_v10_apply,
    val_main_v9_apply, val_main_v8_apply, val_main_v7_apply, val_main_v6_apply, val_main_v5_apply, val_main_v4_apply, val_main_v3_apply,
    val_main_cst_apply, val_main_cst_0_apply, val_main_cst_1_apply, zero_f32, i4, x_read, g_read]
  pointwise [zero_add]

theorem proj_read (q : Fin 16384) (n : Fin 8224) : val_main_v18 (F := Ideal) x0 x1 x2 (ix2 q n) = proj (rX x0 q.val) (rG x1) (rW x2) n := by
  rw [val_main_v18_apply]
  unfold proj
  refine Finset.sum_congr rfl fun k _ => ?_
  refine congrArg₂ (fun a b : EReal => a * b) ?_ ?_
  · refine Eq.trans (congrArg _ ?_) (norm_read x0 x1 q k)
    funext a; match a with | ⟨0, _⟩ => rfl | ⟨1, _⟩ => rfl
  · rw [val_main_v17_apply, val_main_v16_apply]
    refine congrArg x2 ?_
    blk_ext []

theorem proj3_read (b : Fin 8) (p : Fin 2048) (n : Fin 8224) :
    val_main_v19 (F := Ideal) x0 x1 x2 (ix3 b p n) = proj (rX x0 (2048 * b.val + p.val)) (rG x1) (rW x2) n := by
  rw [val_main_v19_apply]
  refine Eq.trans (congrArg _ ?_) (proj_read x0 x1 x2 ⟨2048 * b.val + p.val, by omega⟩ n)
  blk_ext []

theorem c_read (b : Fin 8) (p : Fin 2048) (n : Fin 3072) :
    val_main_v20 (F := Ideal) x0 x1 x2 (ix3 b p n) = proj (rX x0 (2048 * b.val + p.val)) (rG x1) (rW x2) ⟨2048 + n.val, by omega⟩ := by
  rw [val_main_v20_apply, ← proj3_read]
  refine congrArg _ ?_
  blk_ext []

theorem d_read (b : Fin 8) (p : Fin 2048) (n : Fin 32) :
    val_main_v21 (F := Ideal) x0 x1 x2 (ix3 b p n) = proj (rX x0 (2048 * b.val + p.val)) (rG x1) (rW x2) ⟨5120 + n.val, by omega⟩ := by
  rw [val_main_v21_apply, ← proj3_read]
  refine congrArg _ ?_
  blk_ext []

theorem u_read (b : Fin 8) (p : Fin 2048) (n : Fin 1024) :
    val_main_v22 (F := Ideal) x0 x1 x2 (ix3 b p n) = proj (rX x0 (2048 * b.val + p.val)) (rG x1) (rW x2) ⟨5152 + n.val, by omega⟩ := by
  rw [val_main_v22_apply, ← proj3_read]
  refine congrArg _ ?_
  blk_ext []

/-- The history and the sequence, as one. -/
theorem full_read (b : Fin 8) (s : Fin 2051) (n : Fin 3072) :
    val_main_v24 (F := Ideal) x0 x1 x2 x5 (ix3 b s n) = histC (rX x0) (rG x1) (rW x2) (rC x5) b.val s.val n := by
  unfold histC
  pointwise [val_main_v24]
  split
  · rename_i h
    unfold rC
    rw [dif_pos h, val_main_v23_apply]
    refine congrArg x5 ?_
    blk_ext []
  · exact c_read x0 x1 x2 b ⟨s.val - 3, by omega⟩ n

theorem fullp_read (b : Fin 8) (s : Fin 2063) (n : Fin 1024) :
    val_main_v58 (F := Ideal) x0 x1 x2 x6 (ix3 b s n) = histU (rX x0) (rG x1) (rW x2) (rP x6) b.val s.val n := by
  unfold histU
  pointwise [val_main_v58]
  split
  · rename_i h
    unfold rP
    rw [dif_pos h, val_main_v57_apply]
    refine congrArg x6 ?_
    blk_ext []
  · exact u_read x0 x1 x2 b ⟨s.val - 15, by omega⟩ n

/-! ## The convolution -/

section
variable (b : Fin 8) (p : Fin 2048) (n : Fin 3072)

theorem s0 : val_main_v27 (F := Ideal) x0 x1 x2 x5 (ix3 b p n) = histC (rX x0) (rG x1) (rW x2) (rC x5) b.val (p.val + 0) n := by
  rw [val_main_v27_apply]
  refine Eq.trans (congrArg _ ?_) (full_read x0 x1 x2 x5 b ⟨p.val + 0, by omega⟩ n)
  blk_ext []

theorem k0 : val_main_v31 (F := Ideal) x3 (ix3 b p n) = rK x3 0 n := by
  rw [val_main_v31_apply, val_main_v30_apply, val_main_v29_apply, val_main_v28_apply]
  refine congrArg x3 ?_
  blk_ext []

theorem s1 : val_main_v36 (F := Ideal) x0 x1 x2 x5 (ix3 b p n) = histC (rX x0) (rG x1) (rW x2) (rC x5) b.val (p.val + 1) n := by
  rw [val_main_v36_apply]
  refine Eq.trans (congrArg _ ?_) (full_read x0 x1 x2 x5 b ⟨p.val + 1, by omega⟩ n)
  blk_ext []

theorem k1 : val_main_v40 (F := Ideal) x3 (ix3 b p n) = rK x3 1 n := by
  rw [val_main_v40_apply, val_main_v39_apply, val_main_v38_apply, val_main_v37_apply]
  refine congrArg x3 ?_
  blk_ext []

theorem s2 : val_main_v43 (F := Ideal) x0 x1 x2 x5 (ix3 b p n) = histC (rX x0) (rG x1) (rW x2) (rC x5) b.val (p.val + 2) n := by
  rw [val_main_v43_apply]
  refine Eq.trans (congrArg _ ?_) (full_read x0 x1 x2 x5 b ⟨p.val + 2, by omega⟩ n)
  blk_ext []

theorem k2 : val_main_v47 (F := Ideal) x3 (ix3 b p n) = rK x3 2 n := by
  rw [val_main_v47_apply, val_main_v46_apply, val_main_v45_apply, val_main_v44_apply]
  refine congrArg x3 ?_
  blk_ext []

theorem s3 : val_main_v50 (F := Ideal) x0 x1 x2 x5 (ix3 b p n) = histC (rX x0) (rG x1) (rW x2) (rC x5) b.val (p.val + 3) n := by
  rw [val_main_v50_apply]
  refine Eq.trans (congrArg _ ?_) (full_read x0 x1 x2 x5 b ⟨p.val + 3, by omega⟩ n)
  blk_ext []

theorem k3 : val_main_v54 (F := Ideal) x3 (ix3 b p n) = rK x3 3 n := by
  rw [val_main_v54_apply, val_main_v53_apply, val_main_v52_apply, val_main_v51_apply]
  refine congrArg x3 ?_
  blk_ext []

theorem bias : val_main_v34 (F := Ideal) x4 (ix3 b p n) = rB x4 n := by
  rw [val_main_v34_apply, val_main_v33_apply, val_main_v26_apply, val_main_v25_apply]
  refine congrArg x4 ?_
  blk_ext []

theorem conv_read : val_main_v56 (F := Ideal) x0 x1 x2 x3 x4 x5 (ix3 b p n)
    = convAt (rX x0) (rG x1) (rW x2) (rC x5) (rK x3) (rB x4) b.val p.val n := by
  unfold convAt
  simp only [val_main_v56_apply, val_main_v55_apply, val_main_v49_apply, val_main_v48_apply, val_main_v42_apply, val_main_v41_apply,
    val_main_v35_apply, val_main_v32_apply, s0, s1, s2, s3, k0, k1, k2, k3, bias]
  rfl

end

/-- The first result, by the row of the flat array. -/
theorem out0 (q : Fin 16384) (n : Fin 3072) : val_main_v164 (F := Ideal) x0 x1 x2 x3 x4 x5 (ix2 q n)
    = convAt (rX x0) (rG x1) (rW x2) (rC x5) (rK x3) (rB x4) (q.val / 2048) (q.val % 2048) n := by
  refine Eq.trans ?_ (conv_read x0 x1 x2 x3 x4 x5 ⟨q.val / 2048, by omega⟩ ⟨q.val % 2048, by omega⟩ n)
  refine Eq.trans (b := val_main_v163 (F := Ideal) x0 x1 x2 x3 x4 x5 (ix2 q n)) rfl ?_
  rw [val_main_v163_apply]
  refine congrArg _ ?_
  blk_ext []

/-! ## The means -/

section
variable (b : Fin 8) (p : Fin 2048) (e : Fin 256)

theorem w62 : val_main_v62 (F := Ideal) x0 x1 x2 x6 (ix3 b p e) = histU (rX x0) (rG x1) (rW x2) (rP x6) b.val (p.val + 15 - 0) ⟨0 + e.val, by omega⟩ := by
  rw [val_main_v62_apply]
  refine Eq.trans (congrArg _ ?_) (fullp_read x0 x1 x2 x6 b ⟨p.val + 15 - 0, by omega⟩ ⟨0 + e.val, by omega⟩)
  blk_ext []

theorem w65 : val_main_v65 (F := Ideal) x0 x1 x2 x6 (ix3 b p e) = histU (rX x0) (rG x1) (rW x2) (rP x6) b.val (p.val + 15 - 1) ⟨0 + e.val, by omega⟩ := by
  rw [val_main_v65_apply]
  refine Eq.trans (congrArg _ ?_) (fullp_read x0 x1 x2 x6 b ⟨p.val + 15 - 1, by omega⟩ ⟨0 + e.val, by omega⟩)
  blk_ext []

theorem w75 : val_main_v75 (F := Ideal) x0 x1 x2 x6 (ix3 b p e) = histU (rX x0) (rG x1) (rW x2) (rP x6) b.val (p.val + 15 - 0) ⟨256 + e.val, by omega⟩ := by
  rw [val_main_v75_apply]
  refine Eq.trans (congrArg _ ?_) (fullp_read x0 x1 x2 x6 b ⟨p.val + 15 - 0, by omega⟩ ⟨256 + e.val, by omega⟩)
  blk_ext []

theorem w78 : val_main_v78 (F := Ideal) x0 x1 x2 x6 (ix3 b p e) = histU (rX x0) (rG x1) (rW x2) (rP x6) b.val (p.val + 15 - 1) ⟨256 + e.val, by omega⟩ := by
  rw [val_main_v78_apply]
  refine Eq.trans (congrArg _ ?_) (fullp_read x0 x1 x2 x6 b ⟨p.val + 15 - 1, by omega⟩ ⟨256 + e.val, by omega⟩)
  blk_ext []

theorem w80 : val_main_v80 (F := Ideal) x0 x1 x2 x6 (ix3 b p e) = histU (rX x0) (rG x1) (rW x2) (rP x6) b.val (p.val + 15 - 2) ⟨256 + e.val, by omega⟩ := by
  rw [val_main_v80_apply]
  refine Eq.trans (congrArg _ ?_) (fullp_read x0 x1 x2 x6 b ⟨p.val + 15 - 2, by omega⟩ ⟨256 + e.val, by omega⟩)
  blk_ext []

theorem w82 : val_main_v82 (F := Ideal) x0 x1 x2 x6 (ix3 b p e) = histU (rX x0) (rG x1) (rW x2) (rP x6) b.val (p.val + 15 - 3) ⟨256 + e.val, by omega⟩ := by
  rw [val_main_v82_apply]
  refine Eq.trans (congrArg _ ?_) (fullp_read x0 x1 x2 x6 b ⟨p.val + 15 - 3, by omega⟩ ⟨256 + e.val, by omega⟩)
  blk_ext []

theorem w92 : val_main_v92 (F := Ideal) x0 x1 x2 x6 (ix3 b p e) = histU (rX x0) (rG x1) (rW x2) (rP x6) b.val (p.val + 15 - 0) ⟨512 + e.val, by omega⟩ := by
  rw [val_main_v92_apply]
  refine Eq.trans (congrArg _ ?_) (fullp_read x0 x1 x2 x6 b ⟨p.val + 15 - 0, by omega⟩ ⟨512 + e.val, by omega⟩)
  blk_ext []

theorem w95 : val_main_v95 (F := Ideal) x0 x1 x2 x6 (ix3 b p e) = histU (rX x0) (rG x1) (rW x2) (rP x6) b.val (p.val + 15 - 1) ⟨512 + e.val, by omega⟩ := by
  rw [val_main_v95_apply]
  refine Eq.trans (congrArg _ ?_) (fullp_read x0 x1 x2 x6 b ⟨p.val + 15 - 1, by omega⟩ ⟨512 + e.val, by omega⟩)
  blk_ext []

theorem w97 : val_main_v97 (F := Ideal) x0 x1 x2 x6 (ix3 b p e) = histU (rX x0) (rG x1) (rW x2) (rP x6) b.val (p.val + 15 - 2) ⟨512 + e.val, by omega⟩ := by
  rw [val_main_v97_apply]
  refine Eq.trans (congrArg _ ?_) (fullp_read x0 x1 x2 x6 b ⟨p.val + 15 - 2, by omega⟩ ⟨512 + e.val, by omega⟩)
  blk_ext []

theorem w99 : val_main_v99 (F := Ideal) x0 x1 x2 x6 (ix3 b p e) = histU (rX x0) (rG x1) (rW x2) (rP x6) b.val (p.val + 15 - 3) ⟨512 + e.val, by omega⟩ := by
  rw [val_main_v99_apply]
  refine Eq.trans (congrArg _ ?_) (fullp_read x0 x1 x2 x6 b ⟨p.val + 15 - 3, by omega⟩ ⟨512 + e.val, by omega⟩)
  blk_ext []

theorem w101 : val_main_v101 (F := Ideal) x0 x1 x2 x6 (ix3 b p e) = histU (rX x0) (rG x1) (rW x2) (rP x6) b.val (p.val + 15 - 4) ⟨512 + e.val, by omega⟩ := by
  rw [val_main_v101_apply]
  refine Eq.trans (congrArg _ ?_) (fullp_read x0 x1 x2 x6 b ⟨p.val + 15 - 4, by omega⟩ ⟨512 + e.val, by omega⟩)
  blk_ext []

theorem w103 : val_main_v103 (F := Ideal) x0 x1 x2 x6 (ix3 b p e) = histU (rX x0) (rG x1) (rW x2) (rP x6) b.val (p.val + 15 - 5) ⟨512 + e.val, by omega⟩ := by
  rw [val_main_v103_apply]
  refine Eq.trans (congrArg _ ?_) (fullp_read x0 x1 x2 x6 b ⟨p.val + 15 - 5, by omega⟩ ⟨512 + e.val, by omega⟩)
  blk_ext []

theorem w105 : val_main_v105 (F := Ideal) x0 x1 x2 x6 (ix3 b p e) = histU (rX x0) (rG x1) (rW x2) (rP x6) b.val (p.val + 15 - 6) ⟨512 + e.val, by omega⟩ := by
  rw [val_main_v105_apply]
  refine Eq.trans (congrArg _ ?_) (fullp_read x0 x1 x2 x6 b ⟨p.val + 15 - 6, by omega⟩ ⟨512 + e.val, by omega⟩)
  blk_ext []

theorem w107 : val_main_v107 (F := Ideal) x0 x1 x2 x6 (ix3 b p e) = histU (rX x0) (rG x1) (rW x2) (rP x6) b.val (p.val + 15 - 7) ⟨512 + e.val, by omega⟩ := by
  rw [val_main_v107_apply]
  refine Eq.trans (congrArg _ ?_) (fullp_read x0 x1 x2 x6 b ⟨p.val + 15 - 7, by omega⟩ ⟨512 + e.val, by omega⟩)
  blk_ext []

theorem w117 : val_main_v117 (F := Ideal) x0 x1 x2 x6 (ix3 b p e) = histU (rX x0) (rG x1) (rW x2) (rP x6) b.val (p.val + 15 - 0) ⟨768 + e.val, by omega⟩ := by
  rw [val_main_v117_apply]
  refine Eq.trans (congrArg _ ?_) (fullp_read x0 x1 x2 x6 b ⟨p.val + 15 - 0, by omega⟩ ⟨768 + e.val, by omega⟩)
  blk_ext []

theorem w120 : val_main_v120 (F := Ideal) x0 x1 x2 x6 (ix3 b p e) = histU (rX x0) (rG x1) (rW x2) (rP x6) b.val (p.val + 15 - 1) ⟨768 + e.val, by omega⟩ := by
  rw [val_main_v120_apply]
  refine Eq.trans (congrArg _ ?_) (fullp_read x0 x1 x2 x6 b ⟨p.val + 15 - 1, by omega⟩ ⟨768 + e.val, by omega⟩)
  blk_ext []

theorem w122 : val_main_v122 (F := Ideal) x0 x1 x2 x6 (ix3 b p e) = histU (rX x0) (rG x1) (rW x2) (rP x6) b.val (p.val + 15 - 2) ⟨768 + e.val, by omega⟩ := by
  rw [val_main_v122_apply]
  refine Eq.trans (congrArg _ ?_) (fullp_read x0 x1 x2 x6 b ⟨p.val + 15 - 2, by omega⟩ ⟨768 + e.val, by omega⟩)
  blk_ext []

theorem w124 : val_main_v124 (F := Ideal) x0 x1 x2 x6 (ix3 b p e) = histU (rX x0) (rG x1) (rW x2) (rP x6) b.val (p.val + 15 - 3) ⟨768 + e.val, by omega⟩ := by
  rw [val_main_v124_apply]
  refine Eq.trans (congrArg _ ?_) (fullp_read x0 x1 x2 x6 b ⟨p.val + 15 - 3, by omega⟩ ⟨768 + e.val, by omega⟩)
  blk_ext []

theorem w126 : val_main_v126 (F := Ideal) x0 x1 x2 x6 (ix3 b p e) = histU (rX x0) (rG x1) (rW x2) (rP x6) b.val (p.val + 15 - 4) ⟨768 + e.val, by omega⟩ := by
  rw [val_main_v126_apply]
  refine Eq.trans (congrArg _ ?_) (fullp_read x0 x1 x2 x6 b ⟨p.val + 15 - 4, by omega⟩ ⟨768 + e.val, by omega⟩)
  blk_ext []

theorem w128 : val_main_v128 (F := Ideal) x0 x1 x2 x6 (ix3 b p e) = histU (rX x0) (rG x1) (rW x2) (rP x6) b.val (p.val + 15 - 5) ⟨768 + e.val, by omega⟩ := by
  rw [val_main_v128_apply]
  refine Eq.trans (congrArg _ ?_) (fullp_read x0 x1 x2 x6 b ⟨p.val + 15 - 5, by omega⟩ ⟨768 + e.val, by omega⟩)
  blk_ext []

theorem w130 : val_main_v130 (F := Ideal) x0 x1 x2 x6 (ix3 b p e) = histU (rX x0) (rG x1) (rW x2) (rP x6) b.val (p.val + 15 - 6) ⟨768 + e.val, by omega⟩ := by
  rw [val_main_v130_apply]
  refine Eq.trans (congrArg _ ?_) (fullp_read x0 x1 x2 x6 b ⟨p.val + 15 - 6, by omega⟩ ⟨768 + e.val, by omega⟩)
  blk_ext []

theorem w132 : val_main_v132 (F := Ideal) x0 x1 x2 x6 (ix3 b p e) = histU (rX x0) (rG x1) (rW x2) (rP x6) b.val (p.val + 15 - 7) ⟨768 + e.val, by omega⟩ := by
  rw [val_main_v132_apply]
  refine Eq.trans (congrArg _ ?_) (fullp_read x0 x1 x2 x6 b ⟨p.val + 15 - 7, by omega⟩ ⟨768 + e.val, by omega⟩)
  blk_ext []

theorem w134 : val_main_v134 (F := Ideal) x0 x1 x2 x6 (ix3 b p e) = histU (rX x0) (rG x1) (rW x2) (rP x6) b.val (p.val + 15 - 8) ⟨768 + e.val, by omega⟩ := by
  rw [val_main_v134_apply]
  refine Eq.trans (congrArg _ ?_) (fullp_read x0 x1 x2 x6 b ⟨p.val + 15 - 8, by omega⟩ ⟨768 + e.val, by omega⟩)
  blk_ext []

theorem w136 : val_main_v136 (F := Ideal) x0 x1 x2 x6 (ix3 b p e) = histU (rX x0) (rG x1) (rW x2) (rP x6) b.val (p.val + 15 - 9) ⟨768 + e.val, by omega⟩ := by
  rw [val_main_v136_apply]
  refine Eq.trans (congrArg _ ?_) (fullp_read x0 x1 x2 x6 b ⟨p.val + 15 - 9, by omega⟩ ⟨768 + e.val, by omega⟩)
  blk_ext []

theorem w138 : val_main_v138 (F := Ideal) x0 x1 x2 x6 (ix3 b p e) = histU (rX x0) (rG x1) (rW x2) (rP x6) b.val (p.val + 15 - 10) ⟨768 + e.val, by omega⟩ := by
  rw [val_main_v138_apply]
  refine Eq.trans (congrArg _ ?_) (fullp_read x0 x1 x2 x6 b ⟨p.val + 15 - 10, by omega⟩ ⟨768 + e.val, by omega⟩)
  blk_ext []

theorem w140 : val_main_v140 (F := Ideal) x0 x1 x2 x6 (ix3 b p e) = histU (rX x0) (rG x1) (rW x2) (rP x6) b.val (p.val + 15 - 11) ⟨768 + e.val, by omega⟩ := by
  rw [val_main_v140_apply]
  refine Eq.trans (congrArg _ ?_) (fullp_read x0 x1 x2 x6 b ⟨p.val + 15 - 11, by omega⟩ ⟨768 + e.val, by omega⟩)
  blk_ext []

theorem w142 : val_main_v142 (F := Ideal) x0 x1 x2 x6 (ix3 b p e) = histU (rX x0) (rG x1) (rW x2) (rP x6) b.val (p.val + 15 - 12) ⟨768 + e.val, by omega⟩ := by
  rw [val_main_v142_apply]
  refine Eq.trans (congrArg _ ?_) (fullp_read x0 x1 x2 x6 b ⟨p.val + 15 - 12, by omega⟩ ⟨768 + e.val, by omega⟩)
  blk_ext []

theorem w144 : val_main_v144 (F := Ideal) x0 x1 x2 x6 (ix3 b p e) = histU (rX x0) (rG x1) (rW x2) (rP x6) b.val (p.val + 15 - 13) ⟨768 + e.val, by omega⟩ := by
  rw [val_main_v144_apply]
  refine Eq.trans (congrArg _ ?_) (fullp_read x0 x1 x2 x6 b ⟨p.val + 15 - 13, by omega⟩ ⟨768 + e.val, by omega⟩)
  blk_ext []

theorem w146 : val_main_v146 (F := Ideal) x0 x1 x2 x6 (ix3 b p e) = histU (rX x0) (rG x1) (rW x2) (rP x6) b.val (p.val + 15 - 14) ⟨768 + e.val, by omega⟩ := by
  rw [val_main_v146_apply]
  refine Eq.trans (congrArg _ ?_) (fullp_read x0 x1 x2 x6 b ⟨p.val + 15 - 14, by omega⟩ ⟨768 + e.val, by omega⟩)
  blk_ext []

theorem w148 : val_main_v148 (F := Ideal) x0 x1 x2 x6 (ix3 b p e) = histU (rX x0) (rG x1) (rW x2) (rP x6) b.val (p.val + 15 - 15) ⟨768 + e.val, by omega⟩ := by
  rw [val_main_v148_apply]
  refine Eq.trans (congrArg _ ?_) (fullp_read x0 x1 x2 x6 b ⟨p.val + 15 - 15, by omega⟩ ⟨768 + e.val, by omega⟩)
  blk_ext []

theorem n2 : val_main_v73 (F := Ideal) (ix3 b p e) = ((2 : ℕ) : ℝ) := by
  simp only [val_main_v73_apply, val_main_v72_apply, val_main_v71_apply, val_main_v70_apply, val_main_v68_apply, val_main_v61_apply,
    val_main_v60_apply, val_main_v59_apply, val_main_c_apply, val_main_v67_apply, val_main_v69_apply, val_main_c_3_apply, val_main_c_4_apply]
  refine (congrArg (FloatOps.sitofp (F := Ideal) .f32) ((by decide +kernel : ∀ q : Fin 2048,
    IntOp.minsi (IntOp.addi (IntOp.addi 16#32 (BitVec.ofNat 32 q.val)) 1#32) 2#32 = 2#32) p)).trans ?_
  change ((((2#32 : BitVec 32).toInt : ℝ)) : EReal) = _
  rw [show (2#32 : BitVec 32).toInt = 2 by decide]
  norm_num

theorem q2 : val_main_v74 (F := Ideal) x0 x1 x2 x6 (ix3 b p e)
    = Ideal.div (∑ i ∈ Finset.range 2, histU (rX x0) (rG x1) (rW x2) (rP x6) b.val (p.val + 15 - i) ⟨0 + e.val, by omega⟩) (((2 : ℕ) : ℝ) : EReal) := by
  rw [val_main_v74_apply, n2]
  refine congrArg (fun a : EReal => Ideal.div a (((2 : ℕ) : ℝ) : EReal)) ?_
  simp only [val_main_v64_apply, val_main_v66_apply, val_main_v63_apply, val_main_cst_2_apply, zero_f32,
    w62, w65, Finset.sum_range_succ, Finset.sum_range_zero]
  rfl

theorem n4 : val_main_v90 (F := Ideal) (ix3 b p e) = ((4 : ℕ) : ℝ) := by
  simp only [val_main_v90_apply, val_main_v89_apply, val_main_v88_apply, val_main_v87_apply, val_main_v85_apply, val_main_v61_apply,
    val_main_v60_apply, val_main_v59_apply, val_main_c_apply, val_main_v84_apply, val_main_v86_apply, val_main_c_6_apply, val_main_c_7_apply]
  refine (congrArg (FloatOps.sitofp (F := Ideal) .f32) ((by decide +kernel : ∀ q : Fin 2048,
    IntOp.minsi (IntOp.addi (IntOp.addi 16#32 (BitVec.ofNat 32 q.val)) 1#32) 4#32 = 4#32) p)).trans ?_
  change ((((4#32 : BitVec 32).toInt : ℝ)) : EReal) = _
  rw [show (4#32 : BitVec 32).toInt = 4 by decide]
  norm_num

theorem q4 : val_main_v91 (F := Ideal) x0 x1 x2 x6 (ix3 b p e)
    = Ideal.div (∑ i ∈ Finset.range 4, histU (rX x0) (rG x1) (rW x2) (rP x6) b.val (p.val + 15 - i) ⟨256 + e.val, by omega⟩) (((4 : ℕ) : ℝ) : EReal) := by
  rw [val_main_v91_apply, n4]
  refine congrArg (fun a : EReal => Ideal.div a (((4 : ℕ) : ℝ) : EReal)) ?_
  simp only [val_main_v77_apply, val_main_v79_apply, val_main_v81_apply, val_main_v83_apply, val_main_v76_apply, val_main_cst_5_apply, zero_f32,
    w75, w78, w80, w82, Finset.sum_range_succ, Finset.sum_range_zero]
  rfl

theorem n8 : val_main_v115 (F := Ideal) (ix3 b p e) = ((8 : ℕ) : ℝ) := by
  simp only [val_main_v115_apply, val_main_v114_apply, val_main_v113_apply, val_main_v112_apply, val_main_v110_apply, val_main_v61_apply,
    val_main_v60_apply, val_main_v59_apply, val_main_c_apply, val_main_v109_apply, val_main_v111_apply, val_main_c_9_apply, val_main_c_10_apply]
  refine (congrArg (FloatOps.sitofp (F := Ideal) .f32) ((by decide +kernel : ∀ q : Fin 2048,
    IntOp.minsi (IntOp.addi (IntOp.addi 16#32 (BitVec.ofNat 32 q.val)) 1#32) 8#32 = 8#32) p)).trans ?_
  change ((((8#32 : BitVec 32).toInt : ℝ)) : EReal) = _
  rw [show (8#32 : BitVec 32).toInt = 8 by decide]
  norm_num

theorem q8 : val_main_v116 (F := Ideal) x0 x1 x2 x6 (ix3 b p e)
    = Ideal.div (∑ i ∈ Finset.range 8, histU (rX x0) (rG x1) (rW x2) (rP x6) b.val (p.val + 15 - i) ⟨512 + e.val, by omega⟩) (((8 : ℕ) : ℝ) : EReal) := by
  rw [val_main_v116_apply, n8]
  refine congrArg (fun a : EReal => Ideal.div a (((8 : ℕ) : ℝ) : EReal)) ?_
  simp only [val_main_v94_apply, val_main_v96_apply, val_main_v98_apply, val_main_v100_apply, val_main_v102_apply, val_main_v104_apply, val_main_v106_apply, val_main_v108_apply, val_main_v93_apply, val_main_cst_8_apply, zero_f32,
    w92, w95, w97, w99, w101, w103, w105, w107, Finset.sum_range_succ, Finset.sum_range_zero]
  rfl

theorem n16 : val_main_v156 (F := Ideal) (ix3 b p e) = ((16 : ℕ) : ℝ) := by
  simp only [val_main_v156_apply, val_main_v155_apply, val_main_v154_apply, val_main_v153_apply, val_main_v151_apply, val_main_v61_apply,
    val_main_v60_apply, val_main_v59_apply, val_main_c_apply, val_main_v150_apply, val_main_v152_apply, val_main_c_12_apply, val_main_c_13_apply]
  refine (congrArg (FloatOps.sitofp (F := Ideal) .f32) ((by decide +kernel : ∀ q : Fin 2048,
    IntOp.minsi (IntOp.addi (IntOp.addi 16#32 (BitVec.ofNat 32 q.val)) 1#32) 16#32 = 16#32) p)).trans ?_
  change ((((16#32 : BitVec 32).toInt : ℝ)) : EReal) = _
  rw [show (16#32 : BitVec 32).toInt = 16 by decide]
  norm_num

theorem q16 : val_main_v157 (F := Ideal) x0 x1 x2 x6 (ix3 b p e)
    = Ideal.div (∑ i ∈ Finset.range 16, histU (rX x0) (rG x1) (rW x2) (rP x6) b.val (p.val + 15 - i) ⟨768 + e.val, by omega⟩) (((16 : ℕ) : ℝ) : EReal) := by
  rw [val_main_v157_apply, n16]
  refine congrArg (fun a : EReal => Ideal.div a (((16 : ℕ) : ℝ) : EReal)) ?_
  simp only [val_main_v119_apply, val_main_v121_apply, val_main_v123_apply, val_main_v125_apply, val_main_v127_apply, val_main_v129_apply, val_main_v131_apply, val_main_v133_apply, val_main_v135_apply, val_main_v137_apply, val_main_v139_apply, val_main_v141_apply, val_main_v143_apply, val_main_v145_apply, val_main_v147_apply, val_main_v149_apply, val_main_v118_apply, val_main_cst_11_apply, zero_f32,
    w117, w120, w122, w124, w126, w128, w130, w132, w134, w136, w138, w140, w142, w144, w146, w148, Finset.sum_range_succ, Finset.sum_range_zero]
  rfl

end

theorem quarters (b : Fin 8) (p : Fin 2048) (n : Fin 1024) : val_main_v158 (F := Ideal) x0 x1 x2 x6 (ix3 b p n)
    = if n.val < 256 then Ideal.div (∑ i ∈ Finset.range 2, histU (rX x0) (rG x1) (rW x2) (rP x6) b.val (p.val + 15 - i) n) (((2 : ℕ) : ℝ) : EReal)
      else if n.val < 512 then Ideal.div (∑ i ∈ Finset.range 4, histU (rX x0) (rG x1) (rW x2) (rP x6) b.val (p.val + 15 - i) n) (((4 : ℕ) : ℝ) : EReal)
      else if n.val < 768 then Ideal.div (∑ i ∈ Finset.range 8, histU (rX x0) (rG x1) (rW x2) (rP x6) b.val (p.val + 15 - i) n) (((8 : ℕ) : ℝ) : EReal)
      else Ideal.div (∑ i ∈ Finset.range 16, histU (rX x0) (rG x1) (rW x2) (rP x6) b.val (p.val + 15 - i) n) (((16 : ℕ) : ℝ) : EReal) := by
  by_cases h2 : n.val < 256
  · rw [if_pos h2]
    have e : ∀ h, (⟨0 + n.val, h⟩ : Fin 1024) = n := fun h => Fin.ext (Nat.zero_add _)
    refine Eq.trans ?_ ((q2 x0 x1 x2 x6 b p ⟨n.val, h2⟩).trans (by simp only [e]))
    pointwise [val_main_v158]
    split_ifs <;> first | omega | rfl
  rw [if_neg h2]
  by_cases h4 : n.val < 512
  · rw [if_pos h4]
    have e : ∀ h, (⟨256 + (n.val - 256), h⟩ : Fin 1024) = n := fun h => Fin.ext (by simp only []; omega)
    refine Eq.trans ?_ ((q4 x0 x1 x2 x6 b p ⟨n.val - 256, by omega⟩).trans (by simp only [e]))
    pointwise [val_main_v158]
    split_ifs <;> first | omega | rfl
  rw [if_neg h4]
  by_cases h8 : n.val < 768
  · rw [if_pos h8]
    have e : ∀ h, (⟨512 + (n.val - 512), h⟩ : Fin 1024) = n := fun h => Fin.ext (by simp only []; omega)
    refine Eq.trans ?_ ((q8 x0 x1 x2 x6 b p ⟨n.val - 512, by omega⟩).trans (by simp only [e]))
    pointwise [val_main_v158]
    split_ifs <;> first | omega | rfl
  rw [if_neg h8]
  have e : ∀ h, (⟨768 + (n.val - 768), h⟩ : Fin 1024) = n := fun h => Fin.ext (by simp only []; omega)
  refine Eq.trans ?_ ((q16 x0 x1 x2 x6 b p ⟨n.val - 768, by omega⟩).trans (by simp only [e]))
  pointwise [val_main_v158]
  split_ifs <;> first | omega | rfl

theorem means_read (b : Fin 8) (p : Fin 2048) (n : Fin 1024) : val_main_v159 (F := Ideal) x0 x1 x2 x6 (ix3 b p n)
    = poolAt (rX x0) (rG x1) (rW x2) (rP x6) b.val p.val n := by
  have hu : val_main_v22 (F := Ideal) x0 x1 x2 (ix3 b p n) = histU (rX x0) (rG x1) (rW x2) (rP x6) b.val (p.val + 15) n := by
    rw [u_read]
    unfold histU
    rw [if_neg (by omega), Nat.add_sub_cancel]
  rw [val_main_v159_apply, hu]
  unfold poolAt meanAt
  refine (congrArg (fun a : EReal => a - histU (rX x0) (rG x1) (rW x2) (rP x6) b.val (p.val + 15) n) (quarters x0 x1 x2 x6 b p n)).trans ?_
  split_ifs with h2 h4 h8 <;> rfl

/-! ## The other results -/

theorem steps_read (q : Fin 16384) (l : Fin 128) : val_main_v162 (F := Ideal) x0 x1 x2 (ix2 q l) = stepAt (rX x0) (rG x1) (rW x2) q.val l := by
  unfold stepAt
  pointwise [val_main_v162]
  split
  · rename_i h
    rw [val_main_v160_apply]
    refine Eq.trans (congrArg _ (?_ : _ = ix3 (⟨q.val / 2048, by omega⟩ : Fin 8) (⟨q.val % 2048, by omega⟩ : Fin 2048) (⟨l.val, h⟩ : Fin 32))) ((d_read x0 x1 x2 _ _ _).trans ?_)
    · blk_ext []
    · exact congrArg (fun a => proj (rX x0 a) (rG x1) (rW x2) ⟨5120 + l.val, by omega⟩) (by simp only []; omega)
  · rw [val_main_v161_apply, val_main_cst_14_apply, zero_f32]

theorem out1 (q : Fin 17920) (l : Fin 128) (h : q.val < 16384) :
    val_main_v166 (F := Ideal) x0 x1 x2 x7 (ix2 q l) = stepAt (rX x0) (rG x1) (rW x2) q.val l := by
  refine Eq.trans ?_ (steps_read x0 x1 x2 ⟨q.val, h⟩ l)
  pointwise [val_main_v166]
  rw [dif_pos h]

theorem out1_rest (q : Fin 17920) (l : Fin 128) (h : ¬ q.val < 16384) : val_main_v166 (F := Ideal) x0 x1 x2 x7 (ix2 q l) = x7 (ix2 q l) := by
  pointwise [val_main_v166]
  rw [dif_neg h, val_main_v165_apply]
  refine congrArg x7 ?_
  blk_ext []

theorem pool_read (q : Fin 16384) (n : Fin 1024) : val_main_v168 (F := Ideal) x0 x1 x2 x6 (ix2 q n)
    = poolAt (rX x0) (rG x1) (rW x2) (rP x6) (q.val / 2048) (q.val % 2048) n := by
  refine Eq.trans ?_ (means_read x0 x1 x2 x6 ⟨q.val / 2048, by omega⟩ ⟨q.val % 2048, by omega⟩ n)
  refine Eq.trans (b := val_main_v167 (F := Ideal) x0 x1 x2 x6 (ix2 q n)) rfl ?_
  rw [val_main_v167_apply]
  refine congrArg _ ?_
  blk_ext []

theorem out2 (q : Fin 17920) (n : Fin 1024) (h : q.val < 16384) :
    val_main_v170 (F := Ideal) x0 x1 x2 x6 x8 (ix2 q n) = poolAt (rX x0) (rG x1) (rW x2) (rP x6) (q.val / 2048) (q.val % 2048) n := by
  refine Eq.trans ?_ (pool_read x0 x1 x2 x6 ⟨q.val, h⟩ n)
  pointwise [val_main_v170]
  rw [dif_pos h]

theorem out2_rest (q : Fin 17920) (n : Fin 1024) (h : ¬ q.val < 16384) : val_main_v170 (F := Ideal) x0 x1 x2 x6 x8 (ix2 q n) = x8 (ix2 q n) := by
  pointwise [val_main_v170]
  rw [dif_neg h, val_main_v169_apply]
  refine congrArg x8 ?_
  blk_ext []

theorem out3 (b : Fin 8) (i : Fin 3) (n : Fin 3072) : val_main_v171 (F := Ideal) x0 x1 x2 x5 (ix3 b i n)
    = histC (rX x0) (rG x1) (rW x2) (rC x5) b.val (2048 + i.val) n := by
  rw [val_main_v171_apply]
  refine Eq.trans (congrArg _ ?_) (full_read x0 x1 x2 x5 b ⟨2048 + i.val, by omega⟩ n)
  blk_ext []

theorem out4 (b : Fin 8) (i : Fin 15) (n : Fin 1024) : val_main_v172 (F := Ideal) x0 x1 x2 x6 (ix3 b i n)
    = histU (rX x0) (rG x1) (rW x2) (rP x6) b.val (2048 + i.val) n := by
  rw [val_main_v172_apply]
  refine Eq.trans (congrArg _ ?_) (fullp_read x0 x1 x2 x6 b ⟨2048 + i.val, by omega⟩ n)
  blk_ext []

end Cert.InprojReferenceIdeal.Proj

end
-- ==== Proof.Inproj.Claims.lean ====
/- The claims about the input projection: both programs run, and end with the same five arrays. -/
module

public import proofs.«01_k».proof.Defs
public import proofs.«01_k».proof.Proof.Inproj.Arrays
public import proofs.«01_k».proof.Proof.Inproj.Reference
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.InprojReferenceIdeal
public import proofs.«01_k».proof.Proof.Gen.InprojReferenceIdeal.Run
public import proofs.«01_k».proof.Proof.Gen.InprojReferenceIdeal.Read
public import Idealize.ShloMosaic.Adequacy

@[expose] public section

set_option maxRecDepth 16384

noncomputable section

namespace Cert.Proof.Inproj

open Idealize.ShloMosaic Idealize.SL.Sem

theorem frame_p : Cert.quiescent_Inproj := fun m ρ _ => Cert.Inproj.Gen.frame m ρ

theorem frame_pi : Cert.quiescent_InprojIdeal := fun m ρ _ => Cert.InprojIdeal.Gen.frame m ρ

theorem frame_ri : Cert.quiescent_InprojReferenceIdeal := fun m ρ _ =>
  (θ_run Cert.InprojReferenceIdeal.defs _ _).mono (fun r h => ⟨fun c => (h c).2.2.2.2.2,
      Idealize.ShloMosaic.sem_eq_zero_of_no_sems (by decide) r.2⟩)
    (Cert.InprojReferenceIdeal.Value.run (F := Ideal) m ρ)

theorem preserves : Cert.preserves_Inproj_InprojIdeal := trivial

theorem algebraic : Cert.algebraic_InprojIdeal_InprojReferenceIdeal := by
  intro m ρ m' ρ' hpre hagree
  refine ⟨_, _, _, _, _, (θ_run Cert.InprojIdeal.defs _ _).mono (fun _ h c => ⟨(h c).1.trans (Cert.InprojIdeal.Proj.conv_arr m c), (h c).2.1.trans (Cert.InprojIdeal.Proj.dt_arr m c),
      (h c).2.2.1.trans (Cert.InprojIdeal.Proj.pool_arr m c), (h c).2.2.2.1.trans (Cert.InprojIdeal.Proj.c_arr m c), (h c).2.2.2.2.1.trans (Cert.InprojIdeal.Proj.p_arr m c), (h c).2.2.2.2.2⟩)
    (Cert.InprojIdeal.Value.run_blocks (F := Ideal) m ρ), ?_⟩
  refine (θ_run Cert.InprojReferenceIdeal.defs _ _).mono (fun _ h c => ⟨(h c).1.trans ?_, (h c).2.1.trans ?_, (h c).2.2.1.trans ?_, (h c).2.2.2.1.trans ?_, (h c).2.2.2.2.1.trans ?_, (h c).2.2.2.2.2⟩)
    (Cert.InprojReferenceIdeal.Value.run (F := Ideal) m' ρ')
  · refine (Cert.InprojReferenceIdeal.Read.val_main_v164_eq (StableHlo.launchContents m' c)).trans ?_
    change Cert.InprojReferenceIdeal.Read.val_main_v164 (F := Ideal) (m' ((c.tc : Thread Cert.InprojReferenceIdeal.nD Cert.InprojReferenceIdeal.τ).loc Cert.InprojReferenceIdeal.main_arg0)) (m' ((c.tc : Thread Cert.InprojReferenceIdeal.nD Cert.InprojReferenceIdeal.τ).loc Cert.InprojReferenceIdeal.main_arg1)) (m' ((c.tc : Thread Cert.InprojReferenceIdeal.nD Cert.InprojReferenceIdeal.τ).loc Cert.InprojReferenceIdeal.main_arg2)) (m' ((c.tc : Thread Cert.InprojReferenceIdeal.nD Cert.InprojReferenceIdeal.τ).loc Cert.InprojReferenceIdeal.main_arg3)) (m' ((c.tc : Thread Cert.InprojReferenceIdeal.nD Cert.InprojReferenceIdeal.τ).loc Cert.InprojReferenceIdeal.main_arg4)) (m' ((c.tc : Thread Cert.InprojReferenceIdeal.nD Cert.InprojReferenceIdeal.τ).loc Cert.InprojReferenceIdeal.main_arg5)) = _
    rw [(hagree c).1, (hagree c).2.1, (hagree c).2.2.1, (hagree c).2.2.2.1, (hagree c).2.2.2.2.1, (hagree c).2.2.2.2.2.1]
    funext i
    rw [eq_ix2 i]
    exact Cert.InprojReferenceIdeal.Proj.out0 _ _ _ _ _ _ (i 0) (i 1)
  · refine (Cert.InprojReferenceIdeal.Read.val_main_v166_eq (StableHlo.launchContents m' c)).trans ?_
    change Cert.InprojReferenceIdeal.Read.val_main_v166 (F := Ideal) (m' ((c.tc : Thread Cert.InprojReferenceIdeal.nD Cert.InprojReferenceIdeal.τ).loc Cert.InprojReferenceIdeal.main_arg0)) (m' ((c.tc : Thread Cert.InprojReferenceIdeal.nD Cert.InprojReferenceIdeal.τ).loc Cert.InprojReferenceIdeal.main_arg1)) (m' ((c.tc : Thread Cert.InprojReferenceIdeal.nD Cert.InprojReferenceIdeal.τ).loc Cert.InprojReferenceIdeal.main_arg2)) (m' ((c.tc : Thread Cert.InprojReferenceIdeal.nD Cert.InprojReferenceIdeal.τ).loc Cert.InprojReferenceIdeal.main_arg7)) = _
    rw [(hagree c).1, (hagree c).2.1, (hagree c).2.2.1, (hagree c).2.2.2.2.2.2.2.1]
    funext i
    rw [eq_ix2 i]
    by_cases h : (i 0).val < 16384
    · exact (Cert.InprojReferenceIdeal.Proj.out1 _ _ _ _ (i 0) (i 1) h).trans (if_pos h).symm
    · exact (Cert.InprojReferenceIdeal.Proj.out1_rest _ _ _ _ (i 0) (i 1) h).trans (if_neg h).symm
  · refine (Cert.InprojReferenceIdeal.Read.val_main_v170_eq (StableHlo.launchContents m' c)).trans ?_
    change Cert.InprojReferenceIdeal.Read.val_main_v170 (F := Ideal) (m' ((c.tc : Thread Cert.InprojReferenceIdeal.nD Cert.InprojReferenceIdeal.τ).loc Cert.InprojReferenceIdeal.main_arg0)) (m' ((c.tc : Thread Cert.InprojReferenceIdeal.nD Cert.InprojReferenceIdeal.τ).loc Cert.InprojReferenceIdeal.main_arg1)) (m' ((c.tc : Thread Cert.InprojReferenceIdeal.nD Cert.InprojReferenceIdeal.τ).loc Cert.InprojReferenceIdeal.main_arg2)) (m' ((c.tc : Thread Cert.InprojReferenceIdeal.nD Cert.InprojReferenceIdeal.τ).loc Cert.InprojReferenceIdeal.main_arg6)) (m' ((c.tc : Thread Cert.InprojReferenceIdeal.nD Cert.InprojReferenceIdeal.τ).loc Cert.InprojReferenceIdeal.main_arg8)) = _
    rw [(hagree c).1, (hagree c).2.1, (hagree c).2.2.1, (hagree c).2.2.2.2.2.2.1, (hagree c).2.2.2.2.2.2.2.2]
    funext i
    rw [eq_ix2 i]
    by_cases h : (i 0).val < 16384
    · exact (Cert.InprojReferenceIdeal.Proj.out2 _ _ _ _ _ (i 0) (i 1) h).trans (if_pos h).symm
    · exact (Cert.InprojReferenceIdeal.Proj.out2_rest _ _ _ _ _ (i 0) (i 1) h).trans (if_neg h).symm
  · refine (Cert.InprojReferenceIdeal.Read.val_main_v171_eq (StableHlo.launchContents m' c)).trans ?_
    change Cert.InprojReferenceIdeal.Read.val_main_v171 (F := Ideal) (m' ((c.tc : Thread Cert.InprojReferenceIdeal.nD Cert.InprojReferenceIdeal.τ).loc Cert.InprojReferenceIdeal.main_arg0)) (m' ((c.tc : Thread Cert.InprojReferenceIdeal.nD Cert.InprojReferenceIdeal.τ).loc Cert.InprojReferenceIdeal.main_arg1)) (m' ((c.tc : Thread Cert.InprojReferenceIdeal.nD Cert.InprojReferenceIdeal.τ).loc Cert.InprojReferenceIdeal.main_arg2)) (m' ((c.tc : Thread Cert.InprojReferenceIdeal.nD Cert.InprojReferenceIdeal.τ).loc Cert.InprojReferenceIdeal.main_arg5)) = _
    rw [(hagree c).1, (hagree c).2.1, (hagree c).2.2.1, (hagree c).2.2.2.2.2.1]
    funext i
    rw [eq_ix3 i]
    exact Cert.InprojReferenceIdeal.Proj.out3 _ _ _ _ (i 0) (i 1) (i 2)
  · refine (Cert.InprojReferenceIdeal.Read.val_main_v172_eq (StableHlo.launchContents m' c)).trans ?_
    change Cert.InprojReferenceIdeal.Read.val_main_v172 (F := Ideal) (m' ((c.tc : Thread Cert.InprojReferenceIdeal.nD Cert.InprojReferenceIdeal.τ).loc Cert.InprojReferenceIdeal.main_arg0)) (m' ((c.tc : Thread Cert.InprojReferenceIdeal.nD Cert.InprojReferenceIdeal.τ).loc Cert.InprojReferenceIdeal.main_arg1)) (m' ((c.tc : Thread Cert.InprojReferenceIdeal.nD Cert.InprojReferenceIdeal.τ).loc Cert.InprojReferenceIdeal.main_arg2)) (m' ((c.tc : Thread Cert.InprojReferenceIdeal.nD Cert.InprojReferenceIdeal.τ).loc Cert.InprojReferenceIdeal.main_arg6)) = _
    rw [(hagree c).1, (hagree c).2.1, (hagree c).2.2.1, (hagree c).2.2.2.2.2.2.1]
    funext i
    rw [eq_ix3 i]
    exact Cert.InprojReferenceIdeal.Proj.out4 _ _ _ _ (i 0) (i 1) (i 2)

end Cert.Proof.Inproj

end
-- ==== Proof.Seq.Kernel.lean ====
/- The carried rows of the sample batch's kernel at their indices: the payloads of its two state results. -/
module

public import proofs.«01_k».proof.Proof.Gen.SeqIdeal.Skeleton
public import Idealize.ShloMosaic.Lib.Pipeline.ValueKit

@[expose] public section

set_option maxRecDepth 16384

noncomputable section

namespace Cert.SeqIdeal.Carry

open Idealize.ShloMosaic Idealize.ShloMosaic.TcCoe Idealize.SL.Sem Cert.SeqIdeal.Gen

variable (x0 : Vec Ideal S32x3072 .bf16) (x1 : Vec Ideal S32x1024 .bf16) (x11 : Vec Ideal S1x4x15x1024 .f32)

/-- The block's rows, by their numbers. -/
def xr (q : ℕ) (n : Fin 3072) : EReal := if h : q < 32 then x0 (ix2 ⟨q, h⟩ n) else 0
def ur (q : ℕ) (n : Fin 1024) : EReal := if h : q < 32 then x1 (ix2 ⟨q, h⟩ n) else 0
def pr (s r : ℕ) (n : Fin 1024) : EReal := if h : s < 4 ∧ r < 15 then x11 (ix4 0 ⟨s, h.1⟩ ⟨r, h.2⟩ n) else 0

/-- The convolution's new history: each sequence's last three rows. -/
def newC (y : S1x4x3x3072.Idx) : EReal := xr x0 (8 * (y 1).val + 5 + (y 2).val) (y 3)

/-- Each sequence's pooled rows behind its history. -/
def extS (y : S4x24x1024.Idx) : EReal :=
  if (y 1).val = 0 then 0 else if (y 1).val < 16 then pr x11 (y 0).val ((y 1).val - 1) (y 2) else ur x1 (8 * (y 0).val + (y 1).val - 16) (y 2)

/-- The pooled channels' new history: each sequence's last fifteen rows. -/
def newP (y : S1x4x15x1024.Idx) : EReal := extS x1 x11 (ix3 (y 1) ⟨9 + (y 2).val, by have h : (y 2).val < 15 := (y 2).isLt; omega⟩ (y 3))

theorem c12 (v : FVec Ideal S8x3072 .f32) (i : Fin 3) (n : Fin 3072) : k0_pay12 v (k0_pay9 x0) (ix4 0 0 i n) = x0 (ix2 ⟨5 + i.val, by omega⟩ n) := by
  pointwise [k0_pay12, k0_pay10, k0_pay9, k0_pay6]
  rw [dif_neg (by omega)]
  refine congrArg x0 ?_
  blk_ext []
theorem c17 (v : Vec Ideal S1x8x3072 .f32) (i : Fin 3) (n : Fin 3072) : k0_pay17 (k0_pay13 (k0_pay6 x0) v) (ix4 0 0 i n) = x0 (ix2 ⟨13 + i.val, by omega⟩ n) := by
  pointwise [k0_pay17, k0_pay13, k0_pay6]
  rw [dif_neg (by omega)]
  refine congrArg x0 ?_
  blk_ext []
theorem c25 (v : Vec Ideal S1x8x3072 .f32) (i : Fin 3) (n : Fin 3072) : k0_pay25 (k0_pay18 (k0_pay6 x0) v) (ix4 0 0 i n) = x0 (ix2 ⟨21 + i.val, by omega⟩ n) := by
  pointwise [k0_pay25, k0_pay18, k0_pay6]
  rw [dif_neg (by omega)]
  refine congrArg x0 ?_
  blk_ext []
theorem c31 (v : Vec Ideal S1x8x3072 .f32) (i : Fin 3) (n : Fin 3072) : k0_pay31 (k0_pay26 (k0_pay6 x0) v) (ix4 0 0 i n) = x0 (ix2 ⟨29 + i.val, by omega⟩ n) := by
  pointwise [k0_pay31, k0_pay26, k0_pay6]
  rw [dif_neg (by omega)]
  refine congrArg x0 ?_
  blk_ext []

theorem newC_of (s o : ℕ) (ho : o = 8 * s + 5) (hs : s < 4) (p : Vec Ideal S1x1x3x3072 .f32)
    (hp : ∀ (i : Fin 3) (n : Fin 3072), p (ix4 0 0 i n) = x0 (ix2 ⟨o + i.val, by omega⟩ n)) (x : S1x1x3x3072.Idx) (y : S1x4x3x3072.Idx)
    (h1 : (y 1).val = s + (x 1).val) (h2 : (y 2).val = 0 + (x 2).val) (h3 : (y 3).val = 0 + (x 3).val) : p x = newC x0 y := by
  have e : x = ix4 0 0 (x 2) (x 3) := funext fun a => by
    match a with
    | ⟨0, _⟩ => exact Fin.ext (by have h : (x 0).val < 1 := (x 0).isLt; change (x 0).val = 0; omega)
    | ⟨1, _⟩ => exact Fin.ext (by have h : (x 1).val < 1 := (x 1).isLt; change (x 1).val = 0; omega)
    | ⟨2, _⟩ => rfl
    | ⟨3, _⟩ => rfl
  have k1 : (x 1).val < 1 := (x 1).isLt
  have k2 : (x 2).val < 3 := (x 2).isLt
  rw [e]
  refine (hp (x 2) (x 3)).trans ?_
  unfold newC xr
  rw [dif_pos (by omega)]
  refine congrArg x0 ?_
  exact congrArg₂ ix2 (Fin.ext (by simp only []; omega)) (Fin.ext (by omega))

theorem p271 (w : Vec Ideal S1x24x1024 .f32) (i : Fin 15) (n : Fin 1024) : k0_pay271 (k0_pay267 w) (ix4 0 0 i n) = w (ix3 0 ⟨9 + i.val, by omega⟩ n) := by
  pointwise [k0_pay271, k0_pay267]
theorem p281 (w : Vec Ideal S1x24x1024 .f32) (i : Fin 15) (n : Fin 1024) : k0_pay281 (k0_pay274 w) (ix4 0 0 i n) = w (ix3 0 ⟨9 + i.val, by omega⟩ n) := by
  pointwise [k0_pay281, k0_pay274]
theorem p290 (w : Vec Ideal S1x24x1024 .f32) (i : Fin 15) (n : Fin 1024) : k0_pay290 (k0_pay283 w) (ix4 0 0 i n) = w (ix3 0 ⟨9 + i.val, by omega⟩ n) := by
  pointwise [k0_pay290, k0_pay283]
theorem p296 (w : Vec Ideal S1x24x1024 .f32) (i : Fin 15) (n : Fin 1024) : k0_pay296 (k0_pay292 w) (ix4 0 0 i n) = w (ix3 0 ⟨9 + i.val, by omega⟩ n) := by
  pointwise [k0_pay296, k0_pay292]

theorem u266 (i : Fin 8) (n : Fin 1024) : k0_pay266 (k0_pay7 x1) (ix3 0 i n) = x1 (ix2 ⟨0 + i.val, by omega⟩ n) := by
  pointwise [k0_pay266, k0_pay7]
  try (refine congrArg x1 ?_; blk_ext [])
theorem u273 (i : Fin 8) (n : Fin 1024) : k0_pay273 (k0_pay272 (k0_pay7 x1)) (ix3 0 i n) = x1 (ix2 ⟨8 + i.val, by omega⟩ n) := by
  pointwise [k0_pay273, k0_pay272, k0_pay7]
theorem u282 (i : Fin 8) (n : Fin 1024) : k0_pay282 (k0_pay7 x1) (ix3 0 i n) = x1 (ix2 ⟨16 + i.val, by omega⟩ n) := by
  pointwise [k0_pay282, k0_pay7]
theorem u291 (i : Fin 8) (n : Fin 1024) : k0_pay291 (k0_pay7 x1) (ix3 0 i n) = x1 (ix2 ⟨24 + i.val, by omega⟩ n) := by
  pointwise [k0_pay291, k0_pay7]

theorem zero_f32 : FloatOps.ofBits (F := Ideal) .f32 0x00000000#32 = (0 : EReal) := by simp [FloatOps.ofBits, Ideal.ofBits, Ideal.ieee]

theorem z_of (x : S4x1x1024.Idx) (y : S4x24x1024.Idx) (h1 : (y 1).val = 0 + (x 1).val) : k0_pay4 (F := Ideal) x = extS x1 x11 y := by
  have k1 : (x 1).val < 1 := (x 1).isLt
  unfold extS
  rw [if_pos (by omega), eq_ix3 x]
  pointwise [k0_pay4]
  try exact zero_f32

theorem h_of (x : S4x15x1024.Idx) (y : S4x24x1024.Idx) (h0 : (y 0).val = 0 + (x 0).val) (h1 : (y 1).val = 1 + (x 1).val) (h2 : (y 2).val = 0 + (x 2).val) :
    k0_pay5 x11 x = extS x1 x11 y := by
  have k0 : (x 0).val < 4 := (x 0).isLt
  have k1 : (x 1).val < 15 := (x 1).isLt
  unfold extS pr
  rw [if_neg (by omega), if_pos (by omega), dif_pos ⟨by omega, by omega⟩]
  refine Eq.trans (b := x11 (ix4 0 (x 0) (x 1) (x 2))) ((congrArg (k0_pay5 x11) (eq_ix3 x)).trans (by pointwise [k0_pay5])) (congrArg x11 ?_)
  funext a
  match a with
  | ⟨0, _⟩ => rfl
  | ⟨1, _⟩ => exact Fin.ext (by change (x 0).val = (y 0).val; omega)
  | ⟨2, _⟩ => exact Fin.ext (by change (x 1).val = (y 1).val - 1; omega)
  | ⟨3, _⟩ => exact Fin.ext (by change (x 2).val = (y 2).val; omega)

theorem u_of (s o : ℕ) (ho : o = 8 * s) (hs : s < 4) (p : Vec Ideal S1x8x1024 .f32)
    (hp : ∀ (i : Fin 8) (n : Fin 1024), p (ix3 0 i n) = x1 (ix2 ⟨o + i.val, by omega⟩ n)) (x : S1x8x1024.Idx) (y : S4x24x1024.Idx)
    (h0 : (y 0).val = s + (x 0).val) (h1 : (y 1).val = 16 + (x 1).val) (h2 : (y 2).val = 0 + (x 2).val) : p x = extS x1 x11 y := by
  have e : x = ix3 0 (x 1) (x 2) := funext fun a => by
    match a with
    | ⟨0, _⟩ => exact Fin.ext (by have h : (x 0).val < 1 := (x 0).isLt; change (x 0).val = 0; omega)
    | ⟨1, _⟩ => rfl
    | ⟨2, _⟩ => rfl
  have k0 : (x 0).val < 1 := (x 0).isLt
  have k1 : (x 1).val < 8 := (x 1).isLt
  rw [e]
  refine (hp (x 1) (x 2)).trans ?_
  unfold extS ur
  rw [if_neg (by omega), if_neg (by omega), dif_pos (by omega)]
  exact congrArg x1 (congrArg₂ ix2 (Fin.ext (by simp only []; omega)) (Fin.ext (by omega)))

theorem newP_of (s : ℕ) (hs : s < 4) (p : Vec Ideal S1x1x15x1024 .f32) (w : Vec Ideal S1x24x1024 .f32)
    (hp : ∀ (i : Fin 15) (n : Fin 1024), p (ix4 0 0 i n) = w (ix3 0 ⟨9 + i.val, by omega⟩ n))
    (hw : ∀ (r : Fin 24) (n : Fin 1024), w (ix3 0 r n) = extS x1 x11 (ix3 ⟨s, hs⟩ r n)) (x : S1x1x15x1024.Idx) (y : S1x4x15x1024.Idx)
    (h1 : (y 1).val = s + (x 1).val) (h2 : (y 2).val = 0 + (x 2).val) (h3 : (y 3).val = 0 + (x 3).val) : p x = newP x1 x11 y := by
  have e : x = ix4 0 0 (x 2) (x 3) := funext fun a => by
    match a with
    | ⟨0, _⟩ => exact Fin.ext (by have h : (x 0).val < 1 := (x 0).isLt; change (x 0).val = 0; omega)
    | ⟨1, _⟩ => exact Fin.ext (by have h : (x 1).val < 1 := (x 1).isLt; change (x 1).val = 0; omega)
    | ⟨2, _⟩ => rfl
    | ⟨3, _⟩ => rfl
  have k1 : (x 1).val < 1 := (x 1).isLt
  have k2 : (x 2).val < 15 := (x 2).isLt
  rw [e]
  refine ((hp (x 2) (x 3)).trans (hw _ _)).trans ?_
  unfold newP
  refine congrArg (extS x1 x11) ?_
  funext a
  match a with
  | ⟨0, _⟩ => exact Fin.ext (by change s = (y 1).val; omega)
  | ⟨1, _⟩ => exact Fin.ext (by change 9 + (x 2).val = 9 + (y 2).val; omega)
  | ⟨2, _⟩ => exact Fin.ext (by change (x 3).val = (y 3).val; omega)

end Cert.SeqIdeal.Carry

end
-- ==== Proof.Seq.Scratch.lean ====
/- The pooled rows in the scratch: each sequence's history and its new rows, read back. -/
module

public import proofs.«01_k».proof.Proof.Seq.Kernel
public import Idealize.ShloMosaic.Lib.Pipeline.ValueKit
public import Idealize.ShloMosaic.Lib.Pipeline.ReadBack

@[expose] public section

set_option maxRecDepth 16384

noncomputable section

namespace Cert.SeqIdeal.Carry

open Idealize.ShloMosaic Idealize.ShloMosaic.TcCoe Idealize.SL.Sem Cert.SeqIdeal.Gen
open Idealize.ShloMosaic.Pipeline (Dat)

theorem emb_0 {s : Shape} (lo sz : Fin s.rank → ℕ) (inb) (x : (Rect.unit (s := s) lo sz inb).shape.Idx) (a : Fin s.rank) :
    ((Rect.unit (s := s) lo sz inb).emb x a).val = lo a + (x a).val := Rect.idx_unit_val lo sz inb x a

theorem readCov_ld {sig : RefSig} {κ : Kind} {sp : Space} {s : Shape} {e : EltTy} (v : View sig κ sp s e) (L : List (View.Piece (Elt Ideal) s e)) (r : Rect s) :
    v.readCov L r.toLoadRect = View.ld (View.canon L) r := View.readCov_eq_canon' v L _

/-- Where the last `n` stores are blocks of `G` and one of them covers an index, `G` is what is read there. -/
theorem canon_last {s : Shape} {e : EltTy} (G : Vec Ideal s e) (n : ℕ) (L : List (View.Piece (Elt Ideal) s e)) (y : s.Idx)
    (h : View.PiecesOf G (L.take n)) (hc : ∃ p ∈ L.take n, y ∈ p.1.set) : View.canon L y = G y := by
  have := View.canon_append_of_piecesOf G (L.drop n) (L.take n) h y hc
  rwa [List.take_append_drop] at this

section
variable (x1 : Vec Ideal S32x1024 .bf16) (x11 : Vec Ideal S1x4x15x1024 .f32)

/-- The scratch after the stores of the first 1 sequences. -/
abbrev scr0 : List (View.Piece (Elt Ideal) S4x24x1024 .f32) :=
   [⟨Rect.unit (s := S4x24x1024) ![0, 16, 0] ![1, 8, 1024] inb_S4x24x1024_S1x8x1024_0_16_0, k0_pay266 (k0_pay7 x1)⟩,
    ⟨Rect.unit (s := S4x24x1024) ![0, 1, 0] ![4, 15, 1024] inb_S4x24x1024_S4x15x1024_0_1_0, k0_pay5 x11⟩,
    ⟨Rect.unit (s := S4x24x1024) ![0, 0, 0] ![4, 1, 1024] inb_S4x24x1024_S4x1x1024_0_0_0, k0_pay4 (F := Ideal)⟩]

theorem scr0_of : View.PiecesOf (extS x1 x11) (scr0 x1 x11) :=
  ⟨fun x => u_of x1 x11 0 0 rfl (by decide) _ (u266 x1) x _ (emb_0 _ _ inb_S4x24x1024_S1x8x1024_0_16_0 x 0) (emb_0 _ _ inb_S4x24x1024_S1x8x1024_0_16_0 x 1) (emb_0 _ _ inb_S4x24x1024_S1x8x1024_0_16_0 x 2),
   fun x => h_of x1 x11 x _ (emb_0 _ _ inb_S4x24x1024_S4x15x1024_0_1_0 x 0) (emb_0 _ _ inb_S4x24x1024_S4x15x1024_0_1_0 x 1) (emb_0 _ _ inb_S4x24x1024_S4x15x1024_0_1_0 x 2),
   fun x => z_of x1 x11 x _ (emb_0 _ _ inb_S4x24x1024_S4x1x1024_0_0_0 x 1), trivial⟩

theorem scr0_read (r : Fin 24) (n : Fin 1024) :
    View.ld (View.canon (scr0 x1 x11)) (Rect.unit (s := S4x24x1024) ![0, 0, 0] ![1, 24, 1024] inb_S4x24x1024_S1x24x1024_0_0_0) (ix3 0 r n) = extS x1 x11 (ix3 0 r n) := by
  have e : (Rect.unit (s := S4x24x1024) ![0, 0, 0] ![1, 24, 1024] inb_S4x24x1024_S1x24x1024_0_0_0).emb (ix3 0 r n) = ix3 0 r n := by
    funext a
    match a with
    | ⟨0, _⟩ => rfl
    | ⟨1, _⟩ => exact Fin.ext ((emb_0 _ _ _ _ 1).trans (Nat.zero_add _))
    | ⟨2, _⟩ => exact Fin.ext ((emb_0 _ _ _ _ 2).trans (Nat.zero_add _))
  refine (congrArg (View.canon (scr0 x1 x11)) e).trans ?_
  refine canon_last (s := S4x24x1024) (e := .f32) (extS x1 x11) 3 (scr0 x1 x11) _ (scr0_of x1 x11) ?_
  rcases (by omega : r.val = 0 ∨ (1 ≤ r.val ∧ r.val < 16) ∨ 16 ≤ r.val) with h | h | h
  · exact ⟨_, (List.mem_cons_of_mem _ (List.mem_cons_of_mem _ List.mem_cons_self)), (Rect.mem_set_unit (inb := inb_S4x24x1024_S4x1x1024_0_0_0)).mpr (fun a => match a with | ⟨0, _⟩ => by change 0 ≤ 0 ∧ 0 < 0 + 4; omega | ⟨1, _⟩ => by change 0 ≤ r.val ∧ r.val < 0 + 1; omega | ⟨2, _⟩ => by change 0 ≤ n.val ∧ n.val < 0 + 1024; omega)⟩
  · exact ⟨_, (List.mem_cons_of_mem _ List.mem_cons_self), (Rect.mem_set_unit (inb := inb_S4x24x1024_S4x15x1024_0_1_0)).mpr (fun a => match a with | ⟨0, _⟩ => by change 0 ≤ 0 ∧ 0 < 0 + 4; omega | ⟨1, _⟩ => by change 1 ≤ r.val ∧ r.val < 1 + 15; omega | ⟨2, _⟩ => by change 0 ≤ n.val ∧ n.val < 0 + 1024; omega)⟩
  · exact ⟨_, List.mem_cons_self, (Rect.mem_set_unit (inb := inb_S4x24x1024_S1x8x1024_0_16_0)).mpr (fun a => match a with | ⟨0, _⟩ => by change 0 ≤ 0 ∧ 0 < 0 + 1; omega | ⟨1, _⟩ => by change 16 ≤ r.val ∧ r.val < 16 + 8; omega | ⟨2, _⟩ => by change 0 ≤ n.val ∧ n.val < 0 + 1024; omega)⟩

/-- The scratch after the stores of the first 2 sequences. -/
abbrev scr1 : List (View.Piece (Elt Ideal) S4x24x1024 .f32) :=
   [⟨Rect.unit (s := S4x24x1024) ![1, 16, 0] ![1, 8, 1024] inb_S4x24x1024_S1x8x1024_1_16_0, k0_pay273 (k0_pay272 (k0_pay7 x1))⟩,
    ⟨Rect.unit (s := S4x24x1024) ![0, 16, 0] ![1, 8, 1024] inb_S4x24x1024_S1x8x1024_0_16_0, k0_pay266 (k0_pay7 x1)⟩,
    ⟨Rect.unit (s := S4x24x1024) ![0, 1, 0] ![4, 15, 1024] inb_S4x24x1024_S4x15x1024_0_1_0, k0_pay5 x11⟩,
    ⟨Rect.unit (s := S4x24x1024) ![0, 0, 0] ![4, 1, 1024] inb_S4x24x1024_S4x1x1024_0_0_0, k0_pay4 (F := Ideal)⟩]

theorem scr1_of : View.PiecesOf (extS x1 x11) (scr1 x1 x11) :=
  ⟨fun x => u_of x1 x11 1 8 rfl (by decide) _ (u273 x1) x _ (emb_0 _ _ inb_S4x24x1024_S1x8x1024_1_16_0 x 0) (emb_0 _ _ inb_S4x24x1024_S1x8x1024_1_16_0 x 1) (emb_0 _ _ inb_S4x24x1024_S1x8x1024_1_16_0 x 2),
   fun x => u_of x1 x11 0 0 rfl (by decide) _ (u266 x1) x _ (emb_0 _ _ inb_S4x24x1024_S1x8x1024_0_16_0 x 0) (emb_0 _ _ inb_S4x24x1024_S1x8x1024_0_16_0 x 1) (emb_0 _ _ inb_S4x24x1024_S1x8x1024_0_16_0 x 2),
   fun x => h_of x1 x11 x _ (emb_0 _ _ inb_S4x24x1024_S4x15x1024_0_1_0 x 0) (emb_0 _ _ inb_S4x24x1024_S4x15x1024_0_1_0 x 1) (emb_0 _ _ inb_S4x24x1024_S4x15x1024_0_1_0 x 2),
   fun x => z_of x1 x11 x _ (emb_0 _ _ inb_S4x24x1024_S4x1x1024_0_0_0 x 1), trivial⟩

theorem scr1_read (r : Fin 24) (n : Fin 1024) :
    View.ld (View.canon (scr1 x1 x11)) (Rect.unit (s := S4x24x1024) ![1, 0, 0] ![1, 24, 1024] inb_S4x24x1024_S1x24x1024_1_0_0) (ix3 0 r n) = extS x1 x11 (ix3 1 r n) := by
  have e : (Rect.unit (s := S4x24x1024) ![1, 0, 0] ![1, 24, 1024] inb_S4x24x1024_S1x24x1024_1_0_0).emb (ix3 0 r n) = ix3 1 r n := by
    funext a
    match a with
    | ⟨0, _⟩ => rfl
    | ⟨1, _⟩ => exact Fin.ext ((emb_0 _ _ _ _ 1).trans (Nat.zero_add _))
    | ⟨2, _⟩ => exact Fin.ext ((emb_0 _ _ _ _ 2).trans (Nat.zero_add _))
  refine (congrArg (View.canon (scr1 x1 x11)) e).trans ?_
  refine canon_last (s := S4x24x1024) (e := .f32) (extS x1 x11) 4 (scr1 x1 x11) _ (scr1_of x1 x11) ?_
  rcases (by omega : r.val = 0 ∨ (1 ≤ r.val ∧ r.val < 16) ∨ 16 ≤ r.val) with h | h | h
  · exact ⟨_, (List.mem_cons_of_mem _ (List.mem_cons_of_mem _ (List.mem_cons_of_mem _ List.mem_cons_self))), (Rect.mem_set_unit (inb := inb_S4x24x1024_S4x1x1024_0_0_0)).mpr (fun a => match a with | ⟨0, _⟩ => by change 0 ≤ 1 ∧ 1 < 0 + 4; omega | ⟨1, _⟩ => by change 0 ≤ r.val ∧ r.val < 0 + 1; omega | ⟨2, _⟩ => by change 0 ≤ n.val ∧ n.val < 0 + 1024; omega)⟩
  · exact ⟨_, (List.mem_cons_of_mem _ (List.mem_cons_of_mem _ List.mem_cons_self)), (Rect.mem_set_unit (inb := inb_S4x24x1024_S4x15x1024_0_1_0)).mpr (fun a => match a with | ⟨0, _⟩ => by change 0 ≤ 1 ∧ 1 < 0 + 4; omega | ⟨1, _⟩ => by change 1 ≤ r.val ∧ r.val < 1 + 15; omega | ⟨2, _⟩ => by change 0 ≤ n.val ∧ n.val < 0 + 1024; omega)⟩
  · exact ⟨_, List.mem_cons_self, (Rect.mem_set_unit (inb := inb_S4x24x1024_S1x8x1024_1_16_0)).mpr (fun a => match a with | ⟨0, _⟩ => by change 1 ≤ 1 ∧ 1 < 1 + 1; omega | ⟨1, _⟩ => by change 16 ≤ r.val ∧ r.val < 16 + 8; omega | ⟨2, _⟩ => by change 0 ≤ n.val ∧ n.val < 0 + 1024; omega)⟩

/-- The scratch after the stores of the first 3 sequences. -/
abbrev scr2 : List (View.Piece (Elt Ideal) S4x24x1024 .f32) :=
   [⟨Rect.unit (s := S4x24x1024) ![2, 16, 0] ![1, 8, 1024] inb_S4x24x1024_S1x8x1024_2_16_0, k0_pay282 (k0_pay7 x1)⟩,
    ⟨Rect.unit (s := S4x24x1024) ![1, 16, 0] ![1, 8, 1024] inb_S4x24x1024_S1x8x1024_1_16_0, k0_pay273 (k0_pay272 (k0_pay7 x1))⟩,
    ⟨Rect.unit (s := S4x24x1024) ![0, 16, 0] ![1, 8, 1024] inb_S4x24x1024_S1x8x1024_0_16_0, k0_pay266 (k0_pay7 x1)⟩,
    ⟨Rect.unit (s := S4x24x1024) ![0, 1, 0] ![4, 15, 1024] inb_S4x24x1024_S4x15x1024_0_1_0, k0_pay5 x11⟩,
    ⟨Rect.unit (s := S4x24x1024) ![0, 0, 0] ![4, 1, 1024] inb_S4x24x1024_S4x1x1024_0_0_0, k0_pay4 (F := Ideal)⟩]

theorem scr2_of : View.PiecesOf (extS x1 x11) (scr2 x1 x11) :=
  ⟨fun x => u_of x1 x11 2 16 rfl (by decide) _ (u282 x1) x _ (emb_0 _ _ inb_S4x24x1024_S1x8x1024_2_16_0 x 0) (emb_0 _ _ inb_S4x24x1024_S1x8x1024_2_16_0 x 1) (emb_0 _ _ inb_S4x24x1024_S1x8x1024_2_16_0 x 2),
   fun x => u_of x1 x11 1 8 rfl (by decide) _ (u273 x1) x _ (emb_0 _ _ inb_S4x24x1024_S1x8x1024_1_16_0 x 0) (emb_0 _ _ inb_S4x24x1024_S1x8x1024_1_16_0 x 1) (emb_0 _ _ inb_S4x24x1024_S1x8x1024_1_16_0 x 2),
   fun x => u_of x1 x11 0 0 rfl (by decide) _ (u266 x1) x _ (emb_0 _ _ inb_S4x24x1024_S1x8x1024_0_16_0 x 0) (emb_0 _ _ inb_S4x24x1024_S1x8x1024_0_16_0 x 1) (emb_0 _ _ inb_S4x24x1024_S1x8x1024_0_16_0 x 2),
   fun x => h_of x1 x11 x _ (emb_0 _ _ inb_S4x24x1024_S4x15x1024_0_1_0 x 0) (emb_0 _ _ inb_S4x24x1024_S4x15x1024_0_1_0 x 1) (emb_0 _ _ inb_S4x24x1024_S4x15x1024_0_1_0 x 2),
   fun x => z_of x1 x11 x _ (emb_0 _ _ inb_S4x24x1024_S4x1x1024_0_0_0 x 1), trivial⟩

theorem scr2_read (r : Fin 24) (n : Fin 1024) :
    View.ld (View.canon (scr2 x1 x11)) (Rect.unit (s := S4x24x1024) ![2, 0, 0] ![1, 24, 1024] inb_S4x24x1024_S1x24x1024_2_0_0) (ix3 0 r n) = extS x1 x11 (ix3 2 r n) := by
  have e : (Rect.unit (s := S4x24x1024) ![2, 0, 0] ![1, 24, 1024] inb_S4x24x1024_S1x24x1024_2_0_0).emb (ix3 0 r n) = ix3 2 r n := by
    funext a
    match a with
    | ⟨0, _⟩ => rfl
    | ⟨1, _⟩ => exact Fin.ext ((emb_0 _ _ _ _ 1).trans (Nat.zero_add _))
    | ⟨2, _⟩ => exact Fin.ext ((emb_0 _ _ _ _ 2).trans (Nat.zero_add _))
  refine (congrArg (View.canon (scr2 x1 x11)) e).trans ?_
  refine canon_last (s := S4x24x1024) (e := .f32) (extS x1 x11) 5 (scr2 x1 x11) _ (scr2_of x1 x11) ?_
  rcases (by omega : r.val = 0 ∨ (1 ≤ r.val ∧ r.val < 16) ∨ 16 ≤ r.val) with h | h | h
  · exact ⟨_, (List.mem_cons_of_mem _ (List.mem_cons_of_mem _ (List.mem_cons_of_mem _ (List.mem_cons_of_mem _ List.mem_cons_self)))), (Rect.mem_set_unit (inb := inb_S4x24x1024_S4x1x1024_0_0_0)).mpr (fun a => match a with | ⟨0, _⟩ => by change 0 ≤ 2 ∧ 2 < 0 + 4; omega | ⟨1, _⟩ => by change 0 ≤ r.val ∧ r.val < 0 + 1; omega | ⟨2, _⟩ => by change 0 ≤ n.val ∧ n.val < 0 + 1024; omega)⟩
  · exact ⟨_, (List.mem_cons_of_mem _ (List.mem_cons_of_mem _ (List.mem_cons_of_mem _ List.mem_cons_self))), (Rect.mem_set_unit (inb := inb_S4x24x1024_S4x15x1024_0_1_0)).mpr (fun a => match a with | ⟨0, _⟩ => by change 0 ≤ 2 ∧ 2 < 0 + 4; omega | ⟨1, _⟩ => by change 1 ≤ r.val ∧ r.val < 1 + 15; omega | ⟨2, _⟩ => by change 0 ≤ n.val ∧ n.val < 0 + 1024; omega)⟩
  · exact ⟨_, List.mem_cons_self, (Rect.mem_set_unit (inb := inb_S4x24x1024_S1x8x1024_2_16_0)).mpr (fun a => match a with | ⟨0, _⟩ => by change 2 ≤ 2 ∧ 2 < 2 + 1; omega | ⟨1, _⟩ => by change 16 ≤ r.val ∧ r.val < 16 + 8; omega | ⟨2, _⟩ => by change 0 ≤ n.val ∧ n.val < 0 + 1024; omega)⟩

/-- The scratch after the stores of the first 4 sequences. -/
abbrev scr3 : List (View.Piece (Elt Ideal) S4x24x1024 .f32) :=
   [⟨Rect.unit (s := S4x24x1024) ![3, 16, 0] ![1, 8, 1024] inb_S4x24x1024_S1x8x1024_3_16_0, k0_pay291 (k0_pay7 x1)⟩,
    ⟨Rect.unit (s := S4x24x1024) ![2, 16, 0] ![1, 8, 1024] inb_S4x24x1024_S1x8x1024_2_16_0, k0_pay282 (k0_pay7 x1)⟩,
    ⟨Rect.unit (s := S4x24x1024) ![1, 16, 0] ![1, 8, 1024] inb_S4x24x1024_S1x8x1024_1_16_0, k0_pay273 (k0_pay272 (k0_pay7 x1))⟩,
    ⟨Rect.unit (s := S4x24x1024) ![0, 16, 0] ![1, 8, 1024] inb_S4x24x1024_S1x8x1024_0_16_0, k0_pay266 (k0_pay7 x1)⟩,
    ⟨Rect.unit (s := S4x24x1024) ![0, 1, 0] ![4, 15, 1024] inb_S4x24x1024_S4x15x1024_0_1_0, k0_pay5 x11⟩,
    ⟨Rect.unit (s := S4x24x1024) ![0, 0, 0] ![4, 1, 1024] inb_S4x24x1024_S4x1x1024_0_0_0, k0_pay4 (F := Ideal)⟩]

theorem scr3_of : View.PiecesOf (extS x1 x11) (scr3 x1 x11) :=
  ⟨fun x => u_of x1 x11 3 24 rfl (by decide) _ (u291 x1) x _ (emb_0 _ _ inb_S4x24x1024_S1x8x1024_3_16_0 x 0) (emb_0 _ _ inb_S4x24x1024_S1x8x1024_3_16_0 x 1) (emb_0 _ _ inb_S4x24x1024_S1x8x1024_3_16_0 x 2),
   fun x => u_of x1 x11 2 16 rfl (by decide) _ (u282 x1) x _ (emb_0 _ _ inb_S4x24x1024_S1x8x1024_2_16_0 x 0) (emb_0 _ _ inb_S4x24x1024_S1x8x1024_2_16_0 x 1) (emb_0 _ _ inb_S4x24x1024_S1x8x1024_2_16_0 x 2),
   fun x => u_of x1 x11 1 8 rfl (by decide) _ (u273 x1) x _ (emb_0 _ _ inb_S4x24x1024_S1x8x1024_1_16_0 x 0) (emb_0 _ _ inb_S4x24x1024_S1x8x1024_1_16_0 x 1) (emb_0 _ _ inb_S4x24x1024_S1x8x1024_1_16_0 x 2),
   fun x => u_of x1 x11 0 0 rfl (by decide) _ (u266 x1) x _ (emb_0 _ _ inb_S4x24x1024_S1x8x1024_0_16_0 x 0) (emb_0 _ _ inb_S4x24x1024_S1x8x1024_0_16_0 x 1) (emb_0 _ _ inb_S4x24x1024_S1x8x1024_0_16_0 x 2),
   fun x => h_of x1 x11 x _ (emb_0 _ _ inb_S4x24x1024_S4x15x1024_0_1_0 x 0) (emb_0 _ _ inb_S4x24x1024_S4x15x1024_0_1_0 x 1) (emb_0 _ _ inb_S4x24x1024_S4x15x1024_0_1_0 x 2),
   fun x => z_of x1 x11 x _ (emb_0 _ _ inb_S4x24x1024_S4x1x1024_0_0_0 x 1), trivial⟩

theorem scr3_read (r : Fin 24) (n : Fin 1024) :
    View.ld (View.canon (scr3 x1 x11)) (Rect.unit (s := S4x24x1024) ![3, 0, 0] ![1, 24, 1024] inb_S4x24x1024_S1x24x1024_3_0_0) (ix3 0 r n) = extS x1 x11 (ix3 3 r n) := by
  have e : (Rect.unit (s := S4x24x1024) ![3, 0, 0] ![1, 24, 1024] inb_S4x24x1024_S1x24x1024_3_0_0).emb (ix3 0 r n) = ix3 3 r n := by
    funext a
    match a with
    | ⟨0, _⟩ => rfl
    | ⟨1, _⟩ => exact Fin.ext ((emb_0 _ _ _ _ 1).trans (Nat.zero_add _))
    | ⟨2, _⟩ => exact Fin.ext ((emb_0 _ _ _ _ 2).trans (Nat.zero_add _))
  refine (congrArg (View.canon (scr3 x1 x11)) e).trans ?_
  refine canon_last (s := S4x24x1024) (e := .f32) (extS x1 x11) 6 (scr3 x1 x11) _ (scr3_of x1 x11) ?_
  rcases (by omega : r.val = 0 ∨ (1 ≤ r.val ∧ r.val < 16) ∨ 16 ≤ r.val) with h | h | h
  · exact ⟨_, (List.mem_cons_of_mem _ (List.mem_cons_of_mem _ (List.mem_cons_of_mem _ (List.mem_cons_of_mem _ (List.mem_cons_of_mem _ List.mem_cons_self))))), (Rect.mem_set_unit (inb := inb_S4x24x1024_S4x1x1024_0_0_0)).mpr (fun a => match a with | ⟨0, _⟩ => by change 0 ≤ 3 ∧ 3 < 0 + 4; omega | ⟨1, _⟩ => by change 0 ≤ r.val ∧ r.val < 0 + 1; omega | ⟨2, _⟩ => by change 0 ≤ n.val ∧ n.val < 0 + 1024; omega)⟩
  · exact ⟨_, (List.mem_cons_of_mem _ (List.mem_cons_of_mem _ (List.mem_cons_of_mem _ (List.mem_cons_of_mem _ List.mem_cons_self)))), (Rect.mem_set_unit (inb := inb_S4x24x1024_S4x15x1024_0_1_0)).mpr (fun a => match a with | ⟨0, _⟩ => by change 0 ≤ 3 ∧ 3 < 0 + 4; omega | ⟨1, _⟩ => by change 1 ≤ r.val ∧ r.val < 1 + 15; omega | ⟨2, _⟩ => by change 0 ≤ n.val ∧ n.val < 0 + 1024; omega)⟩
  · exact ⟨_, List.mem_cons_self, (Rect.mem_set_unit (inb := inb_S4x24x1024_S1x8x1024_3_16_0)).mpr (fun a => match a with | ⟨0, _⟩ => by change 3 ≤ 3 ∧ 3 < 3 + 1; omega | ⟨1, _⟩ => by change 16 ≤ r.val ∧ r.val < 16 + 8; omega | ⟨2, _⟩ => by change 0 ≤ n.val ∧ n.val < 0 + 1024; omega)⟩

end

end Cert.SeqIdeal.Carry

end
-- ==== Proof.Seq.Points.lean ====
/- What a grid point leaves of the sample batch's two histories, over the point's input blocks. -/
module

public import proofs.«01_k».proof.Proof.Gen.SeqIdeal.Frame
public import proofs.«01_k».proof.Proof.Seq.Scratch
public import Idealize.ShloMosaic.Lib.Pipeline.ValueKit
public import Idealize.ShloMosaic.Lib.Pipeline.ReadBack

@[expose] public section

set_option maxRecDepth 16384

noncomputable section

namespace Cert.SeqIdeal.Carry

open Idealize.ShloMosaic Idealize.ShloMosaic.TcCoe Idealize.SL.Sem Cert.SeqIdeal.Gen
open Idealize.ShloMosaic.Pipeline (Dat)

variable (m : (ℓ : Loc nD τ sig) → Buf (Elt Ideal) ℓ)

set_option maxHeartbeats 3200000 in
/-- The convolution's new history. -/
theorem conv_at (c : Dev nD) (t : Fin cfg0.N) (y : S1x4x3x3072.Idx) : (outsAt0 m c t).2.2.2.1 y = newC (iblk m c 0 t) y := by
  unfold outsAt0 out0_A_15
  frame_open
  simp (disch := decide) only [↓ View.readCov_skip, ↓ View.readCov_cons_toLoadRect, ↓ View.readCov_fill, readCov_ld]
  frame_out
  exact canon_last (s := S1x4x3x3072) (e := .f32) (fun y => newC (iblk m c 0 t) y) 4 _ y
    ⟨fun x => newC_of _ 3 29 rfl (by decide) _ (c31 _ _) x _ (emb_0 _ _ inb_S1x4x3x3072_S1x1x3x3072_0_3_0_0 x 1) (emb_0 _ _ inb_S1x4x3x3072_S1x1x3x3072_0_3_0_0 x 2) (emb_0 _ _ inb_S1x4x3x3072_S1x1x3x3072_0_3_0_0 x 3),
     fun x => newC_of _ 2 21 rfl (by decide) _ (c25 _ _) x _ (emb_0 _ _ inb_S1x4x3x3072_S1x1x3x3072_0_2_0_0 x 1) (emb_0 _ _ inb_S1x4x3x3072_S1x1x3x3072_0_2_0_0 x 2) (emb_0 _ _ inb_S1x4x3x3072_S1x1x3x3072_0_2_0_0 x 3),
     fun x => newC_of _ 1 13 rfl (by decide) _ (c17 _ _) x _ (emb_0 _ _ inb_S1x4x3x3072_S1x1x3x3072_0_1_0_0 x 1) (emb_0 _ _ inb_S1x4x3x3072_S1x1x3x3072_0_1_0_0 x 2) (emb_0 _ _ inb_S1x4x3x3072_S1x1x3x3072_0_1_0_0 x 3),
     fun x => newC_of _ 0 5 rfl (by decide) _ (c12 _ _) x _ (emb_0 _ _ inb_S1x4x3x3072_S1x1x3x3072_0_0_0_0 x 1) (emb_0 _ _ inb_S1x4x3x3072_S1x1x3x3072_0_0_0_0 x 2) (emb_0 _ _ inb_S1x4x3x3072_S1x1x3x3072_0_0_0_0 x 3), trivial⟩
    (View.cover_of_tiledL _ ![1, 1, 3, 3072] (by sl_kernel_rfl) y)

end Cert.SeqIdeal.Carry

end
-- ==== Proof.Seq.Pool.lean ====
/- What a grid point leaves of the sample batch's pooled history, over the point's input blocks. -/
module

public import proofs.«01_k».proof.Proof.Gen.SeqIdeal.Frame
public import proofs.«01_k».proof.Proof.Seq.Scratch
public import Idealize.ShloMosaic.Lib.Pipeline.ValueKit
public import Idealize.ShloMosaic.Lib.Pipeline.ReadBack

@[expose] public section

set_option maxRecDepth 16384

noncomputable section

namespace Cert.SeqIdeal.Carry

open Idealize.ShloMosaic Idealize.ShloMosaic.TcCoe Idealize.SL.Sem Cert.SeqIdeal.Gen
open Idealize.ShloMosaic.Pipeline (Dat)

section
variable (x1 : Vec Ideal S32x1024 .bf16) (x11 : Vec Ideal S1x4x15x1024 .f32)

/-- Sequence 0's stored block of the pooled history. -/
theorem newP_0 (x : S1x1x15x1024.Idx) (y : S1x4x15x1024.Idx)
    (h1 : (y 1).val = 0 + (x 1).val) (h2 : (y 2).val = 0 + (x 2).val) (h3 : (y 3).val = 0 + (x 3).val) :
    k0_pay271 (k0_pay267 (View.ld (View.canon (scr0 x1 x11)) (Rect.unit (s := S4x24x1024) ![0, 0, 0] ![1, 24, 1024] inb_S4x24x1024_S1x24x1024_0_0_0))) x = newP x1 x11 y :=
  newP_of x1 x11 0 (by decide) (k0_pay271 (k0_pay267 (View.ld (View.canon (scr0 x1 x11)) (Rect.unit (s := S4x24x1024) ![0, 0, 0] ![1, 24, 1024] inb_S4x24x1024_S1x24x1024_0_0_0)))) (View.ld (View.canon (scr0 x1 x11)) (Rect.unit (s := S4x24x1024) ![0, 0, 0] ![1, 24, 1024] inb_S4x24x1024_S1x24x1024_0_0_0))
    (p271 _) (scr0_read x1 x11) x y h1 h2 h3

/-- Sequence 1's stored block of the pooled history. -/
theorem newP_1 (x : S1x1x15x1024.Idx) (y : S1x4x15x1024.Idx)
    (h1 : (y 1).val = 1 + (x 1).val) (h2 : (y 2).val = 0 + (x 2).val) (h3 : (y 3).val = 0 + (x 3).val) :
    k0_pay281 (k0_pay274 (View.ld (View.canon (scr1 x1 x11)) (Rect.unit (s := S4x24x1024) ![1, 0, 0] ![1, 24, 1024] inb_S4x24x1024_S1x24x1024_1_0_0))) x = newP x1 x11 y :=
  newP_of x1 x11 1 (by decide) (k0_pay281 (k0_pay274 (View.ld (View.canon (scr1 x1 x11)) (Rect.unit (s := S4x24x1024) ![1, 0, 0] ![1, 24, 1024] inb_S4x24x1024_S1x24x1024_1_0_0)))) (View.ld (View.canon (scr1 x1 x11)) (Rect.unit (s := S4x24x1024) ![1, 0, 0] ![1, 24, 1024] inb_S4x24x1024_S1x24x1024_1_0_0))
    (p281 _) (scr1_read x1 x11) x y h1 h2 h3

/-- Sequence 2's stored block of the pooled history. -/
theorem newP_2 (x : S1x1x15x1024.Idx) (y : S1x4x15x1024.Idx)
    (h1 : (y 1).val = 2 + (x 1).val) (h2 : (y 2).val = 0 + (x 2).val) (h3 : (y 3).val = 0 + (x 3).val) :
    k0_pay290 (k0_pay283 (View.ld (View.canon (scr2 x1 x11)) (Rect.unit (s := S4x24x1024) ![2, 0, 0] ![1, 24, 1024] inb_S4x24x1024_S1x24x1024_2_0_0))) x = newP x1 x11 y :=
  newP_of x1 x11 2 (by decide) (k0_pay290 (k0_pay283 (View.ld (View.canon (scr2 x1 x11)) (Rect.unit (s := S4x24x1024) ![2, 0, 0] ![1, 24, 1024] inb_S4x24x1024_S1x24x1024_2_0_0)))) (View.ld (View.canon (scr2 x1 x11)) (Rect.unit (s := S4x24x1024) ![2, 0, 0] ![1, 24, 1024] inb_S4x24x1024_S1x24x1024_2_0_0))
    (p290 _) (scr2_read x1 x11) x y h1 h2 h3

/-- Sequence 3's stored block of the pooled history. -/
theorem newP_3 (x : S1x1x15x1024.Idx) (y : S1x4x15x1024.Idx)
    (h1 : (y 1).val = 3 + (x 1).val) (h2 : (y 2).val = 0 + (x 2).val) (h3 : (y 3).val = 0 + (x 3).val) :
    k0_pay296 (k0_pay292 (View.ld (View.canon (scr3 x1 x11)) (Rect.unit (s := S4x24x1024) ![3, 0, 0] ![1, 24, 1024] inb_S4x24x1024_S1x24x1024_3_0_0))) x = newP x1 x11 y :=
  newP_of x1 x11 3 (by decide) (k0_pay296 (k0_pay292 (View.ld (View.canon (scr3 x1 x11)) (Rect.unit (s := S4x24x1024) ![3, 0, 0] ![1, 24, 1024] inb_S4x24x1024_S1x24x1024_3_0_0)))) (View.ld (View.canon (scr3 x1 x11)) (Rect.unit (s := S4x24x1024) ![3, 0, 0] ![1, 24, 1024] inb_S4x24x1024_S1x24x1024_3_0_0))
    (p296 _) (scr3_read x1 x11) x y h1 h2 h3

/-- The four stored blocks of the pooled history. -/
abbrev newPL : List (View.Piece (Elt Ideal) S1x4x15x1024 .f32) :=
      [⟨Rect.unit (s := S1x4x15x1024) ![0, 3, 0, 0] ![1, 1, 15, 1024] inb_S1x4x15x1024_S1x1x15x1024_0_3_0_0, k0_pay296 (k0_pay292 (View.ld (View.canon (scr3 x1 x11)) (Rect.unit (s := S4x24x1024) ![3, 0, 0] ![1, 24, 1024] inb_S4x24x1024_S1x24x1024_3_0_0)))⟩,
       ⟨Rect.unit (s := S1x4x15x1024) ![0, 2, 0, 0] ![1, 1, 15, 1024] inb_S1x4x15x1024_S1x1x15x1024_0_2_0_0, k0_pay290 (k0_pay283 (View.ld (View.canon (scr2 x1 x11)) (Rect.unit (s := S4x24x1024) ![2, 0, 0] ![1, 24, 1024] inb_S4x24x1024_S1x24x1024_2_0_0)))⟩,
       ⟨Rect.unit (s := S1x4x15x1024) ![0, 1, 0, 0] ![1, 1, 15, 1024] inb_S1x4x15x1024_S1x1x15x1024_0_1_0_0, k0_pay281 (k0_pay274 (View.ld (View.canon (scr1 x1 x11)) (Rect.unit (s := S4x24x1024) ![1, 0, 0] ![1, 24, 1024] inb_S4x24x1024_S1x24x1024_1_0_0)))⟩,
       ⟨Rect.unit (s := S1x4x15x1024) ![0, 0, 0, 0] ![1, 1, 15, 1024] inb_S1x4x15x1024_S1x1x15x1024_0_0_0_0, k0_pay271 (k0_pay267 (View.ld (View.canon (scr0 x1 x11)) (Rect.unit (s := S4x24x1024) ![0, 0, 0] ![1, 24, 1024] inb_S4x24x1024_S1x24x1024_0_0_0)))⟩]

theorem pieces_cons {s : Shape} {e : EltTy} (G : Vec Ideal s e) (r : Rect s) (p : r.shape.Idx → Elt Ideal e) (L : List (View.Piece (Elt Ideal) s e))
    (h : ∀ x, p x = G (r.emb x)) (t : View.PiecesOf G L) : View.PiecesOf G (⟨r, p⟩ :: L) := ⟨h, t⟩

theorem newP_3_emb (x : S1x1x15x1024.Idx) : k0_pay296 (k0_pay292 (View.ld (View.canon (scr3 x1 x11)) (Rect.unit (s := S4x24x1024) ![3, 0, 0] ![1, 24, 1024] inb_S4x24x1024_S1x24x1024_3_0_0))) x
    = newP x1 x11 ((Rect.unit (s := S1x4x15x1024) ![0, 3, 0, 0] ![1, 1, 15, 1024] inb_S1x4x15x1024_S1x1x15x1024_0_3_0_0).emb x) :=
  newP_3 x1 x11 x _ (emb_0 (s := S1x4x15x1024) ![0, 3, 0, 0] ![1, 1, 15, 1024] inb_S1x4x15x1024_S1x1x15x1024_0_3_0_0 x 1) (emb_0 (s := S1x4x15x1024) ![0, 3, 0, 0] ![1, 1, 15, 1024] inb_S1x4x15x1024_S1x1x15x1024_0_3_0_0 x 2) (emb_0 (s := S1x4x15x1024) ![0, 3, 0, 0] ![1, 1, 15, 1024] inb_S1x4x15x1024_S1x1x15x1024_0_3_0_0 x 3)

theorem newP_2_emb (x : S1x1x15x1024.Idx) : k0_pay290 (k0_pay283 (View.ld (View.canon (scr2 x1 x11)) (Rect.unit (s := S4x24x1024) ![2, 0, 0] ![1, 24, 1024] inb_S4x24x1024_S1x24x1024_2_0_0))) x
    = newP x1 x11 ((Rect.unit (s := S1x4x15x1024) ![0, 2, 0, 0] ![1, 1, 15, 1024] inb_S1x4x15x1024_S1x1x15x1024_0_2_0_0).emb x) :=
  newP_2 x1 x11 x _ (emb_0 (s := S1x4x15x1024) ![0, 2, 0, 0] ![1, 1, 15, 1024] inb_S1x4x15x1024_S1x1x15x1024_0_2_0_0 x 1) (emb_0 (s := S1x4x15x1024) ![0, 2, 0, 0] ![1, 1, 15, 1024] inb_S1x4x15x1024_S1x1x15x1024_0_2_0_0 x 2) (emb_0 (s := S1x4x15x1024) ![0, 2, 0, 0] ![1, 1, 15, 1024] inb_S1x4x15x1024_S1x1x15x1024_0_2_0_0 x 3)

theorem newP_1_emb (x : S1x1x15x1024.Idx) : k0_pay281 (k0_pay274 (View.ld (View.canon (scr1 x1 x11)) (Rect.unit (s := S4x24x1024) ![1, 0, 0] ![1, 24, 1024] inb_S4x24x1024_S1x24x1024_1_0_0))) x
    = newP x1 x11 ((Rect.unit (s := S1x4x15x1024) ![0, 1, 0, 0] ![1, 1, 15, 1024] inb_S1x4x15x1024_S1x1x15x1024_0_1_0_0).emb x) :=
  newP_1 x1 x11 x _ (emb_0 (s := S1x4x15x1024) ![0, 1, 0, 0] ![1, 1, 15, 1024] inb_S1x4x15x1024_S1x1x15x1024_0_1_0_0 x 1) (emb_0 (s := S1x4x15x1024) ![0, 1, 0, 0] ![1, 1, 15, 1024] inb_S1x4x15x1024_S1x1x15x1024_0_1_0_0 x 2) (emb_0 (s := S1x4x15x1024) ![0, 1, 0, 0] ![1, 1, 15, 1024] inb_S1x4x15x1024_S1x1x15x1024_0_1_0_0 x 3)

theorem newP_0_emb (x : S1x1x15x1024.Idx) : k0_pay271 (k0_pay267 (View.ld (View.canon (scr0 x1 x11)) (Rect.unit (s := S4x24x1024) ![0, 0, 0] ![1, 24, 1024] inb_S4x24x1024_S1x24x1024_0_0_0))) x
    = newP x1 x11 ((Rect.unit (s := S1x4x15x1024) ![0, 0, 0, 0] ![1, 1, 15, 1024] inb_S1x4x15x1024_S1x1x15x1024_0_0_0_0).emb x) :=
  newP_0 x1 x11 x _ (emb_0 (s := S1x4x15x1024) ![0, 0, 0, 0] ![1, 1, 15, 1024] inb_S1x4x15x1024_S1x1x15x1024_0_0_0_0 x 1) (emb_0 (s := S1x4x15x1024) ![0, 0, 0, 0] ![1, 1, 15, 1024] inb_S1x4x15x1024_S1x1x15x1024_0_0_0_0 x 2) (emb_0 (s := S1x4x15x1024) ![0, 0, 0, 0] ![1, 1, 15, 1024] inb_S1x4x15x1024_S1x1x15x1024_0_0_0_0 x 3)

theorem newPL_of : View.PiecesOf (newP x1 x11) (newPL x1 x11) :=
  pieces_cons _ _ _ _ (newP_3_emb x1 x11) (pieces_cons _ _ _ _ (newP_2_emb x1 x11) (pieces_cons _ _ _ _ (newP_1_emb x1 x11) (pieces_cons _ _ _ _ (newP_0_emb x1 x11) trivial)))

theorem newPL_at (y : S1x4x15x1024.Idx) : View.canon (newPL x1 x11) y = newP x1 x11 y :=
  canon_last (s := S1x4x15x1024) (e := .f32) (newP x1 x11) 4 (newPL x1 x11) y (newPL_of x1 x11)
    (View.cover_of_tiledL _ ![1, 1, 15, 1024] (by sl_kernel_rfl) y)

end

variable (m : (ℓ : Loc nD τ sig) → Buf (Elt Ideal) ℓ)

set_option maxHeartbeats 800000 in
/-- The pooled channels' new history. -/
theorem pool_at (c : Dev nD) (t : Fin cfg0.N) (y : S1x4x15x1024.Idx) : (outsAt0 m c t).2.2.2.2 y = newP (iblk m c 1 t) (iblk m c 11 t) y := by
  unfold outsAt0 out0_A_16
  frame_open
  simp (disch := decide) only [↓ View.readCov_skip, ↓ readCov_ld]
  frame_out
  exact newPL_at (iblk m c 1 t) (iblk m c 11 t) y

end Cert.SeqIdeal.Carry

end
-- ==== Proof.Seq.Arrays.lean ====
/- What the sample batch's kernel leaves in its two history arrays. -/
module

public import proofs.«01_k».proof.Proof.Seq.Points
public import proofs.«01_k».proof.Proof.Seq.Pool

@[expose] public section

set_option maxRecDepth 16384

noncomputable section

namespace Cert.SeqIdeal.Carry

open Idealize.ShloMosaic Idealize.ShloMosaic.TcCoe Idealize.SL.Sem Cert.SeqIdeal.Gen

variable (m : (ℓ : Loc nD τ sig) → Buf (Elt Ideal) ℓ) (c : Dev nD)

/-! ## The arguments and the blocks -/

def aX (q : ℕ) (n : Fin 3072) : EReal := if h : q < 1536 then (m ((c : Thread nD τ).loc main_arg0) : S1536x3072.Idx → EReal) (ix2 ⟨q, h⟩ n) else 0
def aU (q : ℕ) (n : Fin 1024) : EReal := if h : q < 1536 then (m ((c : Thread nD τ).loc main_arg1) : S1536x1024.Idx → EReal) (ix2 ⟨q, h⟩ n) else 0
def aP (b r : ℕ) (n : Fin 1024) : EReal :=
  if h : b < 128 ∧ r < 15 then (m ((c : Thread nD τ).loc main_arg10) : S2x128x15x1024.Idx → EReal) (ix4 1 ⟨b, h.1⟩ ⟨r, h.2⟩ n) else 0

theorem V3 : (V m c main_v25_3 : S2x128x3x3072.Idx → EReal) = m ((c : Thread nD τ).loc main_arg14) := by
  simp only [V, hostOps0, hostOps0_1, hostOps0_2, hostOps0_3, hostOps0_4, hostOps0_5, hostOps0_6, hostOps0_7, hostOps0_8, List.flatten_cons, List.flatten_nil, List.cons_append, List.nil_append, List.append_nil]
  entry_read
  rfl
theorem V4 : (V m c main_v25_4 : S2x128x15x1024.Idx → EReal) = m ((c : Thread nD τ).loc main_arg15) := by
  simp only [V, hostOps0, hostOps0_1, hostOps0_2, hostOps0_3, hostOps0_4, hostOps0_5, hostOps0_6, hostOps0_7, hostOps0_8, List.flatten_cons, List.flatten_nil, List.cons_append, List.nil_append, List.append_nil]
  entry_read
  rfl

/-- Which block of its array each point takes. -/
theorem widx : ∀ t : Fin cfg0.N, win0_0.index t = ![t.val, 0] ∧ win0_1.index t = ![t.val, 0] ∧ win0_11.index t = ![1, t.val, 0, 0]
    ∧ win0_15.index t = ![1, t.val, 0, 0] ∧ win0_16.index t = ![1, t.val, 0, 0] ∧ t.val < 32 :=
  (by decide +kernel : ∀ t : Fin grid0.N, _)

theorem b0 (t : Fin cfg0.N) (i : Fin 32) (n : Fin 3072) : iblk m c 0 t (ix2 i n) = aX m c (32 * t.val + i.val) n := by
  have ht : t.val < 32 := t.isLt
  unfold aX
  rw [dif_pos (by omega), ← V_main_arg0 m c]
  unfold iblk
  refine congrArg (V m c main_arg0) ?_
  blk_ext [widx t]

theorem b1 (t : Fin cfg0.N) (i : Fin 32) (n : Fin 1024) : iblk m c 1 t (ix2 i n) = aU m c (32 * t.val + i.val) n := by
  have ht : t.val < 32 := t.isLt
  unfold aU
  rw [dif_pos (by omega), ← V_main_arg1 m c]
  unfold iblk
  refine congrArg (V m c main_arg1) ?_
  blk_ext [widx t]

theorem b11 (t : Fin cfg0.N) (s : Fin 4) (r : Fin 15) (n : Fin 1024) : iblk m c 11 t (ix4 0 s r n) = aP m c (4 * t.val + s.val) r.val n := by
  have ht : t.val < 32 := t.isLt
  unfold aP
  rw [dif_pos ⟨by omega, by omega⟩, ← V_main_arg10 m c]
  unfold iblk
  refine congrArg (V m c main_arg10) ?_
  blk_ext [widx t]

/-! ## The arrays -/

/-- The convolution's histories: layer 1 each sequence's last three rows, layer 0 as it was. -/
def convArr (i : S2x128x3x3072.Idx) : EReal :=
  if (i 0).val = 1 then aX m c (8 * (i 1).val + (5 + (i 2).val)) (i 3) else (m ((c : Thread nD τ).loc main_arg14) : S2x128x3x3072.Idx → EReal) i

/-- The pooled channels' histories: layer 1 each sequence's last fifteen rows, layer 0 as it was. -/
def poolArr (i : S2x128x15x1024.Idx) : EReal :=
  if (i 0).val = 1 then
    if (i 2).val < 7 then aP m c (i 1).val (8 + (i 2).val) (i 3) else aU m c (8 * (i 1).val + ((i 2).val - 7)) (i 3)
  else (m ((c : Thread nD τ).loc main_arg15) : S2x128x15x1024.Idx → EReal) i

theorem conv_point (t : Fin cfg0.N) (y : S1x4x3x3072.Idx) (q : S2x128x3x3072.Idx) (h0 : (q 0).val = 1) (h1 : (q 1).val = 4 * t.val + (y 1).val)
    (h2 : (q 2).val = (y 2).val) (h3 : (q 3).val = (y 3).val) : (outsAt0 m c t).2.2.2.1 y = convArr m c q := by
  have k1 : (y 1).val < 4 := (y 1).isLt
  have k2 : (y 2).val < 3 := (y 2).isLt
  refine (conv_at m c t y).trans ?_
  unfold newC xr
  rw [dif_pos (by omega)]
  refine (b0 m c t _ _).trans ?_
  unfold convArr
  rw [if_pos h0]
  exact congrArg₂ (aX m c) (by simp only []; omega) (Fin.ext h3.symm)

theorem pool_point (t : Fin cfg0.N) (y : S1x4x15x1024.Idx) (q : S2x128x15x1024.Idx) (h0 : (q 0).val = 1) (h1 : (q 1).val = 4 * t.val + (y 1).val)
    (h2 : (q 2).val = (y 2).val) (h3 : (q 3).val = (y 3).val) : (outsAt0 m c t).2.2.2.2 y = poolArr m c q := by
  have k1 : (y 1).val < 4 := (y 1).isLt
  have k2 : (y 2).val < 15 := (y 2).isLt
  refine (pool_at m c t y).trans ?_
  unfold newP extS poolArr
  rw [if_pos h0]
  have e : (y 3 : Fin 1024) = q 3 := Fin.ext h3.symm
  change (if 9 + (y 2).val = 0 then (0 : EReal) else if 9 + (y 2).val < 16 then pr (iblk m c 11 t) (y 1).val (9 + (y 2).val - 1) (y 3)
    else ur (iblk m c 1 t) (8 * (y 1).val + (9 + (y 2).val) - 16) (y 3)) = _
  rw [if_neg (by omega)]
  by_cases h : (y 2).val < 7
  · rw [if_pos (by omega), if_pos (by omega)]
    unfold pr
    rw [dif_pos ⟨by omega, by omega⟩]
    refine (b11 m c t _ _ _).trans ?_
    rw [h1, h2]
    exact congrArg₂ (aP m c _) (by simp only []; omega) e
  · rw [if_neg (by omega), if_neg (by omega)]
    unfold ur
    rw [dif_pos (by omega)]
    refine (b1 m c t _ _).trans ?_
    exact congrArg₂ (aU m c) (by simp only []; omega) e

theorem conv_cov : (dats m 0 c).arrAt 15 cfg0.N = fun i : S2x128x3x3072.Idx => if (i 0).val = 1 then convArr m c i else V m c main_v25_3 i := by
  refine (dats m 0 c).arrAt_eq_of_coversWhere 15 _ (fun β => β 0 = 1) (by decide +kernel) (fun t hf y => ?_)
    (fun j => by blk_simp [Pipeline.Window.cell_apply]; omega)
  blk_simp
  rw [after0_15]
  exact conv_point m c t _ _ (by blk_simp [widx t]; try omega) (by blk_simp [widx t]; try omega) (by blk_simp [widx t]; try omega) (by blk_simp [widx t]; try omega)

theorem pool_cov : (dats m 0 c).arrAt 16 cfg0.N = fun i : S2x128x15x1024.Idx => if (i 0).val = 1 then poolArr m c i else V m c main_v25_4 i := by
  refine (dats m 0 c).arrAt_eq_of_coversWhere 16 _ (fun β => β 0 = 1) (by decide +kernel) (fun t hf y => ?_)
    (fun j => by blk_simp [Pipeline.Window.cell_apply]; omega)
  blk_simp
  rw [after0_16]
  exact pool_point m c t _ _ (by blk_simp [widx t]; try omega) (by blk_simp [widx t]; try omega) (by blk_simp [widx t]; try omega) (by blk_simp [widx t]; try omega)

theorem conv_arr : (dats m 0 c).arrAt 15 cfg0.N = convArr m c := by
  rw [conv_cov]
  funext i
  split
  · rfl
  · rename_i h
    rw [V3]
    unfold convArr
    rw [if_neg h]

theorem pool_arr : (dats m 0 c).arrAt 16 cfg0.N = poolArr m c := by
  rw [pool_cov]
  funext i
  split
  · rfl
  · rename_i h
    rw [V4]
    unfold poolArr
    rw [if_neg h]

end Cert.SeqIdeal.Carry

end
-- ==== Proof.Seq.Reference.lean ====
/- The reference's new histories of the sample batch, entry by entry. -/
module

public import proofs.«01_k».proof.Proof.Gen.SeqReferenceIdeal.Read
public import Idealize.ShloMosaic.Lib.Pipeline.ValueKit

@[expose] public section

set_option maxRecDepth 16384

noncomputable section

namespace Cert.SeqReferenceIdeal.Carry

open Idealize.ShloMosaic Cert.SeqReferenceIdeal Cert.SeqReferenceIdeal.Read

variable (x0 : (⟨S1536x3072, .bf16⟩ : BufTy).Contents (Elt Ideal)) (x1 : (⟨S1536x1024, .bf16⟩ : BufTy).Contents (Elt Ideal))
  (x9 x14 : (⟨S2x128x3x3072, .f32⟩ : BufTy).Contents (Elt Ideal)) (x10 x15 : (⟨S2x128x15x1024, .f32⟩ : BufTy).Contents (Elt Ideal))

theorem v3_read (b : Fin 128) (j : Fin 8) (n : Fin 3072) : val_main_v3 (F := Ideal) x0 (ix3 b j n) = x0 (ix2 ⟨8 * b.val + j.val, by omega⟩ n) := by
  rw [val_main_v3_apply, val_main_v2_apply]
  refine congrArg x0 ?_
  blk_ext []

theorem v7_read (b : Fin 128) (j : Fin 8) (n : Fin 1024) : val_main_v7 (F := Ideal) x1 (ix3 b j n) = x1 (ix2 ⟨8 * b.val + j.val, by omega⟩ n) := by
  rw [val_main_v7_apply, val_main_v6_apply]
  refine congrArg x1 ?_
  blk_ext []

theorem v13_read (b : Fin 128) (j : Fin 3) (n : Fin 3072) : val_main_v13 (F := Ideal) x14 (ix3 b j n) = x14 (ix4 0 b j n) := by
  rw [val_main_v13_apply, val_main_v12_apply]
  refine congrArg x14 ?_
  blk_ext []

theorem v9_read (b : Fin 128) (j : Fin 15) (n : Fin 1024) : val_main_v9 (F := Ideal) x10 (ix3 b j n) = x10 (ix4 1 b j n) := by
  rw [val_main_v9_apply, val_main_v8_apply]
  refine congrArg x10 ?_
  blk_ext []

theorem v19_read (b : Fin 128) (j : Fin 15) (n : Fin 1024) : val_main_v19 (F := Ideal) x15 (ix3 b j n) = x15 (ix4 0 b j n) := by
  rw [val_main_v19_apply, val_main_v18_apply]
  refine congrArg x15 ?_
  blk_ext []

/-- The convolution's history, layer 0 kept. -/
theorem conv0 (b : Fin 128) (j : Fin 3) (n : Fin 3072) : val_main_v17 (F := Ideal) x0 x9 x14 (ix4 0 b j n) = x14 (ix4 0 b j n) := by
  rw [← v13_read x14 b j n]
  unfold val_main_v17 val_main_v15
  generalize val_main_v13 (F := Ideal) x14 = y
  pointwise []

/-- Layer 1: each sequence's last three rows. -/
theorem conv1 (b : Fin 128) (j : Fin 3) (n : Fin 3072) : val_main_v17 (F := Ideal) x0 x9 x14 (ix4 1 b j n) = x0 (ix2 ⟨8 * b.val + (5 + j.val), by omega⟩ n) := by
  rw [← v3_read x0 b ⟨5 + j.val, by omega⟩ n]
  unfold val_main_v17 val_main_v16 val_main_v14 val_main_v5 val_main_v4
  generalize val_main_v3 (F := Ideal) x0 = y
  pointwise []
  rw [dif_neg (by omega)]
  refine congrArg y ?_
  blk_ext []

theorem pool0 (b : Fin 128) (j : Fin 15) (n : Fin 1024) : val_main_v23 (F := Ideal) x1 x10 x15 (ix4 0 b j n) = x15 (ix4 0 b j n) := by
  rw [← v19_read x15 b j n]
  unfold val_main_v23 val_main_v21
  generalize val_main_v19 (F := Ideal) x15 = y
  pointwise []

theorem pool1a (b : Fin 128) (j : Fin 15) (n : Fin 1024) (h : j.val < 7) : val_main_v23 (F := Ideal) x1 x10 x15 (ix4 1 b j n) = x10 (ix4 1 b ⟨8 + j.val, by omega⟩ n) := by
  rw [← v9_read x10 b ⟨8 + j.val, by omega⟩ n]
  unfold val_main_v23 val_main_v22 val_main_v20 val_main_v11
  generalize val_main_v9 (F := Ideal) x10 = y
  pointwise []
  rw [dif_pos (by omega)]

theorem pool1b (b : Fin 128) (j : Fin 15) (n : Fin 1024) (h : ¬ j.val < 7) : val_main_v23 (F := Ideal) x1 x10 x15 (ix4 1 b j n) = x1 (ix2 ⟨8 * b.val + (j.val - 7), by omega⟩ n) := by
  rw [← v7_read x1 b ⟨j.val - 7, by omega⟩ n]
  unfold val_main_v23 val_main_v22 val_main_v20 val_main_v11 val_main_v10
  generalize val_main_v7 (F := Ideal) x1 = y
  pointwise []
  rw [dif_neg (by omega)]
  refine congrArg y ?_
  blk_ext []

end Cert.SeqReferenceIdeal.Carry

end
-- ==== Proof.Seq.Claims.lean ====
/- The claims about the sample batch's histories: both programs run, and end with the same two arrays. -/
module

public import proofs.«01_k».proof.Defs
public import proofs.«01_k».proof.Proof.Seq.Arrays
public import proofs.«01_k».proof.Proof.Seq.Reference
public import proofs.«01_k».proof.Proof.Gen.Seq
public import proofs.«01_k».proof.Proof.Gen.Seq.Frame
public import proofs.«01_k».proof.Proof.Gen.SeqIdeal
public import proofs.«01_k».proof.Proof.Gen.SeqIdeal.Frame
public import proofs.«01_k».proof.Proof.Gen.SeqIdeal.Value
public import proofs.«01_k».proof.Proof.Gen.SeqReferenceIdeal
public import proofs.«01_k».proof.Proof.Gen.SeqReferenceIdeal.Run
public import proofs.«01_k».proof.Proof.Gen.SeqReferenceIdeal.Read
public import Idealize.ShloMosaic.Adequacy

@[expose] public section

set_option maxRecDepth 16384

noncomputable section

namespace Cert.Proof.Seq

open Idealize.ShloMosaic Idealize.SL.Sem

theorem frame_p : Cert.quiescent_Seq := fun m ρ _ => Cert.Seq.Gen.frame m ρ

theorem frame_pi : Cert.quiescent_SeqIdeal := fun m ρ _ => Cert.SeqIdeal.Gen.frame m ρ

theorem frame_ri : Cert.quiescent_SeqReferenceIdeal := fun m ρ _ =>
  (θ_run Cert.SeqReferenceIdeal.defs _ _).mono (fun r h => ⟨fun c => (h c).2.2,
      Idealize.ShloMosaic.sem_eq_zero_of_no_sems (by decide) r.2⟩)
    (Cert.SeqReferenceIdeal.Value.run (F := Ideal) m ρ)

theorem preserves : Cert.preserves_Seq_SeqIdeal := trivial

theorem layer0 {n0 n1 n2 : ℕ} (i : (⟨4, ![2, n0, n1, n2]⟩ : Shape).Idx) (h : ¬ (i 0).val = 1) : i = ix4 0 (i 1) (i 2) (i 3) := by
  have k : (i 0).val < 2 := (i 0).isLt
  funext a
  match a with
  | ⟨0, _⟩ => exact Fin.ext (by change (i 0).val = 0; omega)
  | ⟨1, _⟩ => rfl
  | ⟨2, _⟩ => rfl
  | ⟨3, _⟩ => rfl

theorem layer1 {n0 n1 n2 : ℕ} (i : (⟨4, ![2, n0, n1, n2]⟩ : Shape).Idx) (h : (i 0).val = 1) : i = ix4 1 (i 1) (i 2) (i 3) := by
  funext a
  match a with
  | ⟨0, _⟩ => exact Fin.ext h
  | ⟨1, _⟩ => rfl
  | ⟨2, _⟩ => rfl
  | ⟨3, _⟩ => rfl

theorem conv_read (m : (ℓ : Loc Cert.SeqIdeal.nD Cert.SeqIdeal.τ Cert.SeqIdeal.sig) → Buf (Elt Ideal) ℓ) (c : Dev Cert.SeqIdeal.nD) (x9) :
    Cert.SeqReferenceIdeal.Read.val_main_v17 (F := Ideal) (m ((c.tc : Thread Cert.SeqIdeal.nD Cert.SeqIdeal.τ).loc Cert.SeqIdeal.main_arg0)) x9
      (m ((c.tc : Thread Cert.SeqIdeal.nD Cert.SeqIdeal.τ).loc Cert.SeqIdeal.main_arg14)) = Cert.SeqIdeal.Carry.convArr m c := by
  funext i
  unfold Cert.SeqIdeal.Carry.convArr
  have k1 : (i 1).val < 128 := (i 1).isLt
  have k2 : (i 2).val < 3 := (i 2).isLt
  by_cases h : (i 0).val = 1
  · rw [if_pos h]
    refine (congrArg _ (layer1 i h)).trans ((Cert.SeqReferenceIdeal.Carry.conv1 _ _ _ (i 1) (i 2) (i 3)).trans ?_)
    unfold Cert.SeqIdeal.Carry.aX
    rw [dif_pos (by omega)]
  · rw [if_neg h]
    refine (congrArg _ (layer0 i h)).trans ((Cert.SeqReferenceIdeal.Carry.conv0 _ _ _ (i 1) (i 2) (i 3)).trans ?_)
    exact congrArg _ (layer0 i h).symm

theorem pool_read (m : (ℓ : Loc Cert.SeqIdeal.nD Cert.SeqIdeal.τ Cert.SeqIdeal.sig) → Buf (Elt Ideal) ℓ) (c : Dev Cert.SeqIdeal.nD) :
    Cert.SeqReferenceIdeal.Read.val_main_v23 (F := Ideal) (m ((c.tc : Thread Cert.SeqIdeal.nD Cert.SeqIdeal.τ).loc Cert.SeqIdeal.main_arg1))
      (m ((c.tc : Thread Cert.SeqIdeal.nD Cert.SeqIdeal.τ).loc Cert.SeqIdeal.main_arg10))
      (m ((c.tc : Thread Cert.SeqIdeal.nD Cert.SeqIdeal.τ).loc Cert.SeqIdeal.main_arg15)) = Cert.SeqIdeal.Carry.poolArr m c := by
  funext i
  unfold Cert.SeqIdeal.Carry.poolArr
  have k1 : (i 1).val < 128 := (i 1).isLt
  have k2 : (i 2).val < 15 := (i 2).isLt
  by_cases h : (i 0).val = 1
  · rw [if_pos h]
    by_cases h7 : (i 2).val < 7
    · rw [if_pos h7]
      refine (congrArg _ (layer1 i h)).trans ((Cert.SeqReferenceIdeal.Carry.pool1a _ _ _ (i 1) (i 2) (i 3) h7).trans ?_)
      unfold Cert.SeqIdeal.Carry.aP
      rw [dif_pos ⟨k1, by omega⟩]
      rfl
    · rw [if_neg h7]
      refine (congrArg _ (layer1 i h)).trans ((Cert.SeqReferenceIdeal.Carry.pool1b _ _ _ (i 1) (i 2) (i 3) h7).trans ?_)
      unfold Cert.SeqIdeal.Carry.aU
      rw [dif_pos (by omega)]
  · rw [if_neg h]
    refine (congrArg _ (layer0 i h)).trans ((Cert.SeqReferenceIdeal.Carry.pool0 _ _ _ (i 1) (i 2) (i 3)).trans ?_)
    exact congrArg _ (layer0 i h).symm

theorem algebraic : Cert.algebraic_SeqIdeal_SeqReferenceIdeal := by
  intro m ρ m' ρ' hpre hagree
  refine ⟨fun c => Cert.SeqIdeal.Carry.convArr m c, fun c => Cert.SeqIdeal.Carry.poolArr m c, ?_, ?_⟩
  · exact (θ_run Cert.SeqIdeal.defs _ _).mono (fun _ h c => ⟨(h c).2.2.2.1.trans (Cert.SeqIdeal.Carry.conv_arr m c), (h c).2.2.2.2.1.trans (Cert.SeqIdeal.Carry.pool_arr m c),
      (h c).2.2.2.2.2⟩)
      (Cert.SeqIdeal.Value.run_blocks (F := Ideal) m ρ)
  refine (θ_run Cert.SeqReferenceIdeal.defs _ _).mono (fun _ h c => ⟨(h c).1.trans ?_, (h c).2.1.trans ?_, (h c).2.2⟩)
    (Cert.SeqReferenceIdeal.Value.run (F := Ideal) m' ρ')
  · refine (Cert.SeqReferenceIdeal.Read.val_main_v17_eq _ _ _).trans ?_
    rw [(hagree c).1, (hagree c).2.2.2.2.2.2.2.2.2.1, (hagree c).2.2.2.2.2.2.2.2.2.2.2.2.2.2.1]
    exact conv_read m c _
  · refine (Cert.SeqReferenceIdeal.Read.val_main_v23_eq _ _ _).trans ?_
    rw [(hagree c).2.1, (hagree c).2.2.2.2.2.2.2.2.2.2.1, (hagree c).2.2.2.2.2.2.2.2.2.2.2.2.2.2.2]
    exact pool_read m c

end Cert.Proof.Seq

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.InprojIdeal.Value
public import proofs.«01_k».proof.Proof.Gen.InprojReferenceIdeal
public import proofs.«01_k».proof.Proof.Gen.InprojReferenceIdeal.Run
public import proofs.«01_k».proof.Proof.Gen.InprojReferenceIdeal.Read
public import proofs.«01_k».proof.Proof.Gen.Seq
public import proofs.«01_k».proof.Proof.Gen.Seq.Frame
public import proofs.«01_k».proof.Proof.Gen.SeqIdeal
public import proofs.«01_k».proof.Proof.Gen.SeqIdeal.Frame
public import proofs.«01_k».proof.Proof.Gen.SeqIdeal.Value
public import proofs.«01_k».proof.Proof.Gen.SeqReferenceIdeal
public import proofs.«01_k».proof.Proof.Gen.SeqReferenceIdeal.Run
public import proofs.«01_k».proof.Proof.Gen.SeqReferenceIdeal.Read
public import proofs.«01_k».proof.Proof.Ssd.Claims
public import proofs.«01_k».proof.Proof.Feed.Claims
public import proofs.«01_k».proof.Proof.Mixer.Claims
public import proofs.«01_k».proof.Proof.Inproj.Claims
public import proofs.«01_k».proof.Proof.Seq.Claims
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Ffn.Gen.facts, Cert.FfnIdeal.Gen.facts, Cert.FfnReferenceIdeal.Gen.facts,
    Cert.Mix.Gen.facts, Cert.MixIdeal.Gen.facts, Cert.MixReferenceIdeal.Gen.facts,
    Cert.Inproj.Gen.facts, Cert.InprojIdeal.Gen.facts, Cert.InprojReferenceIdeal.Gen.facts,
    Cert.Seq.Gen.facts, Cert.SeqIdeal.Gen.facts, Cert.SeqReferenceIdeal.Gen.facts, Cert.Pre_finite.Gen.facts,
    Ssd.frame_p, Ssd.frame_pi, Ssd.frame_pi_pre, Ssd.frame_ri, Ssd.frame_ri_pre,
    Feed.frame_p, Feed.frame_pi, Feed.frame_ri, Mixer.frame_p, Mixer.frame_pi, Mixer.frame_ri,
    Inproj.frame_p, Inproj.frame_pi, Inproj.frame_ri,
    Seq.frame_p, Seq.frame_pi, Seq.frame_ri,
    Ssd.preserves, Ssd.algebraic, Feed.preserves, Feed.algebraic, Mixer.preserves, Mixer.algebraic,
    Inproj.preserves, Inproj.algebraic, Seq.preserves, Seq.algebraic⟩

end Cert.Proof

end
